-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "s" .f32 0x3DB504F3#32 (((Real.sqrt 128)⁻¹ : ℝ) : EReal)

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_and_finite : Cert.Pre_in_range_and_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range.lean ====
abbrev S1x16x2048x128 : Shape := ⟨4, ![1, 16, 2048, 128]⟩
abbrev S1x4x2048x128 : Shape := ⟨4, ![1, 4, 2048, 128]⟩
abbrev S1x4x2048x64 : Shape := ⟨4, ![1, 4, 2048, 64]⟩
abbrev S_ : Shape := ⟨0, ![]⟩

class Facts : Prop where
  bcast_S_S1x4x2048x64 : S_.BroadcastsInDim S1x4x2048x64 (![] : Fin 0 → Fin S1x4x2048x64.rank)
  reducesTo_S1x4x2048x64_S_d0_1_2_3 : S1x4x2048x64.ReducesTo [0, 1, 2, 3] S_
  h_S_ : 0 < S_.numel

variable [Facts]

def fn {F : FTy → Type} [FloatOps F] (main_arg0 : FVec F S1x16x2048x128 .f32) (main_arg1 : FVec F S1x4x2048x128 .f32) (main_arg2 : FVec F S1x4x2048x128 .f32) (main_arg3 : IVec S1x4x2048x64 32) : IVec S_ 1 :=
  let main_c : IVec S_ 32 := constantI S_ 32 0#32
  let main_v0 : IVec S1x4x2048x64 32 := broadcastInDim S1x4x2048x64 ![] bcast_S_S1x4x2048x64 main_c
  let main_v1 : IVec S1x4x2048x64 1 := cmpi .sge main_arg3 main_v0
  let main_c_0 : IVec S_ 32 := constantI S_ 32 2048#32
  let main_v2 : IVec S1x4x2048x64 32 := broadcastInDim S1x4x2048x64 ![] bcast_S_S1x4x2048x64 main_c_0
  let main_v3 : IVec S1x4x2048x64 1 := cmpi .slt main_arg3 main_v2
  let main_v4 : IVec S1x4x2048x64 1 := andi main_v1 main_v3
  let main_c_1 : IVec S_ 1 := constantI S_ 1 1#1
  let main_v5 : IVec S_ 1 := (fun x v => Host.reduce IntOp.andi x v reducesTo_S1x4x2048x64_S_d0_1_2_3 h_S_) main_v4 main_c_1
  main_v5
-- ==== Pre_in_range_and_finite.lean ====
abbrev S1x16x2048x128 : Shape := ⟨4, ![1, 16, 2048, 128]⟩
abbrev S1x4x2048x128 : Shape := ⟨4, ![1, 4, 2048, 128]⟩
abbrev S1x4x2048x64 : Shape := ⟨4, ![1, 4, 2048, 64]⟩
abbrev S_ : Shape := ⟨0, ![]⟩

class Facts : Prop where
  bcast_S_S1x4x2048x64 : S_.BroadcastsInDim S1x4x2048x64 (![] : Fin 0 → Fin S1x4x2048x64.rank)
  reducesTo_S1x4x2048x64_S_d0_1_2_3 : S1x4x2048x64.ReducesTo [0, 1, 2, 3] S_
  h_S_ : 0 < S_.numel
  bcast_S_S1x16x2048x128 : S_.BroadcastsInDim S1x16x2048x128 (![] : Fin 0 → Fin S1x16x2048x128.rank)
  reducesTo_S1x16x2048x128_S_d0_1_2_3 : S1x16x2048x128.ReducesTo [0, 1, 2, 3] S_
  bcast_S_S1x4x2048x128 : S_.BroadcastsInDim S1x4x2048x128 (![] : Fin 0 → Fin S1x4x2048x128.rank)
  reducesTo_S1x4x2048x128_S_d0_1_2_3 : S1x4x2048x128.ReducesTo [0, 1, 2, 3] S_

variable [Facts]

def fn {F : FTy → Type} [FloatOps F] (main_arg0 : FVec F S1x16x2048x128 .f32) (main_arg1 : FVec F S1x4x2048x128 .f32) (main_arg2 : FVec F S1x4x2048x128 .f32) (main_arg3 : IVec S1x4x2048x64 32) : IVec S_ 1 :=
  let main_c : IVec S_ 32 := constantI S_ 32 0#32
  let main_v0 : IVec S1x4x2048x64 32 := broadcastInDim S1x4x2048x64 ![] bcast_S_S1x4x2048x64 main_c
  let main_v1 : IVec S1x4x2048x64 1 := cmpi .sge main_arg3 main_v0
  let main_c_0 : IVec S_ 32 := constantI S_ 32 2048#32
  let main_v2 : IVec S1x4x2048x64 32 := broadcastInDim S1x4x2048x64 ![] bcast_S_S1x4x2048x64 main_c_0
  let main_v3 : IVec S1x4x2048x64 1 := cmpi .slt main_arg3 main_v2
  let main_v4 : IVec S1x4x2048x64 1 := andi main_v1 main_v3
  let main_c_1 : IVec S_ 1 := constantI S_ 1 1#1
  let main_v5 : IVec S_ 1 := (fun x v => Host.reduce IntOp.andi x v reducesTo_S1x4x2048x64_S_d0_1_2_3 h_S_) main_v4 main_c_1
  let main_v6 : FVec F S1x16x2048x128 .f32 := Host.absf main_arg0
  let main_cst : FVec F S_ .f32 := constant S_ .f32 0x7F800000#32
  let main_v7 : FVec F S1x16x2048x128 .f32 := broadcastInDim S1x16x2048x128 ![] bcast_S_S1x16x2048x128 main_cst
  let main_v8 : IVec S1x16x2048x128 1 := cmpf .olt main_v6 main_v7
  let main_c_2 : IVec S_ 1 := constantI S_ 1 1#1
  let main_v9 : IVec S_ 1 := (fun x v => Host.reduce IntOp.andi x v reducesTo_S1x16x2048x128_S_d0_1_2_3 h_S_) main_v8 main_c_2
  let main_v10 : IVec S_ 1 := andi main_v5 main_v9
  let main_v11 : FVec F S1x4x2048x128 .f32 := Host.absf main_arg1
  let main_cst_3 : FVec F S_ .f32 := constant S_ .f32 0x7F800000#32
  let main_v12 : FVec F S1x4x2048x128 .f32 := broadcastInDim S1x4x2048x128 ![] bcast_S_S1x4x2048x128 main_cst_3
  let main_v13 : IVec S1x4x2048x128 1 := cmpf .olt main_v11 main_v12
  let main_c_4 : IVec S_ 1 := constantI S_ 1 1#1
  let main_v14 : IVec S_ 1 := (fun x v => Host.reduce IntOp.andi x v reducesTo_S1x4x2048x128_S_d0_1_2_3 h_S_) main_v13 main_c_4
  let main_v15 : IVec S_ 1 := andi main_v10 main_v14
  main_v15
-- ==== Kernel.lean ====
abbrev S1x16x2048x128 : Shape := ⟨4, ![1, 16, 2048, 128]⟩
abbrev S1x4x2048x128 : Shape := ⟨4, ![1, 4, 2048, 128]⟩
abbrev S1x4x2048x64 : Shape := ⟨4, ![1, 4, 2048, 64]⟩
abbrev S32768x16 : Shape := ⟨2, ![32768, 16]⟩
abbrev S_ : Shape := ⟨0, ![]⟩
abbrev S8x2048 : Shape := ⟨2, ![8, 2048]⟩
abbrev S2048x2048 : Shape := ⟨2, ![2048, 2048]⟩
abbrev S128x16 : Shape := ⟨2, ![128, 16]⟩
abbrev S16 : Shape := ⟨1, ![16]⟩
abbrev S32x16 : Shape := ⟨2, ![32, 16]⟩
abbrev S1x16 : Shape := ⟨2, ![1, 16]⟩
abbrev S4x512x2048 : Shape := ⟨3, ![4, 512, 2048]⟩
abbrev S4x4x2048x128 : Shape := ⟨4, ![4, 4, 2048, 128]⟩
abbrev S4x2048x128 : Shape := ⟨3, ![4, 2048, 128]⟩
abbrev S1x4x512x128 : Shape := ⟨4, ![1, 4, 512, 128]⟩
abbrev S1x2048x128 : Shape := ⟨3, ![1, 2048, 128]⟩
abbrev S1x512x2048 : Shape := ⟨3, ![1, 512, 2048]⟩
abbrev S2048x128 : Shape := ⟨2, ![2048, 128]⟩
abbrev S512x2048 : Shape := ⟨2, ![512, 2048]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩

abbrev nBuf : Table → Nat
  | .hbm => 14
  | .local .tc .vmem => 12
  | .local .scVector .vmem => 4
  | _ => 0

abbrev bufTy : (tb : Table) → Fin (nBuf tb) → BufTy
  | .hbm, ⟨0, _⟩ => ⟨S1x16x2048x128, .f32⟩
  | .hbm, ⟨1, _⟩ => ⟨S1x4x2048x128, .f32⟩
  | .hbm, ⟨2, _⟩ => ⟨S1x4x2048x128, .f32⟩
  | .hbm, ⟨3, _⟩ => ⟨S1x4x2048x64, .i32⟩
  | .hbm, ⟨4, _⟩ => ⟨S32768x16, .i32⟩
  | .hbm, ⟨5, _⟩ => ⟨S_, .i32⟩
  | .hbm, ⟨6, _⟩ => ⟨S8x2048, .i32⟩
  | .hbm, ⟨7, _⟩ => ⟨S2048x2048, .i32⟩
  | .hbm, ⟨8, _⟩ => ⟨S4x512x2048, .i32⟩
  | .hbm, ⟨9, _⟩ => ⟨S4x4x2048x128, .f32⟩
  | .hbm, ⟨10, _⟩ => ⟨S4x2048x128, .f32⟩
  | .hbm, ⟨11, _⟩ => ⟨S4x2048x128, .f32⟩
  | .hbm, ⟨12, _⟩ => ⟨S4x4x2048x128, .f32⟩
  | .hbm, ⟨13, _⟩ => ⟨S1x16x2048x128, .f32⟩
  | .local .tc .vmem, ⟨0, _⟩ => ⟨S1x4x512x128, .f32⟩
  | .local .tc .vmem, ⟨1, _⟩ => ⟨S1x4x512x128, .f32⟩
  | .local .tc .vmem, ⟨2, _⟩ => ⟨S1x2048x128, .f32⟩
  | .local .tc .vmem, ⟨3, _⟩ => ⟨S1x2048x128, .f32⟩
  | .local .tc .vmem, ⟨4, _⟩ => ⟨S1x2048x128, .f32⟩
  | .local .tc .vmem, ⟨5, _⟩ => ⟨S1x2048x128, .f32⟩
  | .local .tc .vmem, ⟨6, _⟩ => ⟨S1x512x2048, .i32⟩
  | .local .tc .vmem, ⟨7, _⟩ => ⟨S1x512x2048, .i32⟩
  | .local .tc .vmem, ⟨8, _⟩ => ⟨S1x4x512x128, .f32⟩
  | .local .tc .vmem, ⟨9, _⟩ => ⟨S1x4x512x128, .f32⟩
  | .local .tc .vmem, ⟨10, _⟩ => ⟨S2048x128, .bf16⟩
  | .local .tc .vmem, ⟨11, _⟩ => ⟨S2048x128, .bf16⟩
  | .local .scVector .vmem, ⟨0, _⟩ => ⟨S128x16, .i32⟩
  | .local .scVector .vmem, ⟨1, _⟩ => ⟨S128x16, .i32⟩
  | .local .scVector .vmem, ⟨2, _⟩ => ⟨S8x2048, .i32⟩
  | .local .scVector .vmem, ⟨3, _⟩ => ⟨S8x2048, .i32⟩
  | _, _ => ⟨S1x16x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v0_scv : Ref sig .scVector := ⟨.hbm, 4, rfl⟩
abbrev main_v1_scv : Ref sig .scVector := ⟨.hbm, 6, rfl⟩
abbrev main_v2_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_scratch0 : Ref sig .tc := ⟨.vmem, 10, rfl⟩
abbrev cc1_scratch1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_0 : BitVec 32 := 0#32
  let v8 : BitVec 32 := Scalar.addi v2 c0_i32_0
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c512_i32 : BitVec 32 := 512#32
  let c0_i32_3 : BitVec 32 := 0#32
  let v15 : BitVec 1 := Scalar.cmpi .sgt c512_i32 c0_i32_3
  let v16 : BitVec 32 := Scalar.extui v15
  let c0_i32_4 : BitVec 32 := 0#32
  let v17 : BitVec 1 := Scalar.cmpi .slt c512_i32 c0_i32_4
  let v18 : BitVec 32 := Scalar.extui v17
  let v19 : BitVec 32 := Scalar.subi v16 v18
  let v20 : BitVec 1 := Scalar.cmpi .ne v14 v19
  let v21 : BitVec 32 := Scalar.remsi v8 c512_i32
  let c0_i32_5 : BitVec 32 := 0#32
  let v22 : BitVec 1 := Scalar.cmpi .ne v21 c0_i32_5
  let v23 : BitVec 1 := Scalar.andi v20 v22
  let v9 : BitVec 32 := Scalar.divsi v8 c512_i32
  let c1_i32_6 : BitVec 32 := 1#32
  let v24 : BitVec 32 := Scalar.subi v9 c1_i32_6
  let v25 : BitVec 32 := Scalar.select v23 v24 v9
  let c2048_i32 : BitVec 32 := 2048#32
  let v28 : BitVec 32 := Scalar.muli v25 c2048_i32
  let v29 : BitVec 32 := Scalar.addi v28 c0_i32_8
  let c512_i32_7 : BitVec 32 := 512#32
  let v26 : BitVec 32 := Scalar.muli v25 c512_i32_7
  let v27 : BitVec 32 := Scalar.subi v8 v26
  let v30 : BitVec 32 := Scalar.addi v29 v27
  let c4_i32 : BitVec 32 := 4#32
  let v31 : BitVec 32 := Scalar.muli v30 c4_i32
  let c0_i32_11 : BitVec 32 := 0#32
  ![v31.toNat, 0]

def k0_chk1 (v76 : IVec S16 32) (v78 : IVec S16 32) : Prop :=
  (∀ a x, ((![v76, v78] : Fin 2 → IVec S16 32) a x).toNat < S8x2048.size a)
theorem k0_idx1_inb : ∀ (v76 : IVec S16 32) (v78 : IVec S16 32) (k0_hw1 : k0_chk1 v76 v78), ∀ a x, ((![v76, v78] : Fin 2 → IVec S16 32) a x).toNat < S8x2048.size a := fun v76 v78 k0_hw1 => k0_hw1

def k0_chk2 (v76 : IVec S16 32) (v80 : IVec S16 32) : Prop :=
  (∀ a x, ((![v76, v80] : Fin 2 → IVec S16 32) a x).toNat < S8x2048.size a)
theorem k0_idx2_inb : ∀ (v76 : IVec S16 32) (v80 : IVec S16 32) (k0_hw2 : k0_chk2 v76 v80), ∀ a x, ((![v76, v80] : Fin 2 → IVec S16 32) a x).toNat < S8x2048.size a := fun v76 v80 k0_hw2 => k0_hw2

def k0_chk3 (v76 : IVec S16 32) (v82 : IVec S16 32) : Prop :=
  (∀ a x, ((![v76, v82] : Fin 2 → IVec S16 32) a x).toNat < S8x2048.size a)
theorem k0_idx3_inb : ∀ (v76 : IVec S16 32) (v82 : IVec S16 32) (k0_hw3 : k0_chk3 v76 v82), ∀ a x, ((![v76, v82] : Fin 2 → IVec S16 32) a x).toNat < S8x2048.size a := fun v76 v82 k0_hw3 => k0_hw3

def k0_chk4 (v76 : IVec S16 32) (v84 : IVec S16 32) : Prop :=
  (∀ a x, ((![v76, v84] : Fin 2 → IVec S16 32) a x).toNat < S8x2048.size a)
theorem k0_idx4_inb : ∀ (v76 : IVec S16 32) (v84 : IVec S16 32) (k0_hw4 : k0_chk4 v76 v84), ∀ a x, ((![v76, v84] : Fin 2 → IVec S16 32) a x).toNat < S8x2048.size a := fun v76 v84 k0_hw4 => k0_hw4

def k0_chk5 (v76 : IVec S16 32) (v86 : IVec S16 32) : Prop :=
  (∀ a x, ((![v76, v86] : Fin 2 → IVec S16 32) a x).toNat < S8x2048.size a)
theorem k0_idx5_inb : ∀ (v76 : IVec S16 32) (v86 : IVec S16 32) (k0_hw5 : k0_chk5 v76 v86), ∀ a x, ((![v76, v86] : Fin 2 → IVec S16 32) a x).toNat < S8x2048.size a := fun v76 v86 k0_hw5 => k0_hw5

def k0_chk6 (v76 : IVec S16 32) (v88 : IVec S16 32) : Prop :=
  (∀ a x, ((![v76, v88] : Fin 2 → IVec S16 32) a x).toNat < S8x2048.size a)
theorem k0_idx6_inb : ∀ (v76 : IVec S16 32) (v88 : IVec S16 32) (k0_hw6 : k0_chk6 v76 v88), ∀ a x, ((![v76, v88] : Fin 2 → IVec S16 32) a x).toNat < S8x2048.size a := fun v76 v88 k0_hw6 => k0_hw6

def k0_chk7 (v76 : IVec S16 32) (v90 : IVec S16 32) : Prop :=
  (∀ a x, ((![v76, v90] : Fin 2 → IVec S16 32) a x).toNat < S8x2048.size a)
theorem k0_idx7_inb : ∀ (v76 : IVec S16 32) (v90 : IVec S16 32) (k0_hw7 : k0_chk7 v76 v90), ∀ a x, ((![v76, v90] : Fin 2 → IVec S16 32) a x).toNat < S8x2048.size a := fun v76 v90 k0_hw7 => k0_hw7

def k0_chk8 (v76 : IVec S16 32) (v92 : IVec S16 32) : Prop :=
  (∀ a x, ((![v76, v92] : Fin 2 → IVec S16 32) a x).toNat < S8x2048.size a)
theorem k0_idx8_inb : ∀ (v76 : IVec S16 32) (v92 : IVec S16 32) (k0_hw8 : k0_chk8 v76 v92), ∀ a x, ((![v76, v92] : Fin 2 → IVec S16 32) a x).toNat < S8x2048.size a := fun v76 v92 k0_hw8 => k0_hw8

def k0_chk9 (v76 : IVec S16 32) (v94 : IVec S16 32) : Prop :=
  (∀ a x, ((![v76, v94] : Fin 2 → IVec S16 32) a x).toNat < S8x2048.size a)
theorem k0_idx9_inb : ∀ (v76 : IVec S16 32) (v94 : IVec S16 32) (k0_hw9 : k0_chk9 v76 v94), ∀ a x, ((![v76, v94] : Fin 2 → IVec S16 32) a x).toNat < S8x2048.size a := fun v76 v94 k0_hw9 => k0_hw9

def k0_chk10 (v76 : IVec S16 32) (v96 : IVec S16 32) : Prop :=
  (∀ a x, ((![v76, v96] : Fin 2 → IVec S16 32) a x).toNat < S8x2048.size a)
theorem k0_idx10_inb : ∀ (v76 : IVec S16 32) (v96 : IVec S16 32) (k0_hw10 : k0_chk10 v76 v96), ∀ a x, ((![v76, v96] : Fin 2 → IVec S16 32) a x).toNat < S8x2048.size a := fun v76 v96 k0_hw10 => k0_hw10

def k0_chk11 (v76 : IVec S16 32) (v98 : IVec S16 32) : Prop :=
  (∀ a x, ((![v76, v98] : Fin 2 → IVec S16 32) a x).toNat < S8x2048.size a)
theorem k0_idx11_inb : ∀ (v76 : IVec S16 32) (v98 : IVec S16 32) (k0_hw11 : k0_chk11 v76 v98), ∀ a x, ((![v76, v98] : Fin 2 → IVec S16 32) a x).toNat < S8x2048.size a := fun v76 v98 k0_hw11 => k0_hw11

def k0_chk12 (v76 : IVec S16 32) (v100 : IVec S16 32) : Prop :=
  (∀ a x, ((![v76, v100] : Fin 2 → IVec S16 32) a x).toNat < S8x2048.size a)
theorem k0_idx12_inb : ∀ (v76 : IVec S16 32) (v100 : IVec S16 32) (k0_hw12 : k0_chk12 v76 v100), ∀ a x, ((![v76, v100] : Fin 2 → IVec S16 32) a x).toNat < S8x2048.size a := fun v76 v100 k0_hw12 => k0_hw12

def k0_chk13 (v76 : IVec S16 32) (v102 : IVec S16 32) : Prop :=
  (∀ a x, ((![v76, v102] : Fin 2 → IVec S16 32) a x).toNat < S8x2048.size a)
theorem k0_idx13_inb : ∀ (v76 : IVec S16 32) (v102 : IVec S16 32) (k0_hw13 : k0_chk13 v76 v102), ∀ a x, ((![v76, v102] : Fin 2 → IVec S16 32) a x).toNat < S8x2048.size a := fun v76 v102 k0_hw13 => k0_hw13

def k0_chk14 (v76 : IVec S16 32) (v104 : IVec S16 32) : Prop :=
  (∀ a x, ((![v76, v104] : Fin 2 → IVec S16 32) a x).toNat < S8x2048.size a)
theorem k0_idx14_inb : ∀ (v76 : IVec S16 32) (v104 : IVec S16 32) (k0_hw14 : k0_chk14 v76 v104), ∀ a x, ((![v76, v104] : Fin 2 → IVec S16 32) a x).toNat < S8x2048.size a := fun v76 v104 k0_hw14 => k0_hw14

def k0_chk15 (v76 : IVec S16 32) (v106 : IVec S16 32) : Prop :=
  (∀ a x, ((![v76, v106] : Fin 2 → IVec S16 32) a x).toNat < S8x2048.size a)
theorem k0_idx15_inb : ∀ (v76 : IVec S16 32) (v106 : IVec S16 32) (k0_hw15 : k0_chk15 v76 v106), ∀ a x, ((![v76, v106] : Fin 2 → IVec S16 32) a x).toNat < S8x2048.size a := fun v76 v106 k0_hw15 => k0_hw15

def k0_chk16 (v76 : IVec S16 32) (v108 : IVec S16 32) : Prop :=
  (∀ a x, ((![v76, v108] : Fin 2 → IVec S16 32) a x).toNat < S8x2048.size a)
theorem k0_idx16_inb : ∀ (v76 : IVec S16 32) (v108 : IVec S16 32) (k0_hw16 : k0_chk16 v76 v108), ∀ a x, ((![v76, v108] : Fin 2 → IVec S16 32) a x).toNat < S8x2048.size a := fun v76 v108 k0_hw16 => k0_hw16

def k0_chk17 (v109 : IVec S16 32) (v111 : IVec S16 32) : Prop :=
  (∀ a x, ((![v109, v111] : Fin 2 → IVec S16 32) a x).toNat < S8x2048.size a)
theorem k0_idx17_inb : ∀ (v109 : IVec S16 32) (v111 : IVec S16 32) (k0_hw17 : k0_chk17 v109 v111), ∀ a x, ((![v109, v111] : Fin 2 → IVec S16 32) a x).toNat < S8x2048.size a := fun v109 v111 k0_hw17 => k0_hw17

def k0_chk18 (v109 : IVec S16 32) (v113 : IVec S16 32) : Prop :=
  (∀ a x, ((![v109, v113] : Fin 2 → IVec S16 32) a x).toNat < S8x2048.size a)
theorem k0_idx18_inb : ∀ (v109 : IVec S16 32) (v113 : IVec S16 32) (k0_hw18 : k0_chk18 v109 v113), ∀ a x, ((![v109, v113] : Fin 2 → IVec S16 32) a x).toNat < S8x2048.size a := fun v109 v113 k0_hw18 => k0_hw18

def k0_chk19 (v109 : IVec S16 32) (v115 : IVec S16 32) : Prop :=
  (∀ a x, ((![v109, v115] : Fin 2 → IVec S16 32) a x).toNat < S8x2048.size a)
theorem k0_idx19_inb : ∀ (v109 : IVec S16 32) (v115 : IVec S16 32) (k0_hw19 : k0_chk19 v109 v115), ∀ a x, ((![v109, v115] : Fin 2 → IVec S16 32) a x).toNat < S8x2048.size a := fun v109 v115 k0_hw19 => k0_hw19

def k0_chk20 (v109 : IVec S16 32) (v117 : IVec S16 32) : Prop :=
  (∀ a x, ((![v109, v117] : Fin 2 → IVec S16 32) a x).toNat < S8x2048.size a)
theorem k0_idx20_inb : ∀ (v109 : IVec S16 32) (v117 : IVec S16 32) (k0_hw20 : k0_chk20 v109 v117), ∀ a x, ((![v109, v117] : Fin 2 → IVec S16 32) a x).toNat < S8x2048.size a := fun v109 v117 k0_hw20 => k0_hw20

def k0_chk21 (v109 : IVec S16 32) (v119 : IVec S16 32) : Prop :=
  (∀ a x, ((![v109, v119] : Fin 2 → IVec S16 32) a x).toNat < S8x2048.size a)
theorem k0_idx21_inb : ∀ (v109 : IVec S16 32) (v119 : IVec S16 32) (k0_hw21 : k0_chk21 v109 v119), ∀ a x, ((![v109, v119] : Fin 2 → IVec S16 32) a x).toNat < S8x2048.size a := fun v109 v119 k0_hw21 => k0_hw21

def k0_chk22 (v109 : IVec S16 32) (v121 : IVec S16 32) : Prop :=
  (∀ a x, ((![v109, v121] : Fin 2 → IVec S16 32) a x).toNat < S8x2048.size a)
theorem k0_idx22_inb : ∀ (v109 : IVec S16 32) (v121 : IVec S16 32) (k0_hw22 : k0_chk22 v109 v121), ∀ a x, ((![v109, v121] : Fin 2 → IVec S16 32) a x).toNat < S8x2048.size a := fun v109 v121 k0_hw22 => k0_hw22

def k0_chk23 (v109 : IVec S16 32) (v123 : IVec S16 32) : Prop :=
  (∀ a x, ((![v109, v123] : Fin 2 → IVec S16 32) a x).toNat < S8x2048.size a)
theorem k0_idx23_inb : ∀ (v109 : IVec S16 32) (v123 : IVec S16 32) (k0_hw23 : k0_chk23 v109 v123), ∀ a x, ((![v109, v123] : Fin 2 → IVec S16 32) a x).toNat < S8x2048.size a := fun v109 v123 k0_hw23 => k0_hw23

def k0_chk24 (v109 : IVec S16 32) (v125 : IVec S16 32) : Prop :=
  (∀ a x, ((![v109, v125] : Fin 2 → IVec S16 32) a x).toNat < S8x2048.size a)
theorem k0_idx24_inb : ∀ (v109 : IVec S16 32) (v125 : IVec S16 32) (k0_hw24 : k0_chk24 v109 v125), ∀ a x, ((![v109, v125] : Fin 2 → IVec S16 32) a x).toNat < S8x2048.size a := fun v109 v125 k0_hw24 => k0_hw24

def k0_chk25 (v109 : IVec S16 32) (v127 : IVec S16 32) : Prop :=
  (∀ a x, ((![v109, v127] : Fin 2 → IVec S16 32) a x).toNat < S8x2048.size a)
theorem k0_idx25_inb : ∀ (v109 : IVec S16 32) (v127 : IVec S16 32) (k0_hw25 : k0_chk25 v109 v127), ∀ a x, ((![v109, v127] : Fin 2 → IVec S16 32) a x).toNat < S8x2048.size a := fun v109 v127 k0_hw25 => k0_hw25

def k0_chk26 (v109 : IVec S16 32) (v129 : IVec S16 32) : Prop :=
  (∀ a x, ((![v109, v129] : Fin 2 → IVec S16 32) a x).toNat < S8x2048.size a)
theorem k0_idx26_inb : ∀ (v109 : IVec S16 32) (v129 : IVec S16 32) (k0_hw26 : k0_chk26 v109 v129), ∀ a x, ((![v109, v129] : Fin 2 → IVec S16 32) a x).toNat < S8x2048.size a := fun v109 v129 k0_hw26 => k0_hw26

def k0_chk27 (v109 : IVec S16 32) (v131 : IVec S16 32) : Prop :=
  (∀ a x, ((![v109, v131] : Fin 2 → IVec S16 32) a x).toNat < S8x2048.size a)
theorem k0_idx27_inb : ∀ (v109 : IVec S16 32) (v131 : IVec S16 32) (k0_hw27 : k0_chk27 v109 v131), ∀ a x, ((![v109, v131] : Fin 2 → IVec S16 32) a x).toNat < S8x2048.size a := fun v109 v131 k0_hw27 => k0_hw27

def k0_chk28 (v109 : IVec S16 32) (v133 : IVec S16 32) : Prop :=
  (∀ a x, ((![v109, v133] : Fin 2 → IVec S16 32) a x).toNat < S8x2048.size a)
theorem k0_idx28_inb : ∀ (v109 : IVec S16 32) (v133 : IVec S16 32) (k0_hw28 : k0_chk28 v109 v133), ∀ a x, ((![v109, v133] : Fin 2 → IVec S16 32) a x).toNat < S8x2048.size a := fun v109 v133 k0_hw28 => k0_hw28

def k0_chk29 (v109 : IVec S16 32) (v135 : IVec S16 32) : Prop :=
  (∀ a x, ((![v109, v135] : Fin 2 → IVec S16 32) a x).toNat < S8x2048.size a)
theorem k0_idx29_inb : ∀ (v109 : IVec S16 32) (v135 : IVec S16 32) (k0_hw29 : k0_chk29 v109 v135), ∀ a x, ((![v109, v135] : Fin 2 → IVec S16 32) a x).toNat < S8x2048.size a := fun v109 v135 k0_hw29 => k0_hw29

def k0_chk30 (v109 : IVec S16 32) (v137 : IVec S16 32) : Prop :=
  (∀ a x, ((![v109, v137] : Fin 2 → IVec S16 32) a x).toNat < S8x2048.size a)
theorem k0_idx30_inb : ∀ (v109 : IVec S16 32) (v137 : IVec S16 32) (k0_hw30 : k0_chk30 v109 v137), ∀ a x, ((![v109, v137] : Fin 2 → IVec S16 32) a x).toNat < S8x2048.size a := fun v109 v137 k0_hw30 => k0_hw30

def k0_chk31 (v109 : IVec S16 32) (v139 : IVec S16 32) : Prop :=
  (∀ a x, ((![v109, v139] : Fin 2 → IVec S16 32) a x).toNat < S8x2048.size a)
theorem k0_idx31_inb : ∀ (v109 : IVec S16 32) (v139 : IVec S16 32) (k0_hw31 : k0_chk31 v109 v139), ∀ a x, ((![v109, v139] : Fin 2 → IVec S16 32) a x).toNat < S8x2048.size a := fun v109 v139 k0_hw31 => k0_hw31

def k0_chk32 (v109 : IVec S16 32) (v141 : IVec S16 32) : Prop :=
  (∀ a x, ((![v109, v141] : Fin 2 → IVec S16 32) a x).toNat < S8x2048.size a)
theorem k0_idx32_inb : ∀ (v109 : IVec S16 32) (v141 : IVec S16 32) (k0_hw32 : k0_chk32 v109 v141), ∀ a x, ((![v109, v141] : Fin 2 → IVec S16 32) a x).toNat < S8x2048.size a := fun v109 v141 k0_hw32 => k0_hw32

def k0_chk33 (v142 : IVec S16 32) (v144 : IVec S16 32) : Prop :=
  (∀ a x, ((![v142, v144] : Fin 2 → IVec S16 32) a x).toNat < S8x2048.size a)
theorem k0_idx33_inb : ∀ (v142 : IVec S16 32) (v144 : IVec S16 32) (k0_hw33 : k0_chk33 v142 v144), ∀ a x, ((![v142, v144] : Fin 2 → IVec S16 32) a x).toNat < S8x2048.size a := fun v142 v144 k0_hw33 => k0_hw33

def k0_chk34 (v142 : IVec S16 32) (v146 : IVec S16 32) : Prop :=
  (∀ a x, ((![v142, v146] : Fin 2 → IVec S16 32) a x).toNat < S8x2048.size a)
theorem k0_idx34_inb : ∀ (v142 : IVec S16 32) (v146 : IVec S16 32) (k0_hw34 : k0_chk34 v142 v146), ∀ a x, ((![v142, v146] : Fin 2 → IVec S16 32) a x).toNat < S8x2048.size a := fun v142 v146 k0_hw34 => k0_hw34

def k0_chk35 (v142 : IVec S16 32) (v148 : IVec S16 32) : Prop :=
  (∀ a x, ((![v142, v148] : Fin 2 → IVec S16 32) a x).toNat < S8x2048.size a)
theorem k0_idx35_inb : ∀ (v142 : IVec S16 32) (v148 : IVec S16 32) (k0_hw35 : k0_chk35 v142 v148), ∀ a x, ((![v142, v148] : Fin 2 → IVec S16 32) a x).toNat < S8x2048.size a := fun v142 v148 k0_hw35 => k0_hw35

def k0_chk36 (v142 : IVec S16 32) (v150 : IVec S16 32) : Prop :=
  (∀ a x, ((![v142, v150] : Fin 2 → IVec S16 32) a x).toNat < S8x2048.size a)
theorem k0_idx36_inb : ∀ (v142 : IVec S16 32) (v150 : IVec S16 32) (k0_hw36 : k0_chk36 v142 v150), ∀ a x, ((![v142, v150] : Fin 2 → IVec S16 32) a x).toNat < S8x2048.size a := fun v142 v150 k0_hw36 => k0_hw36

def k0_chk37 (v142 : IVec S16 32) (v152 : IVec S16 32) : Prop :=
  (∀ a x, ((![v142, v152] : Fin 2 → IVec S16 32) a x).toNat < S8x2048.size a)
theorem k0_idx37_inb : ∀ (v142 : IVec S16 32) (v152 : IVec S16 32) (k0_hw37 : k0_chk37 v142 v152), ∀ a x, ((![v142, v152] : Fin 2 → IVec S16 32) a x).toNat < S8x2048.size a := fun v142 v152 k0_hw37 => k0_hw37

def k0_chk38 (v142 : IVec S16 32) (v154 : IVec S16 32) : Prop :=
  (∀ a x, ((![v142, v154] : Fin 2 → IVec S16 32) a x).toNat < S8x2048.size a)
theorem k0_idx38_inb : ∀ (v142 : IVec S16 32) (v154 : IVec S16 32) (k0_hw38 : k0_chk38 v142 v154), ∀ a x, ((![v142, v154] : Fin 2 → IVec S16 32) a x).toNat < S8x2048.size a := fun v142 v154 k0_hw38 => k0_hw38

def k0_chk39 (v142 : IVec S16 32) (v156 : IVec S16 32) : Prop :=
  (∀ a x, ((![v142, v156] : Fin 2 → IVec S16 32) a x).toNat < S8x2048.size a)
theorem k0_idx39_inb : ∀ (v142 : IVec S16 32) (v156 : IVec S16 32) (k0_hw39 : k0_chk39 v142 v156), ∀ a x, ((![v142, v156] : Fin 2 → IVec S16 32) a x).toNat < S8x2048.size a := fun v142 v156 k0_hw39 => k0_hw39

def k0_chk40 (v142 : IVec S16 32) (v158 : IVec S16 32) : Prop :=
  (∀ a x, ((![v142, v158] : Fin 2 → IVec S16 32) a x).toNat < S8x2048.size a)
theorem k0_idx40_inb : ∀ (v142 : IVec S16 32) (v158 : IVec S16 32) (k0_hw40 : k0_chk40 v142 v158), ∀ a x, ((![v142, v158] : Fin 2 → IVec S16 32) a x).toNat < S8x2048.size a := fun v142 v158 k0_hw40 => k0_hw40

def k0_chk41 (v142 : IVec S16 32) (v160 : IVec S16 32) : Prop :=
  (∀ a x, ((![v142, v160] : Fin 2 → IVec S16 32) a x).toNat < S8x2048.size a)
theorem k0_idx41_inb : ∀ (v142 : IVec S16 32) (v160 : IVec S16 32) (k0_hw41 : k0_chk41 v142 v160), ∀ a x, ((![v142, v160] : Fin 2 → IVec S16 32) a x).toNat < S8x2048.size a := fun v142 v160 k0_hw41 => k0_hw41

def k0_chk42 (v142 : IVec S16 32) (v162 : IVec S16 32) : Prop :=
  (∀ a x, ((![v142, v162] : Fin 2 → IVec S16 32) a x).toNat < S8x2048.size a)
theorem k0_idx42_inb : ∀ (v142 : IVec S16 32) (v162 : IVec S16 32) (k0_hw42 : k0_chk42 v142 v162), ∀ a x, ((![v142, v162] : Fin 2 → IVec S16 32) a x).toNat < S8x2048.size a := fun v142 v162 k0_hw42 => k0_hw42

def k0_chk43 (v142 : IVec S16 32) (v164 : IVec S16 32) : Prop :=
  (∀ a x, ((![v142, v164] : Fin 2 → IVec S16 32) a x).toNat < S8x2048.size a)
theorem k0_idx43_inb : ∀ (v142 : IVec S16 32) (v164 : IVec S16 32) (k0_hw43 : k0_chk43 v142 v164), ∀ a x, ((![v142, v164] : Fin 2 → IVec S16 32) a x).toNat < S8x2048.size a := fun v142 v164 k0_hw43 => k0_hw43

def k0_chk44 (v142 : IVec S16 32) (v166 : IVec S16 32) : Prop :=
  (∀ a x, ((![v142, v166] : Fin 2 → IVec S16 32) a x).toNat < S8x2048.size a)
theorem k0_idx44_inb : ∀ (v142 : IVec S16 32) (v166 : IVec S16 32) (k0_hw44 : k0_chk44 v142 v166), ∀ a x, ((![v142, v166] : Fin 2 → IVec S16 32) a x).toNat < S8x2048.size a := fun v142 v166 k0_hw44 => k0_hw44

def k0_chk45 (v142 : IVec S16 32) (v168 : IVec S16 32) : Prop :=
  (∀ a x, ((![v142, v168] : Fin 2 → IVec S16 32) a x).toNat < S8x2048.size a)
theorem k0_idx45_inb : ∀ (v142 : IVec S16 32) (v168 : IVec S16 32) (k0_hw45 : k0_chk45 v142 v168), ∀ a x, ((![v142, v168] : Fin 2 → IVec S16 32) a x).toNat < S8x2048.size a := fun v142 v168 k0_hw45 => k0_hw45

def k0_chk46 (v142 : IVec S16 32) (v170 : IVec S16 32) : Prop :=
  (∀ a x, ((![v142, v170] : Fin 2 → IVec S16 32) a x).toNat < S8x2048.size a)
theorem k0_idx46_inb : ∀ (v142 : IVec S16 32) (v170 : IVec S16 32) (k0_hw46 : k0_chk46 v142 v170), ∀ a x, ((![v142, v170] : Fin 2 → IVec S16 32) a x).toNat < S8x2048.size a := fun v142 v170 k0_hw46 => k0_hw46

def k0_chk47 (v142 : IVec S16 32) (v172 : IVec S16 32) : Prop :=
  (∀ a x, ((![v142, v172] : Fin 2 → IVec S16 32) a x).toNat < S8x2048.size a)
theorem k0_idx47_inb : ∀ (v142 : IVec S16 32) (v172 : IVec S16 32) (k0_hw47 : k0_chk47 v142 v172), ∀ a x, ((![v142, v172] : Fin 2 → IVec S16 32) a x).toNat < S8x2048.size a := fun v142 v172 k0_hw47 => k0_hw47

def k0_chk48 (v142 : IVec S16 32) (v174 : IVec S16 32) : Prop :=
  (∀ a x, ((![v142, v174] : Fin 2 → IVec S16 32) a x).toNat < S8x2048.size a)
theorem k0_idx48_inb : ∀ (v142 : IVec S16 32) (v174 : IVec S16 32) (k0_hw48 : k0_chk48 v142 v174), ∀ a x, ((![v142, v174] : Fin 2 → IVec S16 32) a x).toNat < S8x2048.size a := fun v142 v174 k0_hw48 => k0_hw48

def k0_chk49 (v175 : IVec S16 32) (v177 : IVec S16 32) : Prop :=
  (∀ a x, ((![v175, v177] : Fin 2 → IVec S16 32) a x).toNat < S8x2048.size a)
theorem k0_idx49_inb : ∀ (v175 : IVec S16 32) (v177 : IVec S16 32) (k0_hw49 : k0_chk49 v175 v177), ∀ a x, ((![v175, v177] : Fin 2 → IVec S16 32) a x).toNat < S8x2048.size a := fun v175 v177 k0_hw49 => k0_hw49

def k0_chk50 (v175 : IVec S16 32) (v179 : IVec S16 32) : Prop :=
  (∀ a x, ((![v175, v179] : Fin 2 → IVec S16 32) a x).toNat < S8x2048.size a)
theorem k0_idx50_inb : ∀ (v175 : IVec S16 32) (v179 : IVec S16 32) (k0_hw50 : k0_chk50 v175 v179), ∀ a x, ((![v175, v179] : Fin 2 → IVec S16 32) a x).toNat < S8x2048.size a := fun v175 v179 k0_hw50 => k0_hw50

def k0_chk51 (v175 : IVec S16 32) (v181 : IVec S16 32) : Prop :=
  (∀ a x, ((![v175, v181] : Fin 2 → IVec S16 32) a x).toNat < S8x2048.size a)
theorem k0_idx51_inb : ∀ (v175 : IVec S16 32) (v181 : IVec S16 32) (k0_hw51 : k0_chk51 v175 v181), ∀ a x, ((![v175, v181] : Fin 2 → IVec S16 32) a x).toNat < S8x2048.size a := fun v175 v181 k0_hw51 => k0_hw51

def k0_chk52 (v175 : IVec S16 32) (v183 : IVec S16 32) : Prop :=
  (∀ a x, ((![v175, v183] : Fin 2 → IVec S16 32) a x).toNat < S8x2048.size a)
theorem k0_idx52_inb : ∀ (v175 : IVec S16 32) (v183 : IVec S16 32) (k0_hw52 : k0_chk52 v175 v183), ∀ a x, ((![v175, v183] : Fin 2 → IVec S16 32) a x).toNat < S8x2048.size a := fun v175 v183 k0_hw52 => k0_hw52

def k0_chk53 (v175 : IVec S16 32) (v185 : IVec S16 32) : Prop :=
  (∀ a x, ((![v175, v185] : Fin 2 → IVec S16 32) a x).toNat < S8x2048.size a)
theorem k0_idx53_inb : ∀ (v175 : IVec S16 32) (v185 : IVec S16 32) (k0_hw53 : k0_chk53 v175 v185), ∀ a x, ((![v175, v185] : Fin 2 → IVec S16 32) a x).toNat < S8x2048.size a := fun v175 v185 k0_hw53 => k0_hw53

def k0_chk54 (v175 : IVec S16 32) (v187 : IVec S16 32) : Prop :=
  (∀ a x, ((![v175, v187] : Fin 2 → IVec S16 32) a x).toNat < S8x2048.size a)
theorem k0_idx54_inb : ∀ (v175 : IVec S16 32) (v187 : IVec S16 32) (k0_hw54 : k0_chk54 v175 v187), ∀ a x, ((![v175, v187] : Fin 2 → IVec S16 32) a x).toNat < S8x2048.size a := fun v175 v187 k0_hw54 => k0_hw54

def k0_chk55 (v175 : IVec S16 32) (v189 : IVec S16 32) : Prop :=
  (∀ a x, ((![v175, v189] : Fin 2 → IVec S16 32) a x).toNat < S8x2048.size a)
theorem k0_idx55_inb : ∀ (v175 : IVec S16 32) (v189 : IVec S16 32) (k0_hw55 : k0_chk55 v175 v189), ∀ a x, ((![v175, v189] : Fin 2 → IVec S16 32) a x).toNat < S8x2048.size a := fun v175 v189 k0_hw55 => k0_hw55

def k0_chk56 (v175 : IVec S16 32) (v191 : IVec S16 32) : Prop :=
  (∀ a x, ((![v175, v191] : Fin 2 → IVec S16 32) a x).toNat < S8x2048.size a)
theorem k0_idx56_inb : ∀ (v175 : IVec S16 32) (v191 : IVec S16 32) (k0_hw56 : k0_chk56 v175 v191), ∀ a x, ((![v175, v191] : Fin 2 → IVec S16 32) a x).toNat < S8x2048.size a := fun v175 v191 k0_hw56 => k0_hw56

def k0_chk57 (v175 : IVec S16 32) (v193 : IVec S16 32) : Prop :=
  (∀ a x, ((![v175, v193] : Fin 2 → IVec S16 32) a x).toNat < S8x2048.size a)
theorem k0_idx57_inb : ∀ (v175 : IVec S16 32) (v193 : IVec S16 32) (k0_hw57 : k0_chk57 v175 v193), ∀ a x, ((![v175, v193] : Fin 2 → IVec S16 32) a x).toNat < S8x2048.size a := fun v175 v193 k0_hw57 => k0_hw57

def k0_chk58 (v175 : IVec S16 32) (v195 : IVec S16 32) : Prop :=
  (∀ a x, ((![v175, v195] : Fin 2 → IVec S16 32) a x).toNat < S8x2048.size a)
theorem k0_idx58_inb : ∀ (v175 : IVec S16 32) (v195 : IVec S16 32) (k0_hw58 : k0_chk58 v175 v195), ∀ a x, ((![v175, v195] : Fin 2 → IVec S16 32) a x).toNat < S8x2048.size a := fun v175 v195 k0_hw58 => k0_hw58

def k0_chk59 (v175 : IVec S16 32) (v197 : IVec S16 32) : Prop :=
  (∀ a x, ((![v175, v197] : Fin 2 → IVec S16 32) a x).toNat < S8x2048.size a)
theorem k0_idx59_inb : ∀ (v175 : IVec S16 32) (v197 : IVec S16 32) (k0_hw59 : k0_chk59 v175 v197), ∀ a x, ((![v175, v197] : Fin 2 → IVec S16 32) a x).toNat < S8x2048.size a := fun v175 v197 k0_hw59 => k0_hw59

def k0_chk60 (v175 : IVec S16 32) (v199 : IVec S16 32) : Prop :=
  (∀ a x, ((![v175, v199] : Fin 2 → IVec S16 32) a x).toNat < S8x2048.size a)
theorem k0_idx60_inb : ∀ (v175 : IVec S16 32) (v199 : IVec S16 32) (k0_hw60 : k0_chk60 v175 v199), ∀ a x, ((![v175, v199] : Fin 2 → IVec S16 32) a x).toNat < S8x2048.size a := fun v175 v199 k0_hw60 => k0_hw60

def k0_chk61 (v175 : IVec S16 32) (v201 : IVec S16 32) : Prop :=
  (∀ a x, ((![v175, v201] : Fin 2 → IVec S16 32) a x).toNat < S8x2048.size a)
theorem k0_idx61_inb : ∀ (v175 : IVec S16 32) (v201 : IVec S16 32) (k0_hw61 : k0_chk61 v175 v201), ∀ a x, ((![v175, v201] : Fin 2 → IVec S16 32) a x).toNat < S8x2048.size a := fun v175 v201 k0_hw61 => k0_hw61

def k0_chk62 (v175 : IVec S16 32) (v203 : IVec S16 32) : Prop :=
  (∀ a x, ((![v175, v203] : Fin 2 → IVec S16 32) a x).toNat < S8x2048.size a)
theorem k0_idx62_inb : ∀ (v175 : IVec S16 32) (v203 : IVec S16 32) (k0_hw62 : k0_chk62 v175 v203), ∀ a x, ((![v175, v203] : Fin 2 → IVec S16 32) a x).toNat < S8x2048.size a := fun v175 v203 k0_hw62 => k0_hw62

def k0_chk63 (v175 : IVec S16 32) (v205 : IVec S16 32) : Prop :=
  (∀ a x, ((![v175, v205] : Fin 2 → IVec S16 32) a x).toNat < S8x2048.size a)
theorem k0_idx63_inb : ∀ (v175 : IVec S16 32) (v205 : IVec S16 32) (k0_hw63 : k0_chk63 v175 v205), ∀ a x, ((![v175, v205] : Fin 2 → IVec S16 32) a x).toNat < S8x2048.size a := fun v175 v205 k0_hw63 => k0_hw63

def k0_chk64 (v175 : IVec S16 32) (v207 : IVec S16 32) : Prop :=
  (∀ a x, ((![v175, v207] : Fin 2 → IVec S16 32) a x).toNat < S8x2048.size a)
theorem k0_idx64_inb : ∀ (v175 : IVec S16 32) (v207 : IVec S16 32) (k0_hw64 : k0_chk64 v175 v207), ∀ a x, ((![v175, v207] : Fin 2 → IVec S16 32) a x).toNat < S8x2048.size a := fun v175 v207 k0_hw64 => k0_hw64

def k0_chk65 (v208 : IVec S16 32) (v210 : IVec S16 32) : Prop :=
  (∀ a x, ((![v208, v210] : Fin 2 → IVec S16 32) a x).toNat < S8x2048.size a)
theorem k0_idx65_inb : ∀ (v208 : IVec S16 32) (v210 : IVec S16 32) (k0_hw65 : k0_chk65 v208 v210), ∀ a x, ((![v208, v210] : Fin 2 → IVec S16 32) a x).toNat < S8x2048.size a := fun v208 v210 k0_hw65 => k0_hw65

def k0_chk66 (v208 : IVec S16 32) (v212 : IVec S16 32) : Prop :=
  (∀ a x, ((![v208, v212] : Fin 2 → IVec S16 32) a x).toNat < S8x2048.size a)
theorem k0_idx66_inb : ∀ (v208 : IVec S16 32) (v212 : IVec S16 32) (k0_hw66 : k0_chk66 v208 v212), ∀ a x, ((![v208, v212] : Fin 2 → IVec S16 32) a x).toNat < S8x2048.size a := fun v208 v212 k0_hw66 => k0_hw66

def k0_chk67 (v208 : IVec S16 32) (v214 : IVec S16 32) : Prop :=
  (∀ a x, ((![v208, v214] : Fin 2 → IVec S16 32) a x).toNat < S8x2048.size a)
theorem k0_idx67_inb : ∀ (v208 : IVec S16 32) (v214 : IVec S16 32) (k0_hw67 : k0_chk67 v208 v214), ∀ a x, ((![v208, v214] : Fin 2 → IVec S16 32) a x).toNat < S8x2048.size a := fun v208 v214 k0_hw67 => k0_hw67

def k0_chk68 (v208 : IVec S16 32) (v216 : IVec S16 32) : Prop :=
  (∀ a x, ((![v208, v216] : Fin 2 → IVec S16 32) a x).toNat < S8x2048.size a)
theorem k0_idx68_inb : ∀ (v208 : IVec S16 32) (v216 : IVec S16 32) (k0_hw68 : k0_chk68 v208 v216), ∀ a x, ((![v208, v216] : Fin 2 → IVec S16 32) a x).toNat < S8x2048.size a := fun v208 v216 k0_hw68 => k0_hw68

def k0_chk69 (v208 : IVec S16 32) (v218 : IVec S16 32) : Prop :=
  (∀ a x, ((![v208, v218] : Fin 2 → IVec S16 32) a x).toNat < S8x2048.size a)
theorem k0_idx69_inb : ∀ (v208 : IVec S16 32) (v218 : IVec S16 32) (k0_hw69 : k0_chk69 v208 v218), ∀ a x, ((![v208, v218] : Fin 2 → IVec S16 32) a x).toNat < S8x2048.size a := fun v208 v218 k0_hw69 => k0_hw69

def k0_chk70 (v208 : IVec S16 32) (v220 : IVec S16 32) : Prop :=
  (∀ a x, ((![v208, v220] : Fin 2 → IVec S16 32) a x).toNat < S8x2048.size a)
theorem k0_idx70_inb : ∀ (v208 : IVec S16 32) (v220 : IVec S16 32) (k0_hw70 : k0_chk70 v208 v220), ∀ a x, ((![v208, v220] : Fin 2 → IVec S16 32) a x).toNat < S8x2048.size a := fun v208 v220 k0_hw70 => k0_hw70

def k0_chk71 (v208 : IVec S16 32) (v222 : IVec S16 32) : Prop :=
  (∀ a x, ((![v208, v222] : Fin 2 → IVec S16 32) a x).toNat < S8x2048.size a)
theorem k0_idx71_inb : ∀ (v208 : IVec S16 32) (v222 : IVec S16 32) (k0_hw71 : k0_chk71 v208 v222), ∀ a x, ((![v208, v222] : Fin 2 → IVec S16 32) a x).toNat < S8x2048.size a := fun v208 v222 k0_hw71 => k0_hw71

def k0_chk72 (v208 : IVec S16 32) (v224 : IVec S16 32) : Prop :=
  (∀ a x, ((![v208, v224] : Fin 2 → IVec S16 32) a x).toNat < S8x2048.size a)
theorem k0_idx72_inb : ∀ (v208 : IVec S16 32) (v224 : IVec S16 32) (k0_hw72 : k0_chk72 v208 v224), ∀ a x, ((![v208, v224] : Fin 2 → IVec S16 32) a x).toNat < S8x2048.size a := fun v208 v224 k0_hw72 => k0_hw72

def k0_chk73 (v208 : IVec S16 32) (v226 : IVec S16 32) : Prop :=
  (∀ a x, ((![v208, v226] : Fin 2 → IVec S16 32) a x).toNat < S8x2048.size a)
theorem k0_idx73_inb : ∀ (v208 : IVec S16 32) (v226 : IVec S16 32) (k0_hw73 : k0_chk73 v208 v226), ∀ a x, ((![v208, v226] : Fin 2 → IVec S16 32) a x).toNat < S8x2048.size a := fun v208 v226 k0_hw73 => k0_hw73

def k0_chk74 (v208 : IVec S16 32) (v228 : IVec S16 32) : Prop :=
  (∀ a x, ((![v208, v228] : Fin 2 → IVec S16 32) a x).toNat < S8x2048.size a)
theorem k0_idx74_inb : ∀ (v208 : IVec S16 32) (v228 : IVec S16 32) (k0_hw74 : k0_chk74 v208 v228), ∀ a x, ((![v208, v228] : Fin 2 → IVec S16 32) a x).toNat < S8x2048.size a := fun v208 v228 k0_hw74 => k0_hw74

def k0_chk75 (v208 : IVec S16 32) (v230 : IVec S16 32) : Prop :=
  (∀ a x, ((![v208, v230] : Fin 2 → IVec S16 32) a x).toNat < S8x2048.size a)
theorem k0_idx75_inb : ∀ (v208 : IVec S16 32) (v230 : IVec S16 32) (k0_hw75 : k0_chk75 v208 v230), ∀ a x, ((![v208, v230] : Fin 2 → IVec S16 32) a x).toNat < S8x2048.size a := fun v208 v230 k0_hw75 => k0_hw75

def k0_chk76 (v208 : IVec S16 32) (v232 : IVec S16 32) : Prop :=
  (∀ a x, ((![v208, v232] : Fin 2 → IVec S16 32) a x).toNat < S8x2048.size a)
theorem k0_idx76_inb : ∀ (v208 : IVec S16 32) (v232 : IVec S16 32) (k0_hw76 : k0_chk76 v208 v232), ∀ a x, ((![v208, v232] : Fin 2 → IVec S16 32) a x).toNat < S8x2048.size a := fun v208 v232 k0_hw76 => k0_hw76

def k0_chk77 (v208 : IVec S16 32) (v234 : IVec S16 32) : Prop :=
  (∀ a x, ((![v208, v234] : Fin 2 → IVec S16 32) a x).toNat < S8x2048.size a)
theorem k0_idx77_inb : ∀ (v208 : IVec S16 32) (v234 : IVec S16 32) (k0_hw77 : k0_chk77 v208 v234), ∀ a x, ((![v208, v234] : Fin 2 → IVec S16 32) a x).toNat < S8x2048.size a := fun v208 v234 k0_hw77 => k0_hw77

def k0_chk78 (v208 : IVec S16 32) (v236 : IVec S16 32) : Prop :=
  (∀ a x, ((![v208, v236] : Fin 2 → IVec S16 32) a x).toNat < S8x2048.size a)
theorem k0_idx78_inb : ∀ (v208 : IVec S16 32) (v236 : IVec S16 32) (k0_hw78 : k0_chk78 v208 v236), ∀ a x, ((![v208, v236] : Fin 2 → IVec S16 32) a x).toNat < S8x2048.size a := fun v208 v236 k0_hw78 => k0_hw78

def k0_chk79 (v208 : IVec S16 32) (v238 : IVec S16 32) : Prop :=
  (∀ a x, ((![v208, v238] : Fin 2 → IVec S16 32) a x).toNat < S8x2048.size a)
theorem k0_idx79_inb : ∀ (v208 : IVec S16 32) (v238 : IVec S16 32) (k0_hw79 : k0_chk79 v208 v238), ∀ a x, ((![v208, v238] : Fin 2 → IVec S16 32) a x).toNat < S8x2048.size a := fun v208 v238 k0_hw79 => k0_hw79

def k0_chk80 (v208 : IVec S16 32) (v240 : IVec S16 32) : Prop :=
  (∀ a x, ((![v208, v240] : Fin 2 → IVec S16 32) a x).toNat < S8x2048.size a)
theorem k0_idx80_inb : ∀ (v208 : IVec S16 32) (v240 : IVec S16 32) (k0_hw80 : k0_chk80 v208 v240), ∀ a x, ((![v208, v240] : Fin 2 → IVec S16 32) a x).toNat < S8x2048.size a := fun v208 v240 k0_hw80 => k0_hw80

def k0_chk81 (v241 : IVec S16 32) (v243 : IVec S16 32) : Prop :=
  (∀ a x, ((![v241, v243] : Fin 2 → IVec S16 32) a x).toNat < S8x2048.size a)
theorem k0_idx81_inb : ∀ (v241 : IVec S16 32) (v243 : IVec S16 32) (k0_hw81 : k0_chk81 v241 v243), ∀ a x, ((![v241, v243] : Fin 2 → IVec S16 32) a x).toNat < S8x2048.size a := fun v241 v243 k0_hw81 => k0_hw81

def k0_chk82 (v241 : IVec S16 32) (v245 : IVec S16 32) : Prop :=
  (∀ a x, ((![v241, v245] : Fin 2 → IVec S16 32) a x).toNat < S8x2048.size a)
theorem k0_idx82_inb : ∀ (v241 : IVec S16 32) (v245 : IVec S16 32) (k0_hw82 : k0_chk82 v241 v245), ∀ a x, ((![v241, v245] : Fin 2 → IVec S16 32) a x).toNat < S8x2048.size a := fun v241 v245 k0_hw82 => k0_hw82

def k0_chk83 (v241 : IVec S16 32) (v247 : IVec S16 32) : Prop :=
  (∀ a x, ((![v241, v247] : Fin 2 → IVec S16 32) a x).toNat < S8x2048.size a)
theorem k0_idx83_inb : ∀ (v241 : IVec S16 32) (v247 : IVec S16 32) (k0_hw83 : k0_chk83 v241 v247), ∀ a x, ((![v241, v247] : Fin 2 → IVec S16 32) a x).toNat < S8x2048.size a := fun v241 v247 k0_hw83 => k0_hw83

def k0_chk84 (v241 : IVec S16 32) (v249 : IVec S16 32) : Prop :=
  (∀ a x, ((![v241, v249] : Fin 2 → IVec S16 32) a x).toNat < S8x2048.size a)
theorem k0_idx84_inb : ∀ (v241 : IVec S16 32) (v249 : IVec S16 32) (k0_hw84 : k0_chk84 v241 v249), ∀ a x, ((![v241, v249] : Fin 2 → IVec S16 32) a x).toNat < S8x2048.size a := fun v241 v249 k0_hw84 => k0_hw84

def k0_chk85 (v241 : IVec S16 32) (v251 : IVec S16 32) : Prop :=
  (∀ a x, ((![v241, v251] : Fin 2 → IVec S16 32) a x).toNat < S8x2048.size a)
theorem k0_idx85_inb : ∀ (v241 : IVec S16 32) (v251 : IVec S16 32) (k0_hw85 : k0_chk85 v241 v251), ∀ a x, ((![v241, v251] : Fin 2 → IVec S16 32) a x).toNat < S8x2048.size a := fun v241 v251 k0_hw85 => k0_hw85

def k0_chk86 (v241 : IVec S16 32) (v253 : IVec S16 32) : Prop :=
  (∀ a x, ((![v241, v253] : Fin 2 → IVec S16 32) a x).toNat < S8x2048.size a)
theorem k0_idx86_inb : ∀ (v241 : IVec S16 32) (v253 : IVec S16 32) (k0_hw86 : k0_chk86 v241 v253), ∀ a x, ((![v241, v253] : Fin 2 → IVec S16 32) a x).toNat < S8x2048.size a := fun v241 v253 k0_hw86 => k0_hw86

def k0_chk87 (v241 : IVec S16 32) (v255 : IVec S16 32) : Prop :=
  (∀ a x, ((![v241, v255] : Fin 2 → IVec S16 32) a x).toNat < S8x2048.size a)
theorem k0_idx87_inb : ∀ (v241 : IVec S16 32) (v255 : IVec S16 32) (k0_hw87 : k0_chk87 v241 v255), ∀ a x, ((![v241, v255] : Fin 2 → IVec S16 32) a x).toNat < S8x2048.size a := fun v241 v255 k0_hw87 => k0_hw87

def k0_chk88 (v241 : IVec S16 32) (v257 : IVec S16 32) : Prop :=
  (∀ a x, ((![v241, v257] : Fin 2 → IVec S16 32) a x).toNat < S8x2048.size a)
theorem k0_idx88_inb : ∀ (v241 : IVec S16 32) (v257 : IVec S16 32) (k0_hw88 : k0_chk88 v241 v257), ∀ a x, ((![v241, v257] : Fin 2 → IVec S16 32) a x).toNat < S8x2048.size a := fun v241 v257 k0_hw88 => k0_hw88

def k0_chk89 (v241 : IVec S16 32) (v259 : IVec S16 32) : Prop :=
  (∀ a x, ((![v241, v259] : Fin 2 → IVec S16 32) a x).toNat < S8x2048.size a)
theorem k0_idx89_inb : ∀ (v241 : IVec S16 32) (v259 : IVec S16 32) (k0_hw89 : k0_chk89 v241 v259), ∀ a x, ((![v241, v259] : Fin 2 → IVec S16 32) a x).toNat < S8x2048.size a := fun v241 v259 k0_hw89 => k0_hw89

def k0_chk90 (v241 : IVec S16 32) (v261 : IVec S16 32) : Prop :=
  (∀ a x, ((![v241, v261] : Fin 2 → IVec S16 32) a x).toNat < S8x2048.size a)
theorem k0_idx90_inb : ∀ (v241 : IVec S16 32) (v261 : IVec S16 32) (k0_hw90 : k0_chk90 v241 v261), ∀ a x, ((![v241, v261] : Fin 2 → IVec S16 32) a x).toNat < S8x2048.size a := fun v241 v261 k0_hw90 => k0_hw90

def k0_chk91 (v241 : IVec S16 32) (v263 : IVec S16 32) : Prop :=
  (∀ a x, ((![v241, v263] : Fin 2 → IVec S16 32) a x).toNat < S8x2048.size a)
theorem k0_idx91_inb : ∀ (v241 : IVec S16 32) (v263 : IVec S16 32) (k0_hw91 : k0_chk91 v241 v263), ∀ a x, ((![v241, v263] : Fin 2 → IVec S16 32) a x).toNat < S8x2048.size a := fun v241 v263 k0_hw91 => k0_hw91

def k0_chk92 (v241 : IVec S16 32) (v265 : IVec S16 32) : Prop :=
  (∀ a x, ((![v241, v265] : Fin 2 → IVec S16 32) a x).toNat < S8x2048.size a)
theorem k0_idx92_inb : ∀ (v241 : IVec S16 32) (v265 : IVec S16 32) (k0_hw92 : k0_chk92 v241 v265), ∀ a x, ((![v241, v265] : Fin 2 → IVec S16 32) a x).toNat < S8x2048.size a := fun v241 v265 k0_hw92 => k0_hw92

def k0_chk93 (v241 : IVec S16 32) (v267 : IVec S16 32) : Prop :=
  (∀ a x, ((![v241, v267] : Fin 2 → IVec S16 32) a x).toNat < S8x2048.size a)
theorem k0_idx93_inb : ∀ (v241 : IVec S16 32) (v267 : IVec S16 32) (k0_hw93 : k0_chk93 v241 v267), ∀ a x, ((![v241, v267] : Fin 2 → IVec S16 32) a x).toNat < S8x2048.size a := fun v241 v267 k0_hw93 => k0_hw93

def k0_chk94 (v241 : IVec S16 32) (v269 : IVec S16 32) : Prop :=
  (∀ a x, ((![v241, v269] : Fin 2 → IVec S16 32) a x).toNat < S8x2048.size a)
theorem k0_idx94_inb : ∀ (v241 : IVec S16 32) (v269 : IVec S16 32) (k0_hw94 : k0_chk94 v241 v269), ∀ a x, ((![v241, v269] : Fin 2 → IVec S16 32) a x).toNat < S8x2048.size a := fun v241 v269 k0_hw94 => k0_hw94

def k0_chk95 (v241 : IVec S16 32) (v271 : IVec S16 32) : Prop :=
  (∀ a x, ((![v241, v271] : Fin 2 → IVec S16 32) a x).toNat < S8x2048.size a)
theorem k0_idx95_inb : ∀ (v241 : IVec S16 32) (v271 : IVec S16 32) (k0_hw95 : k0_chk95 v241 v271), ∀ a x, ((![v241, v271] : Fin 2 → IVec S16 32) a x).toNat < S8x2048.size a := fun v241 v271 k0_hw95 => k0_hw95

def k0_chk96 (v241 : IVec S16 32) (v273 : IVec S16 32) : Prop :=
  (∀ a x, ((![v241, v273] : Fin 2 → IVec S16 32) a x).toNat < S8x2048.size a)
theorem k0_idx96_inb : ∀ (v241 : IVec S16 32) (v273 : IVec S16 32) (k0_hw96 : k0_chk96 v241 v273), ∀ a x, ((![v241, v273] : Fin 2 → IVec S16 32) a x).toNat < S8x2048.size a := fun v241 v273 k0_hw96 => k0_hw96

def k0_chk97 (v274 : IVec S16 32) (v276 : IVec S16 32) : Prop :=
  (∀ a x, ((![v274, v276] : Fin 2 → IVec S16 32) a x).toNat < S8x2048.size a)
theorem k0_idx97_inb : ∀ (v274 : IVec S16 32) (v276 : IVec S16 32) (k0_hw97 : k0_chk97 v274 v276), ∀ a x, ((![v274, v276] : Fin 2 → IVec S16 32) a x).toNat < S8x2048.size a := fun v274 v276 k0_hw97 => k0_hw97

def k0_chk98 (v274 : IVec S16 32) (v278 : IVec S16 32) : Prop :=
  (∀ a x, ((![v274, v278] : Fin 2 → IVec S16 32) a x).toNat < S8x2048.size a)
theorem k0_idx98_inb : ∀ (v274 : IVec S16 32) (v278 : IVec S16 32) (k0_hw98 : k0_chk98 v274 v278), ∀ a x, ((![v274, v278] : Fin 2 → IVec S16 32) a x).toNat < S8x2048.size a := fun v274 v278 k0_hw98 => k0_hw98

def k0_chk99 (v274 : IVec S16 32) (v280 : IVec S16 32) : Prop :=
  (∀ a x, ((![v274, v280] : Fin 2 → IVec S16 32) a x).toNat < S8x2048.size a)
theorem k0_idx99_inb : ∀ (v274 : IVec S16 32) (v280 : IVec S16 32) (k0_hw99 : k0_chk99 v274 v280), ∀ a x, ((![v274, v280] : Fin 2 → IVec S16 32) a x).toNat < S8x2048.size a := fun v274 v280 k0_hw99 => k0_hw99

def k0_chk100 (v274 : IVec S16 32) (v282 : IVec S16 32) : Prop :=
  (∀ a x, ((![v274, v282] : Fin 2 → IVec S16 32) a x).toNat < S8x2048.size a)
theorem k0_idx100_inb : ∀ (v274 : IVec S16 32) (v282 : IVec S16 32) (k0_hw100 : k0_chk100 v274 v282), ∀ a x, ((![v274, v282] : Fin 2 → IVec S16 32) a x).toNat < S8x2048.size a := fun v274 v282 k0_hw100 => k0_hw100

def k0_chk101 (v274 : IVec S16 32) (v284 : IVec S16 32) : Prop :=
  (∀ a x, ((![v274, v284] : Fin 2 → IVec S16 32) a x).toNat < S8x2048.size a)
theorem k0_idx101_inb : ∀ (v274 : IVec S16 32) (v284 : IVec S16 32) (k0_hw101 : k0_chk101 v274 v284), ∀ a x, ((![v274, v284] : Fin 2 → IVec S16 32) a x).toNat < S8x2048.size a := fun v274 v284 k0_hw101 => k0_hw101

def k0_chk102 (v274 : IVec S16 32) (v286 : IVec S16 32) : Prop :=
  (∀ a x, ((![v274, v286] : Fin 2 → IVec S16 32) a x).toNat < S8x2048.size a)
theorem k0_idx102_inb : ∀ (v274 : IVec S16 32) (v286 : IVec S16 32) (k0_hw102 : k0_chk102 v274 v286), ∀ a x, ((![v274, v286] : Fin 2 → IVec S16 32) a x).toNat < S8x2048.size a := fun v274 v286 k0_hw102 => k0_hw102

def k0_chk103 (v274 : IVec S16 32) (v288 : IVec S16 32) : Prop :=
  (∀ a x, ((![v274, v288] : Fin 2 → IVec S16 32) a x).toNat < S8x2048.size a)
theorem k0_idx103_inb : ∀ (v274 : IVec S16 32) (v288 : IVec S16 32) (k0_hw103 : k0_chk103 v274 v288), ∀ a x, ((![v274, v288] : Fin 2 → IVec S16 32) a x).toNat < S8x2048.size a := fun v274 v288 k0_hw103 => k0_hw103

def k0_chk104 (v274 : IVec S16 32) (v290 : IVec S16 32) : Prop :=
  (∀ a x, ((![v274, v290] : Fin 2 → IVec S16 32) a x).toNat < S8x2048.size a)
theorem k0_idx104_inb : ∀ (v274 : IVec S16 32) (v290 : IVec S16 32) (k0_hw104 : k0_chk104 v274 v290), ∀ a x, ((![v274, v290] : Fin 2 → IVec S16 32) a x).toNat < S8x2048.size a := fun v274 v290 k0_hw104 => k0_hw104

def k0_chk105 (v274 : IVec S16 32) (v292 : IVec S16 32) : Prop :=
  (∀ a x, ((![v274, v292] : Fin 2 → IVec S16 32) a x).toNat < S8x2048.size a)
theorem k0_idx105_inb : ∀ (v274 : IVec S16 32) (v292 : IVec S16 32) (k0_hw105 : k0_chk105 v274 v292), ∀ a x, ((![v274, v292] : Fin 2 → IVec S16 32) a x).toNat < S8x2048.size a := fun v274 v292 k0_hw105 => k0_hw105

def k0_chk106 (v274 : IVec S16 32) (v294 : IVec S16 32) : Prop :=
  (∀ a x, ((![v274, v294] : Fin 2 → IVec S16 32) a x).toNat < S8x2048.size a)
theorem k0_idx106_inb : ∀ (v274 : IVec S16 32) (v294 : IVec S16 32) (k0_hw106 : k0_chk106 v274 v294), ∀ a x, ((![v274, v294] : Fin 2 → IVec S16 32) a x).toNat < S8x2048.size a := fun v274 v294 k0_hw106 => k0_hw106

def k0_chk107 (v274 : IVec S16 32) (v296 : IVec S16 32) : Prop :=
  (∀ a x, ((![v274, v296] : Fin 2 → IVec S16 32) a x).toNat < S8x2048.size a)
theorem k0_idx107_inb : ∀ (v274 : IVec S16 32) (v296 : IVec S16 32) (k0_hw107 : k0_chk107 v274 v296), ∀ a x, ((![v274, v296] : Fin 2 → IVec S16 32) a x).toNat < S8x2048.size a := fun v274 v296 k0_hw107 => k0_hw107

def k0_chk108 (v274 : IVec S16 32) (v298 : IVec S16 32) : Prop :=
  (∀ a x, ((![v274, v298] : Fin 2 → IVec S16 32) a x).toNat < S8x2048.size a)
theorem k0_idx108_inb : ∀ (v274 : IVec S16 32) (v298 : IVec S16 32) (k0_hw108 : k0_chk108 v274 v298), ∀ a x, ((![v274, v298] : Fin 2 → IVec S16 32) a x).toNat < S8x2048.size a := fun v274 v298 k0_hw108 => k0_hw108

def k0_chk109 (v274 : IVec S16 32) (v300 : IVec S16 32) : Prop :=
  (∀ a x, ((![v274, v300] : Fin 2 → IVec S16 32) a x).toNat < S8x2048.size a)
theorem k0_idx109_inb : ∀ (v274 : IVec S16 32) (v300 : IVec S16 32) (k0_hw109 : k0_chk109 v274 v300), ∀ a x, ((![v274, v300] : Fin 2 → IVec S16 32) a x).toNat < S8x2048.size a := fun v274 v300 k0_hw109 => k0_hw109

def k0_chk110 (v274 : IVec S16 32) (v302 : IVec S16 32) : Prop :=
  (∀ a x, ((![v274, v302] : Fin 2 → IVec S16 32) a x).toNat < S8x2048.size a)
theorem k0_idx110_inb : ∀ (v274 : IVec S16 32) (v302 : IVec S16 32) (k0_hw110 : k0_chk110 v274 v302), ∀ a x, ((![v274, v302] : Fin 2 → IVec S16 32) a x).toNat < S8x2048.size a := fun v274 v302 k0_hw110 => k0_hw110

def k0_chk111 (v274 : IVec S16 32) (v304 : IVec S16 32) : Prop :=
  (∀ a x, ((![v274, v304] : Fin 2 → IVec S16 32) a x).toNat < S8x2048.size a)
theorem k0_idx111_inb : ∀ (v274 : IVec S16 32) (v304 : IVec S16 32) (k0_hw111 : k0_chk111 v274 v304), ∀ a x, ((![v274, v304] : Fin 2 → IVec S16 32) a x).toNat < S8x2048.size a := fun v274 v304 k0_hw111 => k0_hw111

def k0_chk112 (v274 : IVec S16 32) (v306 : IVec S16 32) : Prop :=
  (∀ a x, ((![v274, v306] : Fin 2 → IVec S16 32) a x).toNat < S8x2048.size a)
theorem k0_idx112_inb : ∀ (v274 : IVec S16 32) (v306 : IVec S16 32) (k0_hw112 : k0_chk112 v274 v306), ∀ a x, ((![v274, v306] : Fin 2 → IVec S16 32) a x).toNat < S8x2048.size a := fun v274 v306 k0_hw112 => k0_hw112

def k0_chk113 (v307 : IVec S16 32) (v309 : IVec S16 32) : Prop :=
  (∀ a x, ((![v307, v309] : Fin 2 → IVec S16 32) a x).toNat < S8x2048.size a)
theorem k0_idx113_inb : ∀ (v307 : IVec S16 32) (v309 : IVec S16 32) (k0_hw113 : k0_chk113 v307 v309), ∀ a x, ((![v307, v309] : Fin 2 → IVec S16 32) a x).toNat < S8x2048.size a := fun v307 v309 k0_hw113 => k0_hw113

def k0_chk114 (v307 : IVec S16 32) (v311 : IVec S16 32) : Prop :=
  (∀ a x, ((![v307, v311] : Fin 2 → IVec S16 32) a x).toNat < S8x2048.size a)
theorem k0_idx114_inb : ∀ (v307 : IVec S16 32) (v311 : IVec S16 32) (k0_hw114 : k0_chk114 v307 v311), ∀ a x, ((![v307, v311] : Fin 2 → IVec S16 32) a x).toNat < S8x2048.size a := fun v307 v311 k0_hw114 => k0_hw114

def k0_chk115 (v307 : IVec S16 32) (v313 : IVec S16 32) : Prop :=
  (∀ a x, ((![v307, v313] : Fin 2 → IVec S16 32) a x).toNat < S8x2048.size a)
theorem k0_idx115_inb : ∀ (v307 : IVec S16 32) (v313 : IVec S16 32) (k0_hw115 : k0_chk115 v307 v313), ∀ a x, ((![v307, v313] : Fin 2 → IVec S16 32) a x).toNat < S8x2048.size a := fun v307 v313 k0_hw115 => k0_hw115

def k0_chk116 (v307 : IVec S16 32) (v315 : IVec S16 32) : Prop :=
  (∀ a x, ((![v307, v315] : Fin 2 → IVec S16 32) a x).toNat < S8x2048.size a)
theorem k0_idx116_inb : ∀ (v307 : IVec S16 32) (v315 : IVec S16 32) (k0_hw116 : k0_chk116 v307 v315), ∀ a x, ((![v307, v315] : Fin 2 → IVec S16 32) a x).toNat < S8x2048.size a := fun v307 v315 k0_hw116 => k0_hw116

def k0_chk117 (v307 : IVec S16 32) (v317 : IVec S16 32) : Prop :=
  (∀ a x, ((![v307, v317] : Fin 2 → IVec S16 32) a x).toNat < S8x2048.size a)
theorem k0_idx117_inb : ∀ (v307 : IVec S16 32) (v317 : IVec S16 32) (k0_hw117 : k0_chk117 v307 v317), ∀ a x, ((![v307, v317] : Fin 2 → IVec S16 32) a x).toNat < S8x2048.size a := fun v307 v317 k0_hw117 => k0_hw117

def k0_chk118 (v307 : IVec S16 32) (v319 : IVec S16 32) : Prop :=
  (∀ a x, ((![v307, v319] : Fin 2 → IVec S16 32) a x).toNat < S8x2048.size a)
theorem k0_idx118_inb : ∀ (v307 : IVec S16 32) (v319 : IVec S16 32) (k0_hw118 : k0_chk118 v307 v319), ∀ a x, ((![v307, v319] : Fin 2 → IVec S16 32) a x).toNat < S8x2048.size a := fun v307 v319 k0_hw118 => k0_hw118

def k0_chk119 (v307 : IVec S16 32) (v321 : IVec S16 32) : Prop :=
  (∀ a x, ((![v307, v321] : Fin 2 → IVec S16 32) a x).toNat < S8x2048.size a)
theorem k0_idx119_inb : ∀ (v307 : IVec S16 32) (v321 : IVec S16 32) (k0_hw119 : k0_chk119 v307 v321), ∀ a x, ((![v307, v321] : Fin 2 → IVec S16 32) a x).toNat < S8x2048.size a := fun v307 v321 k0_hw119 => k0_hw119

def k0_chk120 (v307 : IVec S16 32) (v323 : IVec S16 32) : Prop :=
  (∀ a x, ((![v307, v323] : Fin 2 → IVec S16 32) a x).toNat < S8x2048.size a)
theorem k0_idx120_inb : ∀ (v307 : IVec S16 32) (v323 : IVec S16 32) (k0_hw120 : k0_chk120 v307 v323), ∀ a x, ((![v307, v323] : Fin 2 → IVec S16 32) a x).toNat < S8x2048.size a := fun v307 v323 k0_hw120 => k0_hw120

def k0_chk121 (v307 : IVec S16 32) (v325 : IVec S16 32) : Prop :=
  (∀ a x, ((![v307, v325] : Fin 2 → IVec S16 32) a x).toNat < S8x2048.size a)
theorem k0_idx121_inb : ∀ (v307 : IVec S16 32) (v325 : IVec S16 32) (k0_hw121 : k0_chk121 v307 v325), ∀ a x, ((![v307, v325] : Fin 2 → IVec S16 32) a x).toNat < S8x2048.size a := fun v307 v325 k0_hw121 => k0_hw121

def k0_chk122 (v307 : IVec S16 32) (v327 : IVec S16 32) : Prop :=
  (∀ a x, ((![v307, v327] : Fin 2 → IVec S16 32) a x).toNat < S8x2048.size a)
theorem k0_idx122_inb : ∀ (v307 : IVec S16 32) (v327 : IVec S16 32) (k0_hw122 : k0_chk122 v307 v327), ∀ a x, ((![v307, v327] : Fin 2 → IVec S16 32) a x).toNat < S8x2048.size a := fun v307 v327 k0_hw122 => k0_hw122

def k0_chk123 (v307 : IVec S16 32) (v329 : IVec S16 32) : Prop :=
  (∀ a x, ((![v307, v329] : Fin 2 → IVec S16 32) a x).toNat < S8x2048.size a)
theorem k0_idx123_inb : ∀ (v307 : IVec S16 32) (v329 : IVec S16 32) (k0_hw123 : k0_chk123 v307 v329), ∀ a x, ((![v307, v329] : Fin 2 → IVec S16 32) a x).toNat < S8x2048.size a := fun v307 v329 k0_hw123 => k0_hw123

def k0_chk124 (v307 : IVec S16 32) (v331 : IVec S16 32) : Prop :=
  (∀ a x, ((![v307, v331] : Fin 2 → IVec S16 32) a x).toNat < S8x2048.size a)
theorem k0_idx124_inb : ∀ (v307 : IVec S16 32) (v331 : IVec S16 32) (k0_hw124 : k0_chk124 v307 v331), ∀ a x, ((![v307, v331] : Fin 2 → IVec S16 32) a x).toNat < S8x2048.size a := fun v307 v331 k0_hw124 => k0_hw124

def k0_chk125 (v307 : IVec S16 32) (v333 : IVec S16 32) : Prop :=
  (∀ a x, ((![v307, v333] : Fin 2 → IVec S16 32) a x).toNat < S8x2048.size a)
theorem k0_idx125_inb : ∀ (v307 : IVec S16 32) (v333 : IVec S16 32) (k0_hw125 : k0_chk125 v307 v333), ∀ a x, ((![v307, v333] : Fin 2 → IVec S16 32) a x).toNat < S8x2048.size a := fun v307 v333 k0_hw125 => k0_hw125

def k0_chk126 (v307 : IVec S16 32) (v335 : IVec S16 32) : Prop :=
  (∀ a x, ((![v307, v335] : Fin 2 → IVec S16 32) a x).toNat < S8x2048.size a)
theorem k0_idx126_inb : ∀ (v307 : IVec S16 32) (v335 : IVec S16 32) (k0_hw126 : k0_chk126 v307 v335), ∀ a x, ((![v307, v335] : Fin 2 → IVec S16 32) a x).toNat < S8x2048.size a := fun v307 v335 k0_hw126 => k0_hw126

def k0_chk127 (v307 : IVec S16 32) (v337 : IVec S16 32) : Prop :=
  (∀ a x, ((![v307, v337] : Fin 2 → IVec S16 32) a x).toNat < S8x2048.size a)
theorem k0_idx127_inb : ∀ (v307 : IVec S16 32) (v337 : IVec S16 32) (k0_hw127 : k0_chk127 v307 v337), ∀ a x, ((![v307, v337] : Fin 2 → IVec S16 32) a x).toNat < S8x2048.size a := fun v307 v337 k0_hw127 => k0_hw127

def k0_chk128 (v307 : IVec S16 32) (v339 : IVec S16 32) : Prop :=
  (∀ a x, ((![v307, v339] : Fin 2 → IVec S16 32) a x).toNat < S8x2048.size a)
theorem k0_idx128_inb : ∀ (v307 : IVec S16 32) (v339 : IVec S16 32) (k0_hw128 : k0_chk128 v307 v339), ∀ a x, ((![v307, v339] : Fin 2 → IVec S16 32) a x).toNat < S8x2048.size a := fun v307 v339 k0_hw128 => k0_hw128
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_0 : BitVec 32 := 0#32
  let v8 : BitVec 32 := Scalar.addi v2 c0_i32_0
  let c0_i32_204 : BitVec 32 := 0#32
  ![v8.toNat, 0]
def k0_off3 (i : grid0.Coords) (c0_i32_216 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32_206 : BitVec 32 := 8#32
  let v342 : BitVec 32 := Scalar.addi v2 c8_i32_206
  let c0_i32_208 : BitVec 32 := 0#32
  let v344 : BitVec 1 := Scalar.cmpi .sgt v342 c0_i32_208
  let v345 : BitVec 32 := Scalar.extui v344
  let c0_i32_209 : BitVec 32 := 0#32
  let v346 : BitVec 1 := Scalar.cmpi .slt v342 c0_i32_209
  let v347 : BitVec 32 := Scalar.extui v346
  let v348 : BitVec 32 := Scalar.subi v345 v347
  let c512_i32_207 : BitVec 32 := 512#32
  let c0_i32_210 : BitVec 32 := 0#32
  let v349 : BitVec 1 := Scalar.cmpi .sgt c512_i32_207 c0_i32_210
  let v350 : BitVec 32 := Scalar.extui v349
  let c0_i32_211 : BitVec 32 := 0#32
  let v351 : BitVec 1 := Scalar.cmpi .slt c512_i32_207 c0_i32_211
  let v352 : BitVec 32 := Scalar.extui v351
  let v353 : BitVec 32 := Scalar.subi v350 v352
  let v354 : BitVec 1 := Scalar.cmpi .ne v348 v353
  let v355 : BitVec 32 := Scalar.remsi v342 c512_i32_207
  let c0_i32_212 : BitVec 32 := 0#32
  let v356 : BitVec 1 := Scalar.cmpi .ne v355 c0_i32_212
  let v357 : BitVec 1 := Scalar.andi v354 v356
  let v343 : BitVec 32 := Scalar.divsi v342 c512_i32_207
  let c1_i32_213 : BitVec 32 := 1#32
  let v358 : BitVec 32 := Scalar.subi v343 c1_i32_213
  let v359 : BitVec 32 := Scalar.select v357 v358 v343
  let c2048_i32_215 : BitVec 32 := 2048#32
  let v362 : BitVec 32 := Scalar.muli v359 c2048_i32_215
  let v363 : BitVec 32 := Scalar.addi v362 c0_i32_216
  let c512_i32_214 : BitVec 32 := 512#32
  let v360 : BitVec 32 := Scalar.muli v359 c512_i32_214
  let v361 : BitVec 32 := Scalar.subi v342 v360
  let v364 : BitVec 32 := Scalar.addi v363 v361
  let c4_i32_217 : BitVec 32 := 4#32
  let v365 : BitVec 32 := Scalar.muli v364 c4_i32_217
  let c0_i32_220 : BitVec 32 := 0#32
  ![v365.toNat, 0]

def k0_chk129 (v410 : IVec S16 32) (v412 : IVec S16 32) : Prop :=
  (∀ a x, ((![v410, v412] : Fin 2 → IVec S16 32) a x).toNat < S8x2048.size a)
theorem k0_idx129_inb : ∀ (v410 : IVec S16 32) (v412 : IVec S16 32) (k0_hw129 : k0_chk129 v410 v412), ∀ a x, ((![v410, v412] : Fin 2 → IVec S16 32) a x).toNat < S8x2048.size a := fun v410 v412 k0_hw129 => k0_hw129

def k0_chk130 (v410 : IVec S16 32) (v414 : IVec S16 32) : Prop :=
  (∀ a x, ((![v410, v414] : Fin 2 → IVec S16 32) a x).toNat < S8x2048.size a)
theorem k0_idx130_inb : ∀ (v410 : IVec S16 32) (v414 : IVec S16 32) (k0_hw130 : k0_chk130 v410 v414), ∀ a x, ((![v410, v414] : Fin 2 → IVec S16 32) a x).toNat < S8x2048.size a := fun v410 v414 k0_hw130 => k0_hw130

def k0_chk131 (v410 : IVec S16 32) (v416 : IVec S16 32) : Prop :=
  (∀ a x, ((![v410, v416] : Fin 2 → IVec S16 32) a x).toNat < S8x2048.size a)
theorem k0_idx131_inb : ∀ (v410 : IVec S16 32) (v416 : IVec S16 32) (k0_hw131 : k0_chk131 v410 v416), ∀ a x, ((![v410, v416] : Fin 2 → IVec S16 32) a x).toNat < S8x2048.size a := fun v410 v416 k0_hw131 => k0_hw131

def k0_chk132 (v410 : IVec S16 32) (v418 : IVec S16 32) : Prop :=
  (∀ a x, ((![v410, v418] : Fin 2 → IVec S16 32) a x).toNat < S8x2048.size a)
theorem k0_idx132_inb : ∀ (v410 : IVec S16 32) (v418 : IVec S16 32) (k0_hw132 : k0_chk132 v410 v418), ∀ a x, ((![v410, v418] : Fin 2 → IVec S16 32) a x).toNat < S8x2048.size a := fun v410 v418 k0_hw132 => k0_hw132

def k0_chk133 (v410 : IVec S16 32) (v420 : IVec S16 32) : Prop :=
  (∀ a x, ((![v410, v420] : Fin 2 → IVec S16 32) a x).toNat < S8x2048.size a)
theorem k0_idx133_inb : ∀ (v410 : IVec S16 32) (v420 : IVec S16 32) (k0_hw133 : k0_chk133 v410 v420), ∀ a x, ((![v410, v420] : Fin 2 → IVec S16 32) a x).toNat < S8x2048.size a := fun v410 v420 k0_hw133 => k0_hw133

def k0_chk134 (v410 : IVec S16 32) (v422 : IVec S16 32) : Prop :=
  (∀ a x, ((![v410, v422] : Fin 2 → IVec S16 32) a x).toNat < S8x2048.size a)
theorem k0_idx134_inb : ∀ (v410 : IVec S16 32) (v422 : IVec S16 32) (k0_hw134 : k0_chk134 v410 v422), ∀ a x, ((![v410, v422] : Fin 2 → IVec S16 32) a x).toNat < S8x2048.size a := fun v410 v422 k0_hw134 => k0_hw134

def k0_chk135 (v410 : IVec S16 32) (v424 : IVec S16 32) : Prop :=
  (∀ a x, ((![v410, v424] : Fin 2 → IVec S16 32) a x).toNat < S8x2048.size a)
theorem k0_idx135_inb : ∀ (v410 : IVec S16 32) (v424 : IVec S16 32) (k0_hw135 : k0_chk135 v410 v424), ∀ a x, ((![v410, v424] : Fin 2 → IVec S16 32) a x).toNat < S8x2048.size a := fun v410 v424 k0_hw135 => k0_hw135

def k0_chk136 (v410 : IVec S16 32) (v426 : IVec S16 32) : Prop :=
  (∀ a x, ((![v410, v426] : Fin 2 → IVec S16 32) a x).toNat < S8x2048.size a)
theorem k0_idx136_inb : ∀ (v410 : IVec S16 32) (v426 : IVec S16 32) (k0_hw136 : k0_chk136 v410 v426), ∀ a x, ((![v410, v426] : Fin 2 → IVec S16 32) a x).toNat < S8x2048.size a := fun v410 v426 k0_hw136 => k0_hw136

def k0_chk137 (v410 : IVec S16 32) (v428 : IVec S16 32) : Prop :=
  (∀ a x, ((![v410, v428] : Fin 2 → IVec S16 32) a x).toNat < S8x2048.size a)
theorem k0_idx137_inb : ∀ (v410 : IVec S16 32) (v428 : IVec S16 32) (k0_hw137 : k0_chk137 v410 v428), ∀ a x, ((![v410, v428] : Fin 2 → IVec S16 32) a x).toNat < S8x2048.size a := fun v410 v428 k0_hw137 => k0_hw137

def k0_chk138 (v410 : IVec S16 32) (v430 : IVec S16 32) : Prop :=
  (∀ a x, ((![v410, v430] : Fin 2 → IVec S16 32) a x).toNat < S8x2048.size a)
theorem k0_idx138_inb : ∀ (v410 : IVec S16 32) (v430 : IVec S16 32) (k0_hw138 : k0_chk138 v410 v430), ∀ a x, ((![v410, v430] : Fin 2 → IVec S16 32) a x).toNat < S8x2048.size a := fun v410 v430 k0_hw138 => k0_hw138

def k0_chk139 (v410 : IVec S16 32) (v432 : IVec S16 32) : Prop :=
  (∀ a x, ((![v410, v432] : Fin 2 → IVec S16 32) a x).toNat < S8x2048.size a)
theorem k0_idx139_inb : ∀ (v410 : IVec S16 32) (v432 : IVec S16 32) (k0_hw139 : k0_chk139 v410 v432), ∀ a x, ((![v410, v432] : Fin 2 → IVec S16 32) a x).toNat < S8x2048.size a := fun v410 v432 k0_hw139 => k0_hw139

def k0_chk140 (v410 : IVec S16 32) (v434 : IVec S16 32) : Prop :=
  (∀ a x, ((![v410, v434] : Fin 2 → IVec S16 32) a x).toNat < S8x2048.size a)
theorem k0_idx140_inb : ∀ (v410 : IVec S16 32) (v434 : IVec S16 32) (k0_hw140 : k0_chk140 v410 v434), ∀ a x, ((![v410, v434] : Fin 2 → IVec S16 32) a x).toNat < S8x2048.size a := fun v410 v434 k0_hw140 => k0_hw140

def k0_chk141 (v410 : IVec S16 32) (v436 : IVec S16 32) : Prop :=
  (∀ a x, ((![v410, v436] : Fin 2 → IVec S16 32) a x).toNat < S8x2048.size a)
theorem k0_idx141_inb : ∀ (v410 : IVec S16 32) (v436 : IVec S16 32) (k0_hw141 : k0_chk141 v410 v436), ∀ a x, ((![v410, v436] : Fin 2 → IVec S16 32) a x).toNat < S8x2048.size a := fun v410 v436 k0_hw141 => k0_hw141

def k0_chk142 (v410 : IVec S16 32) (v438 : IVec S16 32) : Prop :=
  (∀ a x, ((![v410, v438] : Fin 2 → IVec S16 32) a x).toNat < S8x2048.size a)
theorem k0_idx142_inb : ∀ (v410 : IVec S16 32) (v438 : IVec S16 32) (k0_hw142 : k0_chk142 v410 v438), ∀ a x, ((![v410, v438] : Fin 2 → IVec S16 32) a x).toNat < S8x2048.size a := fun v410 v438 k0_hw142 => k0_hw142

def k0_chk143 (v410 : IVec S16 32) (v440 : IVec S16 32) : Prop :=
  (∀ a x, ((![v410, v440] : Fin 2 → IVec S16 32) a x).toNat < S8x2048.size a)
theorem k0_idx143_inb : ∀ (v410 : IVec S16 32) (v440 : IVec S16 32) (k0_hw143 : k0_chk143 v410 v440), ∀ a x, ((![v410, v440] : Fin 2 → IVec S16 32) a x).toNat < S8x2048.size a := fun v410 v440 k0_hw143 => k0_hw143

def k0_chk144 (v410 : IVec S16 32) (v442 : IVec S16 32) : Prop :=
  (∀ a x, ((![v410, v442] : Fin 2 → IVec S16 32) a x).toNat < S8x2048.size a)
theorem k0_idx144_inb : ∀ (v410 : IVec S16 32) (v442 : IVec S16 32) (k0_hw144 : k0_chk144 v410 v442), ∀ a x, ((![v410, v442] : Fin 2 → IVec S16 32) a x).toNat < S8x2048.size a := fun v410 v442 k0_hw144 => k0_hw144

def k0_chk145 (v443 : IVec S16 32) (v445 : IVec S16 32) : Prop :=
  (∀ a x, ((![v443, v445] : Fin 2 → IVec S16 32) a x).toNat < S8x2048.size a)
theorem k0_idx145_inb : ∀ (v443 : IVec S16 32) (v445 : IVec S16 32) (k0_hw145 : k0_chk145 v443 v445), ∀ a x, ((![v443, v445] : Fin 2 → IVec S16 32) a x).toNat < S8x2048.size a := fun v443 v445 k0_hw145 => k0_hw145

def k0_chk146 (v443 : IVec S16 32) (v447 : IVec S16 32) : Prop :=
  (∀ a x, ((![v443, v447] : Fin 2 → IVec S16 32) a x).toNat < S8x2048.size a)
theorem k0_idx146_inb : ∀ (v443 : IVec S16 32) (v447 : IVec S16 32) (k0_hw146 : k0_chk146 v443 v447), ∀ a x, ((![v443, v447] : Fin 2 → IVec S16 32) a x).toNat < S8x2048.size a := fun v443 v447 k0_hw146 => k0_hw146

def k0_chk147 (v443 : IVec S16 32) (v449 : IVec S16 32) : Prop :=
  (∀ a x, ((![v443, v449] : Fin 2 → IVec S16 32) a x).toNat < S8x2048.size a)
theorem k0_idx147_inb : ∀ (v443 : IVec S16 32) (v449 : IVec S16 32) (k0_hw147 : k0_chk147 v443 v449), ∀ a x, ((![v443, v449] : Fin 2 → IVec S16 32) a x).toNat < S8x2048.size a := fun v443 v449 k0_hw147 => k0_hw147

def k0_chk148 (v443 : IVec S16 32) (v451 : IVec S16 32) : Prop :=
  (∀ a x, ((![v443, v451] : Fin 2 → IVec S16 32) a x).toNat < S8x2048.size a)
theorem k0_idx148_inb : ∀ (v443 : IVec S16 32) (v451 : IVec S16 32) (k0_hw148 : k0_chk148 v443 v451), ∀ a x, ((![v443, v451] : Fin 2 → IVec S16 32) a x).toNat < S8x2048.size a := fun v443 v451 k0_hw148 => k0_hw148

def k0_chk149 (v443 : IVec S16 32) (v453 : IVec S16 32) : Prop :=
  (∀ a x, ((![v443, v453] : Fin 2 → IVec S16 32) a x).toNat < S8x2048.size a)
theorem k0_idx149_inb : ∀ (v443 : IVec S16 32) (v453 : IVec S16 32) (k0_hw149 : k0_chk149 v443 v453), ∀ a x, ((![v443, v453] : Fin 2 → IVec S16 32) a x).toNat < S8x2048.size a := fun v443 v453 k0_hw149 => k0_hw149

def k0_chk150 (v443 : IVec S16 32) (v455 : IVec S16 32) : Prop :=
  (∀ a x, ((![v443, v455] : Fin 2 → IVec S16 32) a x).toNat < S8x2048.size a)
theorem k0_idx150_inb : ∀ (v443 : IVec S16 32) (v455 : IVec S16 32) (k0_hw150 : k0_chk150 v443 v455), ∀ a x, ((![v443, v455] : Fin 2 → IVec S16 32) a x).toNat < S8x2048.size a := fun v443 v455 k0_hw150 => k0_hw150

def k0_chk151 (v443 : IVec S16 32) (v457 : IVec S16 32) : Prop :=
  (∀ a x, ((![v443, v457] : Fin 2 → IVec S16 32) a x).toNat < S8x2048.size a)
theorem k0_idx151_inb : ∀ (v443 : IVec S16 32) (v457 : IVec S16 32) (k0_hw151 : k0_chk151 v443 v457), ∀ a x, ((![v443, v457] : Fin 2 → IVec S16 32) a x).toNat < S8x2048.size a := fun v443 v457 k0_hw151 => k0_hw151

def k0_chk152 (v443 : IVec S16 32) (v459 : IVec S16 32) : Prop :=
  (∀ a x, ((![v443, v459] : Fin 2 → IVec S16 32) a x).toNat < S8x2048.size a)
theorem k0_idx152_inb : ∀ (v443 : IVec S16 32) (v459 : IVec S16 32) (k0_hw152 : k0_chk152 v443 v459), ∀ a x, ((![v443, v459] : Fin 2 → IVec S16 32) a x).toNat < S8x2048.size a := fun v443 v459 k0_hw152 => k0_hw152

def k0_chk153 (v443 : IVec S16 32) (v461 : IVec S16 32) : Prop :=
  (∀ a x, ((![v443, v461] : Fin 2 → IVec S16 32) a x).toNat < S8x2048.size a)
theorem k0_idx153_inb : ∀ (v443 : IVec S16 32) (v461 : IVec S16 32) (k0_hw153 : k0_chk153 v443 v461), ∀ a x, ((![v443, v461] : Fin 2 → IVec S16 32) a x).toNat < S8x2048.size a := fun v443 v461 k0_hw153 => k0_hw153

def k0_chk154 (v443 : IVec S16 32) (v463 : IVec S16 32) : Prop :=
  (∀ a x, ((![v443, v463] : Fin 2 → IVec S16 32) a x).toNat < S8x2048.size a)
theorem k0_idx154_inb : ∀ (v443 : IVec S16 32) (v463 : IVec S16 32) (k0_hw154 : k0_chk154 v443 v463), ∀ a x, ((![v443, v463] : Fin 2 → IVec S16 32) a x).toNat < S8x2048.size a := fun v443 v463 k0_hw154 => k0_hw154

def k0_chk155 (v443 : IVec S16 32) (v465 : IVec S16 32) : Prop :=
  (∀ a x, ((![v443, v465] : Fin 2 → IVec S16 32) a x).toNat < S8x2048.size a)
theorem k0_idx155_inb : ∀ (v443 : IVec S16 32) (v465 : IVec S16 32) (k0_hw155 : k0_chk155 v443 v465), ∀ a x, ((![v443, v465] : Fin 2 → IVec S16 32) a x).toNat < S8x2048.size a := fun v443 v465 k0_hw155 => k0_hw155

def k0_chk156 (v443 : IVec S16 32) (v467 : IVec S16 32) : Prop :=
  (∀ a x, ((![v443, v467] : Fin 2 → IVec S16 32) a x).toNat < S8x2048.size a)
theorem k0_idx156_inb : ∀ (v443 : IVec S16 32) (v467 : IVec S16 32) (k0_hw156 : k0_chk156 v443 v467), ∀ a x, ((![v443, v467] : Fin 2 → IVec S16 32) a x).toNat < S8x2048.size a := fun v443 v467 k0_hw156 => k0_hw156

def k0_chk157 (v443 : IVec S16 32) (v469 : IVec S16 32) : Prop :=
  (∀ a x, ((![v443, v469] : Fin 2 → IVec S16 32) a x).toNat < S8x2048.size a)
theorem k0_idx157_inb : ∀ (v443 : IVec S16 32) (v469 : IVec S16 32) (k0_hw157 : k0_chk157 v443 v469), ∀ a x, ((![v443, v469] : Fin 2 → IVec S16 32) a x).toNat < S8x2048.size a := fun v443 v469 k0_hw157 => k0_hw157

def k0_chk158 (v443 : IVec S16 32) (v471 : IVec S16 32) : Prop :=
  (∀ a x, ((![v443, v471] : Fin 2 → IVec S16 32) a x).toNat < S8x2048.size a)
theorem k0_idx158_inb : ∀ (v443 : IVec S16 32) (v471 : IVec S16 32) (k0_hw158 : k0_chk158 v443 v471), ∀ a x, ((![v443, v471] : Fin 2 → IVec S16 32) a x).toNat < S8x2048.size a := fun v443 v471 k0_hw158 => k0_hw158

def k0_chk159 (v443 : IVec S16 32) (v473 : IVec S16 32) : Prop :=
  (∀ a x, ((![v443, v473] : Fin 2 → IVec S16 32) a x).toNat < S8x2048.size a)
theorem k0_idx159_inb : ∀ (v443 : IVec S16 32) (v473 : IVec S16 32) (k0_hw159 : k0_chk159 v443 v473), ∀ a x, ((![v443, v473] : Fin 2 → IVec S16 32) a x).toNat < S8x2048.size a := fun v443 v473 k0_hw159 => k0_hw159

def k0_chk160 (v443 : IVec S16 32) (v475 : IVec S16 32) : Prop :=
  (∀ a x, ((![v443, v475] : Fin 2 → IVec S16 32) a x).toNat < S8x2048.size a)
theorem k0_idx160_inb : ∀ (v443 : IVec S16 32) (v475 : IVec S16 32) (k0_hw160 : k0_chk160 v443 v475), ∀ a x, ((![v443, v475] : Fin 2 → IVec S16 32) a x).toNat < S8x2048.size a := fun v443 v475 k0_hw160 => k0_hw160

def k0_chk161 (v476 : IVec S16 32) (v478 : IVec S16 32) : Prop :=
  (∀ a x, ((![v476, v478] : Fin 2 → IVec S16 32) a x).toNat < S8x2048.size a)
theorem k0_idx161_inb : ∀ (v476 : IVec S16 32) (v478 : IVec S16 32) (k0_hw161 : k0_chk161 v476 v478), ∀ a x, ((![v476, v478] : Fin 2 → IVec S16 32) a x).toNat < S8x2048.size a := fun v476 v478 k0_hw161 => k0_hw161

def k0_chk162 (v476 : IVec S16 32) (v480 : IVec S16 32) : Prop :=
  (∀ a x, ((![v476, v480] : Fin 2 → IVec S16 32) a x).toNat < S8x2048.size a)
theorem k0_idx162_inb : ∀ (v476 : IVec S16 32) (v480 : IVec S16 32) (k0_hw162 : k0_chk162 v476 v480), ∀ a x, ((![v476, v480] : Fin 2 → IVec S16 32) a x).toNat < S8x2048.size a := fun v476 v480 k0_hw162 => k0_hw162

def k0_chk163 (v476 : IVec S16 32) (v482 : IVec S16 32) : Prop :=
  (∀ a x, ((![v476, v482] : Fin 2 → IVec S16 32) a x).toNat < S8x2048.size a)
theorem k0_idx163_inb : ∀ (v476 : IVec S16 32) (v482 : IVec S16 32) (k0_hw163 : k0_chk163 v476 v482), ∀ a x, ((![v476, v482] : Fin 2 → IVec S16 32) a x).toNat < S8x2048.size a := fun v476 v482 k0_hw163 => k0_hw163

def k0_chk164 (v476 : IVec S16 32) (v484 : IVec S16 32) : Prop :=
  (∀ a x, ((![v476, v484] : Fin 2 → IVec S16 32) a x).toNat < S8x2048.size a)
theorem k0_idx164_inb : ∀ (v476 : IVec S16 32) (v484 : IVec S16 32) (k0_hw164 : k0_chk164 v476 v484), ∀ a x, ((![v476, v484] : Fin 2 → IVec S16 32) a x).toNat < S8x2048.size a := fun v476 v484 k0_hw164 => k0_hw164

def k0_chk165 (v476 : IVec S16 32) (v486 : IVec S16 32) : Prop :=
  (∀ a x, ((![v476, v486] : Fin 2 → IVec S16 32) a x).toNat < S8x2048.size a)
theorem k0_idx165_inb : ∀ (v476 : IVec S16 32) (v486 : IVec S16 32) (k0_hw165 : k0_chk165 v476 v486), ∀ a x, ((![v476, v486] : Fin 2 → IVec S16 32) a x).toNat < S8x2048.size a := fun v476 v486 k0_hw165 => k0_hw165

def k0_chk166 (v476 : IVec S16 32) (v488 : IVec S16 32) : Prop :=
  (∀ a x, ((![v476, v488] : Fin 2 → IVec S16 32) a x).toNat < S8x2048.size a)
theorem k0_idx166_inb : ∀ (v476 : IVec S16 32) (v488 : IVec S16 32) (k0_hw166 : k0_chk166 v476 v488), ∀ a x, ((![v476, v488] : Fin 2 → IVec S16 32) a x).toNat < S8x2048.size a := fun v476 v488 k0_hw166 => k0_hw166

def k0_chk167 (v476 : IVec S16 32) (v490 : IVec S16 32) : Prop :=
  (∀ a x, ((![v476, v490] : Fin 2 → IVec S16 32) a x).toNat < S8x2048.size a)
theorem k0_idx167_inb : ∀ (v476 : IVec S16 32) (v490 : IVec S16 32) (k0_hw167 : k0_chk167 v476 v490), ∀ a x, ((![v476, v490] : Fin 2 → IVec S16 32) a x).toNat < S8x2048.size a := fun v476 v490 k0_hw167 => k0_hw167

def k0_chk168 (v476 : IVec S16 32) (v492 : IVec S16 32) : Prop :=
  (∀ a x, ((![v476, v492] : Fin 2 → IVec S16 32) a x).toNat < S8x2048.size a)
theorem k0_idx168_inb : ∀ (v476 : IVec S16 32) (v492 : IVec S16 32) (k0_hw168 : k0_chk168 v476 v492), ∀ a x, ((![v476, v492] : Fin 2 → IVec S16 32) a x).toNat < S8x2048.size a := fun v476 v492 k0_hw168 => k0_hw168

def k0_chk169 (v476 : IVec S16 32) (v494 : IVec S16 32) : Prop :=
  (∀ a x, ((![v476, v494] : Fin 2 → IVec S16 32) a x).toNat < S8x2048.size a)
theorem k0_idx169_inb : ∀ (v476 : IVec S16 32) (v494 : IVec S16 32) (k0_hw169 : k0_chk169 v476 v494), ∀ a x, ((![v476, v494] : Fin 2 → IVec S16 32) a x).toNat < S8x2048.size a := fun v476 v494 k0_hw169 => k0_hw169

def k0_chk170 (v476 : IVec S16 32) (v496 : IVec S16 32) : Prop :=
  (∀ a x, ((![v476, v496] : Fin 2 → IVec S16 32) a x).toNat < S8x2048.size a)
theorem k0_idx170_inb : ∀ (v476 : IVec S16 32) (v496 : IVec S16 32) (k0_hw170 : k0_chk170 v476 v496), ∀ a x, ((![v476, v496] : Fin 2 → IVec S16 32) a x).toNat < S8x2048.size a := fun v476 v496 k0_hw170 => k0_hw170

def k0_chk171 (v476 : IVec S16 32) (v498 : IVec S16 32) : Prop :=
  (∀ a x, ((![v476, v498] : Fin 2 → IVec S16 32) a x).toNat < S8x2048.size a)
theorem k0_idx171_inb : ∀ (v476 : IVec S16 32) (v498 : IVec S16 32) (k0_hw171 : k0_chk171 v476 v498), ∀ a x, ((![v476, v498] : Fin 2 → IVec S16 32) a x).toNat < S8x2048.size a := fun v476 v498 k0_hw171 => k0_hw171

def k0_chk172 (v476 : IVec S16 32) (v500 : IVec S16 32) : Prop :=
  (∀ a x, ((![v476, v500] : Fin 2 → IVec S16 32) a x).toNat < S8x2048.size a)
theorem k0_idx172_inb : ∀ (v476 : IVec S16 32) (v500 : IVec S16 32) (k0_hw172 : k0_chk172 v476 v500), ∀ a x, ((![v476, v500] : Fin 2 → IVec S16 32) a x).toNat < S8x2048.size a := fun v476 v500 k0_hw172 => k0_hw172

def k0_chk173 (v476 : IVec S16 32) (v502 : IVec S16 32) : Prop :=
  (∀ a x, ((![v476, v502] : Fin 2 → IVec S16 32) a x).toNat < S8x2048.size a)
theorem k0_idx173_inb : ∀ (v476 : IVec S16 32) (v502 : IVec S16 32) (k0_hw173 : k0_chk173 v476 v502), ∀ a x, ((![v476, v502] : Fin 2 → IVec S16 32) a x).toNat < S8x2048.size a := fun v476 v502 k0_hw173 => k0_hw173

def k0_chk174 (v476 : IVec S16 32) (v504 : IVec S16 32) : Prop :=
  (∀ a x, ((![v476, v504] : Fin 2 → IVec S16 32) a x).toNat < S8x2048.size a)
theorem k0_idx174_inb : ∀ (v476 : IVec S16 32) (v504 : IVec S16 32) (k0_hw174 : k0_chk174 v476 v504), ∀ a x, ((![v476, v504] : Fin 2 → IVec S16 32) a x).toNat < S8x2048.size a := fun v476 v504 k0_hw174 => k0_hw174

def k0_chk175 (v476 : IVec S16 32) (v506 : IVec S16 32) : Prop :=
  (∀ a x, ((![v476, v506] : Fin 2 → IVec S16 32) a x).toNat < S8x2048.size a)
theorem k0_idx175_inb : ∀ (v476 : IVec S16 32) (v506 : IVec S16 32) (k0_hw175 : k0_chk175 v476 v506), ∀ a x, ((![v476, v506] : Fin 2 → IVec S16 32) a x).toNat < S8x2048.size a := fun v476 v506 k0_hw175 => k0_hw175

def k0_chk176 (v476 : IVec S16 32) (v508 : IVec S16 32) : Prop :=
  (∀ a x, ((![v476, v508] : Fin 2 → IVec S16 32) a x).toNat < S8x2048.size a)
theorem k0_idx176_inb : ∀ (v476 : IVec S16 32) (v508 : IVec S16 32) (k0_hw176 : k0_chk176 v476 v508), ∀ a x, ((![v476, v508] : Fin 2 → IVec S16 32) a x).toNat < S8x2048.size a := fun v476 v508 k0_hw176 => k0_hw176

def k0_chk177 (v509 : IVec S16 32) (v511 : IVec S16 32) : Prop :=
  (∀ a x, ((![v509, v511] : Fin 2 → IVec S16 32) a x).toNat < S8x2048.size a)
theorem k0_idx177_inb : ∀ (v509 : IVec S16 32) (v511 : IVec S16 32) (k0_hw177 : k0_chk177 v509 v511), ∀ a x, ((![v509, v511] : Fin 2 → IVec S16 32) a x).toNat < S8x2048.size a := fun v509 v511 k0_hw177 => k0_hw177

def k0_chk178 (v509 : IVec S16 32) (v513 : IVec S16 32) : Prop :=
  (∀ a x, ((![v509, v513] : Fin 2 → IVec S16 32) a x).toNat < S8x2048.size a)
theorem k0_idx178_inb : ∀ (v509 : IVec S16 32) (v513 : IVec S16 32) (k0_hw178 : k0_chk178 v509 v513), ∀ a x, ((![v509, v513] : Fin 2 → IVec S16 32) a x).toNat < S8x2048.size a := fun v509 v513 k0_hw178 => k0_hw178

def k0_chk179 (v509 : IVec S16 32) (v515 : IVec S16 32) : Prop :=
  (∀ a x, ((![v509, v515] : Fin 2 → IVec S16 32) a x).toNat < S8x2048.size a)
theorem k0_idx179_inb : ∀ (v509 : IVec S16 32) (v515 : IVec S16 32) (k0_hw179 : k0_chk179 v509 v515), ∀ a x, ((![v509, v515] : Fin 2 → IVec S16 32) a x).toNat < S8x2048.size a := fun v509 v515 k0_hw179 => k0_hw179

def k0_chk180 (v509 : IVec S16 32) (v517 : IVec S16 32) : Prop :=
  (∀ a x, ((![v509, v517] : Fin 2 → IVec S16 32) a x).toNat < S8x2048.size a)
theorem k0_idx180_inb : ∀ (v509 : IVec S16 32) (v517 : IVec S16 32) (k0_hw180 : k0_chk180 v509 v517), ∀ a x, ((![v509, v517] : Fin 2 → IVec S16 32) a x).toNat < S8x2048.size a := fun v509 v517 k0_hw180 => k0_hw180

def k0_chk181 (v509 : IVec S16 32) (v519 : IVec S16 32) : Prop :=
  (∀ a x, ((![v509, v519] : Fin 2 → IVec S16 32) a x).toNat < S8x2048.size a)
theorem k0_idx181_inb : ∀ (v509 : IVec S16 32) (v519 : IVec S16 32) (k0_hw181 : k0_chk181 v509 v519), ∀ a x, ((![v509, v519] : Fin 2 → IVec S16 32) a x).toNat < S8x2048.size a := fun v509 v519 k0_hw181 => k0_hw181

def k0_chk182 (v509 : IVec S16 32) (v521 : IVec S16 32) : Prop :=
  (∀ a x, ((![v509, v521] : Fin 2 → IVec S16 32) a x).toNat < S8x2048.size a)
theorem k0_idx182_inb : ∀ (v509 : IVec S16 32) (v521 : IVec S16 32) (k0_hw182 : k0_chk182 v509 v521), ∀ a x, ((![v509, v521] : Fin 2 → IVec S16 32) a x).toNat < S8x2048.size a := fun v509 v521 k0_hw182 => k0_hw182

def k0_chk183 (v509 : IVec S16 32) (v523 : IVec S16 32) : Prop :=
  (∀ a x, ((![v509, v523] : Fin 2 → IVec S16 32) a x).toNat < S8x2048.size a)
theorem k0_idx183_inb : ∀ (v509 : IVec S16 32) (v523 : IVec S16 32) (k0_hw183 : k0_chk183 v509 v523), ∀ a x, ((![v509, v523] : Fin 2 → IVec S16 32) a x).toNat < S8x2048.size a := fun v509 v523 k0_hw183 => k0_hw183

def k0_chk184 (v509 : IVec S16 32) (v525 : IVec S16 32) : Prop :=
  (∀ a x, ((![v509, v525] : Fin 2 → IVec S16 32) a x).toNat < S8x2048.size a)
theorem k0_idx184_inb : ∀ (v509 : IVec S16 32) (v525 : IVec S16 32) (k0_hw184 : k0_chk184 v509 v525), ∀ a x, ((![v509, v525] : Fin 2 → IVec S16 32) a x).toNat < S8x2048.size a := fun v509 v525 k0_hw184 => k0_hw184

def k0_chk185 (v509 : IVec S16 32) (v527 : IVec S16 32) : Prop :=
  (∀ a x, ((![v509, v527] : Fin 2 → IVec S16 32) a x).toNat < S8x2048.size a)
theorem k0_idx185_inb : ∀ (v509 : IVec S16 32) (v527 : IVec S16 32) (k0_hw185 : k0_chk185 v509 v527), ∀ a x, ((![v509, v527] : Fin 2 → IVec S16 32) a x).toNat < S8x2048.size a := fun v509 v527 k0_hw185 => k0_hw185

def k0_chk186 (v509 : IVec S16 32) (v529 : IVec S16 32) : Prop :=
  (∀ a x, ((![v509, v529] : Fin 2 → IVec S16 32) a x).toNat < S8x2048.size a)
theorem k0_idx186_inb : ∀ (v509 : IVec S16 32) (v529 : IVec S16 32) (k0_hw186 : k0_chk186 v509 v529), ∀ a x, ((![v509, v529] : Fin 2 → IVec S16 32) a x).toNat < S8x2048.size a := fun v509 v529 k0_hw186 => k0_hw186

def k0_chk187 (v509 : IVec S16 32) (v531 : IVec S16 32) : Prop :=
  (∀ a x, ((![v509, v531] : Fin 2 → IVec S16 32) a x).toNat < S8x2048.size a)
theorem k0_idx187_inb : ∀ (v509 : IVec S16 32) (v531 : IVec S16 32) (k0_hw187 : k0_chk187 v509 v531), ∀ a x, ((![v509, v531] : Fin 2 → IVec S16 32) a x).toNat < S8x2048.size a := fun v509 v531 k0_hw187 => k0_hw187

def k0_chk188 (v509 : IVec S16 32) (v533 : IVec S16 32) : Prop :=
  (∀ a x, ((![v509, v533] : Fin 2 → IVec S16 32) a x).toNat < S8x2048.size a)
theorem k0_idx188_inb : ∀ (v509 : IVec S16 32) (v533 : IVec S16 32) (k0_hw188 : k0_chk188 v509 v533), ∀ a x, ((![v509, v533] : Fin 2 → IVec S16 32) a x).toNat < S8x2048.size a := fun v509 v533 k0_hw188 => k0_hw188

def k0_chk189 (v509 : IVec S16 32) (v535 : IVec S16 32) : Prop :=
  (∀ a x, ((![v509, v535] : Fin 2 → IVec S16 32) a x).toNat < S8x2048.size a)
theorem k0_idx189_inb : ∀ (v509 : IVec S16 32) (v535 : IVec S16 32) (k0_hw189 : k0_chk189 v509 v535), ∀ a x, ((![v509, v535] : Fin 2 → IVec S16 32) a x).toNat < S8x2048.size a := fun v509 v535 k0_hw189 => k0_hw189

def k0_chk190 (v509 : IVec S16 32) (v537 : IVec S16 32) : Prop :=
  (∀ a x, ((![v509, v537] : Fin 2 → IVec S16 32) a x).toNat < S8x2048.size a)
theorem k0_idx190_inb : ∀ (v509 : IVec S16 32) (v537 : IVec S16 32) (k0_hw190 : k0_chk190 v509 v537), ∀ a x, ((![v509, v537] : Fin 2 → IVec S16 32) a x).toNat < S8x2048.size a := fun v509 v537 k0_hw190 => k0_hw190

def k0_chk191 (v509 : IVec S16 32) (v539 : IVec S16 32) : Prop :=
  (∀ a x, ((![v509, v539] : Fin 2 → IVec S16 32) a x).toNat < S8x2048.size a)
theorem k0_idx191_inb : ∀ (v509 : IVec S16 32) (v539 : IVec S16 32) (k0_hw191 : k0_chk191 v509 v539), ∀ a x, ((![v509, v539] : Fin 2 → IVec S16 32) a x).toNat < S8x2048.size a := fun v509 v539 k0_hw191 => k0_hw191

def k0_chk192 (v509 : IVec S16 32) (v541 : IVec S16 32) : Prop :=
  (∀ a x, ((![v509, v541] : Fin 2 → IVec S16 32) a x).toNat < S8x2048.size a)
theorem k0_idx192_inb : ∀ (v509 : IVec S16 32) (v541 : IVec S16 32) (k0_hw192 : k0_chk192 v509 v541), ∀ a x, ((![v509, v541] : Fin 2 → IVec S16 32) a x).toNat < S8x2048.size a := fun v509 v541 k0_hw192 => k0_hw192

def k0_chk193 (v542 : IVec S16 32) (v544 : IVec S16 32) : Prop :=
  (∀ a x, ((![v542, v544] : Fin 2 → IVec S16 32) a x).toNat < S8x2048.size a)
theorem k0_idx193_inb : ∀ (v542 : IVec S16 32) (v544 : IVec S16 32) (k0_hw193 : k0_chk193 v542 v544), ∀ a x, ((![v542, v544] : Fin 2 → IVec S16 32) a x).toNat < S8x2048.size a := fun v542 v544 k0_hw193 => k0_hw193

def k0_chk194 (v542 : IVec S16 32) (v546 : IVec S16 32) : Prop :=
  (∀ a x, ((![v542, v546] : Fin 2 → IVec S16 32) a x).toNat < S8x2048.size a)
theorem k0_idx194_inb : ∀ (v542 : IVec S16 32) (v546 : IVec S16 32) (k0_hw194 : k0_chk194 v542 v546), ∀ a x, ((![v542, v546] : Fin 2 → IVec S16 32) a x).toNat < S8x2048.size a := fun v542 v546 k0_hw194 => k0_hw194

def k0_chk195 (v542 : IVec S16 32) (v548 : IVec S16 32) : Prop :=
  (∀ a x, ((![v542, v548] : Fin 2 → IVec S16 32) a x).toNat < S8x2048.size a)
theorem k0_idx195_inb : ∀ (v542 : IVec S16 32) (v548 : IVec S16 32) (k0_hw195 : k0_chk195 v542 v548), ∀ a x, ((![v542, v548] : Fin 2 → IVec S16 32) a x).toNat < S8x2048.size a := fun v542 v548 k0_hw195 => k0_hw195

def k0_chk196 (v542 : IVec S16 32) (v550 : IVec S16 32) : Prop :=
  (∀ a x, ((![v542, v550] : Fin 2 → IVec S16 32) a x).toNat < S8x2048.size a)
theorem k0_idx196_inb : ∀ (v542 : IVec S16 32) (v550 : IVec S16 32) (k0_hw196 : k0_chk196 v542 v550), ∀ a x, ((![v542, v550] : Fin 2 → IVec S16 32) a x).toNat < S8x2048.size a := fun v542 v550 k0_hw196 => k0_hw196

def k0_chk197 (v542 : IVec S16 32) (v552 : IVec S16 32) : Prop :=
  (∀ a x, ((![v542, v552] : Fin 2 → IVec S16 32) a x).toNat < S8x2048.size a)
theorem k0_idx197_inb : ∀ (v542 : IVec S16 32) (v552 : IVec S16 32) (k0_hw197 : k0_chk197 v542 v552), ∀ a x, ((![v542, v552] : Fin 2 → IVec S16 32) a x).toNat < S8x2048.size a := fun v542 v552 k0_hw197 => k0_hw197

def k0_chk198 (v542 : IVec S16 32) (v554 : IVec S16 32) : Prop :=
  (∀ a x, ((![v542, v554] : Fin 2 → IVec S16 32) a x).toNat < S8x2048.size a)
theorem k0_idx198_inb : ∀ (v542 : IVec S16 32) (v554 : IVec S16 32) (k0_hw198 : k0_chk198 v542 v554), ∀ a x, ((![v542, v554] : Fin 2 → IVec S16 32) a x).toNat < S8x2048.size a := fun v542 v554 k0_hw198 => k0_hw198

def k0_chk199 (v542 : IVec S16 32) (v556 : IVec S16 32) : Prop :=
  (∀ a x, ((![v542, v556] : Fin 2 → IVec S16 32) a x).toNat < S8x2048.size a)
theorem k0_idx199_inb : ∀ (v542 : IVec S16 32) (v556 : IVec S16 32) (k0_hw199 : k0_chk199 v542 v556), ∀ a x, ((![v542, v556] : Fin 2 → IVec S16 32) a x).toNat < S8x2048.size a := fun v542 v556 k0_hw199 => k0_hw199

def k0_chk200 (v542 : IVec S16 32) (v558 : IVec S16 32) : Prop :=
  (∀ a x, ((![v542, v558] : Fin 2 → IVec S16 32) a x).toNat < S8x2048.size a)
theorem k0_idx200_inb : ∀ (v542 : IVec S16 32) (v558 : IVec S16 32) (k0_hw200 : k0_chk200 v542 v558), ∀ a x, ((![v542, v558] : Fin 2 → IVec S16 32) a x).toNat < S8x2048.size a := fun v542 v558 k0_hw200 => k0_hw200

def k0_chk201 (v542 : IVec S16 32) (v560 : IVec S16 32) : Prop :=
  (∀ a x, ((![v542, v560] : Fin 2 → IVec S16 32) a x).toNat < S8x2048.size a)
theorem k0_idx201_inb : ∀ (v542 : IVec S16 32) (v560 : IVec S16 32) (k0_hw201 : k0_chk201 v542 v560), ∀ a x, ((![v542, v560] : Fin 2 → IVec S16 32) a x).toNat < S8x2048.size a := fun v542 v560 k0_hw201 => k0_hw201

def k0_chk202 (v542 : IVec S16 32) (v562 : IVec S16 32) : Prop :=
  (∀ a x, ((![v542, v562] : Fin 2 → IVec S16 32) a x).toNat < S8x2048.size a)
theorem k0_idx202_inb : ∀ (v542 : IVec S16 32) (v562 : IVec S16 32) (k0_hw202 : k0_chk202 v542 v562), ∀ a x, ((![v542, v562] : Fin 2 → IVec S16 32) a x).toNat < S8x2048.size a := fun v542 v562 k0_hw202 => k0_hw202

def k0_chk203 (v542 : IVec S16 32) (v564 : IVec S16 32) : Prop :=
  (∀ a x, ((![v542, v564] : Fin 2 → IVec S16 32) a x).toNat < S8x2048.size a)
theorem k0_idx203_inb : ∀ (v542 : IVec S16 32) (v564 : IVec S16 32) (k0_hw203 : k0_chk203 v542 v564), ∀ a x, ((![v542, v564] : Fin 2 → IVec S16 32) a x).toNat < S8x2048.size a := fun v542 v564 k0_hw203 => k0_hw203

def k0_chk204 (v542 : IVec S16 32) (v566 : IVec S16 32) : Prop :=
  (∀ a x, ((![v542, v566] : Fin 2 → IVec S16 32) a x).toNat < S8x2048.size a)
theorem k0_idx204_inb : ∀ (v542 : IVec S16 32) (v566 : IVec S16 32) (k0_hw204 : k0_chk204 v542 v566), ∀ a x, ((![v542, v566] : Fin 2 → IVec S16 32) a x).toNat < S8x2048.size a := fun v542 v566 k0_hw204 => k0_hw204

def k0_chk205 (v542 : IVec S16 32) (v568 : IVec S16 32) : Prop :=
  (∀ a x, ((![v542, v568] : Fin 2 → IVec S16 32) a x).toNat < S8x2048.size a)
theorem k0_idx205_inb : ∀ (v542 : IVec S16 32) (v568 : IVec S16 32) (k0_hw205 : k0_chk205 v542 v568), ∀ a x, ((![v542, v568] : Fin 2 → IVec S16 32) a x).toNat < S8x2048.size a := fun v542 v568 k0_hw205 => k0_hw205

def k0_chk206 (v542 : IVec S16 32) (v570 : IVec S16 32) : Prop :=
  (∀ a x, ((![v542, v570] : Fin 2 → IVec S16 32) a x).toNat < S8x2048.size a)
theorem k0_idx206_inb : ∀ (v542 : IVec S16 32) (v570 : IVec S16 32) (k0_hw206 : k0_chk206 v542 v570), ∀ a x, ((![v542, v570] : Fin 2 → IVec S16 32) a x).toNat < S8x2048.size a := fun v542 v570 k0_hw206 => k0_hw206

def k0_chk207 (v542 : IVec S16 32) (v572 : IVec S16 32) : Prop :=
  (∀ a x, ((![v542, v572] : Fin 2 → IVec S16 32) a x).toNat < S8x2048.size a)
theorem k0_idx207_inb : ∀ (v542 : IVec S16 32) (v572 : IVec S16 32) (k0_hw207 : k0_chk207 v542 v572), ∀ a x, ((![v542, v572] : Fin 2 → IVec S16 32) a x).toNat < S8x2048.size a := fun v542 v572 k0_hw207 => k0_hw207

def k0_chk208 (v542 : IVec S16 32) (v574 : IVec S16 32) : Prop :=
  (∀ a x, ((![v542, v574] : Fin 2 → IVec S16 32) a x).toNat < S8x2048.size a)
theorem k0_idx208_inb : ∀ (v542 : IVec S16 32) (v574 : IVec S16 32) (k0_hw208 : k0_chk208 v542 v574), ∀ a x, ((![v542, v574] : Fin 2 → IVec S16 32) a x).toNat < S8x2048.size a := fun v542 v574 k0_hw208 => k0_hw208

def k0_chk209 (v575 : IVec S16 32) (v577 : IVec S16 32) : Prop :=
  (∀ a x, ((![v575, v577] : Fin 2 → IVec S16 32) a x).toNat < S8x2048.size a)
theorem k0_idx209_inb : ∀ (v575 : IVec S16 32) (v577 : IVec S16 32) (k0_hw209 : k0_chk209 v575 v577), ∀ a x, ((![v575, v577] : Fin 2 → IVec S16 32) a x).toNat < S8x2048.size a := fun v575 v577 k0_hw209 => k0_hw209

def k0_chk210 (v575 : IVec S16 32) (v579 : IVec S16 32) : Prop :=
  (∀ a x, ((![v575, v579] : Fin 2 → IVec S16 32) a x).toNat < S8x2048.size a)
theorem k0_idx210_inb : ∀ (v575 : IVec S16 32) (v579 : IVec S16 32) (k0_hw210 : k0_chk210 v575 v579), ∀ a x, ((![v575, v579] : Fin 2 → IVec S16 32) a x).toNat < S8x2048.size a := fun v575 v579 k0_hw210 => k0_hw210

def k0_chk211 (v575 : IVec S16 32) (v581 : IVec S16 32) : Prop :=
  (∀ a x, ((![v575, v581] : Fin 2 → IVec S16 32) a x).toNat < S8x2048.size a)
theorem k0_idx211_inb : ∀ (v575 : IVec S16 32) (v581 : IVec S16 32) (k0_hw211 : k0_chk211 v575 v581), ∀ a x, ((![v575, v581] : Fin 2 → IVec S16 32) a x).toNat < S8x2048.size a := fun v575 v581 k0_hw211 => k0_hw211

def k0_chk212 (v575 : IVec S16 32) (v583 : IVec S16 32) : Prop :=
  (∀ a x, ((![v575, v583] : Fin 2 → IVec S16 32) a x).toNat < S8x2048.size a)
theorem k0_idx212_inb : ∀ (v575 : IVec S16 32) (v583 : IVec S16 32) (k0_hw212 : k0_chk212 v575 v583), ∀ a x, ((![v575, v583] : Fin 2 → IVec S16 32) a x).toNat < S8x2048.size a := fun v575 v583 k0_hw212 => k0_hw212

def k0_chk213 (v575 : IVec S16 32) (v585 : IVec S16 32) : Prop :=
  (∀ a x, ((![v575, v585] : Fin 2 → IVec S16 32) a x).toNat < S8x2048.size a)
theorem k0_idx213_inb : ∀ (v575 : IVec S16 32) (v585 : IVec S16 32) (k0_hw213 : k0_chk213 v575 v585), ∀ a x, ((![v575, v585] : Fin 2 → IVec S16 32) a x).toNat < S8x2048.size a := fun v575 v585 k0_hw213 => k0_hw213

def k0_chk214 (v575 : IVec S16 32) (v587 : IVec S16 32) : Prop :=
  (∀ a x, ((![v575, v587] : Fin 2 → IVec S16 32) a x).toNat < S8x2048.size a)
theorem k0_idx214_inb : ∀ (v575 : IVec S16 32) (v587 : IVec S16 32) (k0_hw214 : k0_chk214 v575 v587), ∀ a x, ((![v575, v587] : Fin 2 → IVec S16 32) a x).toNat < S8x2048.size a := fun v575 v587 k0_hw214 => k0_hw214

def k0_chk215 (v575 : IVec S16 32) (v589 : IVec S16 32) : Prop :=
  (∀ a x, ((![v575, v589] : Fin 2 → IVec S16 32) a x).toNat < S8x2048.size a)
theorem k0_idx215_inb : ∀ (v575 : IVec S16 32) (v589 : IVec S16 32) (k0_hw215 : k0_chk215 v575 v589), ∀ a x, ((![v575, v589] : Fin 2 → IVec S16 32) a x).toNat < S8x2048.size a := fun v575 v589 k0_hw215 => k0_hw215

def k0_chk216 (v575 : IVec S16 32) (v591 : IVec S16 32) : Prop :=
  (∀ a x, ((![v575, v591] : Fin 2 → IVec S16 32) a x).toNat < S8x2048.size a)
theorem k0_idx216_inb : ∀ (v575 : IVec S16 32) (v591 : IVec S16 32) (k0_hw216 : k0_chk216 v575 v591), ∀ a x, ((![v575, v591] : Fin 2 → IVec S16 32) a x).toNat < S8x2048.size a := fun v575 v591 k0_hw216 => k0_hw216

def k0_chk217 (v575 : IVec S16 32) (v593 : IVec S16 32) : Prop :=
  (∀ a x, ((![v575, v593] : Fin 2 → IVec S16 32) a x).toNat < S8x2048.size a)
theorem k0_idx217_inb : ∀ (v575 : IVec S16 32) (v593 : IVec S16 32) (k0_hw217 : k0_chk217 v575 v593), ∀ a x, ((![v575, v593] : Fin 2 → IVec S16 32) a x).toNat < S8x2048.size a := fun v575 v593 k0_hw217 => k0_hw217

def k0_chk218 (v575 : IVec S16 32) (v595 : IVec S16 32) : Prop :=
  (∀ a x, ((![v575, v595] : Fin 2 → IVec S16 32) a x).toNat < S8x2048.size a)
theorem k0_idx218_inb : ∀ (v575 : IVec S16 32) (v595 : IVec S16 32) (k0_hw218 : k0_chk218 v575 v595), ∀ a x, ((![v575, v595] : Fin 2 → IVec S16 32) a x).toNat < S8x2048.size a := fun v575 v595 k0_hw218 => k0_hw218

def k0_chk219 (v575 : IVec S16 32) (v597 : IVec S16 32) : Prop :=
  (∀ a x, ((![v575, v597] : Fin 2 → IVec S16 32) a x).toNat < S8x2048.size a)
theorem k0_idx219_inb : ∀ (v575 : IVec S16 32) (v597 : IVec S16 32) (k0_hw219 : k0_chk219 v575 v597), ∀ a x, ((![v575, v597] : Fin 2 → IVec S16 32) a x).toNat < S8x2048.size a := fun v575 v597 k0_hw219 => k0_hw219

def k0_chk220 (v575 : IVec S16 32) (v599 : IVec S16 32) : Prop :=
  (∀ a x, ((![v575, v599] : Fin 2 → IVec S16 32) a x).toNat < S8x2048.size a)
theorem k0_idx220_inb : ∀ (v575 : IVec S16 32) (v599 : IVec S16 32) (k0_hw220 : k0_chk220 v575 v599), ∀ a x, ((![v575, v599] : Fin 2 → IVec S16 32) a x).toNat < S8x2048.size a := fun v575 v599 k0_hw220 => k0_hw220

def k0_chk221 (v575 : IVec S16 32) (v601 : IVec S16 32) : Prop :=
  (∀ a x, ((![v575, v601] : Fin 2 → IVec S16 32) a x).toNat < S8x2048.size a)
theorem k0_idx221_inb : ∀ (v575 : IVec S16 32) (v601 : IVec S16 32) (k0_hw221 : k0_chk221 v575 v601), ∀ a x, ((![v575, v601] : Fin 2 → IVec S16 32) a x).toNat < S8x2048.size a := fun v575 v601 k0_hw221 => k0_hw221

def k0_chk222 (v575 : IVec S16 32) (v603 : IVec S16 32) : Prop :=
  (∀ a x, ((![v575, v603] : Fin 2 → IVec S16 32) a x).toNat < S8x2048.size a)
theorem k0_idx222_inb : ∀ (v575 : IVec S16 32) (v603 : IVec S16 32) (k0_hw222 : k0_chk222 v575 v603), ∀ a x, ((![v575, v603] : Fin 2 → IVec S16 32) a x).toNat < S8x2048.size a := fun v575 v603 k0_hw222 => k0_hw222

def k0_chk223 (v575 : IVec S16 32) (v605 : IVec S16 32) : Prop :=
  (∀ a x, ((![v575, v605] : Fin 2 → IVec S16 32) a x).toNat < S8x2048.size a)
theorem k0_idx223_inb : ∀ (v575 : IVec S16 32) (v605 : IVec S16 32) (k0_hw223 : k0_chk223 v575 v605), ∀ a x, ((![v575, v605] : Fin 2 → IVec S16 32) a x).toNat < S8x2048.size a := fun v575 v605 k0_hw223 => k0_hw223

def k0_chk224 (v575 : IVec S16 32) (v607 : IVec S16 32) : Prop :=
  (∀ a x, ((![v575, v607] : Fin 2 → IVec S16 32) a x).toNat < S8x2048.size a)
theorem k0_idx224_inb : ∀ (v575 : IVec S16 32) (v607 : IVec S16 32) (k0_hw224 : k0_chk224 v575 v607), ∀ a x, ((![v575, v607] : Fin 2 → IVec S16 32) a x).toNat < S8x2048.size a := fun v575 v607 k0_hw224 => k0_hw224

def k0_chk225 (v608 : IVec S16 32) (v610 : IVec S16 32) : Prop :=
  (∀ a x, ((![v608, v610] : Fin 2 → IVec S16 32) a x).toNat < S8x2048.size a)
theorem k0_idx225_inb : ∀ (v608 : IVec S16 32) (v610 : IVec S16 32) (k0_hw225 : k0_chk225 v608 v610), ∀ a x, ((![v608, v610] : Fin 2 → IVec S16 32) a x).toNat < S8x2048.size a := fun v608 v610 k0_hw225 => k0_hw225

def k0_chk226 (v608 : IVec S16 32) (v612 : IVec S16 32) : Prop :=
  (∀ a x, ((![v608, v612] : Fin 2 → IVec S16 32) a x).toNat < S8x2048.size a)
theorem k0_idx226_inb : ∀ (v608 : IVec S16 32) (v612 : IVec S16 32) (k0_hw226 : k0_chk226 v608 v612), ∀ a x, ((![v608, v612] : Fin 2 → IVec S16 32) a x).toNat < S8x2048.size a := fun v608 v612 k0_hw226 => k0_hw226

def k0_chk227 (v608 : IVec S16 32) (v614 : IVec S16 32) : Prop :=
  (∀ a x, ((![v608, v614] : Fin 2 → IVec S16 32) a x).toNat < S8x2048.size a)
theorem k0_idx227_inb : ∀ (v608 : IVec S16 32) (v614 : IVec S16 32) (k0_hw227 : k0_chk227 v608 v614), ∀ a x, ((![v608, v614] : Fin 2 → IVec S16 32) a x).toNat < S8x2048.size a := fun v608 v614 k0_hw227 => k0_hw227

def k0_chk228 (v608 : IVec S16 32) (v616 : IVec S16 32) : Prop :=
  (∀ a x, ((![v608, v616] : Fin 2 → IVec S16 32) a x).toNat < S8x2048.size a)
theorem k0_idx228_inb : ∀ (v608 : IVec S16 32) (v616 : IVec S16 32) (k0_hw228 : k0_chk228 v608 v616), ∀ a x, ((![v608, v616] : Fin 2 → IVec S16 32) a x).toNat < S8x2048.size a := fun v608 v616 k0_hw228 => k0_hw228

def k0_chk229 (v608 : IVec S16 32) (v618 : IVec S16 32) : Prop :=
  (∀ a x, ((![v608, v618] : Fin 2 → IVec S16 32) a x).toNat < S8x2048.size a)
theorem k0_idx229_inb : ∀ (v608 : IVec S16 32) (v618 : IVec S16 32) (k0_hw229 : k0_chk229 v608 v618), ∀ a x, ((![v608, v618] : Fin 2 → IVec S16 32) a x).toNat < S8x2048.size a := fun v608 v618 k0_hw229 => k0_hw229

def k0_chk230 (v608 : IVec S16 32) (v620 : IVec S16 32) : Prop :=
  (∀ a x, ((![v608, v620] : Fin 2 → IVec S16 32) a x).toNat < S8x2048.size a)
theorem k0_idx230_inb : ∀ (v608 : IVec S16 32) (v620 : IVec S16 32) (k0_hw230 : k0_chk230 v608 v620), ∀ a x, ((![v608, v620] : Fin 2 → IVec S16 32) a x).toNat < S8x2048.size a := fun v608 v620 k0_hw230 => k0_hw230

def k0_chk231 (v608 : IVec S16 32) (v622 : IVec S16 32) : Prop :=
  (∀ a x, ((![v608, v622] : Fin 2 → IVec S16 32) a x).toNat < S8x2048.size a)
theorem k0_idx231_inb : ∀ (v608 : IVec S16 32) (v622 : IVec S16 32) (k0_hw231 : k0_chk231 v608 v622), ∀ a x, ((![v608, v622] : Fin 2 → IVec S16 32) a x).toNat < S8x2048.size a := fun v608 v622 k0_hw231 => k0_hw231

def k0_chk232 (v608 : IVec S16 32) (v624 : IVec S16 32) : Prop :=
  (∀ a x, ((![v608, v624] : Fin 2 → IVec S16 32) a x).toNat < S8x2048.size a)
theorem k0_idx232_inb : ∀ (v608 : IVec S16 32) (v624 : IVec S16 32) (k0_hw232 : k0_chk232 v608 v624), ∀ a x, ((![v608, v624] : Fin 2 → IVec S16 32) a x).toNat < S8x2048.size a := fun v608 v624 k0_hw232 => k0_hw232

def k0_chk233 (v608 : IVec S16 32) (v626 : IVec S16 32) : Prop :=
  (∀ a x, ((![v608, v626] : Fin 2 → IVec S16 32) a x).toNat < S8x2048.size a)
theorem k0_idx233_inb : ∀ (v608 : IVec S16 32) (v626 : IVec S16 32) (k0_hw233 : k0_chk233 v608 v626), ∀ a x, ((![v608, v626] : Fin 2 → IVec S16 32) a x).toNat < S8x2048.size a := fun v608 v626 k0_hw233 => k0_hw233

def k0_chk234 (v608 : IVec S16 32) (v628 : IVec S16 32) : Prop :=
  (∀ a x, ((![v608, v628] : Fin 2 → IVec S16 32) a x).toNat < S8x2048.size a)
theorem k0_idx234_inb : ∀ (v608 : IVec S16 32) (v628 : IVec S16 32) (k0_hw234 : k0_chk234 v608 v628), ∀ a x, ((![v608, v628] : Fin 2 → IVec S16 32) a x).toNat < S8x2048.size a := fun v608 v628 k0_hw234 => k0_hw234

def k0_chk235 (v608 : IVec S16 32) (v630 : IVec S16 32) : Prop :=
  (∀ a x, ((![v608, v630] : Fin 2 → IVec S16 32) a x).toNat < S8x2048.size a)
theorem k0_idx235_inb : ∀ (v608 : IVec S16 32) (v630 : IVec S16 32) (k0_hw235 : k0_chk235 v608 v630), ∀ a x, ((![v608, v630] : Fin 2 → IVec S16 32) a x).toNat < S8x2048.size a := fun v608 v630 k0_hw235 => k0_hw235

def k0_chk236 (v608 : IVec S16 32) (v632 : IVec S16 32) : Prop :=
  (∀ a x, ((![v608, v632] : Fin 2 → IVec S16 32) a x).toNat < S8x2048.size a)
theorem k0_idx236_inb : ∀ (v608 : IVec S16 32) (v632 : IVec S16 32) (k0_hw236 : k0_chk236 v608 v632), ∀ a x, ((![v608, v632] : Fin 2 → IVec S16 32) a x).toNat < S8x2048.size a := fun v608 v632 k0_hw236 => k0_hw236

def k0_chk237 (v608 : IVec S16 32) (v634 : IVec S16 32) : Prop :=
  (∀ a x, ((![v608, v634] : Fin 2 → IVec S16 32) a x).toNat < S8x2048.size a)
theorem k0_idx237_inb : ∀ (v608 : IVec S16 32) (v634 : IVec S16 32) (k0_hw237 : k0_chk237 v608 v634), ∀ a x, ((![v608, v634] : Fin 2 → IVec S16 32) a x).toNat < S8x2048.size a := fun v608 v634 k0_hw237 => k0_hw237

def k0_chk238 (v608 : IVec S16 32) (v636 : IVec S16 32) : Prop :=
  (∀ a x, ((![v608, v636] : Fin 2 → IVec S16 32) a x).toNat < S8x2048.size a)
theorem k0_idx238_inb : ∀ (v608 : IVec S16 32) (v636 : IVec S16 32) (k0_hw238 : k0_chk238 v608 v636), ∀ a x, ((![v608, v636] : Fin 2 → IVec S16 32) a x).toNat < S8x2048.size a := fun v608 v636 k0_hw238 => k0_hw238

def k0_chk239 (v608 : IVec S16 32) (v638 : IVec S16 32) : Prop :=
  (∀ a x, ((![v608, v638] : Fin 2 → IVec S16 32) a x).toNat < S8x2048.size a)
theorem k0_idx239_inb : ∀ (v608 : IVec S16 32) (v638 : IVec S16 32) (k0_hw239 : k0_chk239 v608 v638), ∀ a x, ((![v608, v638] : Fin 2 → IVec S16 32) a x).toNat < S8x2048.size a := fun v608 v638 k0_hw239 => k0_hw239

def k0_chk240 (v608 : IVec S16 32) (v640 : IVec S16 32) : Prop :=
  (∀ a x, ((![v608, v640] : Fin 2 → IVec S16 32) a x).toNat < S8x2048.size a)
theorem k0_idx240_inb : ∀ (v608 : IVec S16 32) (v640 : IVec S16 32) (k0_hw240 : k0_chk240 v608 v640), ∀ a x, ((![v608, v640] : Fin 2 → IVec S16 32) a x).toNat < S8x2048.size a := fun v608 v640 k0_hw240 => k0_hw240

def k0_chk241 (v641 : IVec S16 32) (v643 : IVec S16 32) : Prop :=
  (∀ a x, ((![v641, v643] : Fin 2 → IVec S16 32) a x).toNat < S8x2048.size a)
theorem k0_idx241_inb : ∀ (v641 : IVec S16 32) (v643 : IVec S16 32) (k0_hw241 : k0_chk241 v641 v643), ∀ a x, ((![v641, v643] : Fin 2 → IVec S16 32) a x).toNat < S8x2048.size a := fun v641 v643 k0_hw241 => k0_hw241

def k0_chk242 (v641 : IVec S16 32) (v645 : IVec S16 32) : Prop :=
  (∀ a x, ((![v641, v645] : Fin 2 → IVec S16 32) a x).toNat < S8x2048.size a)
theorem k0_idx242_inb : ∀ (v641 : IVec S16 32) (v645 : IVec S16 32) (k0_hw242 : k0_chk242 v641 v645), ∀ a x, ((![v641, v645] : Fin 2 → IVec S16 32) a x).toNat < S8x2048.size a := fun v641 v645 k0_hw242 => k0_hw242

def k0_chk243 (v641 : IVec S16 32) (v647 : IVec S16 32) : Prop :=
  (∀ a x, ((![v641, v647] : Fin 2 → IVec S16 32) a x).toNat < S8x2048.size a)
theorem k0_idx243_inb : ∀ (v641 : IVec S16 32) (v647 : IVec S16 32) (k0_hw243 : k0_chk243 v641 v647), ∀ a x, ((![v641, v647] : Fin 2 → IVec S16 32) a x).toNat < S8x2048.size a := fun v641 v647 k0_hw243 => k0_hw243

def k0_chk244 (v641 : IVec S16 32) (v649 : IVec S16 32) : Prop :=
  (∀ a x, ((![v641, v649] : Fin 2 → IVec S16 32) a x).toNat < S8x2048.size a)
theorem k0_idx244_inb : ∀ (v641 : IVec S16 32) (v649 : IVec S16 32) (k0_hw244 : k0_chk244 v641 v649), ∀ a x, ((![v641, v649] : Fin 2 → IVec S16 32) a x).toNat < S8x2048.size a := fun v641 v649 k0_hw244 => k0_hw244

def k0_chk245 (v641 : IVec S16 32) (v651 : IVec S16 32) : Prop :=
  (∀ a x, ((![v641, v651] : Fin 2 → IVec S16 32) a x).toNat < S8x2048.size a)
theorem k0_idx245_inb : ∀ (v641 : IVec S16 32) (v651 : IVec S16 32) (k0_hw245 : k0_chk245 v641 v651), ∀ a x, ((![v641, v651] : Fin 2 → IVec S16 32) a x).toNat < S8x2048.size a := fun v641 v651 k0_hw245 => k0_hw245

def k0_chk246 (v641 : IVec S16 32) (v653 : IVec S16 32) : Prop :=
  (∀ a x, ((![v641, v653] : Fin 2 → IVec S16 32) a x).toNat < S8x2048.size a)
theorem k0_idx246_inb : ∀ (v641 : IVec S16 32) (v653 : IVec S16 32) (k0_hw246 : k0_chk246 v641 v653), ∀ a x, ((![v641, v653] : Fin 2 → IVec S16 32) a x).toNat < S8x2048.size a := fun v641 v653 k0_hw246 => k0_hw246

def k0_chk247 (v641 : IVec S16 32) (v655 : IVec S16 32) : Prop :=
  (∀ a x, ((![v641, v655] : Fin 2 → IVec S16 32) a x).toNat < S8x2048.size a)
theorem k0_idx247_inb : ∀ (v641 : IVec S16 32) (v655 : IVec S16 32) (k0_hw247 : k0_chk247 v641 v655), ∀ a x, ((![v641, v655] : Fin 2 → IVec S16 32) a x).toNat < S8x2048.size a := fun v641 v655 k0_hw247 => k0_hw247

def k0_chk248 (v641 : IVec S16 32) (v657 : IVec S16 32) : Prop :=
  (∀ a x, ((![v641, v657] : Fin 2 → IVec S16 32) a x).toNat < S8x2048.size a)
theorem k0_idx248_inb : ∀ (v641 : IVec S16 32) (v657 : IVec S16 32) (k0_hw248 : k0_chk248 v641 v657), ∀ a x, ((![v641, v657] : Fin 2 → IVec S16 32) a x).toNat < S8x2048.size a := fun v641 v657 k0_hw248 => k0_hw248

def k0_chk249 (v641 : IVec S16 32) (v659 : IVec S16 32) : Prop :=
  (∀ a x, ((![v641, v659] : Fin 2 → IVec S16 32) a x).toNat < S8x2048.size a)
theorem k0_idx249_inb : ∀ (v641 : IVec S16 32) (v659 : IVec S16 32) (k0_hw249 : k0_chk249 v641 v659), ∀ a x, ((![v641, v659] : Fin 2 → IVec S16 32) a x).toNat < S8x2048.size a := fun v641 v659 k0_hw249 => k0_hw249

def k0_chk250 (v641 : IVec S16 32) (v661 : IVec S16 32) : Prop :=
  (∀ a x, ((![v641, v661] : Fin 2 → IVec S16 32) a x).toNat < S8x2048.size a)
theorem k0_idx250_inb : ∀ (v641 : IVec S16 32) (v661 : IVec S16 32) (k0_hw250 : k0_chk250 v641 v661), ∀ a x, ((![v641, v661] : Fin 2 → IVec S16 32) a x).toNat < S8x2048.size a := fun v641 v661 k0_hw250 => k0_hw250

def k0_chk251 (v641 : IVec S16 32) (v663 : IVec S16 32) : Prop :=
  (∀ a x, ((![v641, v663] : Fin 2 → IVec S16 32) a x).toNat < S8x2048.size a)
theorem k0_idx251_inb : ∀ (v641 : IVec S16 32) (v663 : IVec S16 32) (k0_hw251 : k0_chk251 v641 v663), ∀ a x, ((![v641, v663] : Fin 2 → IVec S16 32) a x).toNat < S8x2048.size a := fun v641 v663 k0_hw251 => k0_hw251

def k0_chk252 (v641 : IVec S16 32) (v665 : IVec S16 32) : Prop :=
  (∀ a x, ((![v641, v665] : Fin 2 → IVec S16 32) a x).toNat < S8x2048.size a)
theorem k0_idx252_inb : ∀ (v641 : IVec S16 32) (v665 : IVec S16 32) (k0_hw252 : k0_chk252 v641 v665), ∀ a x, ((![v641, v665] : Fin 2 → IVec S16 32) a x).toNat < S8x2048.size a := fun v641 v665 k0_hw252 => k0_hw252

def k0_chk253 (v641 : IVec S16 32) (v667 : IVec S16 32) : Prop :=
  (∀ a x, ((![v641, v667] : Fin 2 → IVec S16 32) a x).toNat < S8x2048.size a)
theorem k0_idx253_inb : ∀ (v641 : IVec S16 32) (v667 : IVec S16 32) (k0_hw253 : k0_chk253 v641 v667), ∀ a x, ((![v641, v667] : Fin 2 → IVec S16 32) a x).toNat < S8x2048.size a := fun v641 v667 k0_hw253 => k0_hw253

def k0_chk254 (v641 : IVec S16 32) (v669 : IVec S16 32) : Prop :=
  (∀ a x, ((![v641, v669] : Fin 2 → IVec S16 32) a x).toNat < S8x2048.size a)
theorem k0_idx254_inb : ∀ (v641 : IVec S16 32) (v669 : IVec S16 32) (k0_hw254 : k0_chk254 v641 v669), ∀ a x, ((![v641, v669] : Fin 2 → IVec S16 32) a x).toNat < S8x2048.size a := fun v641 v669 k0_hw254 => k0_hw254

def k0_chk255 (v641 : IVec S16 32) (v671 : IVec S16 32) : Prop :=
  (∀ a x, ((![v641, v671] : Fin 2 → IVec S16 32) a x).toNat < S8x2048.size a)
theorem k0_idx255_inb : ∀ (v641 : IVec S16 32) (v671 : IVec S16 32) (k0_hw255 : k0_chk255 v641 v671), ∀ a x, ((![v641, v671] : Fin 2 → IVec S16 32) a x).toNat < S8x2048.size a := fun v641 v671 k0_hw255 => k0_hw255

def k0_chk256 (v641 : IVec S16 32) (v673 : IVec S16 32) : Prop :=
  (∀ a x, ((![v641, v673] : Fin 2 → IVec S16 32) a x).toNat < S8x2048.size a)
theorem k0_idx256_inb : ∀ (v641 : IVec S16 32) (v673 : IVec S16 32) (k0_hw256 : k0_chk256 v641 v673), ∀ a x, ((![v641, v673] : Fin 2 → IVec S16 32) a x).toNat < S8x2048.size a := fun v641 v673 k0_hw256 => k0_hw256
def k0_off4 (i : grid0.Coords) (c8_i32_206 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v342 : BitVec 32 := Scalar.addi v2 c8_i32_206
  let c0_i32_539 : BitVec 32 := 0#32
  ![v342.toNat, 0]
def k0_off4_at (r : Fin 3) : BitVec 32 :=
  if r.val < 1 then
    8#32
  else
    if r.val < 2 then
      48#32
    else
      56#32
@[reducible] def k0_t1_loop : Scf.Loop 32 :=
  let c0_i32_542 : BitVec 32 := 0#32
  let c3_i32_543 : BitVec 32 := 3#32
  let v676 : BitVec 32 := Scalar.addi c0_i32_542 c3_i32_543
  let c1_i32_544 : BitVec 32 := 1#32
  ⟨c0_i32_542, v676, c1_i32_544⟩
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_553 : BitVec 32 := 2#32
  let c0_i32_542 : BitVec 32 := 0#32
  let c1_i32_544 : BitVec 32 := 1#32
  let arg12 : BitVec 32 := Scf.iv c0_i32_542 c1_i32_544 k0_t1
  let c2_i32_552 : BitVec 32 := 2#32
  let v683 : BitVec 32 := Scalar.muli arg12 c2_i32_552
  let v684 : BitVec 32 := Scalar.addi c2_i32_553 v683
  let c0_i32_554 : BitVec 32 := 0#32
  let v685 : BitVec 32 := Scalar.addi v684 c0_i32_554
  let c8_i32_555 : BitVec 32 := 8#32
  let v686 : BitVec 32 := Scalar.muli v685 c8_i32_555
  let v687 : BitVec 32 := Scalar.addi v2 v686
  let c0_i32_556 : BitVec 32 := 0#32
  ![v687.toNat, 0]

def k0_chk257 (v690 : IVec S16 32) (v692 : IVec S16 32) : Prop :=
  (∀ a x, ((![v690, v692] : Fin 2 → IVec S16 32) a x).toNat < S8x2048.size a)
theorem k0_idx257_inb : ∀ (v690 : IVec S16 32) (v692 : IVec S16 32) (k0_hw257 : k0_chk257 v690 v692), ∀ a x, ((![v690, v692] : Fin 2 → IVec S16 32) a x).toNat < S8x2048.size a := fun v690 v692 k0_hw257 => k0_hw257

def k0_chk258 (v690 : IVec S16 32) (v694 : IVec S16 32) : Prop :=
  (∀ a x, ((![v690, v694] : Fin 2 → IVec S16 32) a x).toNat < S8x2048.size a)
theorem k0_idx258_inb : ∀ (v690 : IVec S16 32) (v694 : IVec S16 32) (k0_hw258 : k0_chk258 v690 v694), ∀ a x, ((![v690, v694] : Fin 2 → IVec S16 32) a x).toNat < S8x2048.size a := fun v690 v694 k0_hw258 => k0_hw258

def k0_chk259 (v690 : IVec S16 32) (v696 : IVec S16 32) : Prop :=
  (∀ a x, ((![v690, v696] : Fin 2 → IVec S16 32) a x).toNat < S8x2048.size a)
theorem k0_idx259_inb : ∀ (v690 : IVec S16 32) (v696 : IVec S16 32) (k0_hw259 : k0_chk259 v690 v696), ∀ a x, ((![v690, v696] : Fin 2 → IVec S16 32) a x).toNat < S8x2048.size a := fun v690 v696 k0_hw259 => k0_hw259

def k0_chk260 (v690 : IVec S16 32) (v698 : IVec S16 32) : Prop :=
  (∀ a x, ((![v690, v698] : Fin 2 → IVec S16 32) a x).toNat < S8x2048.size a)
theorem k0_idx260_inb : ∀ (v690 : IVec S16 32) (v698 : IVec S16 32) (k0_hw260 : k0_chk260 v690 v698), ∀ a x, ((![v690, v698] : Fin 2 → IVec S16 32) a x).toNat < S8x2048.size a := fun v690 v698 k0_hw260 => k0_hw260

def k0_chk261 (v690 : IVec S16 32) (v700 : IVec S16 32) : Prop :=
  (∀ a x, ((![v690, v700] : Fin 2 → IVec S16 32) a x).toNat < S8x2048.size a)
theorem k0_idx261_inb : ∀ (v690 : IVec S16 32) (v700 : IVec S16 32) (k0_hw261 : k0_chk261 v690 v700), ∀ a x, ((![v690, v700] : Fin 2 → IVec S16 32) a x).toNat < S8x2048.size a := fun v690 v700 k0_hw261 => k0_hw261

def k0_chk262 (v690 : IVec S16 32) (v702 : IVec S16 32) : Prop :=
  (∀ a x, ((![v690, v702] : Fin 2 → IVec S16 32) a x).toNat < S8x2048.size a)
theorem k0_idx262_inb : ∀ (v690 : IVec S16 32) (v702 : IVec S16 32) (k0_hw262 : k0_chk262 v690 v702), ∀ a x, ((![v690, v702] : Fin 2 → IVec S16 32) a x).toNat < S8x2048.size a := fun v690 v702 k0_hw262 => k0_hw262

def k0_chk263 (v690 : IVec S16 32) (v704 : IVec S16 32) : Prop :=
  (∀ a x, ((![v690, v704] : Fin 2 → IVec S16 32) a x).toNat < S8x2048.size a)
theorem k0_idx263_inb : ∀ (v690 : IVec S16 32) (v704 : IVec S16 32) (k0_hw263 : k0_chk263 v690 v704), ∀ a x, ((![v690, v704] : Fin 2 → IVec S16 32) a x).toNat < S8x2048.size a := fun v690 v704 k0_hw263 => k0_hw263

def k0_chk264 (v690 : IVec S16 32) (v706 : IVec S16 32) : Prop :=
  (∀ a x, ((![v690, v706] : Fin 2 → IVec S16 32) a x).toNat < S8x2048.size a)
theorem k0_idx264_inb : ∀ (v690 : IVec S16 32) (v706 : IVec S16 32) (k0_hw264 : k0_chk264 v690 v706), ∀ a x, ((![v690, v706] : Fin 2 → IVec S16 32) a x).toNat < S8x2048.size a := fun v690 v706 k0_hw264 => k0_hw264

def k0_chk265 (v690 : IVec S16 32) (v708 : IVec S16 32) : Prop :=
  (∀ a x, ((![v690, v708] : Fin 2 → IVec S16 32) a x).toNat < S8x2048.size a)
theorem k0_idx265_inb : ∀ (v690 : IVec S16 32) (v708 : IVec S16 32) (k0_hw265 : k0_chk265 v690 v708), ∀ a x, ((![v690, v708] : Fin 2 → IVec S16 32) a x).toNat < S8x2048.size a := fun v690 v708 k0_hw265 => k0_hw265

def k0_chk266 (v690 : IVec S16 32) (v710 : IVec S16 32) : Prop :=
  (∀ a x, ((![v690, v710] : Fin 2 → IVec S16 32) a x).toNat < S8x2048.size a)
theorem k0_idx266_inb : ∀ (v690 : IVec S16 32) (v710 : IVec S16 32) (k0_hw266 : k0_chk266 v690 v710), ∀ a x, ((![v690, v710] : Fin 2 → IVec S16 32) a x).toNat < S8x2048.size a := fun v690 v710 k0_hw266 => k0_hw266

def k0_chk267 (v690 : IVec S16 32) (v712 : IVec S16 32) : Prop :=
  (∀ a x, ((![v690, v712] : Fin 2 → IVec S16 32) a x).toNat < S8x2048.size a)
theorem k0_idx267_inb : ∀ (v690 : IVec S16 32) (v712 : IVec S16 32) (k0_hw267 : k0_chk267 v690 v712), ∀ a x, ((![v690, v712] : Fin 2 → IVec S16 32) a x).toNat < S8x2048.size a := fun v690 v712 k0_hw267 => k0_hw267

def k0_chk268 (v690 : IVec S16 32) (v714 : IVec S16 32) : Prop :=
  (∀ a x, ((![v690, v714] : Fin 2 → IVec S16 32) a x).toNat < S8x2048.size a)
theorem k0_idx268_inb : ∀ (v690 : IVec S16 32) (v714 : IVec S16 32) (k0_hw268 : k0_chk268 v690 v714), ∀ a x, ((![v690, v714] : Fin 2 → IVec S16 32) a x).toNat < S8x2048.size a := fun v690 v714 k0_hw268 => k0_hw268

def k0_chk269 (v690 : IVec S16 32) (v716 : IVec S16 32) : Prop :=
  (∀ a x, ((![v690, v716] : Fin 2 → IVec S16 32) a x).toNat < S8x2048.size a)
theorem k0_idx269_inb : ∀ (v690 : IVec S16 32) (v716 : IVec S16 32) (k0_hw269 : k0_chk269 v690 v716), ∀ a x, ((![v690, v716] : Fin 2 → IVec S16 32) a x).toNat < S8x2048.size a := fun v690 v716 k0_hw269 => k0_hw269

def k0_chk270 (v690 : IVec S16 32) (v718 : IVec S16 32) : Prop :=
  (∀ a x, ((![v690, v718] : Fin 2 → IVec S16 32) a x).toNat < S8x2048.size a)
theorem k0_idx270_inb : ∀ (v690 : IVec S16 32) (v718 : IVec S16 32) (k0_hw270 : k0_chk270 v690 v718), ∀ a x, ((![v690, v718] : Fin 2 → IVec S16 32) a x).toNat < S8x2048.size a := fun v690 v718 k0_hw270 => k0_hw270

def k0_chk271 (v690 : IVec S16 32) (v720 : IVec S16 32) : Prop :=
  (∀ a x, ((![v690, v720] : Fin 2 → IVec S16 32) a x).toNat < S8x2048.size a)
theorem k0_idx271_inb : ∀ (v690 : IVec S16 32) (v720 : IVec S16 32) (k0_hw271 : k0_chk271 v690 v720), ∀ a x, ((![v690, v720] : Fin 2 → IVec S16 32) a x).toNat < S8x2048.size a := fun v690 v720 k0_hw271 => k0_hw271

def k0_chk272 (v690 : IVec S16 32) (v722 : IVec S16 32) : Prop :=
  (∀ a x, ((![v690, v722] : Fin 2 → IVec S16 32) a x).toNat < S8x2048.size a)
theorem k0_idx272_inb : ∀ (v690 : IVec S16 32) (v722 : IVec S16 32) (k0_hw272 : k0_chk272 v690 v722), ∀ a x, ((![v690, v722] : Fin 2 → IVec S16 32) a x).toNat < S8x2048.size a := fun v690 v722 k0_hw272 => k0_hw272

def k0_chk273 (v723 : IVec S16 32) (v725 : IVec S16 32) : Prop :=
  (∀ a x, ((![v723, v725] : Fin 2 → IVec S16 32) a x).toNat < S8x2048.size a)
theorem k0_idx273_inb : ∀ (v723 : IVec S16 32) (v725 : IVec S16 32) (k0_hw273 : k0_chk273 v723 v725), ∀ a x, ((![v723, v725] : Fin 2 → IVec S16 32) a x).toNat < S8x2048.size a := fun v723 v725 k0_hw273 => k0_hw273

def k0_chk274 (v723 : IVec S16 32) (v727 : IVec S16 32) : Prop :=
  (∀ a x, ((![v723, v727] : Fin 2 → IVec S16 32) a x).toNat < S8x2048.size a)
theorem k0_idx274_inb : ∀ (v723 : IVec S16 32) (v727 : IVec S16 32) (k0_hw274 : k0_chk274 v723 v727), ∀ a x, ((![v723, v727] : Fin 2 → IVec S16 32) a x).toNat < S8x2048.size a := fun v723 v727 k0_hw274 => k0_hw274

def k0_chk275 (v723 : IVec S16 32) (v729 : IVec S16 32) : Prop :=
  (∀ a x, ((![v723, v729] : Fin 2 → IVec S16 32) a x).toNat < S8x2048.size a)
theorem k0_idx275_inb : ∀ (v723 : IVec S16 32) (v729 : IVec S16 32) (k0_hw275 : k0_chk275 v723 v729), ∀ a x, ((![v723, v729] : Fin 2 → IVec S16 32) a x).toNat < S8x2048.size a := fun v723 v729 k0_hw275 => k0_hw275

def k0_chk276 (v723 : IVec S16 32) (v731 : IVec S16 32) : Prop :=
  (∀ a x, ((![v723, v731] : Fin 2 → IVec S16 32) a x).toNat < S8x2048.size a)
theorem k0_idx276_inb : ∀ (v723 : IVec S16 32) (v731 : IVec S16 32) (k0_hw276 : k0_chk276 v723 v731), ∀ a x, ((![v723, v731] : Fin 2 → IVec S16 32) a x).toNat < S8x2048.size a := fun v723 v731 k0_hw276 => k0_hw276

def k0_chk277 (v723 : IVec S16 32) (v733 : IVec S16 32) : Prop :=
  (∀ a x, ((![v723, v733] : Fin 2 → IVec S16 32) a x).toNat < S8x2048.size a)
theorem k0_idx277_inb : ∀ (v723 : IVec S16 32) (v733 : IVec S16 32) (k0_hw277 : k0_chk277 v723 v733), ∀ a x, ((![v723, v733] : Fin 2 → IVec S16 32) a x).toNat < S8x2048.size a := fun v723 v733 k0_hw277 => k0_hw277

def k0_chk278 (v723 : IVec S16 32) (v735 : IVec S16 32) : Prop :=
  (∀ a x, ((![v723, v735] : Fin 2 → IVec S16 32) a x).toNat < S8x2048.size a)
theorem k0_idx278_inb : ∀ (v723 : IVec S16 32) (v735 : IVec S16 32) (k0_hw278 : k0_chk278 v723 v735), ∀ a x, ((![v723, v735] : Fin 2 → IVec S16 32) a x).toNat < S8x2048.size a := fun v723 v735 k0_hw278 => k0_hw278

def k0_chk279 (v723 : IVec S16 32) (v737 : IVec S16 32) : Prop :=
  (∀ a x, ((![v723, v737] : Fin 2 → IVec S16 32) a x).toNat < S8x2048.size a)
theorem k0_idx279_inb : ∀ (v723 : IVec S16 32) (v737 : IVec S16 32) (k0_hw279 : k0_chk279 v723 v737), ∀ a x, ((![v723, v737] : Fin 2 → IVec S16 32) a x).toNat < S8x2048.size a := fun v723 v737 k0_hw279 => k0_hw279

def k0_chk280 (v723 : IVec S16 32) (v739 : IVec S16 32) : Prop :=
  (∀ a x, ((![v723, v739] : Fin 2 → IVec S16 32) a x).toNat < S8x2048.size a)
theorem k0_idx280_inb : ∀ (v723 : IVec S16 32) (v739 : IVec S16 32) (k0_hw280 : k0_chk280 v723 v739), ∀ a x, ((![v723, v739] : Fin 2 → IVec S16 32) a x).toNat < S8x2048.size a := fun v723 v739 k0_hw280 => k0_hw280

def k0_chk281 (v723 : IVec S16 32) (v741 : IVec S16 32) : Prop :=
  (∀ a x, ((![v723, v741] : Fin 2 → IVec S16 32) a x).toNat < S8x2048.size a)
theorem k0_idx281_inb : ∀ (v723 : IVec S16 32) (v741 : IVec S16 32) (k0_hw281 : k0_chk281 v723 v741), ∀ a x, ((![v723, v741] : Fin 2 → IVec S16 32) a x).toNat < S8x2048.size a := fun v723 v741 k0_hw281 => k0_hw281

def k0_chk282 (v723 : IVec S16 32) (v743 : IVec S16 32) : Prop :=
  (∀ a x, ((![v723, v743] : Fin 2 → IVec S16 32) a x).toNat < S8x2048.size a)
theorem k0_idx282_inb : ∀ (v723 : IVec S16 32) (v743 : IVec S16 32) (k0_hw282 : k0_chk282 v723 v743), ∀ a x, ((![v723, v743] : Fin 2 → IVec S16 32) a x).toNat < S8x2048.size a := fun v723 v743 k0_hw282 => k0_hw282

def k0_chk283 (v723 : IVec S16 32) (v745 : IVec S16 32) : Prop :=
  (∀ a x, ((![v723, v745] : Fin 2 → IVec S16 32) a x).toNat < S8x2048.size a)
theorem k0_idx283_inb : ∀ (v723 : IVec S16 32) (v745 : IVec S16 32) (k0_hw283 : k0_chk283 v723 v745), ∀ a x, ((![v723, v745] : Fin 2 → IVec S16 32) a x).toNat < S8x2048.size a := fun v723 v745 k0_hw283 => k0_hw283

def k0_chk284 (v723 : IVec S16 32) (v747 : IVec S16 32) : Prop :=
  (∀ a x, ((![v723, v747] : Fin 2 → IVec S16 32) a x).toNat < S8x2048.size a)
theorem k0_idx284_inb : ∀ (v723 : IVec S16 32) (v747 : IVec S16 32) (k0_hw284 : k0_chk284 v723 v747), ∀ a x, ((![v723, v747] : Fin 2 → IVec S16 32) a x).toNat < S8x2048.size a := fun v723 v747 k0_hw284 => k0_hw284

def k0_chk285 (v723 : IVec S16 32) (v749 : IVec S16 32) : Prop :=
  (∀ a x, ((![v723, v749] : Fin 2 → IVec S16 32) a x).toNat < S8x2048.size a)
theorem k0_idx285_inb : ∀ (v723 : IVec S16 32) (v749 : IVec S16 32) (k0_hw285 : k0_chk285 v723 v749), ∀ a x, ((![v723, v749] : Fin 2 → IVec S16 32) a x).toNat < S8x2048.size a := fun v723 v749 k0_hw285 => k0_hw285

def k0_chk286 (v723 : IVec S16 32) (v751 : IVec S16 32) : Prop :=
  (∀ a x, ((![v723, v751] : Fin 2 → IVec S16 32) a x).toNat < S8x2048.size a)
theorem k0_idx286_inb : ∀ (v723 : IVec S16 32) (v751 : IVec S16 32) (k0_hw286 : k0_chk286 v723 v751), ∀ a x, ((![v723, v751] : Fin 2 → IVec S16 32) a x).toNat < S8x2048.size a := fun v723 v751 k0_hw286 => k0_hw286

def k0_chk287 (v723 : IVec S16 32) (v753 : IVec S16 32) : Prop :=
  (∀ a x, ((![v723, v753] : Fin 2 → IVec S16 32) a x).toNat < S8x2048.size a)
theorem k0_idx287_inb : ∀ (v723 : IVec S16 32) (v753 : IVec S16 32) (k0_hw287 : k0_chk287 v723 v753), ∀ a x, ((![v723, v753] : Fin 2 → IVec S16 32) a x).toNat < S8x2048.size a := fun v723 v753 k0_hw287 => k0_hw287

def k0_chk288 (v723 : IVec S16 32) (v755 : IVec S16 32) : Prop :=
  (∀ a x, ((![v723, v755] : Fin 2 → IVec S16 32) a x).toNat < S8x2048.size a)
theorem k0_idx288_inb : ∀ (v723 : IVec S16 32) (v755 : IVec S16 32) (k0_hw288 : k0_chk288 v723 v755), ∀ a x, ((![v723, v755] : Fin 2 → IVec S16 32) a x).toNat < S8x2048.size a := fun v723 v755 k0_hw288 => k0_hw288

def k0_chk289 (v756 : IVec S16 32) (v758 : IVec S16 32) : Prop :=
  (∀ a x, ((![v756, v758] : Fin 2 → IVec S16 32) a x).toNat < S8x2048.size a)
theorem k0_idx289_inb : ∀ (v756 : IVec S16 32) (v758 : IVec S16 32) (k0_hw289 : k0_chk289 v756 v758), ∀ a x, ((![v756, v758] : Fin 2 → IVec S16 32) a x).toNat < S8x2048.size a := fun v756 v758 k0_hw289 => k0_hw289

def k0_chk290 (v756 : IVec S16 32) (v760 : IVec S16 32) : Prop :=
  (∀ a x, ((![v756, v760] : Fin 2 → IVec S16 32) a x).toNat < S8x2048.size a)
theorem k0_idx290_inb : ∀ (v756 : IVec S16 32) (v760 : IVec S16 32) (k0_hw290 : k0_chk290 v756 v760), ∀ a x, ((![v756, v760] : Fin 2 → IVec S16 32) a x).toNat < S8x2048.size a := fun v756 v760 k0_hw290 => k0_hw290

def k0_chk291 (v756 : IVec S16 32) (v762 : IVec S16 32) : Prop :=
  (∀ a x, ((![v756, v762] : Fin 2 → IVec S16 32) a x).toNat < S8x2048.size a)
theorem k0_idx291_inb : ∀ (v756 : IVec S16 32) (v762 : IVec S16 32) (k0_hw291 : k0_chk291 v756 v762), ∀ a x, ((![v756, v762] : Fin 2 → IVec S16 32) a x).toNat < S8x2048.size a := fun v756 v762 k0_hw291 => k0_hw291

def k0_chk292 (v756 : IVec S16 32) (v764 : IVec S16 32) : Prop :=
  (∀ a x, ((![v756, v764] : Fin 2 → IVec S16 32) a x).toNat < S8x2048.size a)
theorem k0_idx292_inb : ∀ (v756 : IVec S16 32) (v764 : IVec S16 32) (k0_hw292 : k0_chk292 v756 v764), ∀ a x, ((![v756, v764] : Fin 2 → IVec S16 32) a x).toNat < S8x2048.size a := fun v756 v764 k0_hw292 => k0_hw292

def k0_chk293 (v756 : IVec S16 32) (v766 : IVec S16 32) : Prop :=
  (∀ a x, ((![v756, v766] : Fin 2 → IVec S16 32) a x).toNat < S8x2048.size a)
theorem k0_idx293_inb : ∀ (v756 : IVec S16 32) (v766 : IVec S16 32) (k0_hw293 : k0_chk293 v756 v766), ∀ a x, ((![v756, v766] : Fin 2 → IVec S16 32) a x).toNat < S8x2048.size a := fun v756 v766 k0_hw293 => k0_hw293

def k0_chk294 (v756 : IVec S16 32) (v768 : IVec S16 32) : Prop :=
  (∀ a x, ((![v756, v768] : Fin 2 → IVec S16 32) a x).toNat < S8x2048.size a)
theorem k0_idx294_inb : ∀ (v756 : IVec S16 32) (v768 : IVec S16 32) (k0_hw294 : k0_chk294 v756 v768), ∀ a x, ((![v756, v768] : Fin 2 → IVec S16 32) a x).toNat < S8x2048.size a := fun v756 v768 k0_hw294 => k0_hw294

def k0_chk295 (v756 : IVec S16 32) (v770 : IVec S16 32) : Prop :=
  (∀ a x, ((![v756, v770] : Fin 2 → IVec S16 32) a x).toNat < S8x2048.size a)
theorem k0_idx295_inb : ∀ (v756 : IVec S16 32) (v770 : IVec S16 32) (k0_hw295 : k0_chk295 v756 v770), ∀ a x, ((![v756, v770] : Fin 2 → IVec S16 32) a x).toNat < S8x2048.size a := fun v756 v770 k0_hw295 => k0_hw295

def k0_chk296 (v756 : IVec S16 32) (v772 : IVec S16 32) : Prop :=
  (∀ a x, ((![v756, v772] : Fin 2 → IVec S16 32) a x).toNat < S8x2048.size a)
theorem k0_idx296_inb : ∀ (v756 : IVec S16 32) (v772 : IVec S16 32) (k0_hw296 : k0_chk296 v756 v772), ∀ a x, ((![v756, v772] : Fin 2 → IVec S16 32) a x).toNat < S8x2048.size a := fun v756 v772 k0_hw296 => k0_hw296

def k0_chk297 (v756 : IVec S16 32) (v774 : IVec S16 32) : Prop :=
  (∀ a x, ((![v756, v774] : Fin 2 → IVec S16 32) a x).toNat < S8x2048.size a)
theorem k0_idx297_inb : ∀ (v756 : IVec S16 32) (v774 : IVec S16 32) (k0_hw297 : k0_chk297 v756 v774), ∀ a x, ((![v756, v774] : Fin 2 → IVec S16 32) a x).toNat < S8x2048.size a := fun v756 v774 k0_hw297 => k0_hw297

def k0_chk298 (v756 : IVec S16 32) (v776 : IVec S16 32) : Prop :=
  (∀ a x, ((![v756, v776] : Fin 2 → IVec S16 32) a x).toNat < S8x2048.size a)
theorem k0_idx298_inb : ∀ (v756 : IVec S16 32) (v776 : IVec S16 32) (k0_hw298 : k0_chk298 v756 v776), ∀ a x, ((![v756, v776] : Fin 2 → IVec S16 32) a x).toNat < S8x2048.size a := fun v756 v776 k0_hw298 => k0_hw298

def k0_chk299 (v756 : IVec S16 32) (v778 : IVec S16 32) : Prop :=
  (∀ a x, ((![v756, v778] : Fin 2 → IVec S16 32) a x).toNat < S8x2048.size a)
theorem k0_idx299_inb : ∀ (v756 : IVec S16 32) (v778 : IVec S16 32) (k0_hw299 : k0_chk299 v756 v778), ∀ a x, ((![v756, v778] : Fin 2 → IVec S16 32) a x).toNat < S8x2048.size a := fun v756 v778 k0_hw299 => k0_hw299

def k0_chk300 (v756 : IVec S16 32) (v780 : IVec S16 32) : Prop :=
  (∀ a x, ((![v756, v780] : Fin 2 → IVec S16 32) a x).toNat < S8x2048.size a)
theorem k0_idx300_inb : ∀ (v756 : IVec S16 32) (v780 : IVec S16 32) (k0_hw300 : k0_chk300 v756 v780), ∀ a x, ((![v756, v780] : Fin 2 → IVec S16 32) a x).toNat < S8x2048.size a := fun v756 v780 k0_hw300 => k0_hw300

def k0_chk301 (v756 : IVec S16 32) (v782 : IVec S16 32) : Prop :=
  (∀ a x, ((![v756, v782] : Fin 2 → IVec S16 32) a x).toNat < S8x2048.size a)
theorem k0_idx301_inb : ∀ (v756 : IVec S16 32) (v782 : IVec S16 32) (k0_hw301 : k0_chk301 v756 v782), ∀ a x, ((![v756, v782] : Fin 2 → IVec S16 32) a x).toNat < S8x2048.size a := fun v756 v782 k0_hw301 => k0_hw301

def k0_chk302 (v756 : IVec S16 32) (v784 : IVec S16 32) : Prop :=
  (∀ a x, ((![v756, v784] : Fin 2 → IVec S16 32) a x).toNat < S8x2048.size a)
theorem k0_idx302_inb : ∀ (v756 : IVec S16 32) (v784 : IVec S16 32) (k0_hw302 : k0_chk302 v756 v784), ∀ a x, ((![v756, v784] : Fin 2 → IVec S16 32) a x).toNat < S8x2048.size a := fun v756 v784 k0_hw302 => k0_hw302

def k0_chk303 (v756 : IVec S16 32) (v786 : IVec S16 32) : Prop :=
  (∀ a x, ((![v756, v786] : Fin 2 → IVec S16 32) a x).toNat < S8x2048.size a)
theorem k0_idx303_inb : ∀ (v756 : IVec S16 32) (v786 : IVec S16 32) (k0_hw303 : k0_chk303 v756 v786), ∀ a x, ((![v756, v786] : Fin 2 → IVec S16 32) a x).toNat < S8x2048.size a := fun v756 v786 k0_hw303 => k0_hw303

def k0_chk304 (v756 : IVec S16 32) (v788 : IVec S16 32) : Prop :=
  (∀ a x, ((![v756, v788] : Fin 2 → IVec S16 32) a x).toNat < S8x2048.size a)
theorem k0_idx304_inb : ∀ (v756 : IVec S16 32) (v788 : IVec S16 32) (k0_hw304 : k0_chk304 v756 v788), ∀ a x, ((![v756, v788] : Fin 2 → IVec S16 32) a x).toNat < S8x2048.size a := fun v756 v788 k0_hw304 => k0_hw304

def k0_chk305 (v789 : IVec S16 32) (v791 : IVec S16 32) : Prop :=
  (∀ a x, ((![v789, v791] : Fin 2 → IVec S16 32) a x).toNat < S8x2048.size a)
theorem k0_idx305_inb : ∀ (v789 : IVec S16 32) (v791 : IVec S16 32) (k0_hw305 : k0_chk305 v789 v791), ∀ a x, ((![v789, v791] : Fin 2 → IVec S16 32) a x).toNat < S8x2048.size a := fun v789 v791 k0_hw305 => k0_hw305

def k0_chk306 (v789 : IVec S16 32) (v793 : IVec S16 32) : Prop :=
  (∀ a x, ((![v789, v793] : Fin 2 → IVec S16 32) a x).toNat < S8x2048.size a)
theorem k0_idx306_inb : ∀ (v789 : IVec S16 32) (v793 : IVec S16 32) (k0_hw306 : k0_chk306 v789 v793), ∀ a x, ((![v789, v793] : Fin 2 → IVec S16 32) a x).toNat < S8x2048.size a := fun v789 v793 k0_hw306 => k0_hw306

def k0_chk307 (v789 : IVec S16 32) (v795 : IVec S16 32) : Prop :=
  (∀ a x, ((![v789, v795] : Fin 2 → IVec S16 32) a x).toNat < S8x2048.size a)
theorem k0_idx307_inb : ∀ (v789 : IVec S16 32) (v795 : IVec S16 32) (k0_hw307 : k0_chk307 v789 v795), ∀ a x, ((![v789, v795] : Fin 2 → IVec S16 32) a x).toNat < S8x2048.size a := fun v789 v795 k0_hw307 => k0_hw307

def k0_chk308 (v789 : IVec S16 32) (v797 : IVec S16 32) : Prop :=
  (∀ a x, ((![v789, v797] : Fin 2 → IVec S16 32) a x).toNat < S8x2048.size a)
theorem k0_idx308_inb : ∀ (v789 : IVec S16 32) (v797 : IVec S16 32) (k0_hw308 : k0_chk308 v789 v797), ∀ a x, ((![v789, v797] : Fin 2 → IVec S16 32) a x).toNat < S8x2048.size a := fun v789 v797 k0_hw308 => k0_hw308

def k0_chk309 (v789 : IVec S16 32) (v799 : IVec S16 32) : Prop :=
  (∀ a x, ((![v789, v799] : Fin 2 → IVec S16 32) a x).toNat < S8x2048.size a)
theorem k0_idx309_inb : ∀ (v789 : IVec S16 32) (v799 : IVec S16 32) (k0_hw309 : k0_chk309 v789 v799), ∀ a x, ((![v789, v799] : Fin 2 → IVec S16 32) a x).toNat < S8x2048.size a := fun v789 v799 k0_hw309 => k0_hw309

def k0_chk310 (v789 : IVec S16 32) (v801 : IVec S16 32) : Prop :=
  (∀ a x, ((![v789, v801] : Fin 2 → IVec S16 32) a x).toNat < S8x2048.size a)
theorem k0_idx310_inb : ∀ (v789 : IVec S16 32) (v801 : IVec S16 32) (k0_hw310 : k0_chk310 v789 v801), ∀ a x, ((![v789, v801] : Fin 2 → IVec S16 32) a x).toNat < S8x2048.size a := fun v789 v801 k0_hw310 => k0_hw310

def k0_chk311 (v789 : IVec S16 32) (v803 : IVec S16 32) : Prop :=
  (∀ a x, ((![v789, v803] : Fin 2 → IVec S16 32) a x).toNat < S8x2048.size a)
theorem k0_idx311_inb : ∀ (v789 : IVec S16 32) (v803 : IVec S16 32) (k0_hw311 : k0_chk311 v789 v803), ∀ a x, ((![v789, v803] : Fin 2 → IVec S16 32) a x).toNat < S8x2048.size a := fun v789 v803 k0_hw311 => k0_hw311

def k0_chk312 (v789 : IVec S16 32) (v805 : IVec S16 32) : Prop :=
  (∀ a x, ((![v789, v805] : Fin 2 → IVec S16 32) a x).toNat < S8x2048.size a)
theorem k0_idx312_inb : ∀ (v789 : IVec S16 32) (v805 : IVec S16 32) (k0_hw312 : k0_chk312 v789 v805), ∀ a x, ((![v789, v805] : Fin 2 → IVec S16 32) a x).toNat < S8x2048.size a := fun v789 v805 k0_hw312 => k0_hw312

def k0_chk313 (v789 : IVec S16 32) (v807 : IVec S16 32) : Prop :=
  (∀ a x, ((![v789, v807] : Fin 2 → IVec S16 32) a x).toNat < S8x2048.size a)
theorem k0_idx313_inb : ∀ (v789 : IVec S16 32) (v807 : IVec S16 32) (k0_hw313 : k0_chk313 v789 v807), ∀ a x, ((![v789, v807] : Fin 2 → IVec S16 32) a x).toNat < S8x2048.size a := fun v789 v807 k0_hw313 => k0_hw313

def k0_chk314 (v789 : IVec S16 32) (v809 : IVec S16 32) : Prop :=
  (∀ a x, ((![v789, v809] : Fin 2 → IVec S16 32) a x).toNat < S8x2048.size a)
theorem k0_idx314_inb : ∀ (v789 : IVec S16 32) (v809 : IVec S16 32) (k0_hw314 : k0_chk314 v789 v809), ∀ a x, ((![v789, v809] : Fin 2 → IVec S16 32) a x).toNat < S8x2048.size a := fun v789 v809 k0_hw314 => k0_hw314

def k0_chk315 (v789 : IVec S16 32) (v811 : IVec S16 32) : Prop :=
  (∀ a x, ((![v789, v811] : Fin 2 → IVec S16 32) a x).toNat < S8x2048.size a)
theorem k0_idx315_inb : ∀ (v789 : IVec S16 32) (v811 : IVec S16 32) (k0_hw315 : k0_chk315 v789 v811), ∀ a x, ((![v789, v811] : Fin 2 → IVec S16 32) a x).toNat < S8x2048.size a := fun v789 v811 k0_hw315 => k0_hw315

def k0_chk316 (v789 : IVec S16 32) (v813 : IVec S16 32) : Prop :=
  (∀ a x, ((![v789, v813] : Fin 2 → IVec S16 32) a x).toNat < S8x2048.size a)
theorem k0_idx316_inb : ∀ (v789 : IVec S16 32) (v813 : IVec S16 32) (k0_hw316 : k0_chk316 v789 v813), ∀ a x, ((![v789, v813] : Fin 2 → IVec S16 32) a x).toNat < S8x2048.size a := fun v789 v813 k0_hw316 => k0_hw316

def k0_chk317 (v789 : IVec S16 32) (v815 : IVec S16 32) : Prop :=
  (∀ a x, ((![v789, v815] : Fin 2 → IVec S16 32) a x).toNat < S8x2048.size a)
theorem k0_idx317_inb : ∀ (v789 : IVec S16 32) (v815 : IVec S16 32) (k0_hw317 : k0_chk317 v789 v815), ∀ a x, ((![v789, v815] : Fin 2 → IVec S16 32) a x).toNat < S8x2048.size a := fun v789 v815 k0_hw317 => k0_hw317

def k0_chk318 (v789 : IVec S16 32) (v817 : IVec S16 32) : Prop :=
  (∀ a x, ((![v789, v817] : Fin 2 → IVec S16 32) a x).toNat < S8x2048.size a)
theorem k0_idx318_inb : ∀ (v789 : IVec S16 32) (v817 : IVec S16 32) (k0_hw318 : k0_chk318 v789 v817), ∀ a x, ((![v789, v817] : Fin 2 → IVec S16 32) a x).toNat < S8x2048.size a := fun v789 v817 k0_hw318 => k0_hw318

def k0_chk319 (v789 : IVec S16 32) (v819 : IVec S16 32) : Prop :=
  (∀ a x, ((![v789, v819] : Fin 2 → IVec S16 32) a x).toNat < S8x2048.size a)
theorem k0_idx319_inb : ∀ (v789 : IVec S16 32) (v819 : IVec S16 32) (k0_hw319 : k0_chk319 v789 v819), ∀ a x, ((![v789, v819] : Fin 2 → IVec S16 32) a x).toNat < S8x2048.size a := fun v789 v819 k0_hw319 => k0_hw319

def k0_chk320 (v789 : IVec S16 32) (v821 : IVec S16 32) : Prop :=
  (∀ a x, ((![v789, v821] : Fin 2 → IVec S16 32) a x).toNat < S8x2048.size a)
theorem k0_idx320_inb : ∀ (v789 : IVec S16 32) (v821 : IVec S16 32) (k0_hw320 : k0_chk320 v789 v821), ∀ a x, ((![v789, v821] : Fin 2 → IVec S16 32) a x).toNat < S8x2048.size a := fun v789 v821 k0_hw320 => k0_hw320

def k0_chk321 (v822 : IVec S16 32) (v824 : IVec S16 32) : Prop :=
  (∀ a x, ((![v822, v824] : Fin 2 → IVec S16 32) a x).toNat < S8x2048.size a)
theorem k0_idx321_inb : ∀ (v822 : IVec S16 32) (v824 : IVec S16 32) (k0_hw321 : k0_chk321 v822 v824), ∀ a x, ((![v822, v824] : Fin 2 → IVec S16 32) a x).toNat < S8x2048.size a := fun v822 v824 k0_hw321 => k0_hw321

def k0_chk322 (v822 : IVec S16 32) (v826 : IVec S16 32) : Prop :=
  (∀ a x, ((![v822, v826] : Fin 2 → IVec S16 32) a x).toNat < S8x2048.size a)
theorem k0_idx322_inb : ∀ (v822 : IVec S16 32) (v826 : IVec S16 32) (k0_hw322 : k0_chk322 v822 v826), ∀ a x, ((![v822, v826] : Fin 2 → IVec S16 32) a x).toNat < S8x2048.size a := fun v822 v826 k0_hw322 => k0_hw322

def k0_chk323 (v822 : IVec S16 32) (v828 : IVec S16 32) : Prop :=
  (∀ a x, ((![v822, v828] : Fin 2 → IVec S16 32) a x).toNat < S8x2048.size a)
theorem k0_idx323_inb : ∀ (v822 : IVec S16 32) (v828 : IVec S16 32) (k0_hw323 : k0_chk323 v822 v828), ∀ a x, ((![v822, v828] : Fin 2 → IVec S16 32) a x).toNat < S8x2048.size a := fun v822 v828 k0_hw323 => k0_hw323

def k0_chk324 (v822 : IVec S16 32) (v830 : IVec S16 32) : Prop :=
  (∀ a x, ((![v822, v830] : Fin 2 → IVec S16 32) a x).toNat < S8x2048.size a)
theorem k0_idx324_inb : ∀ (v822 : IVec S16 32) (v830 : IVec S16 32) (k0_hw324 : k0_chk324 v822 v830), ∀ a x, ((![v822, v830] : Fin 2 → IVec S16 32) a x).toNat < S8x2048.size a := fun v822 v830 k0_hw324 => k0_hw324

def k0_chk325 (v822 : IVec S16 32) (v832 : IVec S16 32) : Prop :=
  (∀ a x, ((![v822, v832] : Fin 2 → IVec S16 32) a x).toNat < S8x2048.size a)
theorem k0_idx325_inb : ∀ (v822 : IVec S16 32) (v832 : IVec S16 32) (k0_hw325 : k0_chk325 v822 v832), ∀ a x, ((![v822, v832] : Fin 2 → IVec S16 32) a x).toNat < S8x2048.size a := fun v822 v832 k0_hw325 => k0_hw325

def k0_chk326 (v822 : IVec S16 32) (v834 : IVec S16 32) : Prop :=
  (∀ a x, ((![v822, v834] : Fin 2 → IVec S16 32) a x).toNat < S8x2048.size a)
theorem k0_idx326_inb : ∀ (v822 : IVec S16 32) (v834 : IVec S16 32) (k0_hw326 : k0_chk326 v822 v834), ∀ a x, ((![v822, v834] : Fin 2 → IVec S16 32) a x).toNat < S8x2048.size a := fun v822 v834 k0_hw326 => k0_hw326

def k0_chk327 (v822 : IVec S16 32) (v836 : IVec S16 32) : Prop :=
  (∀ a x, ((![v822, v836] : Fin 2 → IVec S16 32) a x).toNat < S8x2048.size a)
theorem k0_idx327_inb : ∀ (v822 : IVec S16 32) (v836 : IVec S16 32) (k0_hw327 : k0_chk327 v822 v836), ∀ a x, ((![v822, v836] : Fin 2 → IVec S16 32) a x).toNat < S8x2048.size a := fun v822 v836 k0_hw327 => k0_hw327

def k0_chk328 (v822 : IVec S16 32) (v838 : IVec S16 32) : Prop :=
  (∀ a x, ((![v822, v838] : Fin 2 → IVec S16 32) a x).toNat < S8x2048.size a)
theorem k0_idx328_inb : ∀ (v822 : IVec S16 32) (v838 : IVec S16 32) (k0_hw328 : k0_chk328 v822 v838), ∀ a x, ((![v822, v838] : Fin 2 → IVec S16 32) a x).toNat < S8x2048.size a := fun v822 v838 k0_hw328 => k0_hw328

def k0_chk329 (v822 : IVec S16 32) (v840 : IVec S16 32) : Prop :=
  (∀ a x, ((![v822, v840] : Fin 2 → IVec S16 32) a x).toNat < S8x2048.size a)
theorem k0_idx329_inb : ∀ (v822 : IVec S16 32) (v840 : IVec S16 32) (k0_hw329 : k0_chk329 v822 v840), ∀ a x, ((![v822, v840] : Fin 2 → IVec S16 32) a x).toNat < S8x2048.size a := fun v822 v840 k0_hw329 => k0_hw329

def k0_chk330 (v822 : IVec S16 32) (v842 : IVec S16 32) : Prop :=
  (∀ a x, ((![v822, v842] : Fin 2 → IVec S16 32) a x).toNat < S8x2048.size a)
theorem k0_idx330_inb : ∀ (v822 : IVec S16 32) (v842 : IVec S16 32) (k0_hw330 : k0_chk330 v822 v842), ∀ a x, ((![v822, v842] : Fin 2 → IVec S16 32) a x).toNat < S8x2048.size a := fun v822 v842 k0_hw330 => k0_hw330

def k0_chk331 (v822 : IVec S16 32) (v844 : IVec S16 32) : Prop :=
  (∀ a x, ((![v822, v844] : Fin 2 → IVec S16 32) a x).toNat < S8x2048.size a)
theorem k0_idx331_inb : ∀ (v822 : IVec S16 32) (v844 : IVec S16 32) (k0_hw331 : k0_chk331 v822 v844), ∀ a x, ((![v822, v844] : Fin 2 → IVec S16 32) a x).toNat < S8x2048.size a := fun v822 v844 k0_hw331 => k0_hw331

def k0_chk332 (v822 : IVec S16 32) (v846 : IVec S16 32) : Prop :=
  (∀ a x, ((![v822, v846] : Fin 2 → IVec S16 32) a x).toNat < S8x2048.size a)
theorem k0_idx332_inb : ∀ (v822 : IVec S16 32) (v846 : IVec S16 32) (k0_hw332 : k0_chk332 v822 v846), ∀ a x, ((![v822, v846] : Fin 2 → IVec S16 32) a x).toNat < S8x2048.size a := fun v822 v846 k0_hw332 => k0_hw332

def k0_chk333 (v822 : IVec S16 32) (v848 : IVec S16 32) : Prop :=
  (∀ a x, ((![v822, v848] : Fin 2 → IVec S16 32) a x).toNat < S8x2048.size a)
theorem k0_idx333_inb : ∀ (v822 : IVec S16 32) (v848 : IVec S16 32) (k0_hw333 : k0_chk333 v822 v848), ∀ a x, ((![v822, v848] : Fin 2 → IVec S16 32) a x).toNat < S8x2048.size a := fun v822 v848 k0_hw333 => k0_hw333

def k0_chk334 (v822 : IVec S16 32) (v850 : IVec S16 32) : Prop :=
  (∀ a x, ((![v822, v850] : Fin 2 → IVec S16 32) a x).toNat < S8x2048.size a)
theorem k0_idx334_inb : ∀ (v822 : IVec S16 32) (v850 : IVec S16 32) (k0_hw334 : k0_chk334 v822 v850), ∀ a x, ((![v822, v850] : Fin 2 → IVec S16 32) a x).toNat < S8x2048.size a := fun v822 v850 k0_hw334 => k0_hw334

def k0_chk335 (v822 : IVec S16 32) (v852 : IVec S16 32) : Prop :=
  (∀ a x, ((![v822, v852] : Fin 2 → IVec S16 32) a x).toNat < S8x2048.size a)
theorem k0_idx335_inb : ∀ (v822 : IVec S16 32) (v852 : IVec S16 32) (k0_hw335 : k0_chk335 v822 v852), ∀ a x, ((![v822, v852] : Fin 2 → IVec S16 32) a x).toNat < S8x2048.size a := fun v822 v852 k0_hw335 => k0_hw335

def k0_chk336 (v822 : IVec S16 32) (v854 : IVec S16 32) : Prop :=
  (∀ a x, ((![v822, v854] : Fin 2 → IVec S16 32) a x).toNat < S8x2048.size a)
theorem k0_idx336_inb : ∀ (v822 : IVec S16 32) (v854 : IVec S16 32) (k0_hw336 : k0_chk336 v822 v854), ∀ a x, ((![v822, v854] : Fin 2 → IVec S16 32) a x).toNat < S8x2048.size a := fun v822 v854 k0_hw336 => k0_hw336

def k0_chk337 (v855 : IVec S16 32) (v857 : IVec S16 32) : Prop :=
  (∀ a x, ((![v855, v857] : Fin 2 → IVec S16 32) a x).toNat < S8x2048.size a)
theorem k0_idx337_inb : ∀ (v855 : IVec S16 32) (v857 : IVec S16 32) (k0_hw337 : k0_chk337 v855 v857), ∀ a x, ((![v855, v857] : Fin 2 → IVec S16 32) a x).toNat < S8x2048.size a := fun v855 v857 k0_hw337 => k0_hw337

def k0_chk338 (v855 : IVec S16 32) (v859 : IVec S16 32) : Prop :=
  (∀ a x, ((![v855, v859] : Fin 2 → IVec S16 32) a x).toNat < S8x2048.size a)
theorem k0_idx338_inb : ∀ (v855 : IVec S16 32) (v859 : IVec S16 32) (k0_hw338 : k0_chk338 v855 v859), ∀ a x, ((![v855, v859] : Fin 2 → IVec S16 32) a x).toNat < S8x2048.size a := fun v855 v859 k0_hw338 => k0_hw338

def k0_chk339 (v855 : IVec S16 32) (v861 : IVec S16 32) : Prop :=
  (∀ a x, ((![v855, v861] : Fin 2 → IVec S16 32) a x).toNat < S8x2048.size a)
theorem k0_idx339_inb : ∀ (v855 : IVec S16 32) (v861 : IVec S16 32) (k0_hw339 : k0_chk339 v855 v861), ∀ a x, ((![v855, v861] : Fin 2 → IVec S16 32) a x).toNat < S8x2048.size a := fun v855 v861 k0_hw339 => k0_hw339

def k0_chk340 (v855 : IVec S16 32) (v863 : IVec S16 32) : Prop :=
  (∀ a x, ((![v855, v863] : Fin 2 → IVec S16 32) a x).toNat < S8x2048.size a)
theorem k0_idx340_inb : ∀ (v855 : IVec S16 32) (v863 : IVec S16 32) (k0_hw340 : k0_chk340 v855 v863), ∀ a x, ((![v855, v863] : Fin 2 → IVec S16 32) a x).toNat < S8x2048.size a := fun v855 v863 k0_hw340 => k0_hw340

def k0_chk341 (v855 : IVec S16 32) (v865 : IVec S16 32) : Prop :=
  (∀ a x, ((![v855, v865] : Fin 2 → IVec S16 32) a x).toNat < S8x2048.size a)
theorem k0_idx341_inb : ∀ (v855 : IVec S16 32) (v865 : IVec S16 32) (k0_hw341 : k0_chk341 v855 v865), ∀ a x, ((![v855, v865] : Fin 2 → IVec S16 32) a x).toNat < S8x2048.size a := fun v855 v865 k0_hw341 => k0_hw341

def k0_chk342 (v855 : IVec S16 32) (v867 : IVec S16 32) : Prop :=
  (∀ a x, ((![v855, v867] : Fin 2 → IVec S16 32) a x).toNat < S8x2048.size a)
theorem k0_idx342_inb : ∀ (v855 : IVec S16 32) (v867 : IVec S16 32) (k0_hw342 : k0_chk342 v855 v867), ∀ a x, ((![v855, v867] : Fin 2 → IVec S16 32) a x).toNat < S8x2048.size a := fun v855 v867 k0_hw342 => k0_hw342

def k0_chk343 (v855 : IVec S16 32) (v869 : IVec S16 32) : Prop :=
  (∀ a x, ((![v855, v869] : Fin 2 → IVec S16 32) a x).toNat < S8x2048.size a)
theorem k0_idx343_inb : ∀ (v855 : IVec S16 32) (v869 : IVec S16 32) (k0_hw343 : k0_chk343 v855 v869), ∀ a x, ((![v855, v869] : Fin 2 → IVec S16 32) a x).toNat < S8x2048.size a := fun v855 v869 k0_hw343 => k0_hw343

def k0_chk344 (v855 : IVec S16 32) (v871 : IVec S16 32) : Prop :=
  (∀ a x, ((![v855, v871] : Fin 2 → IVec S16 32) a x).toNat < S8x2048.size a)
theorem k0_idx344_inb : ∀ (v855 : IVec S16 32) (v871 : IVec S16 32) (k0_hw344 : k0_chk344 v855 v871), ∀ a x, ((![v855, v871] : Fin 2 → IVec S16 32) a x).toNat < S8x2048.size a := fun v855 v871 k0_hw344 => k0_hw344

def k0_chk345 (v855 : IVec S16 32) (v873 : IVec S16 32) : Prop :=
  (∀ a x, ((![v855, v873] : Fin 2 → IVec S16 32) a x).toNat < S8x2048.size a)
theorem k0_idx345_inb : ∀ (v855 : IVec S16 32) (v873 : IVec S16 32) (k0_hw345 : k0_chk345 v855 v873), ∀ a x, ((![v855, v873] : Fin 2 → IVec S16 32) a x).toNat < S8x2048.size a := fun v855 v873 k0_hw345 => k0_hw345

def k0_chk346 (v855 : IVec S16 32) (v875 : IVec S16 32) : Prop :=
  (∀ a x, ((![v855, v875] : Fin 2 → IVec S16 32) a x).toNat < S8x2048.size a)
theorem k0_idx346_inb : ∀ (v855 : IVec S16 32) (v875 : IVec S16 32) (k0_hw346 : k0_chk346 v855 v875), ∀ a x, ((![v855, v875] : Fin 2 → IVec S16 32) a x).toNat < S8x2048.size a := fun v855 v875 k0_hw346 => k0_hw346

def k0_chk347 (v855 : IVec S16 32) (v877 : IVec S16 32) : Prop :=
  (∀ a x, ((![v855, v877] : Fin 2 → IVec S16 32) a x).toNat < S8x2048.size a)
theorem k0_idx347_inb : ∀ (v855 : IVec S16 32) (v877 : IVec S16 32) (k0_hw347 : k0_chk347 v855 v877), ∀ a x, ((![v855, v877] : Fin 2 → IVec S16 32) a x).toNat < S8x2048.size a := fun v855 v877 k0_hw347 => k0_hw347

def k0_chk348 (v855 : IVec S16 32) (v879 : IVec S16 32) : Prop :=
  (∀ a x, ((![v855, v879] : Fin 2 → IVec S16 32) a x).toNat < S8x2048.size a)
theorem k0_idx348_inb : ∀ (v855 : IVec S16 32) (v879 : IVec S16 32) (k0_hw348 : k0_chk348 v855 v879), ∀ a x, ((![v855, v879] : Fin 2 → IVec S16 32) a x).toNat < S8x2048.size a := fun v855 v879 k0_hw348 => k0_hw348

def k0_chk349 (v855 : IVec S16 32) (v881 : IVec S16 32) : Prop :=
  (∀ a x, ((![v855, v881] : Fin 2 → IVec S16 32) a x).toNat < S8x2048.size a)
theorem k0_idx349_inb : ∀ (v855 : IVec S16 32) (v881 : IVec S16 32) (k0_hw349 : k0_chk349 v855 v881), ∀ a x, ((![v855, v881] : Fin 2 → IVec S16 32) a x).toNat < S8x2048.size a := fun v855 v881 k0_hw349 => k0_hw349

def k0_chk350 (v855 : IVec S16 32) (v883 : IVec S16 32) : Prop :=
  (∀ a x, ((![v855, v883] : Fin 2 → IVec S16 32) a x).toNat < S8x2048.size a)
theorem k0_idx350_inb : ∀ (v855 : IVec S16 32) (v883 : IVec S16 32) (k0_hw350 : k0_chk350 v855 v883), ∀ a x, ((![v855, v883] : Fin 2 → IVec S16 32) a x).toNat < S8x2048.size a := fun v855 v883 k0_hw350 => k0_hw350

def k0_chk351 (v855 : IVec S16 32) (v885 : IVec S16 32) : Prop :=
  (∀ a x, ((![v855, v885] : Fin 2 → IVec S16 32) a x).toNat < S8x2048.size a)
theorem k0_idx351_inb : ∀ (v855 : IVec S16 32) (v885 : IVec S16 32) (k0_hw351 : k0_chk351 v855 v885), ∀ a x, ((![v855, v885] : Fin 2 → IVec S16 32) a x).toNat < S8x2048.size a := fun v855 v885 k0_hw351 => k0_hw351

def k0_chk352 (v855 : IVec S16 32) (v887 : IVec S16 32) : Prop :=
  (∀ a x, ((![v855, v887] : Fin 2 → IVec S16 32) a x).toNat < S8x2048.size a)
theorem k0_idx352_inb : ∀ (v855 : IVec S16 32) (v887 : IVec S16 32) (k0_hw352 : k0_chk352 v855 v887), ∀ a x, ((![v855, v887] : Fin 2 → IVec S16 32) a x).toNat < S8x2048.size a := fun v855 v887 k0_hw352 => k0_hw352

def k0_chk353 (v888 : IVec S16 32) (v890 : IVec S16 32) : Prop :=
  (∀ a x, ((![v888, v890] : Fin 2 → IVec S16 32) a x).toNat < S8x2048.size a)
theorem k0_idx353_inb : ∀ (v888 : IVec S16 32) (v890 : IVec S16 32) (k0_hw353 : k0_chk353 v888 v890), ∀ a x, ((![v888, v890] : Fin 2 → IVec S16 32) a x).toNat < S8x2048.size a := fun v888 v890 k0_hw353 => k0_hw353

def k0_chk354 (v888 : IVec S16 32) (v892 : IVec S16 32) : Prop :=
  (∀ a x, ((![v888, v892] : Fin 2 → IVec S16 32) a x).toNat < S8x2048.size a)
theorem k0_idx354_inb : ∀ (v888 : IVec S16 32) (v892 : IVec S16 32) (k0_hw354 : k0_chk354 v888 v892), ∀ a x, ((![v888, v892] : Fin 2 → IVec S16 32) a x).toNat < S8x2048.size a := fun v888 v892 k0_hw354 => k0_hw354

def k0_chk355 (v888 : IVec S16 32) (v894 : IVec S16 32) : Prop :=
  (∀ a x, ((![v888, v894] : Fin 2 → IVec S16 32) a x).toNat < S8x2048.size a)
theorem k0_idx355_inb : ∀ (v888 : IVec S16 32) (v894 : IVec S16 32) (k0_hw355 : k0_chk355 v888 v894), ∀ a x, ((![v888, v894] : Fin 2 → IVec S16 32) a x).toNat < S8x2048.size a := fun v888 v894 k0_hw355 => k0_hw355

def k0_chk356 (v888 : IVec S16 32) (v896 : IVec S16 32) : Prop :=
  (∀ a x, ((![v888, v896] : Fin 2 → IVec S16 32) a x).toNat < S8x2048.size a)
theorem k0_idx356_inb : ∀ (v888 : IVec S16 32) (v896 : IVec S16 32) (k0_hw356 : k0_chk356 v888 v896), ∀ a x, ((![v888, v896] : Fin 2 → IVec S16 32) a x).toNat < S8x2048.size a := fun v888 v896 k0_hw356 => k0_hw356

def k0_chk357 (v888 : IVec S16 32) (v898 : IVec S16 32) : Prop :=
  (∀ a x, ((![v888, v898] : Fin 2 → IVec S16 32) a x).toNat < S8x2048.size a)
theorem k0_idx357_inb : ∀ (v888 : IVec S16 32) (v898 : IVec S16 32) (k0_hw357 : k0_chk357 v888 v898), ∀ a x, ((![v888, v898] : Fin 2 → IVec S16 32) a x).toNat < S8x2048.size a := fun v888 v898 k0_hw357 => k0_hw357

def k0_chk358 (v888 : IVec S16 32) (v900 : IVec S16 32) : Prop :=
  (∀ a x, ((![v888, v900] : Fin 2 → IVec S16 32) a x).toNat < S8x2048.size a)
theorem k0_idx358_inb : ∀ (v888 : IVec S16 32) (v900 : IVec S16 32) (k0_hw358 : k0_chk358 v888 v900), ∀ a x, ((![v888, v900] : Fin 2 → IVec S16 32) a x).toNat < S8x2048.size a := fun v888 v900 k0_hw358 => k0_hw358

def k0_chk359 (v888 : IVec S16 32) (v902 : IVec S16 32) : Prop :=
  (∀ a x, ((![v888, v902] : Fin 2 → IVec S16 32) a x).toNat < S8x2048.size a)
theorem k0_idx359_inb : ∀ (v888 : IVec S16 32) (v902 : IVec S16 32) (k0_hw359 : k0_chk359 v888 v902), ∀ a x, ((![v888, v902] : Fin 2 → IVec S16 32) a x).toNat < S8x2048.size a := fun v888 v902 k0_hw359 => k0_hw359

def k0_chk360 (v888 : IVec S16 32) (v904 : IVec S16 32) : Prop :=
  (∀ a x, ((![v888, v904] : Fin 2 → IVec S16 32) a x).toNat < S8x2048.size a)
theorem k0_idx360_inb : ∀ (v888 : IVec S16 32) (v904 : IVec S16 32) (k0_hw360 : k0_chk360 v888 v904), ∀ a x, ((![v888, v904] : Fin 2 → IVec S16 32) a x).toNat < S8x2048.size a := fun v888 v904 k0_hw360 => k0_hw360

def k0_chk361 (v888 : IVec S16 32) (v906 : IVec S16 32) : Prop :=
  (∀ a x, ((![v888, v906] : Fin 2 → IVec S16 32) a x).toNat < S8x2048.size a)
theorem k0_idx361_inb : ∀ (v888 : IVec S16 32) (v906 : IVec S16 32) (k0_hw361 : k0_chk361 v888 v906), ∀ a x, ((![v888, v906] : Fin 2 → IVec S16 32) a x).toNat < S8x2048.size a := fun v888 v906 k0_hw361 => k0_hw361

def k0_chk362 (v888 : IVec S16 32) (v908 : IVec S16 32) : Prop :=
  (∀ a x, ((![v888, v908] : Fin 2 → IVec S16 32) a x).toNat < S8x2048.size a)
theorem k0_idx362_inb : ∀ (v888 : IVec S16 32) (v908 : IVec S16 32) (k0_hw362 : k0_chk362 v888 v908), ∀ a x, ((![v888, v908] : Fin 2 → IVec S16 32) a x).toNat < S8x2048.size a := fun v888 v908 k0_hw362 => k0_hw362

def k0_chk363 (v888 : IVec S16 32) (v910 : IVec S16 32) : Prop :=
  (∀ a x, ((![v888, v910] : Fin 2 → IVec S16 32) a x).toNat < S8x2048.size a)
theorem k0_idx363_inb : ∀ (v888 : IVec S16 32) (v910 : IVec S16 32) (k0_hw363 : k0_chk363 v888 v910), ∀ a x, ((![v888, v910] : Fin 2 → IVec S16 32) a x).toNat < S8x2048.size a := fun v888 v910 k0_hw363 => k0_hw363

def k0_chk364 (v888 : IVec S16 32) (v912 : IVec S16 32) : Prop :=
  (∀ a x, ((![v888, v912] : Fin 2 → IVec S16 32) a x).toNat < S8x2048.size a)
theorem k0_idx364_inb : ∀ (v888 : IVec S16 32) (v912 : IVec S16 32) (k0_hw364 : k0_chk364 v888 v912), ∀ a x, ((![v888, v912] : Fin 2 → IVec S16 32) a x).toNat < S8x2048.size a := fun v888 v912 k0_hw364 => k0_hw364

def k0_chk365 (v888 : IVec S16 32) (v914 : IVec S16 32) : Prop :=
  (∀ a x, ((![v888, v914] : Fin 2 → IVec S16 32) a x).toNat < S8x2048.size a)
theorem k0_idx365_inb : ∀ (v888 : IVec S16 32) (v914 : IVec S16 32) (k0_hw365 : k0_chk365 v888 v914), ∀ a x, ((![v888, v914] : Fin 2 → IVec S16 32) a x).toNat < S8x2048.size a := fun v888 v914 k0_hw365 => k0_hw365

def k0_chk366 (v888 : IVec S16 32) (v916 : IVec S16 32) : Prop :=
  (∀ a x, ((![v888, v916] : Fin 2 → IVec S16 32) a x).toNat < S8x2048.size a)
theorem k0_idx366_inb : ∀ (v888 : IVec S16 32) (v916 : IVec S16 32) (k0_hw366 : k0_chk366 v888 v916), ∀ a x, ((![v888, v916] : Fin 2 → IVec S16 32) a x).toNat < S8x2048.size a := fun v888 v916 k0_hw366 => k0_hw366

def k0_chk367 (v888 : IVec S16 32) (v918 : IVec S16 32) : Prop :=
  (∀ a x, ((![v888, v918] : Fin 2 → IVec S16 32) a x).toNat < S8x2048.size a)
theorem k0_idx367_inb : ∀ (v888 : IVec S16 32) (v918 : IVec S16 32) (k0_hw367 : k0_chk367 v888 v918), ∀ a x, ((![v888, v918] : Fin 2 → IVec S16 32) a x).toNat < S8x2048.size a := fun v888 v918 k0_hw367 => k0_hw367

def k0_chk368 (v888 : IVec S16 32) (v920 : IVec S16 32) : Prop :=
  (∀ a x, ((![v888, v920] : Fin 2 → IVec S16 32) a x).toNat < S8x2048.size a)
theorem k0_idx368_inb : ∀ (v888 : IVec S16 32) (v920 : IVec S16 32) (k0_hw368 : k0_chk368 v888 v920), ∀ a x, ((![v888, v920] : Fin 2 → IVec S16 32) a x).toNat < S8x2048.size a := fun v888 v920 k0_hw368 => k0_hw368

def k0_chk369 (v921 : IVec S16 32) (v923 : IVec S16 32) : Prop :=
  (∀ a x, ((![v921, v923] : Fin 2 → IVec S16 32) a x).toNat < S8x2048.size a)
theorem k0_idx369_inb : ∀ (v921 : IVec S16 32) (v923 : IVec S16 32) (k0_hw369 : k0_chk369 v921 v923), ∀ a x, ((![v921, v923] : Fin 2 → IVec S16 32) a x).toNat < S8x2048.size a := fun v921 v923 k0_hw369 => k0_hw369

def k0_chk370 (v921 : IVec S16 32) (v925 : IVec S16 32) : Prop :=
  (∀ a x, ((![v921, v925] : Fin 2 → IVec S16 32) a x).toNat < S8x2048.size a)
theorem k0_idx370_inb : ∀ (v921 : IVec S16 32) (v925 : IVec S16 32) (k0_hw370 : k0_chk370 v921 v925), ∀ a x, ((![v921, v925] : Fin 2 → IVec S16 32) a x).toNat < S8x2048.size a := fun v921 v925 k0_hw370 => k0_hw370

def k0_chk371 (v921 : IVec S16 32) (v927 : IVec S16 32) : Prop :=
  (∀ a x, ((![v921, v927] : Fin 2 → IVec S16 32) a x).toNat < S8x2048.size a)
theorem k0_idx371_inb : ∀ (v921 : IVec S16 32) (v927 : IVec S16 32) (k0_hw371 : k0_chk371 v921 v927), ∀ a x, ((![v921, v927] : Fin 2 → IVec S16 32) a x).toNat < S8x2048.size a := fun v921 v927 k0_hw371 => k0_hw371

def k0_chk372 (v921 : IVec S16 32) (v929 : IVec S16 32) : Prop :=
  (∀ a x, ((![v921, v929] : Fin 2 → IVec S16 32) a x).toNat < S8x2048.size a)
theorem k0_idx372_inb : ∀ (v921 : IVec S16 32) (v929 : IVec S16 32) (k0_hw372 : k0_chk372 v921 v929), ∀ a x, ((![v921, v929] : Fin 2 → IVec S16 32) a x).toNat < S8x2048.size a := fun v921 v929 k0_hw372 => k0_hw372

def k0_chk373 (v921 : IVec S16 32) (v931 : IVec S16 32) : Prop :=
  (∀ a x, ((![v921, v931] : Fin 2 → IVec S16 32) a x).toNat < S8x2048.size a)
theorem k0_idx373_inb : ∀ (v921 : IVec S16 32) (v931 : IVec S16 32) (k0_hw373 : k0_chk373 v921 v931), ∀ a x, ((![v921, v931] : Fin 2 → IVec S16 32) a x).toNat < S8x2048.size a := fun v921 v931 k0_hw373 => k0_hw373

def k0_chk374 (v921 : IVec S16 32) (v933 : IVec S16 32) : Prop :=
  (∀ a x, ((![v921, v933] : Fin 2 → IVec S16 32) a x).toNat < S8x2048.size a)
theorem k0_idx374_inb : ∀ (v921 : IVec S16 32) (v933 : IVec S16 32) (k0_hw374 : k0_chk374 v921 v933), ∀ a x, ((![v921, v933] : Fin 2 → IVec S16 32) a x).toNat < S8x2048.size a := fun v921 v933 k0_hw374 => k0_hw374

def k0_chk375 (v921 : IVec S16 32) (v935 : IVec S16 32) : Prop :=
  (∀ a x, ((![v921, v935] : Fin 2 → IVec S16 32) a x).toNat < S8x2048.size a)
theorem k0_idx375_inb : ∀ (v921 : IVec S16 32) (v935 : IVec S16 32) (k0_hw375 : k0_chk375 v921 v935), ∀ a x, ((![v921, v935] : Fin 2 → IVec S16 32) a x).toNat < S8x2048.size a := fun v921 v935 k0_hw375 => k0_hw375

def k0_chk376 (v921 : IVec S16 32) (v937 : IVec S16 32) : Prop :=
  (∀ a x, ((![v921, v937] : Fin 2 → IVec S16 32) a x).toNat < S8x2048.size a)
theorem k0_idx376_inb : ∀ (v921 : IVec S16 32) (v937 : IVec S16 32) (k0_hw376 : k0_chk376 v921 v937), ∀ a x, ((![v921, v937] : Fin 2 → IVec S16 32) a x).toNat < S8x2048.size a := fun v921 v937 k0_hw376 => k0_hw376

def k0_chk377 (v921 : IVec S16 32) (v939 : IVec S16 32) : Prop :=
  (∀ a x, ((![v921, v939] : Fin 2 → IVec S16 32) a x).toNat < S8x2048.size a)
theorem k0_idx377_inb : ∀ (v921 : IVec S16 32) (v939 : IVec S16 32) (k0_hw377 : k0_chk377 v921 v939), ∀ a x, ((![v921, v939] : Fin 2 → IVec S16 32) a x).toNat < S8x2048.size a := fun v921 v939 k0_hw377 => k0_hw377

def k0_chk378 (v921 : IVec S16 32) (v941 : IVec S16 32) : Prop :=
  (∀ a x, ((![v921, v941] : Fin 2 → IVec S16 32) a x).toNat < S8x2048.size a)
theorem k0_idx378_inb : ∀ (v921 : IVec S16 32) (v941 : IVec S16 32) (k0_hw378 : k0_chk378 v921 v941), ∀ a x, ((![v921, v941] : Fin 2 → IVec S16 32) a x).toNat < S8x2048.size a := fun v921 v941 k0_hw378 => k0_hw378

def k0_chk379 (v921 : IVec S16 32) (v943 : IVec S16 32) : Prop :=
  (∀ a x, ((![v921, v943] : Fin 2 → IVec S16 32) a x).toNat < S8x2048.size a)
theorem k0_idx379_inb : ∀ (v921 : IVec S16 32) (v943 : IVec S16 32) (k0_hw379 : k0_chk379 v921 v943), ∀ a x, ((![v921, v943] : Fin 2 → IVec S16 32) a x).toNat < S8x2048.size a := fun v921 v943 k0_hw379 => k0_hw379

def k0_chk380 (v921 : IVec S16 32) (v945 : IVec S16 32) : Prop :=
  (∀ a x, ((![v921, v945] : Fin 2 → IVec S16 32) a x).toNat < S8x2048.size a)
theorem k0_idx380_inb : ∀ (v921 : IVec S16 32) (v945 : IVec S16 32) (k0_hw380 : k0_chk380 v921 v945), ∀ a x, ((![v921, v945] : Fin 2 → IVec S16 32) a x).toNat < S8x2048.size a := fun v921 v945 k0_hw380 => k0_hw380

def k0_chk381 (v921 : IVec S16 32) (v947 : IVec S16 32) : Prop :=
  (∀ a x, ((![v921, v947] : Fin 2 → IVec S16 32) a x).toNat < S8x2048.size a)
theorem k0_idx381_inb : ∀ (v921 : IVec S16 32) (v947 : IVec S16 32) (k0_hw381 : k0_chk381 v921 v947), ∀ a x, ((![v921, v947] : Fin 2 → IVec S16 32) a x).toNat < S8x2048.size a := fun v921 v947 k0_hw381 => k0_hw381

def k0_chk382 (v921 : IVec S16 32) (v949 : IVec S16 32) : Prop :=
  (∀ a x, ((![v921, v949] : Fin 2 → IVec S16 32) a x).toNat < S8x2048.size a)
theorem k0_idx382_inb : ∀ (v921 : IVec S16 32) (v949 : IVec S16 32) (k0_hw382 : k0_chk382 v921 v949), ∀ a x, ((![v921, v949] : Fin 2 → IVec S16 32) a x).toNat < S8x2048.size a := fun v921 v949 k0_hw382 => k0_hw382

def k0_chk383 (v921 : IVec S16 32) (v951 : IVec S16 32) : Prop :=
  (∀ a x, ((![v921, v951] : Fin 2 → IVec S16 32) a x).toNat < S8x2048.size a)
theorem k0_idx383_inb : ∀ (v921 : IVec S16 32) (v951 : IVec S16 32) (k0_hw383 : k0_chk383 v921 v951), ∀ a x, ((![v921, v951] : Fin 2 → IVec S16 32) a x).toNat < S8x2048.size a := fun v921 v951 k0_hw383 => k0_hw383

def k0_chk384 (v921 : IVec S16 32) (v953 : IVec S16 32) : Prop :=
  (∀ a x, ((![v921, v953] : Fin 2 → IVec S16 32) a x).toNat < S8x2048.size a)
theorem k0_idx384_inb : ∀ (v921 : IVec S16 32) (v953 : IVec S16 32) (k0_hw384 : k0_chk384 v921 v953), ∀ a x, ((![v921, v953] : Fin 2 → IVec S16 32) a x).toNat < S8x2048.size a := fun v921 v953 k0_hw384 => k0_hw384
def k0_off6 (i : grid0.Coords) (k0_t1 : Fin k0_t1_loop.trips) (c0_i32_832 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_553 : BitVec 32 := 2#32
  let c0_i32_542 : BitVec 32 := 0#32
  let c1_i32_544 : BitVec 32 := 1#32
  let arg12 : BitVec 32 := Scf.iv c0_i32_542 c1_i32_544 k0_t1
  let c2_i32_552 : BitVec 32 := 2#32
  let v683 : BitVec 32 := Scalar.muli arg12 c2_i32_552
  let v684 : BitVec 32 := Scalar.addi c2_i32_553 v683
  let c0_i32_554 : BitVec 32 := 0#32
  let v685 : BitVec 32 := Scalar.addi v684 c0_i32_554
  let c8_i32_822 : BitVec 32 := 8#32
  let v954 : BitVec 32 := Scalar.muli v685 c8_i32_822
  let v955 : BitVec 32 := Scalar.addi v2 v954
  let c0_i32_824 : BitVec 32 := 0#32
  let v957 : BitVec 1 := Scalar.cmpi .sgt v955 c0_i32_824
  let v958 : BitVec 32 := Scalar.extui v957
  let c0_i32_825 : BitVec 32 := 0#32
  let v959 : BitVec 1 := Scalar.cmpi .slt v955 c0_i32_825
  let v960 : BitVec 32 := Scalar.extui v959
  let v961 : BitVec 32 := Scalar.subi v958 v960
  let c512_i32_823 : BitVec 32 := 512#32
  let c0_i32_826 : BitVec 32 := 0#32
  let v962 : BitVec 1 := Scalar.cmpi .sgt c512_i32_823 c0_i32_826
  let v963 : BitVec 32 := Scalar.extui v962
  let c0_i32_827 : BitVec 32 := 0#32
  let v964 : BitVec 1 := Scalar.cmpi .slt c512_i32_823 c0_i32_827
  let v965 : BitVec 32 := Scalar.extui v964
  let v966 : BitVec 32 := Scalar.subi v963 v965
  let v967 : BitVec 1 := Scalar.cmpi .ne v961 v966
  let v968 : BitVec 32 := Scalar.remsi v955 c512_i32_823
  let c0_i32_828 : BitVec 32 := 0#32
  let v969 : BitVec 1 := Scalar.cmpi .ne v968 c0_i32_828
  let v970 : BitVec 1 := Scalar.andi v967 v969
  let v956 : BitVec 32 := Scalar.divsi v955 c512_i32_823
  let c1_i32_829 : BitVec 32 := 1#32
  let v971 : BitVec 32 := Scalar.subi v956 c1_i32_829
  let v972 : BitVec 32 := Scalar.select v970 v971 v956
  let c2048_i32_831 : BitVec 32 := 2048#32
  let v975 : BitVec 32 := Scalar.muli v972 c2048_i32_831
  let v976 : BitVec 32 := Scalar.addi v975 c0_i32_832
  let c512_i32_830 : BitVec 32 := 512#32
  let v973 : BitVec 32 := Scalar.muli v972 c512_i32_830
  let v974 : BitVec 32 := Scalar.subi v955 v973
  let v977 : BitVec 32 := Scalar.addi v976 v974
  let c4_i32_833 : BitVec 32 := 4#32
  let v978 : BitVec 32 := Scalar.muli v977 c4_i32_833
  let c0_i32_836 : BitVec 32 := 0#32
  ![v978.toNat, 0]

def k0_chk385 (v1023 : IVec S16 32) (v1025 : IVec S16 32) : Prop :=
  (∀ a x, ((![v1023, v1025] : Fin 2 → IVec S16 32) a x).toNat < S8x2048.size a)
theorem k0_idx385_inb : ∀ (v1023 : IVec S16 32) (v1025 : IVec S16 32) (k0_hw385 : k0_chk385 v1023 v1025), ∀ a x, ((![v1023, v1025] : Fin 2 → IVec S16 32) a x).toNat < S8x2048.size a := fun v1023 v1025 k0_hw385 => k0_hw385

def k0_chk386 (v1023 : IVec S16 32) (v1027 : IVec S16 32) : Prop :=
  (∀ a x, ((![v1023, v1027] : Fin 2 → IVec S16 32) a x).toNat < S8x2048.size a)
theorem k0_idx386_inb : ∀ (v1023 : IVec S16 32) (v1027 : IVec S16 32) (k0_hw386 : k0_chk386 v1023 v1027), ∀ a x, ((![v1023, v1027] : Fin 2 → IVec S16 32) a x).toNat < S8x2048.size a := fun v1023 v1027 k0_hw386 => k0_hw386

def k0_chk387 (v1023 : IVec S16 32) (v1029 : IVec S16 32) : Prop :=
  (∀ a x, ((![v1023, v1029] : Fin 2 → IVec S16 32) a x).toNat < S8x2048.size a)
theorem k0_idx387_inb : ∀ (v1023 : IVec S16 32) (v1029 : IVec S16 32) (k0_hw387 : k0_chk387 v1023 v1029), ∀ a x, ((![v1023, v1029] : Fin 2 → IVec S16 32) a x).toNat < S8x2048.size a := fun v1023 v1029 k0_hw387 => k0_hw387

def k0_chk388 (v1023 : IVec S16 32) (v1031 : IVec S16 32) : Prop :=
  (∀ a x, ((![v1023, v1031] : Fin 2 → IVec S16 32) a x).toNat < S8x2048.size a)
theorem k0_idx388_inb : ∀ (v1023 : IVec S16 32) (v1031 : IVec S16 32) (k0_hw388 : k0_chk388 v1023 v1031), ∀ a x, ((![v1023, v1031] : Fin 2 → IVec S16 32) a x).toNat < S8x2048.size a := fun v1023 v1031 k0_hw388 => k0_hw388

def k0_chk389 (v1023 : IVec S16 32) (v1033 : IVec S16 32) : Prop :=
  (∀ a x, ((![v1023, v1033] : Fin 2 → IVec S16 32) a x).toNat < S8x2048.size a)
theorem k0_idx389_inb : ∀ (v1023 : IVec S16 32) (v1033 : IVec S16 32) (k0_hw389 : k0_chk389 v1023 v1033), ∀ a x, ((![v1023, v1033] : Fin 2 → IVec S16 32) a x).toNat < S8x2048.size a := fun v1023 v1033 k0_hw389 => k0_hw389

def k0_chk390 (v1023 : IVec S16 32) (v1035 : IVec S16 32) : Prop :=
  (∀ a x, ((![v1023, v1035] : Fin 2 → IVec S16 32) a x).toNat < S8x2048.size a)
theorem k0_idx390_inb : ∀ (v1023 : IVec S16 32) (v1035 : IVec S16 32) (k0_hw390 : k0_chk390 v1023 v1035), ∀ a x, ((![v1023, v1035] : Fin 2 → IVec S16 32) a x).toNat < S8x2048.size a := fun v1023 v1035 k0_hw390 => k0_hw390

def k0_chk391 (v1023 : IVec S16 32) (v1037 : IVec S16 32) : Prop :=
  (∀ a x, ((![v1023, v1037] : Fin 2 → IVec S16 32) a x).toNat < S8x2048.size a)
theorem k0_idx391_inb : ∀ (v1023 : IVec S16 32) (v1037 : IVec S16 32) (k0_hw391 : k0_chk391 v1023 v1037), ∀ a x, ((![v1023, v1037] : Fin 2 → IVec S16 32) a x).toNat < S8x2048.size a := fun v1023 v1037 k0_hw391 => k0_hw391

def k0_chk392 (v1023 : IVec S16 32) (v1039 : IVec S16 32) : Prop :=
  (∀ a x, ((![v1023, v1039] : Fin 2 → IVec S16 32) a x).toNat < S8x2048.size a)
theorem k0_idx392_inb : ∀ (v1023 : IVec S16 32) (v1039 : IVec S16 32) (k0_hw392 : k0_chk392 v1023 v1039), ∀ a x, ((![v1023, v1039] : Fin 2 → IVec S16 32) a x).toNat < S8x2048.size a := fun v1023 v1039 k0_hw392 => k0_hw392

def k0_chk393 (v1023 : IVec S16 32) (v1041 : IVec S16 32) : Prop :=
  (∀ a x, ((![v1023, v1041] : Fin 2 → IVec S16 32) a x).toNat < S8x2048.size a)
theorem k0_idx393_inb : ∀ (v1023 : IVec S16 32) (v1041 : IVec S16 32) (k0_hw393 : k0_chk393 v1023 v1041), ∀ a x, ((![v1023, v1041] : Fin 2 → IVec S16 32) a x).toNat < S8x2048.size a := fun v1023 v1041 k0_hw393 => k0_hw393

def k0_chk394 (v1023 : IVec S16 32) (v1043 : IVec S16 32) : Prop :=
  (∀ a x, ((![v1023, v1043] : Fin 2 → IVec S16 32) a x).toNat < S8x2048.size a)
theorem k0_idx394_inb : ∀ (v1023 : IVec S16 32) (v1043 : IVec S16 32) (k0_hw394 : k0_chk394 v1023 v1043), ∀ a x, ((![v1023, v1043] : Fin 2 → IVec S16 32) a x).toNat < S8x2048.size a := fun v1023 v1043 k0_hw394 => k0_hw394

def k0_chk395 (v1023 : IVec S16 32) (v1045 : IVec S16 32) : Prop :=
  (∀ a x, ((![v1023, v1045] : Fin 2 → IVec S16 32) a x).toNat < S8x2048.size a)
theorem k0_idx395_inb : ∀ (v1023 : IVec S16 32) (v1045 : IVec S16 32) (k0_hw395 : k0_chk395 v1023 v1045), ∀ a x, ((![v1023, v1045] : Fin 2 → IVec S16 32) a x).toNat < S8x2048.size a := fun v1023 v1045 k0_hw395 => k0_hw395

def k0_chk396 (v1023 : IVec S16 32) (v1047 : IVec S16 32) : Prop :=
  (∀ a x, ((![v1023, v1047] : Fin 2 → IVec S16 32) a x).toNat < S8x2048.size a)
theorem k0_idx396_inb : ∀ (v1023 : IVec S16 32) (v1047 : IVec S16 32) (k0_hw396 : k0_chk396 v1023 v1047), ∀ a x, ((![v1023, v1047] : Fin 2 → IVec S16 32) a x).toNat < S8x2048.size a := fun v1023 v1047 k0_hw396 => k0_hw396

def k0_chk397 (v1023 : IVec S16 32) (v1049 : IVec S16 32) : Prop :=
  (∀ a x, ((![v1023, v1049] : Fin 2 → IVec S16 32) a x).toNat < S8x2048.size a)
theorem k0_idx397_inb : ∀ (v1023 : IVec S16 32) (v1049 : IVec S16 32) (k0_hw397 : k0_chk397 v1023 v1049), ∀ a x, ((![v1023, v1049] : Fin 2 → IVec S16 32) a x).toNat < S8x2048.size a := fun v1023 v1049 k0_hw397 => k0_hw397

def k0_chk398 (v1023 : IVec S16 32) (v1051 : IVec S16 32) : Prop :=
  (∀ a x, ((![v1023, v1051] : Fin 2 → IVec S16 32) a x).toNat < S8x2048.size a)
theorem k0_idx398_inb : ∀ (v1023 : IVec S16 32) (v1051 : IVec S16 32) (k0_hw398 : k0_chk398 v1023 v1051), ∀ a x, ((![v1023, v1051] : Fin 2 → IVec S16 32) a x).toNat < S8x2048.size a := fun v1023 v1051 k0_hw398 => k0_hw398

def k0_chk399 (v1023 : IVec S16 32) (v1053 : IVec S16 32) : Prop :=
  (∀ a x, ((![v1023, v1053] : Fin 2 → IVec S16 32) a x).toNat < S8x2048.size a)
theorem k0_idx399_inb : ∀ (v1023 : IVec S16 32) (v1053 : IVec S16 32) (k0_hw399 : k0_chk399 v1023 v1053), ∀ a x, ((![v1023, v1053] : Fin 2 → IVec S16 32) a x).toNat < S8x2048.size a := fun v1023 v1053 k0_hw399 => k0_hw399

def k0_chk400 (v1023 : IVec S16 32) (v1055 : IVec S16 32) : Prop :=
  (∀ a x, ((![v1023, v1055] : Fin 2 → IVec S16 32) a x).toNat < S8x2048.size a)
theorem k0_idx400_inb : ∀ (v1023 : IVec S16 32) (v1055 : IVec S16 32) (k0_hw400 : k0_chk400 v1023 v1055), ∀ a x, ((![v1023, v1055] : Fin 2 → IVec S16 32) a x).toNat < S8x2048.size a := fun v1023 v1055 k0_hw400 => k0_hw400

def k0_chk401 (v1056 : IVec S16 32) (v1058 : IVec S16 32) : Prop :=
  (∀ a x, ((![v1056, v1058] : Fin 2 → IVec S16 32) a x).toNat < S8x2048.size a)
theorem k0_idx401_inb : ∀ (v1056 : IVec S16 32) (v1058 : IVec S16 32) (k0_hw401 : k0_chk401 v1056 v1058), ∀ a x, ((![v1056, v1058] : Fin 2 → IVec S16 32) a x).toNat < S8x2048.size a := fun v1056 v1058 k0_hw401 => k0_hw401

def k0_chk402 (v1056 : IVec S16 32) (v1060 : IVec S16 32) : Prop :=
  (∀ a x, ((![v1056, v1060] : Fin 2 → IVec S16 32) a x).toNat < S8x2048.size a)
theorem k0_idx402_inb : ∀ (v1056 : IVec S16 32) (v1060 : IVec S16 32) (k0_hw402 : k0_chk402 v1056 v1060), ∀ a x, ((![v1056, v1060] : Fin 2 → IVec S16 32) a x).toNat < S8x2048.size a := fun v1056 v1060 k0_hw402 => k0_hw402

def k0_chk403 (v1056 : IVec S16 32) (v1062 : IVec S16 32) : Prop :=
  (∀ a x, ((![v1056, v1062] : Fin 2 → IVec S16 32) a x).toNat < S8x2048.size a)
theorem k0_idx403_inb : ∀ (v1056 : IVec S16 32) (v1062 : IVec S16 32) (k0_hw403 : k0_chk403 v1056 v1062), ∀ a x, ((![v1056, v1062] : Fin 2 → IVec S16 32) a x).toNat < S8x2048.size a := fun v1056 v1062 k0_hw403 => k0_hw403

def k0_chk404 (v1056 : IVec S16 32) (v1064 : IVec S16 32) : Prop :=
  (∀ a x, ((![v1056, v1064] : Fin 2 → IVec S16 32) a x).toNat < S8x2048.size a)
theorem k0_idx404_inb : ∀ (v1056 : IVec S16 32) (v1064 : IVec S16 32) (k0_hw404 : k0_chk404 v1056 v1064), ∀ a x, ((![v1056, v1064] : Fin 2 → IVec S16 32) a x).toNat < S8x2048.size a := fun v1056 v1064 k0_hw404 => k0_hw404

def k0_chk405 (v1056 : IVec S16 32) (v1066 : IVec S16 32) : Prop :=
  (∀ a x, ((![v1056, v1066] : Fin 2 → IVec S16 32) a x).toNat < S8x2048.size a)
theorem k0_idx405_inb : ∀ (v1056 : IVec S16 32) (v1066 : IVec S16 32) (k0_hw405 : k0_chk405 v1056 v1066), ∀ a x, ((![v1056, v1066] : Fin 2 → IVec S16 32) a x).toNat < S8x2048.size a := fun v1056 v1066 k0_hw405 => k0_hw405

def k0_chk406 (v1056 : IVec S16 32) (v1068 : IVec S16 32) : Prop :=
  (∀ a x, ((![v1056, v1068] : Fin 2 → IVec S16 32) a x).toNat < S8x2048.size a)
theorem k0_idx406_inb : ∀ (v1056 : IVec S16 32) (v1068 : IVec S16 32) (k0_hw406 : k0_chk406 v1056 v1068), ∀ a x, ((![v1056, v1068] : Fin 2 → IVec S16 32) a x).toNat < S8x2048.size a := fun v1056 v1068 k0_hw406 => k0_hw406

def k0_chk407 (v1056 : IVec S16 32) (v1070 : IVec S16 32) : Prop :=
  (∀ a x, ((![v1056, v1070] : Fin 2 → IVec S16 32) a x).toNat < S8x2048.size a)
theorem k0_idx407_inb : ∀ (v1056 : IVec S16 32) (v1070 : IVec S16 32) (k0_hw407 : k0_chk407 v1056 v1070), ∀ a x, ((![v1056, v1070] : Fin 2 → IVec S16 32) a x).toNat < S8x2048.size a := fun v1056 v1070 k0_hw407 => k0_hw407

def k0_chk408 (v1056 : IVec S16 32) (v1072 : IVec S16 32) : Prop :=
  (∀ a x, ((![v1056, v1072] : Fin 2 → IVec S16 32) a x).toNat < S8x2048.size a)
theorem k0_idx408_inb : ∀ (v1056 : IVec S16 32) (v1072 : IVec S16 32) (k0_hw408 : k0_chk408 v1056 v1072), ∀ a x, ((![v1056, v1072] : Fin 2 → IVec S16 32) a x).toNat < S8x2048.size a := fun v1056 v1072 k0_hw408 => k0_hw408

def k0_chk409 (v1056 : IVec S16 32) (v1074 : IVec S16 32) : Prop :=
  (∀ a x, ((![v1056, v1074] : Fin 2 → IVec S16 32) a x).toNat < S8x2048.size a)
theorem k0_idx409_inb : ∀ (v1056 : IVec S16 32) (v1074 : IVec S16 32) (k0_hw409 : k0_chk409 v1056 v1074), ∀ a x, ((![v1056, v1074] : Fin 2 → IVec S16 32) a x).toNat < S8x2048.size a := fun v1056 v1074 k0_hw409 => k0_hw409

def k0_chk410 (v1056 : IVec S16 32) (v1076 : IVec S16 32) : Prop :=
  (∀ a x, ((![v1056, v1076] : Fin 2 → IVec S16 32) a x).toNat < S8x2048.size a)
theorem k0_idx410_inb : ∀ (v1056 : IVec S16 32) (v1076 : IVec S16 32) (k0_hw410 : k0_chk410 v1056 v1076), ∀ a x, ((![v1056, v1076] : Fin 2 → IVec S16 32) a x).toNat < S8x2048.size a := fun v1056 v1076 k0_hw410 => k0_hw410

def k0_chk411 (v1056 : IVec S16 32) (v1078 : IVec S16 32) : Prop :=
  (∀ a x, ((![v1056, v1078] : Fin 2 → IVec S16 32) a x).toNat < S8x2048.size a)
theorem k0_idx411_inb : ∀ (v1056 : IVec S16 32) (v1078 : IVec S16 32) (k0_hw411 : k0_chk411 v1056 v1078), ∀ a x, ((![v1056, v1078] : Fin 2 → IVec S16 32) a x).toNat < S8x2048.size a := fun v1056 v1078 k0_hw411 => k0_hw411

def k0_chk412 (v1056 : IVec S16 32) (v1080 : IVec S16 32) : Prop :=
  (∀ a x, ((![v1056, v1080] : Fin 2 → IVec S16 32) a x).toNat < S8x2048.size a)
theorem k0_idx412_inb : ∀ (v1056 : IVec S16 32) (v1080 : IVec S16 32) (k0_hw412 : k0_chk412 v1056 v1080), ∀ a x, ((![v1056, v1080] : Fin 2 → IVec S16 32) a x).toNat < S8x2048.size a := fun v1056 v1080 k0_hw412 => k0_hw412

def k0_chk413 (v1056 : IVec S16 32) (v1082 : IVec S16 32) : Prop :=
  (∀ a x, ((![v1056, v1082] : Fin 2 → IVec S16 32) a x).toNat < S8x2048.size a)
theorem k0_idx413_inb : ∀ (v1056 : IVec S16 32) (v1082 : IVec S16 32) (k0_hw413 : k0_chk413 v1056 v1082), ∀ a x, ((![v1056, v1082] : Fin 2 → IVec S16 32) a x).toNat < S8x2048.size a := fun v1056 v1082 k0_hw413 => k0_hw413

def k0_chk414 (v1056 : IVec S16 32) (v1084 : IVec S16 32) : Prop :=
  (∀ a x, ((![v1056, v1084] : Fin 2 → IVec S16 32) a x).toNat < S8x2048.size a)
theorem k0_idx414_inb : ∀ (v1056 : IVec S16 32) (v1084 : IVec S16 32) (k0_hw414 : k0_chk414 v1056 v1084), ∀ a x, ((![v1056, v1084] : Fin 2 → IVec S16 32) a x).toNat < S8x2048.size a := fun v1056 v1084 k0_hw414 => k0_hw414

def k0_chk415 (v1056 : IVec S16 32) (v1086 : IVec S16 32) : Prop :=
  (∀ a x, ((![v1056, v1086] : Fin 2 → IVec S16 32) a x).toNat < S8x2048.size a)
theorem k0_idx415_inb : ∀ (v1056 : IVec S16 32) (v1086 : IVec S16 32) (k0_hw415 : k0_chk415 v1056 v1086), ∀ a x, ((![v1056, v1086] : Fin 2 → IVec S16 32) a x).toNat < S8x2048.size a := fun v1056 v1086 k0_hw415 => k0_hw415

def k0_chk416 (v1056 : IVec S16 32) (v1088 : IVec S16 32) : Prop :=
  (∀ a x, ((![v1056, v1088] : Fin 2 → IVec S16 32) a x).toNat < S8x2048.size a)
theorem k0_idx416_inb : ∀ (v1056 : IVec S16 32) (v1088 : IVec S16 32) (k0_hw416 : k0_chk416 v1056 v1088), ∀ a x, ((![v1056, v1088] : Fin 2 → IVec S16 32) a x).toNat < S8x2048.size a := fun v1056 v1088 k0_hw416 => k0_hw416

def k0_chk417 (v1089 : IVec S16 32) (v1091 : IVec S16 32) : Prop :=
  (∀ a x, ((![v1089, v1091] : Fin 2 → IVec S16 32) a x).toNat < S8x2048.size a)
theorem k0_idx417_inb : ∀ (v1089 : IVec S16 32) (v1091 : IVec S16 32) (k0_hw417 : k0_chk417 v1089 v1091), ∀ a x, ((![v1089, v1091] : Fin 2 → IVec S16 32) a x).toNat < S8x2048.size a := fun v1089 v1091 k0_hw417 => k0_hw417

def k0_chk418 (v1089 : IVec S16 32) (v1093 : IVec S16 32) : Prop :=
  (∀ a x, ((![v1089, v1093] : Fin 2 → IVec S16 32) a x).toNat < S8x2048.size a)
theorem k0_idx418_inb : ∀ (v1089 : IVec S16 32) (v1093 : IVec S16 32) (k0_hw418 : k0_chk418 v1089 v1093), ∀ a x, ((![v1089, v1093] : Fin 2 → IVec S16 32) a x).toNat < S8x2048.size a := fun v1089 v1093 k0_hw418 => k0_hw418

def k0_chk419 (v1089 : IVec S16 32) (v1095 : IVec S16 32) : Prop :=
  (∀ a x, ((![v1089, v1095] : Fin 2 → IVec S16 32) a x).toNat < S8x2048.size a)
theorem k0_idx419_inb : ∀ (v1089 : IVec S16 32) (v1095 : IVec S16 32) (k0_hw419 : k0_chk419 v1089 v1095), ∀ a x, ((![v1089, v1095] : Fin 2 → IVec S16 32) a x).toNat < S8x2048.size a := fun v1089 v1095 k0_hw419 => k0_hw419

def k0_chk420 (v1089 : IVec S16 32) (v1097 : IVec S16 32) : Prop :=
  (∀ a x, ((![v1089, v1097] : Fin 2 → IVec S16 32) a x).toNat < S8x2048.size a)
theorem k0_idx420_inb : ∀ (v1089 : IVec S16 32) (v1097 : IVec S16 32) (k0_hw420 : k0_chk420 v1089 v1097), ∀ a x, ((![v1089, v1097] : Fin 2 → IVec S16 32) a x).toNat < S8x2048.size a := fun v1089 v1097 k0_hw420 => k0_hw420

def k0_chk421 (v1089 : IVec S16 32) (v1099 : IVec S16 32) : Prop :=
  (∀ a x, ((![v1089, v1099] : Fin 2 → IVec S16 32) a x).toNat < S8x2048.size a)
theorem k0_idx421_inb : ∀ (v1089 : IVec S16 32) (v1099 : IVec S16 32) (k0_hw421 : k0_chk421 v1089 v1099), ∀ a x, ((![v1089, v1099] : Fin 2 → IVec S16 32) a x).toNat < S8x2048.size a := fun v1089 v1099 k0_hw421 => k0_hw421

def k0_chk422 (v1089 : IVec S16 32) (v1101 : IVec S16 32) : Prop :=
  (∀ a x, ((![v1089, v1101] : Fin 2 → IVec S16 32) a x).toNat < S8x2048.size a)
theorem k0_idx422_inb : ∀ (v1089 : IVec S16 32) (v1101 : IVec S16 32) (k0_hw422 : k0_chk422 v1089 v1101), ∀ a x, ((![v1089, v1101] : Fin 2 → IVec S16 32) a x).toNat < S8x2048.size a := fun v1089 v1101 k0_hw422 => k0_hw422

def k0_chk423 (v1089 : IVec S16 32) (v1103 : IVec S16 32) : Prop :=
  (∀ a x, ((![v1089, v1103] : Fin 2 → IVec S16 32) a x).toNat < S8x2048.size a)
theorem k0_idx423_inb : ∀ (v1089 : IVec S16 32) (v1103 : IVec S16 32) (k0_hw423 : k0_chk423 v1089 v1103), ∀ a x, ((![v1089, v1103] : Fin 2 → IVec S16 32) a x).toNat < S8x2048.size a := fun v1089 v1103 k0_hw423 => k0_hw423

def k0_chk424 (v1089 : IVec S16 32) (v1105 : IVec S16 32) : Prop :=
  (∀ a x, ((![v1089, v1105] : Fin 2 → IVec S16 32) a x).toNat < S8x2048.size a)
theorem k0_idx424_inb : ∀ (v1089 : IVec S16 32) (v1105 : IVec S16 32) (k0_hw424 : k0_chk424 v1089 v1105), ∀ a x, ((![v1089, v1105] : Fin 2 → IVec S16 32) a x).toNat < S8x2048.size a := fun v1089 v1105 k0_hw424 => k0_hw424

def k0_chk425 (v1089 : IVec S16 32) (v1107 : IVec S16 32) : Prop :=
  (∀ a x, ((![v1089, v1107] : Fin 2 → IVec S16 32) a x).toNat < S8x2048.size a)
theorem k0_idx425_inb : ∀ (v1089 : IVec S16 32) (v1107 : IVec S16 32) (k0_hw425 : k0_chk425 v1089 v1107), ∀ a x, ((![v1089, v1107] : Fin 2 → IVec S16 32) a x).toNat < S8x2048.size a := fun v1089 v1107 k0_hw425 => k0_hw425

def k0_chk426 (v1089 : IVec S16 32) (v1109 : IVec S16 32) : Prop :=
  (∀ a x, ((![v1089, v1109] : Fin 2 → IVec S16 32) a x).toNat < S8x2048.size a)
theorem k0_idx426_inb : ∀ (v1089 : IVec S16 32) (v1109 : IVec S16 32) (k0_hw426 : k0_chk426 v1089 v1109), ∀ a x, ((![v1089, v1109] : Fin 2 → IVec S16 32) a x).toNat < S8x2048.size a := fun v1089 v1109 k0_hw426 => k0_hw426

def k0_chk427 (v1089 : IVec S16 32) (v1111 : IVec S16 32) : Prop :=
  (∀ a x, ((![v1089, v1111] : Fin 2 → IVec S16 32) a x).toNat < S8x2048.size a)
theorem k0_idx427_inb : ∀ (v1089 : IVec S16 32) (v1111 : IVec S16 32) (k0_hw427 : k0_chk427 v1089 v1111), ∀ a x, ((![v1089, v1111] : Fin 2 → IVec S16 32) a x).toNat < S8x2048.size a := fun v1089 v1111 k0_hw427 => k0_hw427

def k0_chk428 (v1089 : IVec S16 32) (v1113 : IVec S16 32) : Prop :=
  (∀ a x, ((![v1089, v1113] : Fin 2 → IVec S16 32) a x).toNat < S8x2048.size a)
theorem k0_idx428_inb : ∀ (v1089 : IVec S16 32) (v1113 : IVec S16 32) (k0_hw428 : k0_chk428 v1089 v1113), ∀ a x, ((![v1089, v1113] : Fin 2 → IVec S16 32) a x).toNat < S8x2048.size a := fun v1089 v1113 k0_hw428 => k0_hw428

def k0_chk429 (v1089 : IVec S16 32) (v1115 : IVec S16 32) : Prop :=
  (∀ a x, ((![v1089, v1115] : Fin 2 → IVec S16 32) a x).toNat < S8x2048.size a)
theorem k0_idx429_inb : ∀ (v1089 : IVec S16 32) (v1115 : IVec S16 32) (k0_hw429 : k0_chk429 v1089 v1115), ∀ a x, ((![v1089, v1115] : Fin 2 → IVec S16 32) a x).toNat < S8x2048.size a := fun v1089 v1115 k0_hw429 => k0_hw429

def k0_chk430 (v1089 : IVec S16 32) (v1117 : IVec S16 32) : Prop :=
  (∀ a x, ((![v1089, v1117] : Fin 2 → IVec S16 32) a x).toNat < S8x2048.size a)
theorem k0_idx430_inb : ∀ (v1089 : IVec S16 32) (v1117 : IVec S16 32) (k0_hw430 : k0_chk430 v1089 v1117), ∀ a x, ((![v1089, v1117] : Fin 2 → IVec S16 32) a x).toNat < S8x2048.size a := fun v1089 v1117 k0_hw430 => k0_hw430

def k0_chk431 (v1089 : IVec S16 32) (v1119 : IVec S16 32) : Prop :=
  (∀ a x, ((![v1089, v1119] : Fin 2 → IVec S16 32) a x).toNat < S8x2048.size a)
theorem k0_idx431_inb : ∀ (v1089 : IVec S16 32) (v1119 : IVec S16 32) (k0_hw431 : k0_chk431 v1089 v1119), ∀ a x, ((![v1089, v1119] : Fin 2 → IVec S16 32) a x).toNat < S8x2048.size a := fun v1089 v1119 k0_hw431 => k0_hw431

def k0_chk432 (v1089 : IVec S16 32) (v1121 : IVec S16 32) : Prop :=
  (∀ a x, ((![v1089, v1121] : Fin 2 → IVec S16 32) a x).toNat < S8x2048.size a)
theorem k0_idx432_inb : ∀ (v1089 : IVec S16 32) (v1121 : IVec S16 32) (k0_hw432 : k0_chk432 v1089 v1121), ∀ a x, ((![v1089, v1121] : Fin 2 → IVec S16 32) a x).toNat < S8x2048.size a := fun v1089 v1121 k0_hw432 => k0_hw432

def k0_chk433 (v1122 : IVec S16 32) (v1124 : IVec S16 32) : Prop :=
  (∀ a x, ((![v1122, v1124] : Fin 2 → IVec S16 32) a x).toNat < S8x2048.size a)
theorem k0_idx433_inb : ∀ (v1122 : IVec S16 32) (v1124 : IVec S16 32) (k0_hw433 : k0_chk433 v1122 v1124), ∀ a x, ((![v1122, v1124] : Fin 2 → IVec S16 32) a x).toNat < S8x2048.size a := fun v1122 v1124 k0_hw433 => k0_hw433

def k0_chk434 (v1122 : IVec S16 32) (v1126 : IVec S16 32) : Prop :=
  (∀ a x, ((![v1122, v1126] : Fin 2 → IVec S16 32) a x).toNat < S8x2048.size a)
theorem k0_idx434_inb : ∀ (v1122 : IVec S16 32) (v1126 : IVec S16 32) (k0_hw434 : k0_chk434 v1122 v1126), ∀ a x, ((![v1122, v1126] : Fin 2 → IVec S16 32) a x).toNat < S8x2048.size a := fun v1122 v1126 k0_hw434 => k0_hw434

def k0_chk435 (v1122 : IVec S16 32) (v1128 : IVec S16 32) : Prop :=
  (∀ a x, ((![v1122, v1128] : Fin 2 → IVec S16 32) a x).toNat < S8x2048.size a)
theorem k0_idx435_inb : ∀ (v1122 : IVec S16 32) (v1128 : IVec S16 32) (k0_hw435 : k0_chk435 v1122 v1128), ∀ a x, ((![v1122, v1128] : Fin 2 → IVec S16 32) a x).toNat < S8x2048.size a := fun v1122 v1128 k0_hw435 => k0_hw435

def k0_chk436 (v1122 : IVec S16 32) (v1130 : IVec S16 32) : Prop :=
  (∀ a x, ((![v1122, v1130] : Fin 2 → IVec S16 32) a x).toNat < S8x2048.size a)
theorem k0_idx436_inb : ∀ (v1122 : IVec S16 32) (v1130 : IVec S16 32) (k0_hw436 : k0_chk436 v1122 v1130), ∀ a x, ((![v1122, v1130] : Fin 2 → IVec S16 32) a x).toNat < S8x2048.size a := fun v1122 v1130 k0_hw436 => k0_hw436

def k0_chk437 (v1122 : IVec S16 32) (v1132 : IVec S16 32) : Prop :=
  (∀ a x, ((![v1122, v1132] : Fin 2 → IVec S16 32) a x).toNat < S8x2048.size a)
theorem k0_idx437_inb : ∀ (v1122 : IVec S16 32) (v1132 : IVec S16 32) (k0_hw437 : k0_chk437 v1122 v1132), ∀ a x, ((![v1122, v1132] : Fin 2 → IVec S16 32) a x).toNat < S8x2048.size a := fun v1122 v1132 k0_hw437 => k0_hw437

def k0_chk438 (v1122 : IVec S16 32) (v1134 : IVec S16 32) : Prop :=
  (∀ a x, ((![v1122, v1134] : Fin 2 → IVec S16 32) a x).toNat < S8x2048.size a)
theorem k0_idx438_inb : ∀ (v1122 : IVec S16 32) (v1134 : IVec S16 32) (k0_hw438 : k0_chk438 v1122 v1134), ∀ a x, ((![v1122, v1134] : Fin 2 → IVec S16 32) a x).toNat < S8x2048.size a := fun v1122 v1134 k0_hw438 => k0_hw438

def k0_chk439 (v1122 : IVec S16 32) (v1136 : IVec S16 32) : Prop :=
  (∀ a x, ((![v1122, v1136] : Fin 2 → IVec S16 32) a x).toNat < S8x2048.size a)
theorem k0_idx439_inb : ∀ (v1122 : IVec S16 32) (v1136 : IVec S16 32) (k0_hw439 : k0_chk439 v1122 v1136), ∀ a x, ((![v1122, v1136] : Fin 2 → IVec S16 32) a x).toNat < S8x2048.size a := fun v1122 v1136 k0_hw439 => k0_hw439

def k0_chk440 (v1122 : IVec S16 32) (v1138 : IVec S16 32) : Prop :=
  (∀ a x, ((![v1122, v1138] : Fin 2 → IVec S16 32) a x).toNat < S8x2048.size a)
theorem k0_idx440_inb : ∀ (v1122 : IVec S16 32) (v1138 : IVec S16 32) (k0_hw440 : k0_chk440 v1122 v1138), ∀ a x, ((![v1122, v1138] : Fin 2 → IVec S16 32) a x).toNat < S8x2048.size a := fun v1122 v1138 k0_hw440 => k0_hw440

def k0_chk441 (v1122 : IVec S16 32) (v1140 : IVec S16 32) : Prop :=
  (∀ a x, ((![v1122, v1140] : Fin 2 → IVec S16 32) a x).toNat < S8x2048.size a)
theorem k0_idx441_inb : ∀ (v1122 : IVec S16 32) (v1140 : IVec S16 32) (k0_hw441 : k0_chk441 v1122 v1140), ∀ a x, ((![v1122, v1140] : Fin 2 → IVec S16 32) a x).toNat < S8x2048.size a := fun v1122 v1140 k0_hw441 => k0_hw441

def k0_chk442 (v1122 : IVec S16 32) (v1142 : IVec S16 32) : Prop :=
  (∀ a x, ((![v1122, v1142] : Fin 2 → IVec S16 32) a x).toNat < S8x2048.size a)
theorem k0_idx442_inb : ∀ (v1122 : IVec S16 32) (v1142 : IVec S16 32) (k0_hw442 : k0_chk442 v1122 v1142), ∀ a x, ((![v1122, v1142] : Fin 2 → IVec S16 32) a x).toNat < S8x2048.size a := fun v1122 v1142 k0_hw442 => k0_hw442

def k0_chk443 (v1122 : IVec S16 32) (v1144 : IVec S16 32) : Prop :=
  (∀ a x, ((![v1122, v1144] : Fin 2 → IVec S16 32) a x).toNat < S8x2048.size a)
theorem k0_idx443_inb : ∀ (v1122 : IVec S16 32) (v1144 : IVec S16 32) (k0_hw443 : k0_chk443 v1122 v1144), ∀ a x, ((![v1122, v1144] : Fin 2 → IVec S16 32) a x).toNat < S8x2048.size a := fun v1122 v1144 k0_hw443 => k0_hw443

def k0_chk444 (v1122 : IVec S16 32) (v1146 : IVec S16 32) : Prop :=
  (∀ a x, ((![v1122, v1146] : Fin 2 → IVec S16 32) a x).toNat < S8x2048.size a)
theorem k0_idx444_inb : ∀ (v1122 : IVec S16 32) (v1146 : IVec S16 32) (k0_hw444 : k0_chk444 v1122 v1146), ∀ a x, ((![v1122, v1146] : Fin 2 → IVec S16 32) a x).toNat < S8x2048.size a := fun v1122 v1146 k0_hw444 => k0_hw444

def k0_chk445 (v1122 : IVec S16 32) (v1148 : IVec S16 32) : Prop :=
  (∀ a x, ((![v1122, v1148] : Fin 2 → IVec S16 32) a x).toNat < S8x2048.size a)
theorem k0_idx445_inb : ∀ (v1122 : IVec S16 32) (v1148 : IVec S16 32) (k0_hw445 : k0_chk445 v1122 v1148), ∀ a x, ((![v1122, v1148] : Fin 2 → IVec S16 32) a x).toNat < S8x2048.size a := fun v1122 v1148 k0_hw445 => k0_hw445

def k0_chk446 (v1122 : IVec S16 32) (v1150 : IVec S16 32) : Prop :=
  (∀ a x, ((![v1122, v1150] : Fin 2 → IVec S16 32) a x).toNat < S8x2048.size a)
theorem k0_idx446_inb : ∀ (v1122 : IVec S16 32) (v1150 : IVec S16 32) (k0_hw446 : k0_chk446 v1122 v1150), ∀ a x, ((![v1122, v1150] : Fin 2 → IVec S16 32) a x).toNat < S8x2048.size a := fun v1122 v1150 k0_hw446 => k0_hw446

def k0_chk447 (v1122 : IVec S16 32) (v1152 : IVec S16 32) : Prop :=
  (∀ a x, ((![v1122, v1152] : Fin 2 → IVec S16 32) a x).toNat < S8x2048.size a)
theorem k0_idx447_inb : ∀ (v1122 : IVec S16 32) (v1152 : IVec S16 32) (k0_hw447 : k0_chk447 v1122 v1152), ∀ a x, ((![v1122, v1152] : Fin 2 → IVec S16 32) a x).toNat < S8x2048.size a := fun v1122 v1152 k0_hw447 => k0_hw447

def k0_chk448 (v1122 : IVec S16 32) (v1154 : IVec S16 32) : Prop :=
  (∀ a x, ((![v1122, v1154] : Fin 2 → IVec S16 32) a x).toNat < S8x2048.size a)
theorem k0_idx448_inb : ∀ (v1122 : IVec S16 32) (v1154 : IVec S16 32) (k0_hw448 : k0_chk448 v1122 v1154), ∀ a x, ((![v1122, v1154] : Fin 2 → IVec S16 32) a x).toNat < S8x2048.size a := fun v1122 v1154 k0_hw448 => k0_hw448

def k0_chk449 (v1155 : IVec S16 32) (v1157 : IVec S16 32) : Prop :=
  (∀ a x, ((![v1155, v1157] : Fin 2 → IVec S16 32) a x).toNat < S8x2048.size a)
theorem k0_idx449_inb : ∀ (v1155 : IVec S16 32) (v1157 : IVec S16 32) (k0_hw449 : k0_chk449 v1155 v1157), ∀ a x, ((![v1155, v1157] : Fin 2 → IVec S16 32) a x).toNat < S8x2048.size a := fun v1155 v1157 k0_hw449 => k0_hw449

def k0_chk450 (v1155 : IVec S16 32) (v1159 : IVec S16 32) : Prop :=
  (∀ a x, ((![v1155, v1159] : Fin 2 → IVec S16 32) a x).toNat < S8x2048.size a)
theorem k0_idx450_inb : ∀ (v1155 : IVec S16 32) (v1159 : IVec S16 32) (k0_hw450 : k0_chk450 v1155 v1159), ∀ a x, ((![v1155, v1159] : Fin 2 → IVec S16 32) a x).toNat < S8x2048.size a := fun v1155 v1159 k0_hw450 => k0_hw450

def k0_chk451 (v1155 : IVec S16 32) (v1161 : IVec S16 32) : Prop :=
  (∀ a x, ((![v1155, v1161] : Fin 2 → IVec S16 32) a x).toNat < S8x2048.size a)
theorem k0_idx451_inb : ∀ (v1155 : IVec S16 32) (v1161 : IVec S16 32) (k0_hw451 : k0_chk451 v1155 v1161), ∀ a x, ((![v1155, v1161] : Fin 2 → IVec S16 32) a x).toNat < S8x2048.size a := fun v1155 v1161 k0_hw451 => k0_hw451

def k0_chk452 (v1155 : IVec S16 32) (v1163 : IVec S16 32) : Prop :=
  (∀ a x, ((![v1155, v1163] : Fin 2 → IVec S16 32) a x).toNat < S8x2048.size a)
theorem k0_idx452_inb : ∀ (v1155 : IVec S16 32) (v1163 : IVec S16 32) (k0_hw452 : k0_chk452 v1155 v1163), ∀ a x, ((![v1155, v1163] : Fin 2 → IVec S16 32) a x).toNat < S8x2048.size a := fun v1155 v1163 k0_hw452 => k0_hw452

def k0_chk453 (v1155 : IVec S16 32) (v1165 : IVec S16 32) : Prop :=
  (∀ a x, ((![v1155, v1165] : Fin 2 → IVec S16 32) a x).toNat < S8x2048.size a)
theorem k0_idx453_inb : ∀ (v1155 : IVec S16 32) (v1165 : IVec S16 32) (k0_hw453 : k0_chk453 v1155 v1165), ∀ a x, ((![v1155, v1165] : Fin 2 → IVec S16 32) a x).toNat < S8x2048.size a := fun v1155 v1165 k0_hw453 => k0_hw453

def k0_chk454 (v1155 : IVec S16 32) (v1167 : IVec S16 32) : Prop :=
  (∀ a x, ((![v1155, v1167] : Fin 2 → IVec S16 32) a x).toNat < S8x2048.size a)
theorem k0_idx454_inb : ∀ (v1155 : IVec S16 32) (v1167 : IVec S16 32) (k0_hw454 : k0_chk454 v1155 v1167), ∀ a x, ((![v1155, v1167] : Fin 2 → IVec S16 32) a x).toNat < S8x2048.size a := fun v1155 v1167 k0_hw454 => k0_hw454

def k0_chk455 (v1155 : IVec S16 32) (v1169 : IVec S16 32) : Prop :=
  (∀ a x, ((![v1155, v1169] : Fin 2 → IVec S16 32) a x).toNat < S8x2048.size a)
theorem k0_idx455_inb : ∀ (v1155 : IVec S16 32) (v1169 : IVec S16 32) (k0_hw455 : k0_chk455 v1155 v1169), ∀ a x, ((![v1155, v1169] : Fin 2 → IVec S16 32) a x).toNat < S8x2048.size a := fun v1155 v1169 k0_hw455 => k0_hw455

def k0_chk456 (v1155 : IVec S16 32) (v1171 : IVec S16 32) : Prop :=
  (∀ a x, ((![v1155, v1171] : Fin 2 → IVec S16 32) a x).toNat < S8x2048.size a)
theorem k0_idx456_inb : ∀ (v1155 : IVec S16 32) (v1171 : IVec S16 32) (k0_hw456 : k0_chk456 v1155 v1171), ∀ a x, ((![v1155, v1171] : Fin 2 → IVec S16 32) a x).toNat < S8x2048.size a := fun v1155 v1171 k0_hw456 => k0_hw456

def k0_chk457 (v1155 : IVec S16 32) (v1173 : IVec S16 32) : Prop :=
  (∀ a x, ((![v1155, v1173] : Fin 2 → IVec S16 32) a x).toNat < S8x2048.size a)
theorem k0_idx457_inb : ∀ (v1155 : IVec S16 32) (v1173 : IVec S16 32) (k0_hw457 : k0_chk457 v1155 v1173), ∀ a x, ((![v1155, v1173] : Fin 2 → IVec S16 32) a x).toNat < S8x2048.size a := fun v1155 v1173 k0_hw457 => k0_hw457

def k0_chk458 (v1155 : IVec S16 32) (v1175 : IVec S16 32) : Prop :=
  (∀ a x, ((![v1155, v1175] : Fin 2 → IVec S16 32) a x).toNat < S8x2048.size a)
theorem k0_idx458_inb : ∀ (v1155 : IVec S16 32) (v1175 : IVec S16 32) (k0_hw458 : k0_chk458 v1155 v1175), ∀ a x, ((![v1155, v1175] : Fin 2 → IVec S16 32) a x).toNat < S8x2048.size a := fun v1155 v1175 k0_hw458 => k0_hw458

def k0_chk459 (v1155 : IVec S16 32) (v1177 : IVec S16 32) : Prop :=
  (∀ a x, ((![v1155, v1177] : Fin 2 → IVec S16 32) a x).toNat < S8x2048.size a)
theorem k0_idx459_inb : ∀ (v1155 : IVec S16 32) (v1177 : IVec S16 32) (k0_hw459 : k0_chk459 v1155 v1177), ∀ a x, ((![v1155, v1177] : Fin 2 → IVec S16 32) a x).toNat < S8x2048.size a := fun v1155 v1177 k0_hw459 => k0_hw459

def k0_chk460 (v1155 : IVec S16 32) (v1179 : IVec S16 32) : Prop :=
  (∀ a x, ((![v1155, v1179] : Fin 2 → IVec S16 32) a x).toNat < S8x2048.size a)
theorem k0_idx460_inb : ∀ (v1155 : IVec S16 32) (v1179 : IVec S16 32) (k0_hw460 : k0_chk460 v1155 v1179), ∀ a x, ((![v1155, v1179] : Fin 2 → IVec S16 32) a x).toNat < S8x2048.size a := fun v1155 v1179 k0_hw460 => k0_hw460

def k0_chk461 (v1155 : IVec S16 32) (v1181 : IVec S16 32) : Prop :=
  (∀ a x, ((![v1155, v1181] : Fin 2 → IVec S16 32) a x).toNat < S8x2048.size a)
theorem k0_idx461_inb : ∀ (v1155 : IVec S16 32) (v1181 : IVec S16 32) (k0_hw461 : k0_chk461 v1155 v1181), ∀ a x, ((![v1155, v1181] : Fin 2 → IVec S16 32) a x).toNat < S8x2048.size a := fun v1155 v1181 k0_hw461 => k0_hw461

def k0_chk462 (v1155 : IVec S16 32) (v1183 : IVec S16 32) : Prop :=
  (∀ a x, ((![v1155, v1183] : Fin 2 → IVec S16 32) a x).toNat < S8x2048.size a)
theorem k0_idx462_inb : ∀ (v1155 : IVec S16 32) (v1183 : IVec S16 32) (k0_hw462 : k0_chk462 v1155 v1183), ∀ a x, ((![v1155, v1183] : Fin 2 → IVec S16 32) a x).toNat < S8x2048.size a := fun v1155 v1183 k0_hw462 => k0_hw462

def k0_chk463 (v1155 : IVec S16 32) (v1185 : IVec S16 32) : Prop :=
  (∀ a x, ((![v1155, v1185] : Fin 2 → IVec S16 32) a x).toNat < S8x2048.size a)
theorem k0_idx463_inb : ∀ (v1155 : IVec S16 32) (v1185 : IVec S16 32) (k0_hw463 : k0_chk463 v1155 v1185), ∀ a x, ((![v1155, v1185] : Fin 2 → IVec S16 32) a x).toNat < S8x2048.size a := fun v1155 v1185 k0_hw463 => k0_hw463

def k0_chk464 (v1155 : IVec S16 32) (v1187 : IVec S16 32) : Prop :=
  (∀ a x, ((![v1155, v1187] : Fin 2 → IVec S16 32) a x).toNat < S8x2048.size a)
theorem k0_idx464_inb : ∀ (v1155 : IVec S16 32) (v1187 : IVec S16 32) (k0_hw464 : k0_chk464 v1155 v1187), ∀ a x, ((![v1155, v1187] : Fin 2 → IVec S16 32) a x).toNat < S8x2048.size a := fun v1155 v1187 k0_hw464 => k0_hw464

def k0_chk465 (v1188 : IVec S16 32) (v1190 : IVec S16 32) : Prop :=
  (∀ a x, ((![v1188, v1190] : Fin 2 → IVec S16 32) a x).toNat < S8x2048.size a)
theorem k0_idx465_inb : ∀ (v1188 : IVec S16 32) (v1190 : IVec S16 32) (k0_hw465 : k0_chk465 v1188 v1190), ∀ a x, ((![v1188, v1190] : Fin 2 → IVec S16 32) a x).toNat < S8x2048.size a := fun v1188 v1190 k0_hw465 => k0_hw465

def k0_chk466 (v1188 : IVec S16 32) (v1192 : IVec S16 32) : Prop :=
  (∀ a x, ((![v1188, v1192] : Fin 2 → IVec S16 32) a x).toNat < S8x2048.size a)
theorem k0_idx466_inb : ∀ (v1188 : IVec S16 32) (v1192 : IVec S16 32) (k0_hw466 : k0_chk466 v1188 v1192), ∀ a x, ((![v1188, v1192] : Fin 2 → IVec S16 32) a x).toNat < S8x2048.size a := fun v1188 v1192 k0_hw466 => k0_hw466

def k0_chk467 (v1188 : IVec S16 32) (v1194 : IVec S16 32) : Prop :=
  (∀ a x, ((![v1188, v1194] : Fin 2 → IVec S16 32) a x).toNat < S8x2048.size a)
theorem k0_idx467_inb : ∀ (v1188 : IVec S16 32) (v1194 : IVec S16 32) (k0_hw467 : k0_chk467 v1188 v1194), ∀ a x, ((![v1188, v1194] : Fin 2 → IVec S16 32) a x).toNat < S8x2048.size a := fun v1188 v1194 k0_hw467 => k0_hw467

def k0_chk468 (v1188 : IVec S16 32) (v1196 : IVec S16 32) : Prop :=
  (∀ a x, ((![v1188, v1196] : Fin 2 → IVec S16 32) a x).toNat < S8x2048.size a)
theorem k0_idx468_inb : ∀ (v1188 : IVec S16 32) (v1196 : IVec S16 32) (k0_hw468 : k0_chk468 v1188 v1196), ∀ a x, ((![v1188, v1196] : Fin 2 → IVec S16 32) a x).toNat < S8x2048.size a := fun v1188 v1196 k0_hw468 => k0_hw468

def k0_chk469 (v1188 : IVec S16 32) (v1198 : IVec S16 32) : Prop :=
  (∀ a x, ((![v1188, v1198] : Fin 2 → IVec S16 32) a x).toNat < S8x2048.size a)
theorem k0_idx469_inb : ∀ (v1188 : IVec S16 32) (v1198 : IVec S16 32) (k0_hw469 : k0_chk469 v1188 v1198), ∀ a x, ((![v1188, v1198] : Fin 2 → IVec S16 32) a x).toNat < S8x2048.size a := fun v1188 v1198 k0_hw469 => k0_hw469

def k0_chk470 (v1188 : IVec S16 32) (v1200 : IVec S16 32) : Prop :=
  (∀ a x, ((![v1188, v1200] : Fin 2 → IVec S16 32) a x).toNat < S8x2048.size a)
theorem k0_idx470_inb : ∀ (v1188 : IVec S16 32) (v1200 : IVec S16 32) (k0_hw470 : k0_chk470 v1188 v1200), ∀ a x, ((![v1188, v1200] : Fin 2 → IVec S16 32) a x).toNat < S8x2048.size a := fun v1188 v1200 k0_hw470 => k0_hw470

def k0_chk471 (v1188 : IVec S16 32) (v1202 : IVec S16 32) : Prop :=
  (∀ a x, ((![v1188, v1202] : Fin 2 → IVec S16 32) a x).toNat < S8x2048.size a)
theorem k0_idx471_inb : ∀ (v1188 : IVec S16 32) (v1202 : IVec S16 32) (k0_hw471 : k0_chk471 v1188 v1202), ∀ a x, ((![v1188, v1202] : Fin 2 → IVec S16 32) a x).toNat < S8x2048.size a := fun v1188 v1202 k0_hw471 => k0_hw471

def k0_chk472 (v1188 : IVec S16 32) (v1204 : IVec S16 32) : Prop :=
  (∀ a x, ((![v1188, v1204] : Fin 2 → IVec S16 32) a x).toNat < S8x2048.size a)
theorem k0_idx472_inb : ∀ (v1188 : IVec S16 32) (v1204 : IVec S16 32) (k0_hw472 : k0_chk472 v1188 v1204), ∀ a x, ((![v1188, v1204] : Fin 2 → IVec S16 32) a x).toNat < S8x2048.size a := fun v1188 v1204 k0_hw472 => k0_hw472

def k0_chk473 (v1188 : IVec S16 32) (v1206 : IVec S16 32) : Prop :=
  (∀ a x, ((![v1188, v1206] : Fin 2 → IVec S16 32) a x).toNat < S8x2048.size a)
theorem k0_idx473_inb : ∀ (v1188 : IVec S16 32) (v1206 : IVec S16 32) (k0_hw473 : k0_chk473 v1188 v1206), ∀ a x, ((![v1188, v1206] : Fin 2 → IVec S16 32) a x).toNat < S8x2048.size a := fun v1188 v1206 k0_hw473 => k0_hw473

def k0_chk474 (v1188 : IVec S16 32) (v1208 : IVec S16 32) : Prop :=
  (∀ a x, ((![v1188, v1208] : Fin 2 → IVec S16 32) a x).toNat < S8x2048.size a)
theorem k0_idx474_inb : ∀ (v1188 : IVec S16 32) (v1208 : IVec S16 32) (k0_hw474 : k0_chk474 v1188 v1208), ∀ a x, ((![v1188, v1208] : Fin 2 → IVec S16 32) a x).toNat < S8x2048.size a := fun v1188 v1208 k0_hw474 => k0_hw474

def k0_chk475 (v1188 : IVec S16 32) (v1210 : IVec S16 32) : Prop :=
  (∀ a x, ((![v1188, v1210] : Fin 2 → IVec S16 32) a x).toNat < S8x2048.size a)
theorem k0_idx475_inb : ∀ (v1188 : IVec S16 32) (v1210 : IVec S16 32) (k0_hw475 : k0_chk475 v1188 v1210), ∀ a x, ((![v1188, v1210] : Fin 2 → IVec S16 32) a x).toNat < S8x2048.size a := fun v1188 v1210 k0_hw475 => k0_hw475

def k0_chk476 (v1188 : IVec S16 32) (v1212 : IVec S16 32) : Prop :=
  (∀ a x, ((![v1188, v1212] : Fin 2 → IVec S16 32) a x).toNat < S8x2048.size a)
theorem k0_idx476_inb : ∀ (v1188 : IVec S16 32) (v1212 : IVec S16 32) (k0_hw476 : k0_chk476 v1188 v1212), ∀ a x, ((![v1188, v1212] : Fin 2 → IVec S16 32) a x).toNat < S8x2048.size a := fun v1188 v1212 k0_hw476 => k0_hw476

def k0_chk477 (v1188 : IVec S16 32) (v1214 : IVec S16 32) : Prop :=
  (∀ a x, ((![v1188, v1214] : Fin 2 → IVec S16 32) a x).toNat < S8x2048.size a)
theorem k0_idx477_inb : ∀ (v1188 : IVec S16 32) (v1214 : IVec S16 32) (k0_hw477 : k0_chk477 v1188 v1214), ∀ a x, ((![v1188, v1214] : Fin 2 → IVec S16 32) a x).toNat < S8x2048.size a := fun v1188 v1214 k0_hw477 => k0_hw477

def k0_chk478 (v1188 : IVec S16 32) (v1216 : IVec S16 32) : Prop :=
  (∀ a x, ((![v1188, v1216] : Fin 2 → IVec S16 32) a x).toNat < S8x2048.size a)
theorem k0_idx478_inb : ∀ (v1188 : IVec S16 32) (v1216 : IVec S16 32) (k0_hw478 : k0_chk478 v1188 v1216), ∀ a x, ((![v1188, v1216] : Fin 2 → IVec S16 32) a x).toNat < S8x2048.size a := fun v1188 v1216 k0_hw478 => k0_hw478

def k0_chk479 (v1188 : IVec S16 32) (v1218 : IVec S16 32) : Prop :=
  (∀ a x, ((![v1188, v1218] : Fin 2 → IVec S16 32) a x).toNat < S8x2048.size a)
theorem k0_idx479_inb : ∀ (v1188 : IVec S16 32) (v1218 : IVec S16 32) (k0_hw479 : k0_chk479 v1188 v1218), ∀ a x, ((![v1188, v1218] : Fin 2 → IVec S16 32) a x).toNat < S8x2048.size a := fun v1188 v1218 k0_hw479 => k0_hw479

def k0_chk480 (v1188 : IVec S16 32) (v1220 : IVec S16 32) : Prop :=
  (∀ a x, ((![v1188, v1220] : Fin 2 → IVec S16 32) a x).toNat < S8x2048.size a)
theorem k0_idx480_inb : ∀ (v1188 : IVec S16 32) (v1220 : IVec S16 32) (k0_hw480 : k0_chk480 v1188 v1220), ∀ a x, ((![v1188, v1220] : Fin 2 → IVec S16 32) a x).toNat < S8x2048.size a := fun v1188 v1220 k0_hw480 => k0_hw480

def k0_chk481 (v1221 : IVec S16 32) (v1223 : IVec S16 32) : Prop :=
  (∀ a x, ((![v1221, v1223] : Fin 2 → IVec S16 32) a x).toNat < S8x2048.size a)
theorem k0_idx481_inb : ∀ (v1221 : IVec S16 32) (v1223 : IVec S16 32) (k0_hw481 : k0_chk481 v1221 v1223), ∀ a x, ((![v1221, v1223] : Fin 2 → IVec S16 32) a x).toNat < S8x2048.size a := fun v1221 v1223 k0_hw481 => k0_hw481

def k0_chk482 (v1221 : IVec S16 32) (v1225 : IVec S16 32) : Prop :=
  (∀ a x, ((![v1221, v1225] : Fin 2 → IVec S16 32) a x).toNat < S8x2048.size a)
theorem k0_idx482_inb : ∀ (v1221 : IVec S16 32) (v1225 : IVec S16 32) (k0_hw482 : k0_chk482 v1221 v1225), ∀ a x, ((![v1221, v1225] : Fin 2 → IVec S16 32) a x).toNat < S8x2048.size a := fun v1221 v1225 k0_hw482 => k0_hw482

def k0_chk483 (v1221 : IVec S16 32) (v1227 : IVec S16 32) : Prop :=
  (∀ a x, ((![v1221, v1227] : Fin 2 → IVec S16 32) a x).toNat < S8x2048.size a)
theorem k0_idx483_inb : ∀ (v1221 : IVec S16 32) (v1227 : IVec S16 32) (k0_hw483 : k0_chk483 v1221 v1227), ∀ a x, ((![v1221, v1227] : Fin 2 → IVec S16 32) a x).toNat < S8x2048.size a := fun v1221 v1227 k0_hw483 => k0_hw483

def k0_chk484 (v1221 : IVec S16 32) (v1229 : IVec S16 32) : Prop :=
  (∀ a x, ((![v1221, v1229] : Fin 2 → IVec S16 32) a x).toNat < S8x2048.size a)
theorem k0_idx484_inb : ∀ (v1221 : IVec S16 32) (v1229 : IVec S16 32) (k0_hw484 : k0_chk484 v1221 v1229), ∀ a x, ((![v1221, v1229] : Fin 2 → IVec S16 32) a x).toNat < S8x2048.size a := fun v1221 v1229 k0_hw484 => k0_hw484

def k0_chk485 (v1221 : IVec S16 32) (v1231 : IVec S16 32) : Prop :=
  (∀ a x, ((![v1221, v1231] : Fin 2 → IVec S16 32) a x).toNat < S8x2048.size a)
theorem k0_idx485_inb : ∀ (v1221 : IVec S16 32) (v1231 : IVec S16 32) (k0_hw485 : k0_chk485 v1221 v1231), ∀ a x, ((![v1221, v1231] : Fin 2 → IVec S16 32) a x).toNat < S8x2048.size a := fun v1221 v1231 k0_hw485 => k0_hw485

def k0_chk486 (v1221 : IVec S16 32) (v1233 : IVec S16 32) : Prop :=
  (∀ a x, ((![v1221, v1233] : Fin 2 → IVec S16 32) a x).toNat < S8x2048.size a)
theorem k0_idx486_inb : ∀ (v1221 : IVec S16 32) (v1233 : IVec S16 32) (k0_hw486 : k0_chk486 v1221 v1233), ∀ a x, ((![v1221, v1233] : Fin 2 → IVec S16 32) a x).toNat < S8x2048.size a := fun v1221 v1233 k0_hw486 => k0_hw486

def k0_chk487 (v1221 : IVec S16 32) (v1235 : IVec S16 32) : Prop :=
  (∀ a x, ((![v1221, v1235] : Fin 2 → IVec S16 32) a x).toNat < S8x2048.size a)
theorem k0_idx487_inb : ∀ (v1221 : IVec S16 32) (v1235 : IVec S16 32) (k0_hw487 : k0_chk487 v1221 v1235), ∀ a x, ((![v1221, v1235] : Fin 2 → IVec S16 32) a x).toNat < S8x2048.size a := fun v1221 v1235 k0_hw487 => k0_hw487

def k0_chk488 (v1221 : IVec S16 32) (v1237 : IVec S16 32) : Prop :=
  (∀ a x, ((![v1221, v1237] : Fin 2 → IVec S16 32) a x).toNat < S8x2048.size a)
theorem k0_idx488_inb : ∀ (v1221 : IVec S16 32) (v1237 : IVec S16 32) (k0_hw488 : k0_chk488 v1221 v1237), ∀ a x, ((![v1221, v1237] : Fin 2 → IVec S16 32) a x).toNat < S8x2048.size a := fun v1221 v1237 k0_hw488 => k0_hw488

def k0_chk489 (v1221 : IVec S16 32) (v1239 : IVec S16 32) : Prop :=
  (∀ a x, ((![v1221, v1239] : Fin 2 → IVec S16 32) a x).toNat < S8x2048.size a)
theorem k0_idx489_inb : ∀ (v1221 : IVec S16 32) (v1239 : IVec S16 32) (k0_hw489 : k0_chk489 v1221 v1239), ∀ a x, ((![v1221, v1239] : Fin 2 → IVec S16 32) a x).toNat < S8x2048.size a := fun v1221 v1239 k0_hw489 => k0_hw489

def k0_chk490 (v1221 : IVec S16 32) (v1241 : IVec S16 32) : Prop :=
  (∀ a x, ((![v1221, v1241] : Fin 2 → IVec S16 32) a x).toNat < S8x2048.size a)
theorem k0_idx490_inb : ∀ (v1221 : IVec S16 32) (v1241 : IVec S16 32) (k0_hw490 : k0_chk490 v1221 v1241), ∀ a x, ((![v1221, v1241] : Fin 2 → IVec S16 32) a x).toNat < S8x2048.size a := fun v1221 v1241 k0_hw490 => k0_hw490

def k0_chk491 (v1221 : IVec S16 32) (v1243 : IVec S16 32) : Prop :=
  (∀ a x, ((![v1221, v1243] : Fin 2 → IVec S16 32) a x).toNat < S8x2048.size a)
theorem k0_idx491_inb : ∀ (v1221 : IVec S16 32) (v1243 : IVec S16 32) (k0_hw491 : k0_chk491 v1221 v1243), ∀ a x, ((![v1221, v1243] : Fin 2 → IVec S16 32) a x).toNat < S8x2048.size a := fun v1221 v1243 k0_hw491 => k0_hw491

def k0_chk492 (v1221 : IVec S16 32) (v1245 : IVec S16 32) : Prop :=
  (∀ a x, ((![v1221, v1245] : Fin 2 → IVec S16 32) a x).toNat < S8x2048.size a)
theorem k0_idx492_inb : ∀ (v1221 : IVec S16 32) (v1245 : IVec S16 32) (k0_hw492 : k0_chk492 v1221 v1245), ∀ a x, ((![v1221, v1245] : Fin 2 → IVec S16 32) a x).toNat < S8x2048.size a := fun v1221 v1245 k0_hw492 => k0_hw492

def k0_chk493 (v1221 : IVec S16 32) (v1247 : IVec S16 32) : Prop :=
  (∀ a x, ((![v1221, v1247] : Fin 2 → IVec S16 32) a x).toNat < S8x2048.size a)
theorem k0_idx493_inb : ∀ (v1221 : IVec S16 32) (v1247 : IVec S16 32) (k0_hw493 : k0_chk493 v1221 v1247), ∀ a x, ((![v1221, v1247] : Fin 2 → IVec S16 32) a x).toNat < S8x2048.size a := fun v1221 v1247 k0_hw493 => k0_hw493

def k0_chk494 (v1221 : IVec S16 32) (v1249 : IVec S16 32) : Prop :=
  (∀ a x, ((![v1221, v1249] : Fin 2 → IVec S16 32) a x).toNat < S8x2048.size a)
theorem k0_idx494_inb : ∀ (v1221 : IVec S16 32) (v1249 : IVec S16 32) (k0_hw494 : k0_chk494 v1221 v1249), ∀ a x, ((![v1221, v1249] : Fin 2 → IVec S16 32) a x).toNat < S8x2048.size a := fun v1221 v1249 k0_hw494 => k0_hw494

def k0_chk495 (v1221 : IVec S16 32) (v1251 : IVec S16 32) : Prop :=
  (∀ a x, ((![v1221, v1251] : Fin 2 → IVec S16 32) a x).toNat < S8x2048.size a)
theorem k0_idx495_inb : ∀ (v1221 : IVec S16 32) (v1251 : IVec S16 32) (k0_hw495 : k0_chk495 v1221 v1251), ∀ a x, ((![v1221, v1251] : Fin 2 → IVec S16 32) a x).toNat < S8x2048.size a := fun v1221 v1251 k0_hw495 => k0_hw495

def k0_chk496 (v1221 : IVec S16 32) (v1253 : IVec S16 32) : Prop :=
  (∀ a x, ((![v1221, v1253] : Fin 2 → IVec S16 32) a x).toNat < S8x2048.size a)
theorem k0_idx496_inb : ∀ (v1221 : IVec S16 32) (v1253 : IVec S16 32) (k0_hw496 : k0_chk496 v1221 v1253), ∀ a x, ((![v1221, v1253] : Fin 2 → IVec S16 32) a x).toNat < S8x2048.size a := fun v1221 v1253 k0_hw496 => k0_hw496

def k0_chk497 (v1254 : IVec S16 32) (v1256 : IVec S16 32) : Prop :=
  (∀ a x, ((![v1254, v1256] : Fin 2 → IVec S16 32) a x).toNat < S8x2048.size a)
theorem k0_idx497_inb : ∀ (v1254 : IVec S16 32) (v1256 : IVec S16 32) (k0_hw497 : k0_chk497 v1254 v1256), ∀ a x, ((![v1254, v1256] : Fin 2 → IVec S16 32) a x).toNat < S8x2048.size a := fun v1254 v1256 k0_hw497 => k0_hw497

def k0_chk498 (v1254 : IVec S16 32) (v1258 : IVec S16 32) : Prop :=
  (∀ a x, ((![v1254, v1258] : Fin 2 → IVec S16 32) a x).toNat < S8x2048.size a)
theorem k0_idx498_inb : ∀ (v1254 : IVec S16 32) (v1258 : IVec S16 32) (k0_hw498 : k0_chk498 v1254 v1258), ∀ a x, ((![v1254, v1258] : Fin 2 → IVec S16 32) a x).toNat < S8x2048.size a := fun v1254 v1258 k0_hw498 => k0_hw498

def k0_chk499 (v1254 : IVec S16 32) (v1260 : IVec S16 32) : Prop :=
  (∀ a x, ((![v1254, v1260] : Fin 2 → IVec S16 32) a x).toNat < S8x2048.size a)
theorem k0_idx499_inb : ∀ (v1254 : IVec S16 32) (v1260 : IVec S16 32) (k0_hw499 : k0_chk499 v1254 v1260), ∀ a x, ((![v1254, v1260] : Fin 2 → IVec S16 32) a x).toNat < S8x2048.size a := fun v1254 v1260 k0_hw499 => k0_hw499

def k0_chk500 (v1254 : IVec S16 32) (v1262 : IVec S16 32) : Prop :=
  (∀ a x, ((![v1254, v1262] : Fin 2 → IVec S16 32) a x).toNat < S8x2048.size a)
theorem k0_idx500_inb : ∀ (v1254 : IVec S16 32) (v1262 : IVec S16 32) (k0_hw500 : k0_chk500 v1254 v1262), ∀ a x, ((![v1254, v1262] : Fin 2 → IVec S16 32) a x).toNat < S8x2048.size a := fun v1254 v1262 k0_hw500 => k0_hw500

def k0_chk501 (v1254 : IVec S16 32) (v1264 : IVec S16 32) : Prop :=
  (∀ a x, ((![v1254, v1264] : Fin 2 → IVec S16 32) a x).toNat < S8x2048.size a)
theorem k0_idx501_inb : ∀ (v1254 : IVec S16 32) (v1264 : IVec S16 32) (k0_hw501 : k0_chk501 v1254 v1264), ∀ a x, ((![v1254, v1264] : Fin 2 → IVec S16 32) a x).toNat < S8x2048.size a := fun v1254 v1264 k0_hw501 => k0_hw501

def k0_chk502 (v1254 : IVec S16 32) (v1266 : IVec S16 32) : Prop :=
  (∀ a x, ((![v1254, v1266] : Fin 2 → IVec S16 32) a x).toNat < S8x2048.size a)
theorem k0_idx502_inb : ∀ (v1254 : IVec S16 32) (v1266 : IVec S16 32) (k0_hw502 : k0_chk502 v1254 v1266), ∀ a x, ((![v1254, v1266] : Fin 2 → IVec S16 32) a x).toNat < S8x2048.size a := fun v1254 v1266 k0_hw502 => k0_hw502

def k0_chk503 (v1254 : IVec S16 32) (v1268 : IVec S16 32) : Prop :=
  (∀ a x, ((![v1254, v1268] : Fin 2 → IVec S16 32) a x).toNat < S8x2048.size a)
theorem k0_idx503_inb : ∀ (v1254 : IVec S16 32) (v1268 : IVec S16 32) (k0_hw503 : k0_chk503 v1254 v1268), ∀ a x, ((![v1254, v1268] : Fin 2 → IVec S16 32) a x).toNat < S8x2048.size a := fun v1254 v1268 k0_hw503 => k0_hw503

def k0_chk504 (v1254 : IVec S16 32) (v1270 : IVec S16 32) : Prop :=
  (∀ a x, ((![v1254, v1270] : Fin 2 → IVec S16 32) a x).toNat < S8x2048.size a)
theorem k0_idx504_inb : ∀ (v1254 : IVec S16 32) (v1270 : IVec S16 32) (k0_hw504 : k0_chk504 v1254 v1270), ∀ a x, ((![v1254, v1270] : Fin 2 → IVec S16 32) a x).toNat < S8x2048.size a := fun v1254 v1270 k0_hw504 => k0_hw504

def k0_chk505 (v1254 : IVec S16 32) (v1272 : IVec S16 32) : Prop :=
  (∀ a x, ((![v1254, v1272] : Fin 2 → IVec S16 32) a x).toNat < S8x2048.size a)
theorem k0_idx505_inb : ∀ (v1254 : IVec S16 32) (v1272 : IVec S16 32) (k0_hw505 : k0_chk505 v1254 v1272), ∀ a x, ((![v1254, v1272] : Fin 2 → IVec S16 32) a x).toNat < S8x2048.size a := fun v1254 v1272 k0_hw505 => k0_hw505

def k0_chk506 (v1254 : IVec S16 32) (v1274 : IVec S16 32) : Prop :=
  (∀ a x, ((![v1254, v1274] : Fin 2 → IVec S16 32) a x).toNat < S8x2048.size a)
theorem k0_idx506_inb : ∀ (v1254 : IVec S16 32) (v1274 : IVec S16 32) (k0_hw506 : k0_chk506 v1254 v1274), ∀ a x, ((![v1254, v1274] : Fin 2 → IVec S16 32) a x).toNat < S8x2048.size a := fun v1254 v1274 k0_hw506 => k0_hw506

def k0_chk507 (v1254 : IVec S16 32) (v1276 : IVec S16 32) : Prop :=
  (∀ a x, ((![v1254, v1276] : Fin 2 → IVec S16 32) a x).toNat < S8x2048.size a)
theorem k0_idx507_inb : ∀ (v1254 : IVec S16 32) (v1276 : IVec S16 32) (k0_hw507 : k0_chk507 v1254 v1276), ∀ a x, ((![v1254, v1276] : Fin 2 → IVec S16 32) a x).toNat < S8x2048.size a := fun v1254 v1276 k0_hw507 => k0_hw507

def k0_chk508 (v1254 : IVec S16 32) (v1278 : IVec S16 32) : Prop :=
  (∀ a x, ((![v1254, v1278] : Fin 2 → IVec S16 32) a x).toNat < S8x2048.size a)
theorem k0_idx508_inb : ∀ (v1254 : IVec S16 32) (v1278 : IVec S16 32) (k0_hw508 : k0_chk508 v1254 v1278), ∀ a x, ((![v1254, v1278] : Fin 2 → IVec S16 32) a x).toNat < S8x2048.size a := fun v1254 v1278 k0_hw508 => k0_hw508

def k0_chk509 (v1254 : IVec S16 32) (v1280 : IVec S16 32) : Prop :=
  (∀ a x, ((![v1254, v1280] : Fin 2 → IVec S16 32) a x).toNat < S8x2048.size a)
theorem k0_idx509_inb : ∀ (v1254 : IVec S16 32) (v1280 : IVec S16 32) (k0_hw509 : k0_chk509 v1254 v1280), ∀ a x, ((![v1254, v1280] : Fin 2 → IVec S16 32) a x).toNat < S8x2048.size a := fun v1254 v1280 k0_hw509 => k0_hw509

def k0_chk510 (v1254 : IVec S16 32) (v1282 : IVec S16 32) : Prop :=
  (∀ a x, ((![v1254, v1282] : Fin 2 → IVec S16 32) a x).toNat < S8x2048.size a)
theorem k0_idx510_inb : ∀ (v1254 : IVec S16 32) (v1282 : IVec S16 32) (k0_hw510 : k0_chk510 v1254 v1282), ∀ a x, ((![v1254, v1282] : Fin 2 → IVec S16 32) a x).toNat < S8x2048.size a := fun v1254 v1282 k0_hw510 => k0_hw510

def k0_chk511 (v1254 : IVec S16 32) (v1284 : IVec S16 32) : Prop :=
  (∀ a x, ((![v1254, v1284] : Fin 2 → IVec S16 32) a x).toNat < S8x2048.size a)
theorem k0_idx511_inb : ∀ (v1254 : IVec S16 32) (v1284 : IVec S16 32) (k0_hw511 : k0_chk511 v1254 v1284), ∀ a x, ((![v1254, v1284] : Fin 2 → IVec S16 32) a x).toNat < S8x2048.size a := fun v1254 v1284 k0_hw511 => k0_hw511

def k0_chk512 (v1254 : IVec S16 32) (v1286 : IVec S16 32) : Prop :=
  (∀ a x, ((![v1254, v1286] : Fin 2 → IVec S16 32) a x).toNat < S8x2048.size a)
theorem k0_idx512_inb : ∀ (v1254 : IVec S16 32) (v1286 : IVec S16 32) (k0_hw512 : k0_chk512 v1254 v1286), ∀ a x, ((![v1254, v1286] : Fin 2 → IVec S16 32) a x).toNat < S8x2048.size a := fun v1254 v1286 k0_hw512 => k0_hw512
def k0_off7 (i : grid0.Coords) (k0_t1 : Fin k0_t1_loop.trips) (c0_i32_554 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_553 : BitVec 32 := 2#32
  let c0_i32_542 : BitVec 32 := 0#32
  let c1_i32_544 : BitVec 32 := 1#32
  let arg12 : BitVec 32 := Scf.iv c0_i32_542 c1_i32_544 k0_t1
  let c2_i32_552 : BitVec 32 := 2#32
  let v683 : BitVec 32 := Scalar.muli arg12 c2_i32_552
  let v684 : BitVec 32 := Scalar.addi c2_i32_553 v683
  let v685 : BitVec 32 := Scalar.addi v684 c0_i32_554
  let c8_i32_822 : BitVec 32 := 8#32
  let v954 : BitVec 32 := Scalar.muli v685 c8_i32_822
  let v955 : BitVec 32 := Scalar.addi v2 v954
  let c0_i32_1155 : BitVec 32 := 0#32
  ![v955.toNat, 0]

def k0_chk513 (v1296 : IVec S16 32) (v1298 : IVec S16 32) : Prop :=
  (∀ a x, ((![v1296, v1298] : Fin 2 → IVec S16 32) a x).toNat < S8x2048.size a)
theorem k0_idx513_inb : ∀ (v1296 : IVec S16 32) (v1298 : IVec S16 32) (k0_hw513 : k0_chk513 v1296 v1298), ∀ a x, ((![v1296, v1298] : Fin 2 → IVec S16 32) a x).toNat < S8x2048.size a := fun v1296 v1298 k0_hw513 => k0_hw513

def k0_chk514 (v1296 : IVec S16 32) (v1300 : IVec S16 32) : Prop :=
  (∀ a x, ((![v1296, v1300] : Fin 2 → IVec S16 32) a x).toNat < S8x2048.size a)
theorem k0_idx514_inb : ∀ (v1296 : IVec S16 32) (v1300 : IVec S16 32) (k0_hw514 : k0_chk514 v1296 v1300), ∀ a x, ((![v1296, v1300] : Fin 2 → IVec S16 32) a x).toNat < S8x2048.size a := fun v1296 v1300 k0_hw514 => k0_hw514

def k0_chk515 (v1296 : IVec S16 32) (v1302 : IVec S16 32) : Prop :=
  (∀ a x, ((![v1296, v1302] : Fin 2 → IVec S16 32) a x).toNat < S8x2048.size a)
theorem k0_idx515_inb : ∀ (v1296 : IVec S16 32) (v1302 : IVec S16 32) (k0_hw515 : k0_chk515 v1296 v1302), ∀ a x, ((![v1296, v1302] : Fin 2 → IVec S16 32) a x).toNat < S8x2048.size a := fun v1296 v1302 k0_hw515 => k0_hw515

def k0_chk516 (v1296 : IVec S16 32) (v1304 : IVec S16 32) : Prop :=
  (∀ a x, ((![v1296, v1304] : Fin 2 → IVec S16 32) a x).toNat < S8x2048.size a)
theorem k0_idx516_inb : ∀ (v1296 : IVec S16 32) (v1304 : IVec S16 32) (k0_hw516 : k0_chk516 v1296 v1304), ∀ a x, ((![v1296, v1304] : Fin 2 → IVec S16 32) a x).toNat < S8x2048.size a := fun v1296 v1304 k0_hw516 => k0_hw516

def k0_chk517 (v1296 : IVec S16 32) (v1306 : IVec S16 32) : Prop :=
  (∀ a x, ((![v1296, v1306] : Fin 2 → IVec S16 32) a x).toNat < S8x2048.size a)
theorem k0_idx517_inb : ∀ (v1296 : IVec S16 32) (v1306 : IVec S16 32) (k0_hw517 : k0_chk517 v1296 v1306), ∀ a x, ((![v1296, v1306] : Fin 2 → IVec S16 32) a x).toNat < S8x2048.size a := fun v1296 v1306 k0_hw517 => k0_hw517

def k0_chk518 (v1296 : IVec S16 32) (v1308 : IVec S16 32) : Prop :=
  (∀ a x, ((![v1296, v1308] : Fin 2 → IVec S16 32) a x).toNat < S8x2048.size a)
theorem k0_idx518_inb : ∀ (v1296 : IVec S16 32) (v1308 : IVec S16 32) (k0_hw518 : k0_chk518 v1296 v1308), ∀ a x, ((![v1296, v1308] : Fin 2 → IVec S16 32) a x).toNat < S8x2048.size a := fun v1296 v1308 k0_hw518 => k0_hw518

def k0_chk519 (v1296 : IVec S16 32) (v1310 : IVec S16 32) : Prop :=
  (∀ a x, ((![v1296, v1310] : Fin 2 → IVec S16 32) a x).toNat < S8x2048.size a)
theorem k0_idx519_inb : ∀ (v1296 : IVec S16 32) (v1310 : IVec S16 32) (k0_hw519 : k0_chk519 v1296 v1310), ∀ a x, ((![v1296, v1310] : Fin 2 → IVec S16 32) a x).toNat < S8x2048.size a := fun v1296 v1310 k0_hw519 => k0_hw519

def k0_chk520 (v1296 : IVec S16 32) (v1312 : IVec S16 32) : Prop :=
  (∀ a x, ((![v1296, v1312] : Fin 2 → IVec S16 32) a x).toNat < S8x2048.size a)
theorem k0_idx520_inb : ∀ (v1296 : IVec S16 32) (v1312 : IVec S16 32) (k0_hw520 : k0_chk520 v1296 v1312), ∀ a x, ((![v1296, v1312] : Fin 2 → IVec S16 32) a x).toNat < S8x2048.size a := fun v1296 v1312 k0_hw520 => k0_hw520

def k0_chk521 (v1296 : IVec S16 32) (v1314 : IVec S16 32) : Prop :=
  (∀ a x, ((![v1296, v1314] : Fin 2 → IVec S16 32) a x).toNat < S8x2048.size a)
theorem k0_idx521_inb : ∀ (v1296 : IVec S16 32) (v1314 : IVec S16 32) (k0_hw521 : k0_chk521 v1296 v1314), ∀ a x, ((![v1296, v1314] : Fin 2 → IVec S16 32) a x).toNat < S8x2048.size a := fun v1296 v1314 k0_hw521 => k0_hw521

def k0_chk522 (v1296 : IVec S16 32) (v1316 : IVec S16 32) : Prop :=
  (∀ a x, ((![v1296, v1316] : Fin 2 → IVec S16 32) a x).toNat < S8x2048.size a)
theorem k0_idx522_inb : ∀ (v1296 : IVec S16 32) (v1316 : IVec S16 32) (k0_hw522 : k0_chk522 v1296 v1316), ∀ a x, ((![v1296, v1316] : Fin 2 → IVec S16 32) a x).toNat < S8x2048.size a := fun v1296 v1316 k0_hw522 => k0_hw522

def k0_chk523 (v1296 : IVec S16 32) (v1318 : IVec S16 32) : Prop :=
  (∀ a x, ((![v1296, v1318] : Fin 2 → IVec S16 32) a x).toNat < S8x2048.size a)
theorem k0_idx523_inb : ∀ (v1296 : IVec S16 32) (v1318 : IVec S16 32) (k0_hw523 : k0_chk523 v1296 v1318), ∀ a x, ((![v1296, v1318] : Fin 2 → IVec S16 32) a x).toNat < S8x2048.size a := fun v1296 v1318 k0_hw523 => k0_hw523

def k0_chk524 (v1296 : IVec S16 32) (v1320 : IVec S16 32) : Prop :=
  (∀ a x, ((![v1296, v1320] : Fin 2 → IVec S16 32) a x).toNat < S8x2048.size a)
theorem k0_idx524_inb : ∀ (v1296 : IVec S16 32) (v1320 : IVec S16 32) (k0_hw524 : k0_chk524 v1296 v1320), ∀ a x, ((![v1296, v1320] : Fin 2 → IVec S16 32) a x).toNat < S8x2048.size a := fun v1296 v1320 k0_hw524 => k0_hw524

def k0_chk525 (v1296 : IVec S16 32) (v1322 : IVec S16 32) : Prop :=
  (∀ a x, ((![v1296, v1322] : Fin 2 → IVec S16 32) a x).toNat < S8x2048.size a)
theorem k0_idx525_inb : ∀ (v1296 : IVec S16 32) (v1322 : IVec S16 32) (k0_hw525 : k0_chk525 v1296 v1322), ∀ a x, ((![v1296, v1322] : Fin 2 → IVec S16 32) a x).toNat < S8x2048.size a := fun v1296 v1322 k0_hw525 => k0_hw525

def k0_chk526 (v1296 : IVec S16 32) (v1324 : IVec S16 32) : Prop :=
  (∀ a x, ((![v1296, v1324] : Fin 2 → IVec S16 32) a x).toNat < S8x2048.size a)
theorem k0_idx526_inb : ∀ (v1296 : IVec S16 32) (v1324 : IVec S16 32) (k0_hw526 : k0_chk526 v1296 v1324), ∀ a x, ((![v1296, v1324] : Fin 2 → IVec S16 32) a x).toNat < S8x2048.size a := fun v1296 v1324 k0_hw526 => k0_hw526

def k0_chk527 (v1296 : IVec S16 32) (v1326 : IVec S16 32) : Prop :=
  (∀ a x, ((![v1296, v1326] : Fin 2 → IVec S16 32) a x).toNat < S8x2048.size a)
theorem k0_idx527_inb : ∀ (v1296 : IVec S16 32) (v1326 : IVec S16 32) (k0_hw527 : k0_chk527 v1296 v1326), ∀ a x, ((![v1296, v1326] : Fin 2 → IVec S16 32) a x).toNat < S8x2048.size a := fun v1296 v1326 k0_hw527 => k0_hw527

def k0_chk528 (v1296 : IVec S16 32) (v1328 : IVec S16 32) : Prop :=
  (∀ a x, ((![v1296, v1328] : Fin 2 → IVec S16 32) a x).toNat < S8x2048.size a)
theorem k0_idx528_inb : ∀ (v1296 : IVec S16 32) (v1328 : IVec S16 32) (k0_hw528 : k0_chk528 v1296 v1328), ∀ a x, ((![v1296, v1328] : Fin 2 → IVec S16 32) a x).toNat < S8x2048.size a := fun v1296 v1328 k0_hw528 => k0_hw528

def k0_chk529 (v1329 : IVec S16 32) (v1331 : IVec S16 32) : Prop :=
  (∀ a x, ((![v1329, v1331] : Fin 2 → IVec S16 32) a x).toNat < S8x2048.size a)
theorem k0_idx529_inb : ∀ (v1329 : IVec S16 32) (v1331 : IVec S16 32) (k0_hw529 : k0_chk529 v1329 v1331), ∀ a x, ((![v1329, v1331] : Fin 2 → IVec S16 32) a x).toNat < S8x2048.size a := fun v1329 v1331 k0_hw529 => k0_hw529

def k0_chk530 (v1329 : IVec S16 32) (v1333 : IVec S16 32) : Prop :=
  (∀ a x, ((![v1329, v1333] : Fin 2 → IVec S16 32) a x).toNat < S8x2048.size a)
theorem k0_idx530_inb : ∀ (v1329 : IVec S16 32) (v1333 : IVec S16 32) (k0_hw530 : k0_chk530 v1329 v1333), ∀ a x, ((![v1329, v1333] : Fin 2 → IVec S16 32) a x).toNat < S8x2048.size a := fun v1329 v1333 k0_hw530 => k0_hw530

def k0_chk531 (v1329 : IVec S16 32) (v1335 : IVec S16 32) : Prop :=
  (∀ a x, ((![v1329, v1335] : Fin 2 → IVec S16 32) a x).toNat < S8x2048.size a)
theorem k0_idx531_inb : ∀ (v1329 : IVec S16 32) (v1335 : IVec S16 32) (k0_hw531 : k0_chk531 v1329 v1335), ∀ a x, ((![v1329, v1335] : Fin 2 → IVec S16 32) a x).toNat < S8x2048.size a := fun v1329 v1335 k0_hw531 => k0_hw531

def k0_chk532 (v1329 : IVec S16 32) (v1337 : IVec S16 32) : Prop :=
  (∀ a x, ((![v1329, v1337] : Fin 2 → IVec S16 32) a x).toNat < S8x2048.size a)
theorem k0_idx532_inb : ∀ (v1329 : IVec S16 32) (v1337 : IVec S16 32) (k0_hw532 : k0_chk532 v1329 v1337), ∀ a x, ((![v1329, v1337] : Fin 2 → IVec S16 32) a x).toNat < S8x2048.size a := fun v1329 v1337 k0_hw532 => k0_hw532

def k0_chk533 (v1329 : IVec S16 32) (v1339 : IVec S16 32) : Prop :=
  (∀ a x, ((![v1329, v1339] : Fin 2 → IVec S16 32) a x).toNat < S8x2048.size a)
theorem k0_idx533_inb : ∀ (v1329 : IVec S16 32) (v1339 : IVec S16 32) (k0_hw533 : k0_chk533 v1329 v1339), ∀ a x, ((![v1329, v1339] : Fin 2 → IVec S16 32) a x).toNat < S8x2048.size a := fun v1329 v1339 k0_hw533 => k0_hw533

def k0_chk534 (v1329 : IVec S16 32) (v1341 : IVec S16 32) : Prop :=
  (∀ a x, ((![v1329, v1341] : Fin 2 → IVec S16 32) a x).toNat < S8x2048.size a)
theorem k0_idx534_inb : ∀ (v1329 : IVec S16 32) (v1341 : IVec S16 32) (k0_hw534 : k0_chk534 v1329 v1341), ∀ a x, ((![v1329, v1341] : Fin 2 → IVec S16 32) a x).toNat < S8x2048.size a := fun v1329 v1341 k0_hw534 => k0_hw534

def k0_chk535 (v1329 : IVec S16 32) (v1343 : IVec S16 32) : Prop :=
  (∀ a x, ((![v1329, v1343] : Fin 2 → IVec S16 32) a x).toNat < S8x2048.size a)
theorem k0_idx535_inb : ∀ (v1329 : IVec S16 32) (v1343 : IVec S16 32) (k0_hw535 : k0_chk535 v1329 v1343), ∀ a x, ((![v1329, v1343] : Fin 2 → IVec S16 32) a x).toNat < S8x2048.size a := fun v1329 v1343 k0_hw535 => k0_hw535

def k0_chk536 (v1329 : IVec S16 32) (v1345 : IVec S16 32) : Prop :=
  (∀ a x, ((![v1329, v1345] : Fin 2 → IVec S16 32) a x).toNat < S8x2048.size a)
theorem k0_idx536_inb : ∀ (v1329 : IVec S16 32) (v1345 : IVec S16 32) (k0_hw536 : k0_chk536 v1329 v1345), ∀ a x, ((![v1329, v1345] : Fin 2 → IVec S16 32) a x).toNat < S8x2048.size a := fun v1329 v1345 k0_hw536 => k0_hw536

def k0_chk537 (v1329 : IVec S16 32) (v1347 : IVec S16 32) : Prop :=
  (∀ a x, ((![v1329, v1347] : Fin 2 → IVec S16 32) a x).toNat < S8x2048.size a)
theorem k0_idx537_inb : ∀ (v1329 : IVec S16 32) (v1347 : IVec S16 32) (k0_hw537 : k0_chk537 v1329 v1347), ∀ a x, ((![v1329, v1347] : Fin 2 → IVec S16 32) a x).toNat < S8x2048.size a := fun v1329 v1347 k0_hw537 => k0_hw537

def k0_chk538 (v1329 : IVec S16 32) (v1349 : IVec S16 32) : Prop :=
  (∀ a x, ((![v1329, v1349] : Fin 2 → IVec S16 32) a x).toNat < S8x2048.size a)
theorem k0_idx538_inb : ∀ (v1329 : IVec S16 32) (v1349 : IVec S16 32) (k0_hw538 : k0_chk538 v1329 v1349), ∀ a x, ((![v1329, v1349] : Fin 2 → IVec S16 32) a x).toNat < S8x2048.size a := fun v1329 v1349 k0_hw538 => k0_hw538

def k0_chk539 (v1329 : IVec S16 32) (v1351 : IVec S16 32) : Prop :=
  (∀ a x, ((![v1329, v1351] : Fin 2 → IVec S16 32) a x).toNat < S8x2048.size a)
theorem k0_idx539_inb : ∀ (v1329 : IVec S16 32) (v1351 : IVec S16 32) (k0_hw539 : k0_chk539 v1329 v1351), ∀ a x, ((![v1329, v1351] : Fin 2 → IVec S16 32) a x).toNat < S8x2048.size a := fun v1329 v1351 k0_hw539 => k0_hw539

def k0_chk540 (v1329 : IVec S16 32) (v1353 : IVec S16 32) : Prop :=
  (∀ a x, ((![v1329, v1353] : Fin 2 → IVec S16 32) a x).toNat < S8x2048.size a)
theorem k0_idx540_inb : ∀ (v1329 : IVec S16 32) (v1353 : IVec S16 32) (k0_hw540 : k0_chk540 v1329 v1353), ∀ a x, ((![v1329, v1353] : Fin 2 → IVec S16 32) a x).toNat < S8x2048.size a := fun v1329 v1353 k0_hw540 => k0_hw540

def k0_chk541 (v1329 : IVec S16 32) (v1355 : IVec S16 32) : Prop :=
  (∀ a x, ((![v1329, v1355] : Fin 2 → IVec S16 32) a x).toNat < S8x2048.size a)
theorem k0_idx541_inb : ∀ (v1329 : IVec S16 32) (v1355 : IVec S16 32) (k0_hw541 : k0_chk541 v1329 v1355), ∀ a x, ((![v1329, v1355] : Fin 2 → IVec S16 32) a x).toNat < S8x2048.size a := fun v1329 v1355 k0_hw541 => k0_hw541

def k0_chk542 (v1329 : IVec S16 32) (v1357 : IVec S16 32) : Prop :=
  (∀ a x, ((![v1329, v1357] : Fin 2 → IVec S16 32) a x).toNat < S8x2048.size a)
theorem k0_idx542_inb : ∀ (v1329 : IVec S16 32) (v1357 : IVec S16 32) (k0_hw542 : k0_chk542 v1329 v1357), ∀ a x, ((![v1329, v1357] : Fin 2 → IVec S16 32) a x).toNat < S8x2048.size a := fun v1329 v1357 k0_hw542 => k0_hw542

def k0_chk543 (v1329 : IVec S16 32) (v1359 : IVec S16 32) : Prop :=
  (∀ a x, ((![v1329, v1359] : Fin 2 → IVec S16 32) a x).toNat < S8x2048.size a)
theorem k0_idx543_inb : ∀ (v1329 : IVec S16 32) (v1359 : IVec S16 32) (k0_hw543 : k0_chk543 v1329 v1359), ∀ a x, ((![v1329, v1359] : Fin 2 → IVec S16 32) a x).toNat < S8x2048.size a := fun v1329 v1359 k0_hw543 => k0_hw543

def k0_chk544 (v1329 : IVec S16 32) (v1361 : IVec S16 32) : Prop :=
  (∀ a x, ((![v1329, v1361] : Fin 2 → IVec S16 32) a x).toNat < S8x2048.size a)
theorem k0_idx544_inb : ∀ (v1329 : IVec S16 32) (v1361 : IVec S16 32) (k0_hw544 : k0_chk544 v1329 v1361), ∀ a x, ((![v1329, v1361] : Fin 2 → IVec S16 32) a x).toNat < S8x2048.size a := fun v1329 v1361 k0_hw544 => k0_hw544

def k0_chk545 (v1362 : IVec S16 32) (v1364 : IVec S16 32) : Prop :=
  (∀ a x, ((![v1362, v1364] : Fin 2 → IVec S16 32) a x).toNat < S8x2048.size a)
theorem k0_idx545_inb : ∀ (v1362 : IVec S16 32) (v1364 : IVec S16 32) (k0_hw545 : k0_chk545 v1362 v1364), ∀ a x, ((![v1362, v1364] : Fin 2 → IVec S16 32) a x).toNat < S8x2048.size a := fun v1362 v1364 k0_hw545 => k0_hw545

def k0_chk546 (v1362 : IVec S16 32) (v1366 : IVec S16 32) : Prop :=
  (∀ a x, ((![v1362, v1366] : Fin 2 → IVec S16 32) a x).toNat < S8x2048.size a)
theorem k0_idx546_inb : ∀ (v1362 : IVec S16 32) (v1366 : IVec S16 32) (k0_hw546 : k0_chk546 v1362 v1366), ∀ a x, ((![v1362, v1366] : Fin 2 → IVec S16 32) a x).toNat < S8x2048.size a := fun v1362 v1366 k0_hw546 => k0_hw546

def k0_chk547 (v1362 : IVec S16 32) (v1368 : IVec S16 32) : Prop :=
  (∀ a x, ((![v1362, v1368] : Fin 2 → IVec S16 32) a x).toNat < S8x2048.size a)
theorem k0_idx547_inb : ∀ (v1362 : IVec S16 32) (v1368 : IVec S16 32) (k0_hw547 : k0_chk547 v1362 v1368), ∀ a x, ((![v1362, v1368] : Fin 2 → IVec S16 32) a x).toNat < S8x2048.size a := fun v1362 v1368 k0_hw547 => k0_hw547

def k0_chk548 (v1362 : IVec S16 32) (v1370 : IVec S16 32) : Prop :=
  (∀ a x, ((![v1362, v1370] : Fin 2 → IVec S16 32) a x).toNat < S8x2048.size a)
theorem k0_idx548_inb : ∀ (v1362 : IVec S16 32) (v1370 : IVec S16 32) (k0_hw548 : k0_chk548 v1362 v1370), ∀ a x, ((![v1362, v1370] : Fin 2 → IVec S16 32) a x).toNat < S8x2048.size a := fun v1362 v1370 k0_hw548 => k0_hw548

def k0_chk549 (v1362 : IVec S16 32) (v1372 : IVec S16 32) : Prop :=
  (∀ a x, ((![v1362, v1372] : Fin 2 → IVec S16 32) a x).toNat < S8x2048.size a)
theorem k0_idx549_inb : ∀ (v1362 : IVec S16 32) (v1372 : IVec S16 32) (k0_hw549 : k0_chk549 v1362 v1372), ∀ a x, ((![v1362, v1372] : Fin 2 → IVec S16 32) a x).toNat < S8x2048.size a := fun v1362 v1372 k0_hw549 => k0_hw549

def k0_chk550 (v1362 : IVec S16 32) (v1374 : IVec S16 32) : Prop :=
  (∀ a x, ((![v1362, v1374] : Fin 2 → IVec S16 32) a x).toNat < S8x2048.size a)
theorem k0_idx550_inb : ∀ (v1362 : IVec S16 32) (v1374 : IVec S16 32) (k0_hw550 : k0_chk550 v1362 v1374), ∀ a x, ((![v1362, v1374] : Fin 2 → IVec S16 32) a x).toNat < S8x2048.size a := fun v1362 v1374 k0_hw550 => k0_hw550

def k0_chk551 (v1362 : IVec S16 32) (v1376 : IVec S16 32) : Prop :=
  (∀ a x, ((![v1362, v1376] : Fin 2 → IVec S16 32) a x).toNat < S8x2048.size a)
theorem k0_idx551_inb : ∀ (v1362 : IVec S16 32) (v1376 : IVec S16 32) (k0_hw551 : k0_chk551 v1362 v1376), ∀ a x, ((![v1362, v1376] : Fin 2 → IVec S16 32) a x).toNat < S8x2048.size a := fun v1362 v1376 k0_hw551 => k0_hw551

def k0_chk552 (v1362 : IVec S16 32) (v1378 : IVec S16 32) : Prop :=
  (∀ a x, ((![v1362, v1378] : Fin 2 → IVec S16 32) a x).toNat < S8x2048.size a)
theorem k0_idx552_inb : ∀ (v1362 : IVec S16 32) (v1378 : IVec S16 32) (k0_hw552 : k0_chk552 v1362 v1378), ∀ a x, ((![v1362, v1378] : Fin 2 → IVec S16 32) a x).toNat < S8x2048.size a := fun v1362 v1378 k0_hw552 => k0_hw552

def k0_chk553 (v1362 : IVec S16 32) (v1380 : IVec S16 32) : Prop :=
  (∀ a x, ((![v1362, v1380] : Fin 2 → IVec S16 32) a x).toNat < S8x2048.size a)
theorem k0_idx553_inb : ∀ (v1362 : IVec S16 32) (v1380 : IVec S16 32) (k0_hw553 : k0_chk553 v1362 v1380), ∀ a x, ((![v1362, v1380] : Fin 2 → IVec S16 32) a x).toNat < S8x2048.size a := fun v1362 v1380 k0_hw553 => k0_hw553

def k0_chk554 (v1362 : IVec S16 32) (v1382 : IVec S16 32) : Prop :=
  (∀ a x, ((![v1362, v1382] : Fin 2 → IVec S16 32) a x).toNat < S8x2048.size a)
theorem k0_idx554_inb : ∀ (v1362 : IVec S16 32) (v1382 : IVec S16 32) (k0_hw554 : k0_chk554 v1362 v1382), ∀ a x, ((![v1362, v1382] : Fin 2 → IVec S16 32) a x).toNat < S8x2048.size a := fun v1362 v1382 k0_hw554 => k0_hw554

def k0_chk555 (v1362 : IVec S16 32) (v1384 : IVec S16 32) : Prop :=
  (∀ a x, ((![v1362, v1384] : Fin 2 → IVec S16 32) a x).toNat < S8x2048.size a)
theorem k0_idx555_inb : ∀ (v1362 : IVec S16 32) (v1384 : IVec S16 32) (k0_hw555 : k0_chk555 v1362 v1384), ∀ a x, ((![v1362, v1384] : Fin 2 → IVec S16 32) a x).toNat < S8x2048.size a := fun v1362 v1384 k0_hw555 => k0_hw555

def k0_chk556 (v1362 : IVec S16 32) (v1386 : IVec S16 32) : Prop :=
  (∀ a x, ((![v1362, v1386] : Fin 2 → IVec S16 32) a x).toNat < S8x2048.size a)
theorem k0_idx556_inb : ∀ (v1362 : IVec S16 32) (v1386 : IVec S16 32) (k0_hw556 : k0_chk556 v1362 v1386), ∀ a x, ((![v1362, v1386] : Fin 2 → IVec S16 32) a x).toNat < S8x2048.size a := fun v1362 v1386 k0_hw556 => k0_hw556

def k0_chk557 (v1362 : IVec S16 32) (v1388 : IVec S16 32) : Prop :=
  (∀ a x, ((![v1362, v1388] : Fin 2 → IVec S16 32) a x).toNat < S8x2048.size a)
theorem k0_idx557_inb : ∀ (v1362 : IVec S16 32) (v1388 : IVec S16 32) (k0_hw557 : k0_chk557 v1362 v1388), ∀ a x, ((![v1362, v1388] : Fin 2 → IVec S16 32) a x).toNat < S8x2048.size a := fun v1362 v1388 k0_hw557 => k0_hw557

def k0_chk558 (v1362 : IVec S16 32) (v1390 : IVec S16 32) : Prop :=
  (∀ a x, ((![v1362, v1390] : Fin 2 → IVec S16 32) a x).toNat < S8x2048.size a)
theorem k0_idx558_inb : ∀ (v1362 : IVec S16 32) (v1390 : IVec S16 32) (k0_hw558 : k0_chk558 v1362 v1390), ∀ a x, ((![v1362, v1390] : Fin 2 → IVec S16 32) a x).toNat < S8x2048.size a := fun v1362 v1390 k0_hw558 => k0_hw558

def k0_chk559 (v1362 : IVec S16 32) (v1392 : IVec S16 32) : Prop :=
  (∀ a x, ((![v1362, v1392] : Fin 2 → IVec S16 32) a x).toNat < S8x2048.size a)
theorem k0_idx559_inb : ∀ (v1362 : IVec S16 32) (v1392 : IVec S16 32) (k0_hw559 : k0_chk559 v1362 v1392), ∀ a x, ((![v1362, v1392] : Fin 2 → IVec S16 32) a x).toNat < S8x2048.size a := fun v1362 v1392 k0_hw559 => k0_hw559

def k0_chk560 (v1362 : IVec S16 32) (v1394 : IVec S16 32) : Prop :=
  (∀ a x, ((![v1362, v1394] : Fin 2 → IVec S16 32) a x).toNat < S8x2048.size a)
theorem k0_idx560_inb : ∀ (v1362 : IVec S16 32) (v1394 : IVec S16 32) (k0_hw560 : k0_chk560 v1362 v1394), ∀ a x, ((![v1362, v1394] : Fin 2 → IVec S16 32) a x).toNat < S8x2048.size a := fun v1362 v1394 k0_hw560 => k0_hw560

def k0_chk561 (v1395 : IVec S16 32) (v1397 : IVec S16 32) : Prop :=
  (∀ a x, ((![v1395, v1397] : Fin 2 → IVec S16 32) a x).toNat < S8x2048.size a)
theorem k0_idx561_inb : ∀ (v1395 : IVec S16 32) (v1397 : IVec S16 32) (k0_hw561 : k0_chk561 v1395 v1397), ∀ a x, ((![v1395, v1397] : Fin 2 → IVec S16 32) a x).toNat < S8x2048.size a := fun v1395 v1397 k0_hw561 => k0_hw561

def k0_chk562 (v1395 : IVec S16 32) (v1399 : IVec S16 32) : Prop :=
  (∀ a x, ((![v1395, v1399] : Fin 2 → IVec S16 32) a x).toNat < S8x2048.size a)
theorem k0_idx562_inb : ∀ (v1395 : IVec S16 32) (v1399 : IVec S16 32) (k0_hw562 : k0_chk562 v1395 v1399), ∀ a x, ((![v1395, v1399] : Fin 2 → IVec S16 32) a x).toNat < S8x2048.size a := fun v1395 v1399 k0_hw562 => k0_hw562

def k0_chk563 (v1395 : IVec S16 32) (v1401 : IVec S16 32) : Prop :=
  (∀ a x, ((![v1395, v1401] : Fin 2 → IVec S16 32) a x).toNat < S8x2048.size a)
theorem k0_idx563_inb : ∀ (v1395 : IVec S16 32) (v1401 : IVec S16 32) (k0_hw563 : k0_chk563 v1395 v1401), ∀ a x, ((![v1395, v1401] : Fin 2 → IVec S16 32) a x).toNat < S8x2048.size a := fun v1395 v1401 k0_hw563 => k0_hw563

def k0_chk564 (v1395 : IVec S16 32) (v1403 : IVec S16 32) : Prop :=
  (∀ a x, ((![v1395, v1403] : Fin 2 → IVec S16 32) a x).toNat < S8x2048.size a)
theorem k0_idx564_inb : ∀ (v1395 : IVec S16 32) (v1403 : IVec S16 32) (k0_hw564 : k0_chk564 v1395 v1403), ∀ a x, ((![v1395, v1403] : Fin 2 → IVec S16 32) a x).toNat < S8x2048.size a := fun v1395 v1403 k0_hw564 => k0_hw564

def k0_chk565 (v1395 : IVec S16 32) (v1405 : IVec S16 32) : Prop :=
  (∀ a x, ((![v1395, v1405] : Fin 2 → IVec S16 32) a x).toNat < S8x2048.size a)
theorem k0_idx565_inb : ∀ (v1395 : IVec S16 32) (v1405 : IVec S16 32) (k0_hw565 : k0_chk565 v1395 v1405), ∀ a x, ((![v1395, v1405] : Fin 2 → IVec S16 32) a x).toNat < S8x2048.size a := fun v1395 v1405 k0_hw565 => k0_hw565

def k0_chk566 (v1395 : IVec S16 32) (v1407 : IVec S16 32) : Prop :=
  (∀ a x, ((![v1395, v1407] : Fin 2 → IVec S16 32) a x).toNat < S8x2048.size a)
theorem k0_idx566_inb : ∀ (v1395 : IVec S16 32) (v1407 : IVec S16 32) (k0_hw566 : k0_chk566 v1395 v1407), ∀ a x, ((![v1395, v1407] : Fin 2 → IVec S16 32) a x).toNat < S8x2048.size a := fun v1395 v1407 k0_hw566 => k0_hw566

def k0_chk567 (v1395 : IVec S16 32) (v1409 : IVec S16 32) : Prop :=
  (∀ a x, ((![v1395, v1409] : Fin 2 → IVec S16 32) a x).toNat < S8x2048.size a)
theorem k0_idx567_inb : ∀ (v1395 : IVec S16 32) (v1409 : IVec S16 32) (k0_hw567 : k0_chk567 v1395 v1409), ∀ a x, ((![v1395, v1409] : Fin 2 → IVec S16 32) a x).toNat < S8x2048.size a := fun v1395 v1409 k0_hw567 => k0_hw567

def k0_chk568 (v1395 : IVec S16 32) (v1411 : IVec S16 32) : Prop :=
  (∀ a x, ((![v1395, v1411] : Fin 2 → IVec S16 32) a x).toNat < S8x2048.size a)
theorem k0_idx568_inb : ∀ (v1395 : IVec S16 32) (v1411 : IVec S16 32) (k0_hw568 : k0_chk568 v1395 v1411), ∀ a x, ((![v1395, v1411] : Fin 2 → IVec S16 32) a x).toNat < S8x2048.size a := fun v1395 v1411 k0_hw568 => k0_hw568

def k0_chk569 (v1395 : IVec S16 32) (v1413 : IVec S16 32) : Prop :=
  (∀ a x, ((![v1395, v1413] : Fin 2 → IVec S16 32) a x).toNat < S8x2048.size a)
theorem k0_idx569_inb : ∀ (v1395 : IVec S16 32) (v1413 : IVec S16 32) (k0_hw569 : k0_chk569 v1395 v1413), ∀ a x, ((![v1395, v1413] : Fin 2 → IVec S16 32) a x).toNat < S8x2048.size a := fun v1395 v1413 k0_hw569 => k0_hw569

def k0_chk570 (v1395 : IVec S16 32) (v1415 : IVec S16 32) : Prop :=
  (∀ a x, ((![v1395, v1415] : Fin 2 → IVec S16 32) a x).toNat < S8x2048.size a)
theorem k0_idx570_inb : ∀ (v1395 : IVec S16 32) (v1415 : IVec S16 32) (k0_hw570 : k0_chk570 v1395 v1415), ∀ a x, ((![v1395, v1415] : Fin 2 → IVec S16 32) a x).toNat < S8x2048.size a := fun v1395 v1415 k0_hw570 => k0_hw570

def k0_chk571 (v1395 : IVec S16 32) (v1417 : IVec S16 32) : Prop :=
  (∀ a x, ((![v1395, v1417] : Fin 2 → IVec S16 32) a x).toNat < S8x2048.size a)
theorem k0_idx571_inb : ∀ (v1395 : IVec S16 32) (v1417 : IVec S16 32) (k0_hw571 : k0_chk571 v1395 v1417), ∀ a x, ((![v1395, v1417] : Fin 2 → IVec S16 32) a x).toNat < S8x2048.size a := fun v1395 v1417 k0_hw571 => k0_hw571

def k0_chk572 (v1395 : IVec S16 32) (v1419 : IVec S16 32) : Prop :=
  (∀ a x, ((![v1395, v1419] : Fin 2 → IVec S16 32) a x).toNat < S8x2048.size a)
theorem k0_idx572_inb : ∀ (v1395 : IVec S16 32) (v1419 : IVec S16 32) (k0_hw572 : k0_chk572 v1395 v1419), ∀ a x, ((![v1395, v1419] : Fin 2 → IVec S16 32) a x).toNat < S8x2048.size a := fun v1395 v1419 k0_hw572 => k0_hw572

def k0_chk573 (v1395 : IVec S16 32) (v1421 : IVec S16 32) : Prop :=
  (∀ a x, ((![v1395, v1421] : Fin 2 → IVec S16 32) a x).toNat < S8x2048.size a)
theorem k0_idx573_inb : ∀ (v1395 : IVec S16 32) (v1421 : IVec S16 32) (k0_hw573 : k0_chk573 v1395 v1421), ∀ a x, ((![v1395, v1421] : Fin 2 → IVec S16 32) a x).toNat < S8x2048.size a := fun v1395 v1421 k0_hw573 => k0_hw573

def k0_chk574 (v1395 : IVec S16 32) (v1423 : IVec S16 32) : Prop :=
  (∀ a x, ((![v1395, v1423] : Fin 2 → IVec S16 32) a x).toNat < S8x2048.size a)
theorem k0_idx574_inb : ∀ (v1395 : IVec S16 32) (v1423 : IVec S16 32) (k0_hw574 : k0_chk574 v1395 v1423), ∀ a x, ((![v1395, v1423] : Fin 2 → IVec S16 32) a x).toNat < S8x2048.size a := fun v1395 v1423 k0_hw574 => k0_hw574

def k0_chk575 (v1395 : IVec S16 32) (v1425 : IVec S16 32) : Prop :=
  (∀ a x, ((![v1395, v1425] : Fin 2 → IVec S16 32) a x).toNat < S8x2048.size a)
theorem k0_idx575_inb : ∀ (v1395 : IVec S16 32) (v1425 : IVec S16 32) (k0_hw575 : k0_chk575 v1395 v1425), ∀ a x, ((![v1395, v1425] : Fin 2 → IVec S16 32) a x).toNat < S8x2048.size a := fun v1395 v1425 k0_hw575 => k0_hw575

def k0_chk576 (v1395 : IVec S16 32) (v1427 : IVec S16 32) : Prop :=
  (∀ a x, ((![v1395, v1427] : Fin 2 → IVec S16 32) a x).toNat < S8x2048.size a)
theorem k0_idx576_inb : ∀ (v1395 : IVec S16 32) (v1427 : IVec S16 32) (k0_hw576 : k0_chk576 v1395 v1427), ∀ a x, ((![v1395, v1427] : Fin 2 → IVec S16 32) a x).toNat < S8x2048.size a := fun v1395 v1427 k0_hw576 => k0_hw576

def k0_chk577 (v1428 : IVec S16 32) (v1430 : IVec S16 32) : Prop :=
  (∀ a x, ((![v1428, v1430] : Fin 2 → IVec S16 32) a x).toNat < S8x2048.size a)
theorem k0_idx577_inb : ∀ (v1428 : IVec S16 32) (v1430 : IVec S16 32) (k0_hw577 : k0_chk577 v1428 v1430), ∀ a x, ((![v1428, v1430] : Fin 2 → IVec S16 32) a x).toNat < S8x2048.size a := fun v1428 v1430 k0_hw577 => k0_hw577

def k0_chk578 (v1428 : IVec S16 32) (v1432 : IVec S16 32) : Prop :=
  (∀ a x, ((![v1428, v1432] : Fin 2 → IVec S16 32) a x).toNat < S8x2048.size a)
theorem k0_idx578_inb : ∀ (v1428 : IVec S16 32) (v1432 : IVec S16 32) (k0_hw578 : k0_chk578 v1428 v1432), ∀ a x, ((![v1428, v1432] : Fin 2 → IVec S16 32) a x).toNat < S8x2048.size a := fun v1428 v1432 k0_hw578 => k0_hw578

def k0_chk579 (v1428 : IVec S16 32) (v1434 : IVec S16 32) : Prop :=
  (∀ a x, ((![v1428, v1434] : Fin 2 → IVec S16 32) a x).toNat < S8x2048.size a)
theorem k0_idx579_inb : ∀ (v1428 : IVec S16 32) (v1434 : IVec S16 32) (k0_hw579 : k0_chk579 v1428 v1434), ∀ a x, ((![v1428, v1434] : Fin 2 → IVec S16 32) a x).toNat < S8x2048.size a := fun v1428 v1434 k0_hw579 => k0_hw579

def k0_chk580 (v1428 : IVec S16 32) (v1436 : IVec S16 32) : Prop :=
  (∀ a x, ((![v1428, v1436] : Fin 2 → IVec S16 32) a x).toNat < S8x2048.size a)
theorem k0_idx580_inb : ∀ (v1428 : IVec S16 32) (v1436 : IVec S16 32) (k0_hw580 : k0_chk580 v1428 v1436), ∀ a x, ((![v1428, v1436] : Fin 2 → IVec S16 32) a x).toNat < S8x2048.size a := fun v1428 v1436 k0_hw580 => k0_hw580

def k0_chk581 (v1428 : IVec S16 32) (v1438 : IVec S16 32) : Prop :=
  (∀ a x, ((![v1428, v1438] : Fin 2 → IVec S16 32) a x).toNat < S8x2048.size a)
theorem k0_idx581_inb : ∀ (v1428 : IVec S16 32) (v1438 : IVec S16 32) (k0_hw581 : k0_chk581 v1428 v1438), ∀ a x, ((![v1428, v1438] : Fin 2 → IVec S16 32) a x).toNat < S8x2048.size a := fun v1428 v1438 k0_hw581 => k0_hw581

def k0_chk582 (v1428 : IVec S16 32) (v1440 : IVec S16 32) : Prop :=
  (∀ a x, ((![v1428, v1440] : Fin 2 → IVec S16 32) a x).toNat < S8x2048.size a)
theorem k0_idx582_inb : ∀ (v1428 : IVec S16 32) (v1440 : IVec S16 32) (k0_hw582 : k0_chk582 v1428 v1440), ∀ a x, ((![v1428, v1440] : Fin 2 → IVec S16 32) a x).toNat < S8x2048.size a := fun v1428 v1440 k0_hw582 => k0_hw582

def k0_chk583 (v1428 : IVec S16 32) (v1442 : IVec S16 32) : Prop :=
  (∀ a x, ((![v1428, v1442] : Fin 2 → IVec S16 32) a x).toNat < S8x2048.size a)
theorem k0_idx583_inb : ∀ (v1428 : IVec S16 32) (v1442 : IVec S16 32) (k0_hw583 : k0_chk583 v1428 v1442), ∀ a x, ((![v1428, v1442] : Fin 2 → IVec S16 32) a x).toNat < S8x2048.size a := fun v1428 v1442 k0_hw583 => k0_hw583

def k0_chk584 (v1428 : IVec S16 32) (v1444 : IVec S16 32) : Prop :=
  (∀ a x, ((![v1428, v1444] : Fin 2 → IVec S16 32) a x).toNat < S8x2048.size a)
theorem k0_idx584_inb : ∀ (v1428 : IVec S16 32) (v1444 : IVec S16 32) (k0_hw584 : k0_chk584 v1428 v1444), ∀ a x, ((![v1428, v1444] : Fin 2 → IVec S16 32) a x).toNat < S8x2048.size a := fun v1428 v1444 k0_hw584 => k0_hw584

def k0_chk585 (v1428 : IVec S16 32) (v1446 : IVec S16 32) : Prop :=
  (∀ a x, ((![v1428, v1446] : Fin 2 → IVec S16 32) a x).toNat < S8x2048.size a)
theorem k0_idx585_inb : ∀ (v1428 : IVec S16 32) (v1446 : IVec S16 32) (k0_hw585 : k0_chk585 v1428 v1446), ∀ a x, ((![v1428, v1446] : Fin 2 → IVec S16 32) a x).toNat < S8x2048.size a := fun v1428 v1446 k0_hw585 => k0_hw585

def k0_chk586 (v1428 : IVec S16 32) (v1448 : IVec S16 32) : Prop :=
  (∀ a x, ((![v1428, v1448] : Fin 2 → IVec S16 32) a x).toNat < S8x2048.size a)
theorem k0_idx586_inb : ∀ (v1428 : IVec S16 32) (v1448 : IVec S16 32) (k0_hw586 : k0_chk586 v1428 v1448), ∀ a x, ((![v1428, v1448] : Fin 2 → IVec S16 32) a x).toNat < S8x2048.size a := fun v1428 v1448 k0_hw586 => k0_hw586

def k0_chk587 (v1428 : IVec S16 32) (v1450 : IVec S16 32) : Prop :=
  (∀ a x, ((![v1428, v1450] : Fin 2 → IVec S16 32) a x).toNat < S8x2048.size a)
theorem k0_idx587_inb : ∀ (v1428 : IVec S16 32) (v1450 : IVec S16 32) (k0_hw587 : k0_chk587 v1428 v1450), ∀ a x, ((![v1428, v1450] : Fin 2 → IVec S16 32) a x).toNat < S8x2048.size a := fun v1428 v1450 k0_hw587 => k0_hw587

def k0_chk588 (v1428 : IVec S16 32) (v1452 : IVec S16 32) : Prop :=
  (∀ a x, ((![v1428, v1452] : Fin 2 → IVec S16 32) a x).toNat < S8x2048.size a)
theorem k0_idx588_inb : ∀ (v1428 : IVec S16 32) (v1452 : IVec S16 32) (k0_hw588 : k0_chk588 v1428 v1452), ∀ a x, ((![v1428, v1452] : Fin 2 → IVec S16 32) a x).toNat < S8x2048.size a := fun v1428 v1452 k0_hw588 => k0_hw588

def k0_chk589 (v1428 : IVec S16 32) (v1454 : IVec S16 32) : Prop :=
  (∀ a x, ((![v1428, v1454] : Fin 2 → IVec S16 32) a x).toNat < S8x2048.size a)
theorem k0_idx589_inb : ∀ (v1428 : IVec S16 32) (v1454 : IVec S16 32) (k0_hw589 : k0_chk589 v1428 v1454), ∀ a x, ((![v1428, v1454] : Fin 2 → IVec S16 32) a x).toNat < S8x2048.size a := fun v1428 v1454 k0_hw589 => k0_hw589

def k0_chk590 (v1428 : IVec S16 32) (v1456 : IVec S16 32) : Prop :=
  (∀ a x, ((![v1428, v1456] : Fin 2 → IVec S16 32) a x).toNat < S8x2048.size a)
theorem k0_idx590_inb : ∀ (v1428 : IVec S16 32) (v1456 : IVec S16 32) (k0_hw590 : k0_chk590 v1428 v1456), ∀ a x, ((![v1428, v1456] : Fin 2 → IVec S16 32) a x).toNat < S8x2048.size a := fun v1428 v1456 k0_hw590 => k0_hw590

def k0_chk591 (v1428 : IVec S16 32) (v1458 : IVec S16 32) : Prop :=
  (∀ a x, ((![v1428, v1458] : Fin 2 → IVec S16 32) a x).toNat < S8x2048.size a)
theorem k0_idx591_inb : ∀ (v1428 : IVec S16 32) (v1458 : IVec S16 32) (k0_hw591 : k0_chk591 v1428 v1458), ∀ a x, ((![v1428, v1458] : Fin 2 → IVec S16 32) a x).toNat < S8x2048.size a := fun v1428 v1458 k0_hw591 => k0_hw591

def k0_chk592 (v1428 : IVec S16 32) (v1460 : IVec S16 32) : Prop :=
  (∀ a x, ((![v1428, v1460] : Fin 2 → IVec S16 32) a x).toNat < S8x2048.size a)
theorem k0_idx592_inb : ∀ (v1428 : IVec S16 32) (v1460 : IVec S16 32) (k0_hw592 : k0_chk592 v1428 v1460), ∀ a x, ((![v1428, v1460] : Fin 2 → IVec S16 32) a x).toNat < S8x2048.size a := fun v1428 v1460 k0_hw592 => k0_hw592

def k0_chk593 (v1461 : IVec S16 32) (v1463 : IVec S16 32) : Prop :=
  (∀ a x, ((![v1461, v1463] : Fin 2 → IVec S16 32) a x).toNat < S8x2048.size a)
theorem k0_idx593_inb : ∀ (v1461 : IVec S16 32) (v1463 : IVec S16 32) (k0_hw593 : k0_chk593 v1461 v1463), ∀ a x, ((![v1461, v1463] : Fin 2 → IVec S16 32) a x).toNat < S8x2048.size a := fun v1461 v1463 k0_hw593 => k0_hw593

def k0_chk594 (v1461 : IVec S16 32) (v1465 : IVec S16 32) : Prop :=
  (∀ a x, ((![v1461, v1465] : Fin 2 → IVec S16 32) a x).toNat < S8x2048.size a)
theorem k0_idx594_inb : ∀ (v1461 : IVec S16 32) (v1465 : IVec S16 32) (k0_hw594 : k0_chk594 v1461 v1465), ∀ a x, ((![v1461, v1465] : Fin 2 → IVec S16 32) a x).toNat < S8x2048.size a := fun v1461 v1465 k0_hw594 => k0_hw594

def k0_chk595 (v1461 : IVec S16 32) (v1467 : IVec S16 32) : Prop :=
  (∀ a x, ((![v1461, v1467] : Fin 2 → IVec S16 32) a x).toNat < S8x2048.size a)
theorem k0_idx595_inb : ∀ (v1461 : IVec S16 32) (v1467 : IVec S16 32) (k0_hw595 : k0_chk595 v1461 v1467), ∀ a x, ((![v1461, v1467] : Fin 2 → IVec S16 32) a x).toNat < S8x2048.size a := fun v1461 v1467 k0_hw595 => k0_hw595

def k0_chk596 (v1461 : IVec S16 32) (v1469 : IVec S16 32) : Prop :=
  (∀ a x, ((![v1461, v1469] : Fin 2 → IVec S16 32) a x).toNat < S8x2048.size a)
theorem k0_idx596_inb : ∀ (v1461 : IVec S16 32) (v1469 : IVec S16 32) (k0_hw596 : k0_chk596 v1461 v1469), ∀ a x, ((![v1461, v1469] : Fin 2 → IVec S16 32) a x).toNat < S8x2048.size a := fun v1461 v1469 k0_hw596 => k0_hw596

def k0_chk597 (v1461 : IVec S16 32) (v1471 : IVec S16 32) : Prop :=
  (∀ a x, ((![v1461, v1471] : Fin 2 → IVec S16 32) a x).toNat < S8x2048.size a)
theorem k0_idx597_inb : ∀ (v1461 : IVec S16 32) (v1471 : IVec S16 32) (k0_hw597 : k0_chk597 v1461 v1471), ∀ a x, ((![v1461, v1471] : Fin 2 → IVec S16 32) a x).toNat < S8x2048.size a := fun v1461 v1471 k0_hw597 => k0_hw597

def k0_chk598 (v1461 : IVec S16 32) (v1473 : IVec S16 32) : Prop :=
  (∀ a x, ((![v1461, v1473] : Fin 2 → IVec S16 32) a x).toNat < S8x2048.size a)
theorem k0_idx598_inb : ∀ (v1461 : IVec S16 32) (v1473 : IVec S16 32) (k0_hw598 : k0_chk598 v1461 v1473), ∀ a x, ((![v1461, v1473] : Fin 2 → IVec S16 32) a x).toNat < S8x2048.size a := fun v1461 v1473 k0_hw598 => k0_hw598

def k0_chk599 (v1461 : IVec S16 32) (v1475 : IVec S16 32) : Prop :=
  (∀ a x, ((![v1461, v1475] : Fin 2 → IVec S16 32) a x).toNat < S8x2048.size a)
theorem k0_idx599_inb : ∀ (v1461 : IVec S16 32) (v1475 : IVec S16 32) (k0_hw599 : k0_chk599 v1461 v1475), ∀ a x, ((![v1461, v1475] : Fin 2 → IVec S16 32) a x).toNat < S8x2048.size a := fun v1461 v1475 k0_hw599 => k0_hw599

def k0_chk600 (v1461 : IVec S16 32) (v1477 : IVec S16 32) : Prop :=
  (∀ a x, ((![v1461, v1477] : Fin 2 → IVec S16 32) a x).toNat < S8x2048.size a)
theorem k0_idx600_inb : ∀ (v1461 : IVec S16 32) (v1477 : IVec S16 32) (k0_hw600 : k0_chk600 v1461 v1477), ∀ a x, ((![v1461, v1477] : Fin 2 → IVec S16 32) a x).toNat < S8x2048.size a := fun v1461 v1477 k0_hw600 => k0_hw600

def k0_chk601 (v1461 : IVec S16 32) (v1479 : IVec S16 32) : Prop :=
  (∀ a x, ((![v1461, v1479] : Fin 2 → IVec S16 32) a x).toNat < S8x2048.size a)
theorem k0_idx601_inb : ∀ (v1461 : IVec S16 32) (v1479 : IVec S16 32) (k0_hw601 : k0_chk601 v1461 v1479), ∀ a x, ((![v1461, v1479] : Fin 2 → IVec S16 32) a x).toNat < S8x2048.size a := fun v1461 v1479 k0_hw601 => k0_hw601

def k0_chk602 (v1461 : IVec S16 32) (v1481 : IVec S16 32) : Prop :=
  (∀ a x, ((![v1461, v1481] : Fin 2 → IVec S16 32) a x).toNat < S8x2048.size a)
theorem k0_idx602_inb : ∀ (v1461 : IVec S16 32) (v1481 : IVec S16 32) (k0_hw602 : k0_chk602 v1461 v1481), ∀ a x, ((![v1461, v1481] : Fin 2 → IVec S16 32) a x).toNat < S8x2048.size a := fun v1461 v1481 k0_hw602 => k0_hw602

def k0_chk603 (v1461 : IVec S16 32) (v1483 : IVec S16 32) : Prop :=
  (∀ a x, ((![v1461, v1483] : Fin 2 → IVec S16 32) a x).toNat < S8x2048.size a)
theorem k0_idx603_inb : ∀ (v1461 : IVec S16 32) (v1483 : IVec S16 32) (k0_hw603 : k0_chk603 v1461 v1483), ∀ a x, ((![v1461, v1483] : Fin 2 → IVec S16 32) a x).toNat < S8x2048.size a := fun v1461 v1483 k0_hw603 => k0_hw603

def k0_chk604 (v1461 : IVec S16 32) (v1485 : IVec S16 32) : Prop :=
  (∀ a x, ((![v1461, v1485] : Fin 2 → IVec S16 32) a x).toNat < S8x2048.size a)
theorem k0_idx604_inb : ∀ (v1461 : IVec S16 32) (v1485 : IVec S16 32) (k0_hw604 : k0_chk604 v1461 v1485), ∀ a x, ((![v1461, v1485] : Fin 2 → IVec S16 32) a x).toNat < S8x2048.size a := fun v1461 v1485 k0_hw604 => k0_hw604

def k0_chk605 (v1461 : IVec S16 32) (v1487 : IVec S16 32) : Prop :=
  (∀ a x, ((![v1461, v1487] : Fin 2 → IVec S16 32) a x).toNat < S8x2048.size a)
theorem k0_idx605_inb : ∀ (v1461 : IVec S16 32) (v1487 : IVec S16 32) (k0_hw605 : k0_chk605 v1461 v1487), ∀ a x, ((![v1461, v1487] : Fin 2 → IVec S16 32) a x).toNat < S8x2048.size a := fun v1461 v1487 k0_hw605 => k0_hw605

def k0_chk606 (v1461 : IVec S16 32) (v1489 : IVec S16 32) : Prop :=
  (∀ a x, ((![v1461, v1489] : Fin 2 → IVec S16 32) a x).toNat < S8x2048.size a)
theorem k0_idx606_inb : ∀ (v1461 : IVec S16 32) (v1489 : IVec S16 32) (k0_hw606 : k0_chk606 v1461 v1489), ∀ a x, ((![v1461, v1489] : Fin 2 → IVec S16 32) a x).toNat < S8x2048.size a := fun v1461 v1489 k0_hw606 => k0_hw606

def k0_chk607 (v1461 : IVec S16 32) (v1491 : IVec S16 32) : Prop :=
  (∀ a x, ((![v1461, v1491] : Fin 2 → IVec S16 32) a x).toNat < S8x2048.size a)
theorem k0_idx607_inb : ∀ (v1461 : IVec S16 32) (v1491 : IVec S16 32) (k0_hw607 : k0_chk607 v1461 v1491), ∀ a x, ((![v1461, v1491] : Fin 2 → IVec S16 32) a x).toNat < S8x2048.size a := fun v1461 v1491 k0_hw607 => k0_hw607

def k0_chk608 (v1461 : IVec S16 32) (v1493 : IVec S16 32) : Prop :=
  (∀ a x, ((![v1461, v1493] : Fin 2 → IVec S16 32) a x).toNat < S8x2048.size a)
theorem k0_idx608_inb : ∀ (v1461 : IVec S16 32) (v1493 : IVec S16 32) (k0_hw608 : k0_chk608 v1461 v1493), ∀ a x, ((![v1461, v1493] : Fin 2 → IVec S16 32) a x).toNat < S8x2048.size a := fun v1461 v1493 k0_hw608 => k0_hw608

def k0_chk609 (v1494 : IVec S16 32) (v1496 : IVec S16 32) : Prop :=
  (∀ a x, ((![v1494, v1496] : Fin 2 → IVec S16 32) a x).toNat < S8x2048.size a)
theorem k0_idx609_inb : ∀ (v1494 : IVec S16 32) (v1496 : IVec S16 32) (k0_hw609 : k0_chk609 v1494 v1496), ∀ a x, ((![v1494, v1496] : Fin 2 → IVec S16 32) a x).toNat < S8x2048.size a := fun v1494 v1496 k0_hw609 => k0_hw609

def k0_chk610 (v1494 : IVec S16 32) (v1498 : IVec S16 32) : Prop :=
  (∀ a x, ((![v1494, v1498] : Fin 2 → IVec S16 32) a x).toNat < S8x2048.size a)
theorem k0_idx610_inb : ∀ (v1494 : IVec S16 32) (v1498 : IVec S16 32) (k0_hw610 : k0_chk610 v1494 v1498), ∀ a x, ((![v1494, v1498] : Fin 2 → IVec S16 32) a x).toNat < S8x2048.size a := fun v1494 v1498 k0_hw610 => k0_hw610

def k0_chk611 (v1494 : IVec S16 32) (v1500 : IVec S16 32) : Prop :=
  (∀ a x, ((![v1494, v1500] : Fin 2 → IVec S16 32) a x).toNat < S8x2048.size a)
theorem k0_idx611_inb : ∀ (v1494 : IVec S16 32) (v1500 : IVec S16 32) (k0_hw611 : k0_chk611 v1494 v1500), ∀ a x, ((![v1494, v1500] : Fin 2 → IVec S16 32) a x).toNat < S8x2048.size a := fun v1494 v1500 k0_hw611 => k0_hw611

def k0_chk612 (v1494 : IVec S16 32) (v1502 : IVec S16 32) : Prop :=
  (∀ a x, ((![v1494, v1502] : Fin 2 → IVec S16 32) a x).toNat < S8x2048.size a)
theorem k0_idx612_inb : ∀ (v1494 : IVec S16 32) (v1502 : IVec S16 32) (k0_hw612 : k0_chk612 v1494 v1502), ∀ a x, ((![v1494, v1502] : Fin 2 → IVec S16 32) a x).toNat < S8x2048.size a := fun v1494 v1502 k0_hw612 => k0_hw612

def k0_chk613 (v1494 : IVec S16 32) (v1504 : IVec S16 32) : Prop :=
  (∀ a x, ((![v1494, v1504] : Fin 2 → IVec S16 32) a x).toNat < S8x2048.size a)
theorem k0_idx613_inb : ∀ (v1494 : IVec S16 32) (v1504 : IVec S16 32) (k0_hw613 : k0_chk613 v1494 v1504), ∀ a x, ((![v1494, v1504] : Fin 2 → IVec S16 32) a x).toNat < S8x2048.size a := fun v1494 v1504 k0_hw613 => k0_hw613

def k0_chk614 (v1494 : IVec S16 32) (v1506 : IVec S16 32) : Prop :=
  (∀ a x, ((![v1494, v1506] : Fin 2 → IVec S16 32) a x).toNat < S8x2048.size a)
theorem k0_idx614_inb : ∀ (v1494 : IVec S16 32) (v1506 : IVec S16 32) (k0_hw614 : k0_chk614 v1494 v1506), ∀ a x, ((![v1494, v1506] : Fin 2 → IVec S16 32) a x).toNat < S8x2048.size a := fun v1494 v1506 k0_hw614 => k0_hw614

def k0_chk615 (v1494 : IVec S16 32) (v1508 : IVec S16 32) : Prop :=
  (∀ a x, ((![v1494, v1508] : Fin 2 → IVec S16 32) a x).toNat < S8x2048.size a)
theorem k0_idx615_inb : ∀ (v1494 : IVec S16 32) (v1508 : IVec S16 32) (k0_hw615 : k0_chk615 v1494 v1508), ∀ a x, ((![v1494, v1508] : Fin 2 → IVec S16 32) a x).toNat < S8x2048.size a := fun v1494 v1508 k0_hw615 => k0_hw615

def k0_chk616 (v1494 : IVec S16 32) (v1510 : IVec S16 32) : Prop :=
  (∀ a x, ((![v1494, v1510] : Fin 2 → IVec S16 32) a x).toNat < S8x2048.size a)
theorem k0_idx616_inb : ∀ (v1494 : IVec S16 32) (v1510 : IVec S16 32) (k0_hw616 : k0_chk616 v1494 v1510), ∀ a x, ((![v1494, v1510] : Fin 2 → IVec S16 32) a x).toNat < S8x2048.size a := fun v1494 v1510 k0_hw616 => k0_hw616

def k0_chk617 (v1494 : IVec S16 32) (v1512 : IVec S16 32) : Prop :=
  (∀ a x, ((![v1494, v1512] : Fin 2 → IVec S16 32) a x).toNat < S8x2048.size a)
theorem k0_idx617_inb : ∀ (v1494 : IVec S16 32) (v1512 : IVec S16 32) (k0_hw617 : k0_chk617 v1494 v1512), ∀ a x, ((![v1494, v1512] : Fin 2 → IVec S16 32) a x).toNat < S8x2048.size a := fun v1494 v1512 k0_hw617 => k0_hw617

def k0_chk618 (v1494 : IVec S16 32) (v1514 : IVec S16 32) : Prop :=
  (∀ a x, ((![v1494, v1514] : Fin 2 → IVec S16 32) a x).toNat < S8x2048.size a)
theorem k0_idx618_inb : ∀ (v1494 : IVec S16 32) (v1514 : IVec S16 32) (k0_hw618 : k0_chk618 v1494 v1514), ∀ a x, ((![v1494, v1514] : Fin 2 → IVec S16 32) a x).toNat < S8x2048.size a := fun v1494 v1514 k0_hw618 => k0_hw618

def k0_chk619 (v1494 : IVec S16 32) (v1516 : IVec S16 32) : Prop :=
  (∀ a x, ((![v1494, v1516] : Fin 2 → IVec S16 32) a x).toNat < S8x2048.size a)
theorem k0_idx619_inb : ∀ (v1494 : IVec S16 32) (v1516 : IVec S16 32) (k0_hw619 : k0_chk619 v1494 v1516), ∀ a x, ((![v1494, v1516] : Fin 2 → IVec S16 32) a x).toNat < S8x2048.size a := fun v1494 v1516 k0_hw619 => k0_hw619

def k0_chk620 (v1494 : IVec S16 32) (v1518 : IVec S16 32) : Prop :=
  (∀ a x, ((![v1494, v1518] : Fin 2 → IVec S16 32) a x).toNat < S8x2048.size a)
theorem k0_idx620_inb : ∀ (v1494 : IVec S16 32) (v1518 : IVec S16 32) (k0_hw620 : k0_chk620 v1494 v1518), ∀ a x, ((![v1494, v1518] : Fin 2 → IVec S16 32) a x).toNat < S8x2048.size a := fun v1494 v1518 k0_hw620 => k0_hw620

def k0_chk621 (v1494 : IVec S16 32) (v1520 : IVec S16 32) : Prop :=
  (∀ a x, ((![v1494, v1520] : Fin 2 → IVec S16 32) a x).toNat < S8x2048.size a)
theorem k0_idx621_inb : ∀ (v1494 : IVec S16 32) (v1520 : IVec S16 32) (k0_hw621 : k0_chk621 v1494 v1520), ∀ a x, ((![v1494, v1520] : Fin 2 → IVec S16 32) a x).toNat < S8x2048.size a := fun v1494 v1520 k0_hw621 => k0_hw621

def k0_chk622 (v1494 : IVec S16 32) (v1522 : IVec S16 32) : Prop :=
  (∀ a x, ((![v1494, v1522] : Fin 2 → IVec S16 32) a x).toNat < S8x2048.size a)
theorem k0_idx622_inb : ∀ (v1494 : IVec S16 32) (v1522 : IVec S16 32) (k0_hw622 : k0_chk622 v1494 v1522), ∀ a x, ((![v1494, v1522] : Fin 2 → IVec S16 32) a x).toNat < S8x2048.size a := fun v1494 v1522 k0_hw622 => k0_hw622

def k0_chk623 (v1494 : IVec S16 32) (v1524 : IVec S16 32) : Prop :=
  (∀ a x, ((![v1494, v1524] : Fin 2 → IVec S16 32) a x).toNat < S8x2048.size a)
theorem k0_idx623_inb : ∀ (v1494 : IVec S16 32) (v1524 : IVec S16 32) (k0_hw623 : k0_chk623 v1494 v1524), ∀ a x, ((![v1494, v1524] : Fin 2 → IVec S16 32) a x).toNat < S8x2048.size a := fun v1494 v1524 k0_hw623 => k0_hw623

def k0_chk624 (v1494 : IVec S16 32) (v1526 : IVec S16 32) : Prop :=
  (∀ a x, ((![v1494, v1526] : Fin 2 → IVec S16 32) a x).toNat < S8x2048.size a)
theorem k0_idx624_inb : ∀ (v1494 : IVec S16 32) (v1526 : IVec S16 32) (k0_hw624 : k0_chk624 v1494 v1526), ∀ a x, ((![v1494, v1526] : Fin 2 → IVec S16 32) a x).toNat < S8x2048.size a := fun v1494 v1526 k0_hw624 => k0_hw624

def k0_chk625 (v1527 : IVec S16 32) (v1529 : IVec S16 32) : Prop :=
  (∀ a x, ((![v1527, v1529] : Fin 2 → IVec S16 32) a x).toNat < S8x2048.size a)
theorem k0_idx625_inb : ∀ (v1527 : IVec S16 32) (v1529 : IVec S16 32) (k0_hw625 : k0_chk625 v1527 v1529), ∀ a x, ((![v1527, v1529] : Fin 2 → IVec S16 32) a x).toNat < S8x2048.size a := fun v1527 v1529 k0_hw625 => k0_hw625

def k0_chk626 (v1527 : IVec S16 32) (v1531 : IVec S16 32) : Prop :=
  (∀ a x, ((![v1527, v1531] : Fin 2 → IVec S16 32) a x).toNat < S8x2048.size a)
theorem k0_idx626_inb : ∀ (v1527 : IVec S16 32) (v1531 : IVec S16 32) (k0_hw626 : k0_chk626 v1527 v1531), ∀ a x, ((![v1527, v1531] : Fin 2 → IVec S16 32) a x).toNat < S8x2048.size a := fun v1527 v1531 k0_hw626 => k0_hw626

def k0_chk627 (v1527 : IVec S16 32) (v1533 : IVec S16 32) : Prop :=
  (∀ a x, ((![v1527, v1533] : Fin 2 → IVec S16 32) a x).toNat < S8x2048.size a)
theorem k0_idx627_inb : ∀ (v1527 : IVec S16 32) (v1533 : IVec S16 32) (k0_hw627 : k0_chk627 v1527 v1533), ∀ a x, ((![v1527, v1533] : Fin 2 → IVec S16 32) a x).toNat < S8x2048.size a := fun v1527 v1533 k0_hw627 => k0_hw627

def k0_chk628 (v1527 : IVec S16 32) (v1535 : IVec S16 32) : Prop :=
  (∀ a x, ((![v1527, v1535] : Fin 2 → IVec S16 32) a x).toNat < S8x2048.size a)
theorem k0_idx628_inb : ∀ (v1527 : IVec S16 32) (v1535 : IVec S16 32) (k0_hw628 : k0_chk628 v1527 v1535), ∀ a x, ((![v1527, v1535] : Fin 2 → IVec S16 32) a x).toNat < S8x2048.size a := fun v1527 v1535 k0_hw628 => k0_hw628

def k0_chk629 (v1527 : IVec S16 32) (v1537 : IVec S16 32) : Prop :=
  (∀ a x, ((![v1527, v1537] : Fin 2 → IVec S16 32) a x).toNat < S8x2048.size a)
theorem k0_idx629_inb : ∀ (v1527 : IVec S16 32) (v1537 : IVec S16 32) (k0_hw629 : k0_chk629 v1527 v1537), ∀ a x, ((![v1527, v1537] : Fin 2 → IVec S16 32) a x).toNat < S8x2048.size a := fun v1527 v1537 k0_hw629 => k0_hw629

def k0_chk630 (v1527 : IVec S16 32) (v1539 : IVec S16 32) : Prop :=
  (∀ a x, ((![v1527, v1539] : Fin 2 → IVec S16 32) a x).toNat < S8x2048.size a)
theorem k0_idx630_inb : ∀ (v1527 : IVec S16 32) (v1539 : IVec S16 32) (k0_hw630 : k0_chk630 v1527 v1539), ∀ a x, ((![v1527, v1539] : Fin 2 → IVec S16 32) a x).toNat < S8x2048.size a := fun v1527 v1539 k0_hw630 => k0_hw630

def k0_chk631 (v1527 : IVec S16 32) (v1541 : IVec S16 32) : Prop :=
  (∀ a x, ((![v1527, v1541] : Fin 2 → IVec S16 32) a x).toNat < S8x2048.size a)
theorem k0_idx631_inb : ∀ (v1527 : IVec S16 32) (v1541 : IVec S16 32) (k0_hw631 : k0_chk631 v1527 v1541), ∀ a x, ((![v1527, v1541] : Fin 2 → IVec S16 32) a x).toNat < S8x2048.size a := fun v1527 v1541 k0_hw631 => k0_hw631

def k0_chk632 (v1527 : IVec S16 32) (v1543 : IVec S16 32) : Prop :=
  (∀ a x, ((![v1527, v1543] : Fin 2 → IVec S16 32) a x).toNat < S8x2048.size a)
theorem k0_idx632_inb : ∀ (v1527 : IVec S16 32) (v1543 : IVec S16 32) (k0_hw632 : k0_chk632 v1527 v1543), ∀ a x, ((![v1527, v1543] : Fin 2 → IVec S16 32) a x).toNat < S8x2048.size a := fun v1527 v1543 k0_hw632 => k0_hw632

def k0_chk633 (v1527 : IVec S16 32) (v1545 : IVec S16 32) : Prop :=
  (∀ a x, ((![v1527, v1545] : Fin 2 → IVec S16 32) a x).toNat < S8x2048.size a)
theorem k0_idx633_inb : ∀ (v1527 : IVec S16 32) (v1545 : IVec S16 32) (k0_hw633 : k0_chk633 v1527 v1545), ∀ a x, ((![v1527, v1545] : Fin 2 → IVec S16 32) a x).toNat < S8x2048.size a := fun v1527 v1545 k0_hw633 => k0_hw633

def k0_chk634 (v1527 : IVec S16 32) (v1547 : IVec S16 32) : Prop :=
  (∀ a x, ((![v1527, v1547] : Fin 2 → IVec S16 32) a x).toNat < S8x2048.size a)
theorem k0_idx634_inb : ∀ (v1527 : IVec S16 32) (v1547 : IVec S16 32) (k0_hw634 : k0_chk634 v1527 v1547), ∀ a x, ((![v1527, v1547] : Fin 2 → IVec S16 32) a x).toNat < S8x2048.size a := fun v1527 v1547 k0_hw634 => k0_hw634

def k0_chk635 (v1527 : IVec S16 32) (v1549 : IVec S16 32) : Prop :=
  (∀ a x, ((![v1527, v1549] : Fin 2 → IVec S16 32) a x).toNat < S8x2048.size a)
theorem k0_idx635_inb : ∀ (v1527 : IVec S16 32) (v1549 : IVec S16 32) (k0_hw635 : k0_chk635 v1527 v1549), ∀ a x, ((![v1527, v1549] : Fin 2 → IVec S16 32) a x).toNat < S8x2048.size a := fun v1527 v1549 k0_hw635 => k0_hw635

def k0_chk636 (v1527 : IVec S16 32) (v1551 : IVec S16 32) : Prop :=
  (∀ a x, ((![v1527, v1551] : Fin 2 → IVec S16 32) a x).toNat < S8x2048.size a)
theorem k0_idx636_inb : ∀ (v1527 : IVec S16 32) (v1551 : IVec S16 32) (k0_hw636 : k0_chk636 v1527 v1551), ∀ a x, ((![v1527, v1551] : Fin 2 → IVec S16 32) a x).toNat < S8x2048.size a := fun v1527 v1551 k0_hw636 => k0_hw636

def k0_chk637 (v1527 : IVec S16 32) (v1553 : IVec S16 32) : Prop :=
  (∀ a x, ((![v1527, v1553] : Fin 2 → IVec S16 32) a x).toNat < S8x2048.size a)
theorem k0_idx637_inb : ∀ (v1527 : IVec S16 32) (v1553 : IVec S16 32) (k0_hw637 : k0_chk637 v1527 v1553), ∀ a x, ((![v1527, v1553] : Fin 2 → IVec S16 32) a x).toNat < S8x2048.size a := fun v1527 v1553 k0_hw637 => k0_hw637

def k0_chk638 (v1527 : IVec S16 32) (v1555 : IVec S16 32) : Prop :=
  (∀ a x, ((![v1527, v1555] : Fin 2 → IVec S16 32) a x).toNat < S8x2048.size a)
theorem k0_idx638_inb : ∀ (v1527 : IVec S16 32) (v1555 : IVec S16 32) (k0_hw638 : k0_chk638 v1527 v1555), ∀ a x, ((![v1527, v1555] : Fin 2 → IVec S16 32) a x).toNat < S8x2048.size a := fun v1527 v1555 k0_hw638 => k0_hw638

def k0_chk639 (v1527 : IVec S16 32) (v1557 : IVec S16 32) : Prop :=
  (∀ a x, ((![v1527, v1557] : Fin 2 → IVec S16 32) a x).toNat < S8x2048.size a)
theorem k0_idx639_inb : ∀ (v1527 : IVec S16 32) (v1557 : IVec S16 32) (k0_hw639 : k0_chk639 v1527 v1557), ∀ a x, ((![v1527, v1557] : Fin 2 → IVec S16 32) a x).toNat < S8x2048.size a := fun v1527 v1557 k0_hw639 => k0_hw639

def k0_chk640 (v1527 : IVec S16 32) (v1559 : IVec S16 32) : Prop :=
  (∀ a x, ((![v1527, v1559] : Fin 2 → IVec S16 32) a x).toNat < S8x2048.size a)
theorem k0_idx640_inb : ∀ (v1527 : IVec S16 32) (v1559 : IVec S16 32) (k0_hw640 : k0_chk640 v1527 v1559), ∀ a x, ((![v1527, v1559] : Fin 2 → IVec S16 32) a x).toNat < S8x2048.size a := fun v1527 v1559 k0_hw640 => k0_hw640
def k0_off8 (i : grid0.Coords) (k0_t1 : Fin k0_t1_loop.trips) (c0_i32_1437 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_1158 : BitVec 32 := 2#32
  let c0_i32_542 : BitVec 32 := 0#32
  let c1_i32_544 : BitVec 32 := 1#32
  let arg12 : BitVec 32 := Scf.iv c0_i32_542 c1_i32_544 k0_t1
  let c2_i32_1157 : BitVec 32 := 2#32
  let v1289 : BitVec 32 := Scalar.muli arg12 c2_i32_1157
  let v1290 : BitVec 32 := Scalar.addi c2_i32_1158 v1289
  let c1_i32_1159 : BitVec 32 := 1#32
  let v1291 : BitVec 32 := Scalar.addi v1290 c1_i32_1159
  let c8_i32_1427 : BitVec 32 := 8#32
  let v1560 : BitVec 32 := Scalar.muli v1291 c8_i32_1427
  let v1561 : BitVec 32 := Scalar.addi v2 v1560
  let c0_i32_1429 : BitVec 32 := 0#32
  let v1563 : BitVec 1 := Scalar.cmpi .sgt v1561 c0_i32_1429
  let v1564 : BitVec 32 := Scalar.extui v1563
  let c0_i32_1430 : BitVec 32 := 0#32
  let v1565 : BitVec 1 := Scalar.cmpi .slt v1561 c0_i32_1430
  let v1566 : BitVec 32 := Scalar.extui v1565
  let v1567 : BitVec 32 := Scalar.subi v1564 v1566
  let c512_i32_1428 : BitVec 32 := 512#32
  let c0_i32_1431 : BitVec 32 := 0#32
  let v1568 : BitVec 1 := Scalar.cmpi .sgt c512_i32_1428 c0_i32_1431
  let v1569 : BitVec 32 := Scalar.extui v1568
  let c0_i32_1432 : BitVec 32 := 0#32
  let v1570 : BitVec 1 := Scalar.cmpi .slt c512_i32_1428 c0_i32_1432
  let v1571 : BitVec 32 := Scalar.extui v1570
  let v1572 : BitVec 32 := Scalar.subi v1569 v1571
  let v1573 : BitVec 1 := Scalar.cmpi .ne v1567 v1572
  let v1574 : BitVec 32 := Scalar.remsi v1561 c512_i32_1428
  let c0_i32_1433 : BitVec 32 := 0#32
  let v1575 : BitVec 1 := Scalar.cmpi .ne v1574 c0_i32_1433
  let v1576 : BitVec 1 := Scalar.andi v1573 v1575
  let v1562 : BitVec 32 := Scalar.divsi v1561 c512_i32_1428
  let c1_i32_1434 : BitVec 32 := 1#32
  let v1577 : BitVec 32 := Scalar.subi v1562 c1_i32_1434
  let v1578 : BitVec 32 := Scalar.select v1576 v1577 v1562
  let c2048_i32_1436 : BitVec 32 := 2048#32
  let v1581 : BitVec 32 := Scalar.muli v1578 c2048_i32_1436
  let v1582 : BitVec 32 := Scalar.addi v1581 c0_i32_1437
  let c512_i32_1435 : BitVec 32 := 512#32
  let v1579 : BitVec 32 := Scalar.muli v1578 c512_i32_1435
  let v1580 : BitVec 32 := Scalar.subi v1561 v1579
  let v1583 : BitVec 32 := Scalar.addi v1582 v1580
  let c4_i32_1438 : BitVec 32 := 4#32
  let v1584 : BitVec 32 := Scalar.muli v1583 c4_i32_1438
  let c0_i32_1441 : BitVec 32 := 0#32
  ![v1584.toNat, 0]

def k0_chk641 (v1629 : IVec S16 32) (v1631 : IVec S16 32) : Prop :=
  (∀ a x, ((![v1629, v1631] : Fin 2 → IVec S16 32) a x).toNat < S8x2048.size a)
theorem k0_idx641_inb : ∀ (v1629 : IVec S16 32) (v1631 : IVec S16 32) (k0_hw641 : k0_chk641 v1629 v1631), ∀ a x, ((![v1629, v1631] : Fin 2 → IVec S16 32) a x).toNat < S8x2048.size a := fun v1629 v1631 k0_hw641 => k0_hw641

def k0_chk642 (v1629 : IVec S16 32) (v1633 : IVec S16 32) : Prop :=
  (∀ a x, ((![v1629, v1633] : Fin 2 → IVec S16 32) a x).toNat < S8x2048.size a)
theorem k0_idx642_inb : ∀ (v1629 : IVec S16 32) (v1633 : IVec S16 32) (k0_hw642 : k0_chk642 v1629 v1633), ∀ a x, ((![v1629, v1633] : Fin 2 → IVec S16 32) a x).toNat < S8x2048.size a := fun v1629 v1633 k0_hw642 => k0_hw642

def k0_chk643 (v1629 : IVec S16 32) (v1635 : IVec S16 32) : Prop :=
  (∀ a x, ((![v1629, v1635] : Fin 2 → IVec S16 32) a x).toNat < S8x2048.size a)
theorem k0_idx643_inb : ∀ (v1629 : IVec S16 32) (v1635 : IVec S16 32) (k0_hw643 : k0_chk643 v1629 v1635), ∀ a x, ((![v1629, v1635] : Fin 2 → IVec S16 32) a x).toNat < S8x2048.size a := fun v1629 v1635 k0_hw643 => k0_hw643

def k0_chk644 (v1629 : IVec S16 32) (v1637 : IVec S16 32) : Prop :=
  (∀ a x, ((![v1629, v1637] : Fin 2 → IVec S16 32) a x).toNat < S8x2048.size a)
theorem k0_idx644_inb : ∀ (v1629 : IVec S16 32) (v1637 : IVec S16 32) (k0_hw644 : k0_chk644 v1629 v1637), ∀ a x, ((![v1629, v1637] : Fin 2 → IVec S16 32) a x).toNat < S8x2048.size a := fun v1629 v1637 k0_hw644 => k0_hw644

def k0_chk645 (v1629 : IVec S16 32) (v1639 : IVec S16 32) : Prop :=
  (∀ a x, ((![v1629, v1639] : Fin 2 → IVec S16 32) a x).toNat < S8x2048.size a)
theorem k0_idx645_inb : ∀ (v1629 : IVec S16 32) (v1639 : IVec S16 32) (k0_hw645 : k0_chk645 v1629 v1639), ∀ a x, ((![v1629, v1639] : Fin 2 → IVec S16 32) a x).toNat < S8x2048.size a := fun v1629 v1639 k0_hw645 => k0_hw645

def k0_chk646 (v1629 : IVec S16 32) (v1641 : IVec S16 32) : Prop :=
  (∀ a x, ((![v1629, v1641] : Fin 2 → IVec S16 32) a x).toNat < S8x2048.size a)
theorem k0_idx646_inb : ∀ (v1629 : IVec S16 32) (v1641 : IVec S16 32) (k0_hw646 : k0_chk646 v1629 v1641), ∀ a x, ((![v1629, v1641] : Fin 2 → IVec S16 32) a x).toNat < S8x2048.size a := fun v1629 v1641 k0_hw646 => k0_hw646

def k0_chk647 (v1629 : IVec S16 32) (v1643 : IVec S16 32) : Prop :=
  (∀ a x, ((![v1629, v1643] : Fin 2 → IVec S16 32) a x).toNat < S8x2048.size a)
theorem k0_idx647_inb : ∀ (v1629 : IVec S16 32) (v1643 : IVec S16 32) (k0_hw647 : k0_chk647 v1629 v1643), ∀ a x, ((![v1629, v1643] : Fin 2 → IVec S16 32) a x).toNat < S8x2048.size a := fun v1629 v1643 k0_hw647 => k0_hw647

def k0_chk648 (v1629 : IVec S16 32) (v1645 : IVec S16 32) : Prop :=
  (∀ a x, ((![v1629, v1645] : Fin 2 → IVec S16 32) a x).toNat < S8x2048.size a)
theorem k0_idx648_inb : ∀ (v1629 : IVec S16 32) (v1645 : IVec S16 32) (k0_hw648 : k0_chk648 v1629 v1645), ∀ a x, ((![v1629, v1645] : Fin 2 → IVec S16 32) a x).toNat < S8x2048.size a := fun v1629 v1645 k0_hw648 => k0_hw648

def k0_chk649 (v1629 : IVec S16 32) (v1647 : IVec S16 32) : Prop :=
  (∀ a x, ((![v1629, v1647] : Fin 2 → IVec S16 32) a x).toNat < S8x2048.size a)
theorem k0_idx649_inb : ∀ (v1629 : IVec S16 32) (v1647 : IVec S16 32) (k0_hw649 : k0_chk649 v1629 v1647), ∀ a x, ((![v1629, v1647] : Fin 2 → IVec S16 32) a x).toNat < S8x2048.size a := fun v1629 v1647 k0_hw649 => k0_hw649

def k0_chk650 (v1629 : IVec S16 32) (v1649 : IVec S16 32) : Prop :=
  (∀ a x, ((![v1629, v1649] : Fin 2 → IVec S16 32) a x).toNat < S8x2048.size a)
theorem k0_idx650_inb : ∀ (v1629 : IVec S16 32) (v1649 : IVec S16 32) (k0_hw650 : k0_chk650 v1629 v1649), ∀ a x, ((![v1629, v1649] : Fin 2 → IVec S16 32) a x).toNat < S8x2048.size a := fun v1629 v1649 k0_hw650 => k0_hw650

def k0_chk651 (v1629 : IVec S16 32) (v1651 : IVec S16 32) : Prop :=
  (∀ a x, ((![v1629, v1651] : Fin 2 → IVec S16 32) a x).toNat < S8x2048.size a)
theorem k0_idx651_inb : ∀ (v1629 : IVec S16 32) (v1651 : IVec S16 32) (k0_hw651 : k0_chk651 v1629 v1651), ∀ a x, ((![v1629, v1651] : Fin 2 → IVec S16 32) a x).toNat < S8x2048.size a := fun v1629 v1651 k0_hw651 => k0_hw651

def k0_chk652 (v1629 : IVec S16 32) (v1653 : IVec S16 32) : Prop :=
  (∀ a x, ((![v1629, v1653] : Fin 2 → IVec S16 32) a x).toNat < S8x2048.size a)
theorem k0_idx652_inb : ∀ (v1629 : IVec S16 32) (v1653 : IVec S16 32) (k0_hw652 : k0_chk652 v1629 v1653), ∀ a x, ((![v1629, v1653] : Fin 2 → IVec S16 32) a x).toNat < S8x2048.size a := fun v1629 v1653 k0_hw652 => k0_hw652

def k0_chk653 (v1629 : IVec S16 32) (v1655 : IVec S16 32) : Prop :=
  (∀ a x, ((![v1629, v1655] : Fin 2 → IVec S16 32) a x).toNat < S8x2048.size a)
theorem k0_idx653_inb : ∀ (v1629 : IVec S16 32) (v1655 : IVec S16 32) (k0_hw653 : k0_chk653 v1629 v1655), ∀ a x, ((![v1629, v1655] : Fin 2 → IVec S16 32) a x).toNat < S8x2048.size a := fun v1629 v1655 k0_hw653 => k0_hw653

def k0_chk654 (v1629 : IVec S16 32) (v1657 : IVec S16 32) : Prop :=
  (∀ a x, ((![v1629, v1657] : Fin 2 → IVec S16 32) a x).toNat < S8x2048.size a)
theorem k0_idx654_inb : ∀ (v1629 : IVec S16 32) (v1657 : IVec S16 32) (k0_hw654 : k0_chk654 v1629 v1657), ∀ a x, ((![v1629, v1657] : Fin 2 → IVec S16 32) a x).toNat < S8x2048.size a := fun v1629 v1657 k0_hw654 => k0_hw654

def k0_chk655 (v1629 : IVec S16 32) (v1659 : IVec S16 32) : Prop :=
  (∀ a x, ((![v1629, v1659] : Fin 2 → IVec S16 32) a x).toNat < S8x2048.size a)
theorem k0_idx655_inb : ∀ (v1629 : IVec S16 32) (v1659 : IVec S16 32) (k0_hw655 : k0_chk655 v1629 v1659), ∀ a x, ((![v1629, v1659] : Fin 2 → IVec S16 32) a x).toNat < S8x2048.size a := fun v1629 v1659 k0_hw655 => k0_hw655

def k0_chk656 (v1629 : IVec S16 32) (v1661 : IVec S16 32) : Prop :=
  (∀ a x, ((![v1629, v1661] : Fin 2 → IVec S16 32) a x).toNat < S8x2048.size a)
theorem k0_idx656_inb : ∀ (v1629 : IVec S16 32) (v1661 : IVec S16 32) (k0_hw656 : k0_chk656 v1629 v1661), ∀ a x, ((![v1629, v1661] : Fin 2 → IVec S16 32) a x).toNat < S8x2048.size a := fun v1629 v1661 k0_hw656 => k0_hw656

def k0_chk657 (v1662 : IVec S16 32) (v1664 : IVec S16 32) : Prop :=
  (∀ a x, ((![v1662, v1664] : Fin 2 → IVec S16 32) a x).toNat < S8x2048.size a)
theorem k0_idx657_inb : ∀ (v1662 : IVec S16 32) (v1664 : IVec S16 32) (k0_hw657 : k0_chk657 v1662 v1664), ∀ a x, ((![v1662, v1664] : Fin 2 → IVec S16 32) a x).toNat < S8x2048.size a := fun v1662 v1664 k0_hw657 => k0_hw657

def k0_chk658 (v1662 : IVec S16 32) (v1666 : IVec S16 32) : Prop :=
  (∀ a x, ((![v1662, v1666] : Fin 2 → IVec S16 32) a x).toNat < S8x2048.size a)
theorem k0_idx658_inb : ∀ (v1662 : IVec S16 32) (v1666 : IVec S16 32) (k0_hw658 : k0_chk658 v1662 v1666), ∀ a x, ((![v1662, v1666] : Fin 2 → IVec S16 32) a x).toNat < S8x2048.size a := fun v1662 v1666 k0_hw658 => k0_hw658

def k0_chk659 (v1662 : IVec S16 32) (v1668 : IVec S16 32) : Prop :=
  (∀ a x, ((![v1662, v1668] : Fin 2 → IVec S16 32) a x).toNat < S8x2048.size a)
theorem k0_idx659_inb : ∀ (v1662 : IVec S16 32) (v1668 : IVec S16 32) (k0_hw659 : k0_chk659 v1662 v1668), ∀ a x, ((![v1662, v1668] : Fin 2 → IVec S16 32) a x).toNat < S8x2048.size a := fun v1662 v1668 k0_hw659 => k0_hw659

def k0_chk660 (v1662 : IVec S16 32) (v1670 : IVec S16 32) : Prop :=
  (∀ a x, ((![v1662, v1670] : Fin 2 → IVec S16 32) a x).toNat < S8x2048.size a)
theorem k0_idx660_inb : ∀ (v1662 : IVec S16 32) (v1670 : IVec S16 32) (k0_hw660 : k0_chk660 v1662 v1670), ∀ a x, ((![v1662, v1670] : Fin 2 → IVec S16 32) a x).toNat < S8x2048.size a := fun v1662 v1670 k0_hw660 => k0_hw660

def k0_chk661 (v1662 : IVec S16 32) (v1672 : IVec S16 32) : Prop :=
  (∀ a x, ((![v1662, v1672] : Fin 2 → IVec S16 32) a x).toNat < S8x2048.size a)
theorem k0_idx661_inb : ∀ (v1662 : IVec S16 32) (v1672 : IVec S16 32) (k0_hw661 : k0_chk661 v1662 v1672), ∀ a x, ((![v1662, v1672] : Fin 2 → IVec S16 32) a x).toNat < S8x2048.size a := fun v1662 v1672 k0_hw661 => k0_hw661

def k0_chk662 (v1662 : IVec S16 32) (v1674 : IVec S16 32) : Prop :=
  (∀ a x, ((![v1662, v1674] : Fin 2 → IVec S16 32) a x).toNat < S8x2048.size a)
theorem k0_idx662_inb : ∀ (v1662 : IVec S16 32) (v1674 : IVec S16 32) (k0_hw662 : k0_chk662 v1662 v1674), ∀ a x, ((![v1662, v1674] : Fin 2 → IVec S16 32) a x).toNat < S8x2048.size a := fun v1662 v1674 k0_hw662 => k0_hw662

def k0_chk663 (v1662 : IVec S16 32) (v1676 : IVec S16 32) : Prop :=
  (∀ a x, ((![v1662, v1676] : Fin 2 → IVec S16 32) a x).toNat < S8x2048.size a)
theorem k0_idx663_inb : ∀ (v1662 : IVec S16 32) (v1676 : IVec S16 32) (k0_hw663 : k0_chk663 v1662 v1676), ∀ a x, ((![v1662, v1676] : Fin 2 → IVec S16 32) a x).toNat < S8x2048.size a := fun v1662 v1676 k0_hw663 => k0_hw663

def k0_chk664 (v1662 : IVec S16 32) (v1678 : IVec S16 32) : Prop :=
  (∀ a x, ((![v1662, v1678] : Fin 2 → IVec S16 32) a x).toNat < S8x2048.size a)
theorem k0_idx664_inb : ∀ (v1662 : IVec S16 32) (v1678 : IVec S16 32) (k0_hw664 : k0_chk664 v1662 v1678), ∀ a x, ((![v1662, v1678] : Fin 2 → IVec S16 32) a x).toNat < S8x2048.size a := fun v1662 v1678 k0_hw664 => k0_hw664

def k0_chk665 (v1662 : IVec S16 32) (v1680 : IVec S16 32) : Prop :=
  (∀ a x, ((![v1662, v1680] : Fin 2 → IVec S16 32) a x).toNat < S8x2048.size a)
theorem k0_idx665_inb : ∀ (v1662 : IVec S16 32) (v1680 : IVec S16 32) (k0_hw665 : k0_chk665 v1662 v1680), ∀ a x, ((![v1662, v1680] : Fin 2 → IVec S16 32) a x).toNat < S8x2048.size a := fun v1662 v1680 k0_hw665 => k0_hw665

def k0_chk666 (v1662 : IVec S16 32) (v1682 : IVec S16 32) : Prop :=
  (∀ a x, ((![v1662, v1682] : Fin 2 → IVec S16 32) a x).toNat < S8x2048.size a)
theorem k0_idx666_inb : ∀ (v1662 : IVec S16 32) (v1682 : IVec S16 32) (k0_hw666 : k0_chk666 v1662 v1682), ∀ a x, ((![v1662, v1682] : Fin 2 → IVec S16 32) a x).toNat < S8x2048.size a := fun v1662 v1682 k0_hw666 => k0_hw666

def k0_chk667 (v1662 : IVec S16 32) (v1684 : IVec S16 32) : Prop :=
  (∀ a x, ((![v1662, v1684] : Fin 2 → IVec S16 32) a x).toNat < S8x2048.size a)
theorem k0_idx667_inb : ∀ (v1662 : IVec S16 32) (v1684 : IVec S16 32) (k0_hw667 : k0_chk667 v1662 v1684), ∀ a x, ((![v1662, v1684] : Fin 2 → IVec S16 32) a x).toNat < S8x2048.size a := fun v1662 v1684 k0_hw667 => k0_hw667

def k0_chk668 (v1662 : IVec S16 32) (v1686 : IVec S16 32) : Prop :=
  (∀ a x, ((![v1662, v1686] : Fin 2 → IVec S16 32) a x).toNat < S8x2048.size a)
theorem k0_idx668_inb : ∀ (v1662 : IVec S16 32) (v1686 : IVec S16 32) (k0_hw668 : k0_chk668 v1662 v1686), ∀ a x, ((![v1662, v1686] : Fin 2 → IVec S16 32) a x).toNat < S8x2048.size a := fun v1662 v1686 k0_hw668 => k0_hw668

def k0_chk669 (v1662 : IVec S16 32) (v1688 : IVec S16 32) : Prop :=
  (∀ a x, ((![v1662, v1688] : Fin 2 → IVec S16 32) a x).toNat < S8x2048.size a)
theorem k0_idx669_inb : ∀ (v1662 : IVec S16 32) (v1688 : IVec S16 32) (k0_hw669 : k0_chk669 v1662 v1688), ∀ a x, ((![v1662, v1688] : Fin 2 → IVec S16 32) a x).toNat < S8x2048.size a := fun v1662 v1688 k0_hw669 => k0_hw669

def k0_chk670 (v1662 : IVec S16 32) (v1690 : IVec S16 32) : Prop :=
  (∀ a x, ((![v1662, v1690] : Fin 2 → IVec S16 32) a x).toNat < S8x2048.size a)
theorem k0_idx670_inb : ∀ (v1662 : IVec S16 32) (v1690 : IVec S16 32) (k0_hw670 : k0_chk670 v1662 v1690), ∀ a x, ((![v1662, v1690] : Fin 2 → IVec S16 32) a x).toNat < S8x2048.size a := fun v1662 v1690 k0_hw670 => k0_hw670

def k0_chk671 (v1662 : IVec S16 32) (v1692 : IVec S16 32) : Prop :=
  (∀ a x, ((![v1662, v1692] : Fin 2 → IVec S16 32) a x).toNat < S8x2048.size a)
theorem k0_idx671_inb : ∀ (v1662 : IVec S16 32) (v1692 : IVec S16 32) (k0_hw671 : k0_chk671 v1662 v1692), ∀ a x, ((![v1662, v1692] : Fin 2 → IVec S16 32) a x).toNat < S8x2048.size a := fun v1662 v1692 k0_hw671 => k0_hw671

def k0_chk672 (v1662 : IVec S16 32) (v1694 : IVec S16 32) : Prop :=
  (∀ a x, ((![v1662, v1694] : Fin 2 → IVec S16 32) a x).toNat < S8x2048.size a)
theorem k0_idx672_inb : ∀ (v1662 : IVec S16 32) (v1694 : IVec S16 32) (k0_hw672 : k0_chk672 v1662 v1694), ∀ a x, ((![v1662, v1694] : Fin 2 → IVec S16 32) a x).toNat < S8x2048.size a := fun v1662 v1694 k0_hw672 => k0_hw672

def k0_chk673 (v1695 : IVec S16 32) (v1697 : IVec S16 32) : Prop :=
  (∀ a x, ((![v1695, v1697] : Fin 2 → IVec S16 32) a x).toNat < S8x2048.size a)
theorem k0_idx673_inb : ∀ (v1695 : IVec S16 32) (v1697 : IVec S16 32) (k0_hw673 : k0_chk673 v1695 v1697), ∀ a x, ((![v1695, v1697] : Fin 2 → IVec S16 32) a x).toNat < S8x2048.size a := fun v1695 v1697 k0_hw673 => k0_hw673

def k0_chk674 (v1695 : IVec S16 32) (v1699 : IVec S16 32) : Prop :=
  (∀ a x, ((![v1695, v1699] : Fin 2 → IVec S16 32) a x).toNat < S8x2048.size a)
theorem k0_idx674_inb : ∀ (v1695 : IVec S16 32) (v1699 : IVec S16 32) (k0_hw674 : k0_chk674 v1695 v1699), ∀ a x, ((![v1695, v1699] : Fin 2 → IVec S16 32) a x).toNat < S8x2048.size a := fun v1695 v1699 k0_hw674 => k0_hw674

def k0_chk675 (v1695 : IVec S16 32) (v1701 : IVec S16 32) : Prop :=
  (∀ a x, ((![v1695, v1701] : Fin 2 → IVec S16 32) a x).toNat < S8x2048.size a)
theorem k0_idx675_inb : ∀ (v1695 : IVec S16 32) (v1701 : IVec S16 32) (k0_hw675 : k0_chk675 v1695 v1701), ∀ a x, ((![v1695, v1701] : Fin 2 → IVec S16 32) a x).toNat < S8x2048.size a := fun v1695 v1701 k0_hw675 => k0_hw675

def k0_chk676 (v1695 : IVec S16 32) (v1703 : IVec S16 32) : Prop :=
  (∀ a x, ((![v1695, v1703] : Fin 2 → IVec S16 32) a x).toNat < S8x2048.size a)
theorem k0_idx676_inb : ∀ (v1695 : IVec S16 32) (v1703 : IVec S16 32) (k0_hw676 : k0_chk676 v1695 v1703), ∀ a x, ((![v1695, v1703] : Fin 2 → IVec S16 32) a x).toNat < S8x2048.size a := fun v1695 v1703 k0_hw676 => k0_hw676

def k0_chk677 (v1695 : IVec S16 32) (v1705 : IVec S16 32) : Prop :=
  (∀ a x, ((![v1695, v1705] : Fin 2 → IVec S16 32) a x).toNat < S8x2048.size a)
theorem k0_idx677_inb : ∀ (v1695 : IVec S16 32) (v1705 : IVec S16 32) (k0_hw677 : k0_chk677 v1695 v1705), ∀ a x, ((![v1695, v1705] : Fin 2 → IVec S16 32) a x).toNat < S8x2048.size a := fun v1695 v1705 k0_hw677 => k0_hw677

def k0_chk678 (v1695 : IVec S16 32) (v1707 : IVec S16 32) : Prop :=
  (∀ a x, ((![v1695, v1707] : Fin 2 → IVec S16 32) a x).toNat < S8x2048.size a)
theorem k0_idx678_inb : ∀ (v1695 : IVec S16 32) (v1707 : IVec S16 32) (k0_hw678 : k0_chk678 v1695 v1707), ∀ a x, ((![v1695, v1707] : Fin 2 → IVec S16 32) a x).toNat < S8x2048.size a := fun v1695 v1707 k0_hw678 => k0_hw678

def k0_chk679 (v1695 : IVec S16 32) (v1709 : IVec S16 32) : Prop :=
  (∀ a x, ((![v1695, v1709] : Fin 2 → IVec S16 32) a x).toNat < S8x2048.size a)
theorem k0_idx679_inb : ∀ (v1695 : IVec S16 32) (v1709 : IVec S16 32) (k0_hw679 : k0_chk679 v1695 v1709), ∀ a x, ((![v1695, v1709] : Fin 2 → IVec S16 32) a x).toNat < S8x2048.size a := fun v1695 v1709 k0_hw679 => k0_hw679

def k0_chk680 (v1695 : IVec S16 32) (v1711 : IVec S16 32) : Prop :=
  (∀ a x, ((![v1695, v1711] : Fin 2 → IVec S16 32) a x).toNat < S8x2048.size a)
theorem k0_idx680_inb : ∀ (v1695 : IVec S16 32) (v1711 : IVec S16 32) (k0_hw680 : k0_chk680 v1695 v1711), ∀ a x, ((![v1695, v1711] : Fin 2 → IVec S16 32) a x).toNat < S8x2048.size a := fun v1695 v1711 k0_hw680 => k0_hw680

def k0_chk681 (v1695 : IVec S16 32) (v1713 : IVec S16 32) : Prop :=
  (∀ a x, ((![v1695, v1713] : Fin 2 → IVec S16 32) a x).toNat < S8x2048.size a)
theorem k0_idx681_inb : ∀ (v1695 : IVec S16 32) (v1713 : IVec S16 32) (k0_hw681 : k0_chk681 v1695 v1713), ∀ a x, ((![v1695, v1713] : Fin 2 → IVec S16 32) a x).toNat < S8x2048.size a := fun v1695 v1713 k0_hw681 => k0_hw681

def k0_chk682 (v1695 : IVec S16 32) (v1715 : IVec S16 32) : Prop :=
  (∀ a x, ((![v1695, v1715] : Fin 2 → IVec S16 32) a x).toNat < S8x2048.size a)
theorem k0_idx682_inb : ∀ (v1695 : IVec S16 32) (v1715 : IVec S16 32) (k0_hw682 : k0_chk682 v1695 v1715), ∀ a x, ((![v1695, v1715] : Fin 2 → IVec S16 32) a x).toNat < S8x2048.size a := fun v1695 v1715 k0_hw682 => k0_hw682

def k0_chk683 (v1695 : IVec S16 32) (v1717 : IVec S16 32) : Prop :=
  (∀ a x, ((![v1695, v1717] : Fin 2 → IVec S16 32) a x).toNat < S8x2048.size a)
theorem k0_idx683_inb : ∀ (v1695 : IVec S16 32) (v1717 : IVec S16 32) (k0_hw683 : k0_chk683 v1695 v1717), ∀ a x, ((![v1695, v1717] : Fin 2 → IVec S16 32) a x).toNat < S8x2048.size a := fun v1695 v1717 k0_hw683 => k0_hw683

def k0_chk684 (v1695 : IVec S16 32) (v1719 : IVec S16 32) : Prop :=
  (∀ a x, ((![v1695, v1719] : Fin 2 → IVec S16 32) a x).toNat < S8x2048.size a)
theorem k0_idx684_inb : ∀ (v1695 : IVec S16 32) (v1719 : IVec S16 32) (k0_hw684 : k0_chk684 v1695 v1719), ∀ a x, ((![v1695, v1719] : Fin 2 → IVec S16 32) a x).toNat < S8x2048.size a := fun v1695 v1719 k0_hw684 => k0_hw684

def k0_chk685 (v1695 : IVec S16 32) (v1721 : IVec S16 32) : Prop :=
  (∀ a x, ((![v1695, v1721] : Fin 2 → IVec S16 32) a x).toNat < S8x2048.size a)
theorem k0_idx685_inb : ∀ (v1695 : IVec S16 32) (v1721 : IVec S16 32) (k0_hw685 : k0_chk685 v1695 v1721), ∀ a x, ((![v1695, v1721] : Fin 2 → IVec S16 32) a x).toNat < S8x2048.size a := fun v1695 v1721 k0_hw685 => k0_hw685

def k0_chk686 (v1695 : IVec S16 32) (v1723 : IVec S16 32) : Prop :=
  (∀ a x, ((![v1695, v1723] : Fin 2 → IVec S16 32) a x).toNat < S8x2048.size a)
theorem k0_idx686_inb : ∀ (v1695 : IVec S16 32) (v1723 : IVec S16 32) (k0_hw686 : k0_chk686 v1695 v1723), ∀ a x, ((![v1695, v1723] : Fin 2 → IVec S16 32) a x).toNat < S8x2048.size a := fun v1695 v1723 k0_hw686 => k0_hw686

def k0_chk687 (v1695 : IVec S16 32) (v1725 : IVec S16 32) : Prop :=
  (∀ a x, ((![v1695, v1725] : Fin 2 → IVec S16 32) a x).toNat < S8x2048.size a)
theorem k0_idx687_inb : ∀ (v1695 : IVec S16 32) (v1725 : IVec S16 32) (k0_hw687 : k0_chk687 v1695 v1725), ∀ a x, ((![v1695, v1725] : Fin 2 → IVec S16 32) a x).toNat < S8x2048.size a := fun v1695 v1725 k0_hw687 => k0_hw687

def k0_chk688 (v1695 : IVec S16 32) (v1727 : IVec S16 32) : Prop :=
  (∀ a x, ((![v1695, v1727] : Fin 2 → IVec S16 32) a x).toNat < S8x2048.size a)
theorem k0_idx688_inb : ∀ (v1695 : IVec S16 32) (v1727 : IVec S16 32) (k0_hw688 : k0_chk688 v1695 v1727), ∀ a x, ((![v1695, v1727] : Fin 2 → IVec S16 32) a x).toNat < S8x2048.size a := fun v1695 v1727 k0_hw688 => k0_hw688

def k0_chk689 (v1728 : IVec S16 32) (v1730 : IVec S16 32) : Prop :=
  (∀ a x, ((![v1728, v1730] : Fin 2 → IVec S16 32) a x).toNat < S8x2048.size a)
theorem k0_idx689_inb : ∀ (v1728 : IVec S16 32) (v1730 : IVec S16 32) (k0_hw689 : k0_chk689 v1728 v1730), ∀ a x, ((![v1728, v1730] : Fin 2 → IVec S16 32) a x).toNat < S8x2048.size a := fun v1728 v1730 k0_hw689 => k0_hw689

def k0_chk690 (v1728 : IVec S16 32) (v1732 : IVec S16 32) : Prop :=
  (∀ a x, ((![v1728, v1732] : Fin 2 → IVec S16 32) a x).toNat < S8x2048.size a)
theorem k0_idx690_inb : ∀ (v1728 : IVec S16 32) (v1732 : IVec S16 32) (k0_hw690 : k0_chk690 v1728 v1732), ∀ a x, ((![v1728, v1732] : Fin 2 → IVec S16 32) a x).toNat < S8x2048.size a := fun v1728 v1732 k0_hw690 => k0_hw690

def k0_chk691 (v1728 : IVec S16 32) (v1734 : IVec S16 32) : Prop :=
  (∀ a x, ((![v1728, v1734] : Fin 2 → IVec S16 32) a x).toNat < S8x2048.size a)
theorem k0_idx691_inb : ∀ (v1728 : IVec S16 32) (v1734 : IVec S16 32) (k0_hw691 : k0_chk691 v1728 v1734), ∀ a x, ((![v1728, v1734] : Fin 2 → IVec S16 32) a x).toNat < S8x2048.size a := fun v1728 v1734 k0_hw691 => k0_hw691

def k0_chk692 (v1728 : IVec S16 32) (v1736 : IVec S16 32) : Prop :=
  (∀ a x, ((![v1728, v1736] : Fin 2 → IVec S16 32) a x).toNat < S8x2048.size a)
theorem k0_idx692_inb : ∀ (v1728 : IVec S16 32) (v1736 : IVec S16 32) (k0_hw692 : k0_chk692 v1728 v1736), ∀ a x, ((![v1728, v1736] : Fin 2 → IVec S16 32) a x).toNat < S8x2048.size a := fun v1728 v1736 k0_hw692 => k0_hw692

def k0_chk693 (v1728 : IVec S16 32) (v1738 : IVec S16 32) : Prop :=
  (∀ a x, ((![v1728, v1738] : Fin 2 → IVec S16 32) a x).toNat < S8x2048.size a)
theorem k0_idx693_inb : ∀ (v1728 : IVec S16 32) (v1738 : IVec S16 32) (k0_hw693 : k0_chk693 v1728 v1738), ∀ a x, ((![v1728, v1738] : Fin 2 → IVec S16 32) a x).toNat < S8x2048.size a := fun v1728 v1738 k0_hw693 => k0_hw693

def k0_chk694 (v1728 : IVec S16 32) (v1740 : IVec S16 32) : Prop :=
  (∀ a x, ((![v1728, v1740] : Fin 2 → IVec S16 32) a x).toNat < S8x2048.size a)
theorem k0_idx694_inb : ∀ (v1728 : IVec S16 32) (v1740 : IVec S16 32) (k0_hw694 : k0_chk694 v1728 v1740), ∀ a x, ((![v1728, v1740] : Fin 2 → IVec S16 32) a x).toNat < S8x2048.size a := fun v1728 v1740 k0_hw694 => k0_hw694

def k0_chk695 (v1728 : IVec S16 32) (v1742 : IVec S16 32) : Prop :=
  (∀ a x, ((![v1728, v1742] : Fin 2 → IVec S16 32) a x).toNat < S8x2048.size a)
theorem k0_idx695_inb : ∀ (v1728 : IVec S16 32) (v1742 : IVec S16 32) (k0_hw695 : k0_chk695 v1728 v1742), ∀ a x, ((![v1728, v1742] : Fin 2 → IVec S16 32) a x).toNat < S8x2048.size a := fun v1728 v1742 k0_hw695 => k0_hw695

def k0_chk696 (v1728 : IVec S16 32) (v1744 : IVec S16 32) : Prop :=
  (∀ a x, ((![v1728, v1744] : Fin 2 → IVec S16 32) a x).toNat < S8x2048.size a)
theorem k0_idx696_inb : ∀ (v1728 : IVec S16 32) (v1744 : IVec S16 32) (k0_hw696 : k0_chk696 v1728 v1744), ∀ a x, ((![v1728, v1744] : Fin 2 → IVec S16 32) a x).toNat < S8x2048.size a := fun v1728 v1744 k0_hw696 => k0_hw696

def k0_chk697 (v1728 : IVec S16 32) (v1746 : IVec S16 32) : Prop :=
  (∀ a x, ((![v1728, v1746] : Fin 2 → IVec S16 32) a x).toNat < S8x2048.size a)
theorem k0_idx697_inb : ∀ (v1728 : IVec S16 32) (v1746 : IVec S16 32) (k0_hw697 : k0_chk697 v1728 v1746), ∀ a x, ((![v1728, v1746] : Fin 2 → IVec S16 32) a x).toNat < S8x2048.size a := fun v1728 v1746 k0_hw697 => k0_hw697

def k0_chk698 (v1728 : IVec S16 32) (v1748 : IVec S16 32) : Prop :=
  (∀ a x, ((![v1728, v1748] : Fin 2 → IVec S16 32) a x).toNat < S8x2048.size a)
theorem k0_idx698_inb : ∀ (v1728 : IVec S16 32) (v1748 : IVec S16 32) (k0_hw698 : k0_chk698 v1728 v1748), ∀ a x, ((![v1728, v1748] : Fin 2 → IVec S16 32) a x).toNat < S8x2048.size a := fun v1728 v1748 k0_hw698 => k0_hw698

def k0_chk699 (v1728 : IVec S16 32) (v1750 : IVec S16 32) : Prop :=
  (∀ a x, ((![v1728, v1750] : Fin 2 → IVec S16 32) a x).toNat < S8x2048.size a)
theorem k0_idx699_inb : ∀ (v1728 : IVec S16 32) (v1750 : IVec S16 32) (k0_hw699 : k0_chk699 v1728 v1750), ∀ a x, ((![v1728, v1750] : Fin 2 → IVec S16 32) a x).toNat < S8x2048.size a := fun v1728 v1750 k0_hw699 => k0_hw699

def k0_chk700 (v1728 : IVec S16 32) (v1752 : IVec S16 32) : Prop :=
  (∀ a x, ((![v1728, v1752] : Fin 2 → IVec S16 32) a x).toNat < S8x2048.size a)
theorem k0_idx700_inb : ∀ (v1728 : IVec S16 32) (v1752 : IVec S16 32) (k0_hw700 : k0_chk700 v1728 v1752), ∀ a x, ((![v1728, v1752] : Fin 2 → IVec S16 32) a x).toNat < S8x2048.size a := fun v1728 v1752 k0_hw700 => k0_hw700

def k0_chk701 (v1728 : IVec S16 32) (v1754 : IVec S16 32) : Prop :=
  (∀ a x, ((![v1728, v1754] : Fin 2 → IVec S16 32) a x).toNat < S8x2048.size a)
theorem k0_idx701_inb : ∀ (v1728 : IVec S16 32) (v1754 : IVec S16 32) (k0_hw701 : k0_chk701 v1728 v1754), ∀ a x, ((![v1728, v1754] : Fin 2 → IVec S16 32) a x).toNat < S8x2048.size a := fun v1728 v1754 k0_hw701 => k0_hw701

def k0_chk702 (v1728 : IVec S16 32) (v1756 : IVec S16 32) : Prop :=
  (∀ a x, ((![v1728, v1756] : Fin 2 → IVec S16 32) a x).toNat < S8x2048.size a)
theorem k0_idx702_inb : ∀ (v1728 : IVec S16 32) (v1756 : IVec S16 32) (k0_hw702 : k0_chk702 v1728 v1756), ∀ a x, ((![v1728, v1756] : Fin 2 → IVec S16 32) a x).toNat < S8x2048.size a := fun v1728 v1756 k0_hw702 => k0_hw702

def k0_chk703 (v1728 : IVec S16 32) (v1758 : IVec S16 32) : Prop :=
  (∀ a x, ((![v1728, v1758] : Fin 2 → IVec S16 32) a x).toNat < S8x2048.size a)
theorem k0_idx703_inb : ∀ (v1728 : IVec S16 32) (v1758 : IVec S16 32) (k0_hw703 : k0_chk703 v1728 v1758), ∀ a x, ((![v1728, v1758] : Fin 2 → IVec S16 32) a x).toNat < S8x2048.size a := fun v1728 v1758 k0_hw703 => k0_hw703

def k0_chk704 (v1728 : IVec S16 32) (v1760 : IVec S16 32) : Prop :=
  (∀ a x, ((![v1728, v1760] : Fin 2 → IVec S16 32) a x).toNat < S8x2048.size a)
theorem k0_idx704_inb : ∀ (v1728 : IVec S16 32) (v1760 : IVec S16 32) (k0_hw704 : k0_chk704 v1728 v1760), ∀ a x, ((![v1728, v1760] : Fin 2 → IVec S16 32) a x).toNat < S8x2048.size a := fun v1728 v1760 k0_hw704 => k0_hw704

def k0_chk705 (v1761 : IVec S16 32) (v1763 : IVec S16 32) : Prop :=
  (∀ a x, ((![v1761, v1763] : Fin 2 → IVec S16 32) a x).toNat < S8x2048.size a)
theorem k0_idx705_inb : ∀ (v1761 : IVec S16 32) (v1763 : IVec S16 32) (k0_hw705 : k0_chk705 v1761 v1763), ∀ a x, ((![v1761, v1763] : Fin 2 → IVec S16 32) a x).toNat < S8x2048.size a := fun v1761 v1763 k0_hw705 => k0_hw705

def k0_chk706 (v1761 : IVec S16 32) (v1765 : IVec S16 32) : Prop :=
  (∀ a x, ((![v1761, v1765] : Fin 2 → IVec S16 32) a x).toNat < S8x2048.size a)
theorem k0_idx706_inb : ∀ (v1761 : IVec S16 32) (v1765 : IVec S16 32) (k0_hw706 : k0_chk706 v1761 v1765), ∀ a x, ((![v1761, v1765] : Fin 2 → IVec S16 32) a x).toNat < S8x2048.size a := fun v1761 v1765 k0_hw706 => k0_hw706

def k0_chk707 (v1761 : IVec S16 32) (v1767 : IVec S16 32) : Prop :=
  (∀ a x, ((![v1761, v1767] : Fin 2 → IVec S16 32) a x).toNat < S8x2048.size a)
theorem k0_idx707_inb : ∀ (v1761 : IVec S16 32) (v1767 : IVec S16 32) (k0_hw707 : k0_chk707 v1761 v1767), ∀ a x, ((![v1761, v1767] : Fin 2 → IVec S16 32) a x).toNat < S8x2048.size a := fun v1761 v1767 k0_hw707 => k0_hw707

def k0_chk708 (v1761 : IVec S16 32) (v1769 : IVec S16 32) : Prop :=
  (∀ a x, ((![v1761, v1769] : Fin 2 → IVec S16 32) a x).toNat < S8x2048.size a)
theorem k0_idx708_inb : ∀ (v1761 : IVec S16 32) (v1769 : IVec S16 32) (k0_hw708 : k0_chk708 v1761 v1769), ∀ a x, ((![v1761, v1769] : Fin 2 → IVec S16 32) a x).toNat < S8x2048.size a := fun v1761 v1769 k0_hw708 => k0_hw708

def k0_chk709 (v1761 : IVec S16 32) (v1771 : IVec S16 32) : Prop :=
  (∀ a x, ((![v1761, v1771] : Fin 2 → IVec S16 32) a x).toNat < S8x2048.size a)
theorem k0_idx709_inb : ∀ (v1761 : IVec S16 32) (v1771 : IVec S16 32) (k0_hw709 : k0_chk709 v1761 v1771), ∀ a x, ((![v1761, v1771] : Fin 2 → IVec S16 32) a x).toNat < S8x2048.size a := fun v1761 v1771 k0_hw709 => k0_hw709

def k0_chk710 (v1761 : IVec S16 32) (v1773 : IVec S16 32) : Prop :=
  (∀ a x, ((![v1761, v1773] : Fin 2 → IVec S16 32) a x).toNat < S8x2048.size a)
theorem k0_idx710_inb : ∀ (v1761 : IVec S16 32) (v1773 : IVec S16 32) (k0_hw710 : k0_chk710 v1761 v1773), ∀ a x, ((![v1761, v1773] : Fin 2 → IVec S16 32) a x).toNat < S8x2048.size a := fun v1761 v1773 k0_hw710 => k0_hw710

def k0_chk711 (v1761 : IVec S16 32) (v1775 : IVec S16 32) : Prop :=
  (∀ a x, ((![v1761, v1775] : Fin 2 → IVec S16 32) a x).toNat < S8x2048.size a)
theorem k0_idx711_inb : ∀ (v1761 : IVec S16 32) (v1775 : IVec S16 32) (k0_hw711 : k0_chk711 v1761 v1775), ∀ a x, ((![v1761, v1775] : Fin 2 → IVec S16 32) a x).toNat < S8x2048.size a := fun v1761 v1775 k0_hw711 => k0_hw711

def k0_chk712 (v1761 : IVec S16 32) (v1777 : IVec S16 32) : Prop :=
  (∀ a x, ((![v1761, v1777] : Fin 2 → IVec S16 32) a x).toNat < S8x2048.size a)
theorem k0_idx712_inb : ∀ (v1761 : IVec S16 32) (v1777 : IVec S16 32) (k0_hw712 : k0_chk712 v1761 v1777), ∀ a x, ((![v1761, v1777] : Fin 2 → IVec S16 32) a x).toNat < S8x2048.size a := fun v1761 v1777 k0_hw712 => k0_hw712

def k0_chk713 (v1761 : IVec S16 32) (v1779 : IVec S16 32) : Prop :=
  (∀ a x, ((![v1761, v1779] : Fin 2 → IVec S16 32) a x).toNat < S8x2048.size a)
theorem k0_idx713_inb : ∀ (v1761 : IVec S16 32) (v1779 : IVec S16 32) (k0_hw713 : k0_chk713 v1761 v1779), ∀ a x, ((![v1761, v1779] : Fin 2 → IVec S16 32) a x).toNat < S8x2048.size a := fun v1761 v1779 k0_hw713 => k0_hw713

def k0_chk714 (v1761 : IVec S16 32) (v1781 : IVec S16 32) : Prop :=
  (∀ a x, ((![v1761, v1781] : Fin 2 → IVec S16 32) a x).toNat < S8x2048.size a)
theorem k0_idx714_inb : ∀ (v1761 : IVec S16 32) (v1781 : IVec S16 32) (k0_hw714 : k0_chk714 v1761 v1781), ∀ a x, ((![v1761, v1781] : Fin 2 → IVec S16 32) a x).toNat < S8x2048.size a := fun v1761 v1781 k0_hw714 => k0_hw714

def k0_chk715 (v1761 : IVec S16 32) (v1783 : IVec S16 32) : Prop :=
  (∀ a x, ((![v1761, v1783] : Fin 2 → IVec S16 32) a x).toNat < S8x2048.size a)
theorem k0_idx715_inb : ∀ (v1761 : IVec S16 32) (v1783 : IVec S16 32) (k0_hw715 : k0_chk715 v1761 v1783), ∀ a x, ((![v1761, v1783] : Fin 2 → IVec S16 32) a x).toNat < S8x2048.size a := fun v1761 v1783 k0_hw715 => k0_hw715

def k0_chk716 (v1761 : IVec S16 32) (v1785 : IVec S16 32) : Prop :=
  (∀ a x, ((![v1761, v1785] : Fin 2 → IVec S16 32) a x).toNat < S8x2048.size a)
theorem k0_idx716_inb : ∀ (v1761 : IVec S16 32) (v1785 : IVec S16 32) (k0_hw716 : k0_chk716 v1761 v1785), ∀ a x, ((![v1761, v1785] : Fin 2 → IVec S16 32) a x).toNat < S8x2048.size a := fun v1761 v1785 k0_hw716 => k0_hw716

def k0_chk717 (v1761 : IVec S16 32) (v1787 : IVec S16 32) : Prop :=
  (∀ a x, ((![v1761, v1787] : Fin 2 → IVec S16 32) a x).toNat < S8x2048.size a)
theorem k0_idx717_inb : ∀ (v1761 : IVec S16 32) (v1787 : IVec S16 32) (k0_hw717 : k0_chk717 v1761 v1787), ∀ a x, ((![v1761, v1787] : Fin 2 → IVec S16 32) a x).toNat < S8x2048.size a := fun v1761 v1787 k0_hw717 => k0_hw717

def k0_chk718 (v1761 : IVec S16 32) (v1789 : IVec S16 32) : Prop :=
  (∀ a x, ((![v1761, v1789] : Fin 2 → IVec S16 32) a x).toNat < S8x2048.size a)
theorem k0_idx718_inb : ∀ (v1761 : IVec S16 32) (v1789 : IVec S16 32) (k0_hw718 : k0_chk718 v1761 v1789), ∀ a x, ((![v1761, v1789] : Fin 2 → IVec S16 32) a x).toNat < S8x2048.size a := fun v1761 v1789 k0_hw718 => k0_hw718

def k0_chk719 (v1761 : IVec S16 32) (v1791 : IVec S16 32) : Prop :=
  (∀ a x, ((![v1761, v1791] : Fin 2 → IVec S16 32) a x).toNat < S8x2048.size a)
theorem k0_idx719_inb : ∀ (v1761 : IVec S16 32) (v1791 : IVec S16 32) (k0_hw719 : k0_chk719 v1761 v1791), ∀ a x, ((![v1761, v1791] : Fin 2 → IVec S16 32) a x).toNat < S8x2048.size a := fun v1761 v1791 k0_hw719 => k0_hw719

def k0_chk720 (v1761 : IVec S16 32) (v1793 : IVec S16 32) : Prop :=
  (∀ a x, ((![v1761, v1793] : Fin 2 → IVec S16 32) a x).toNat < S8x2048.size a)
theorem k0_idx720_inb : ∀ (v1761 : IVec S16 32) (v1793 : IVec S16 32) (k0_hw720 : k0_chk720 v1761 v1793), ∀ a x, ((![v1761, v1793] : Fin 2 → IVec S16 32) a x).toNat < S8x2048.size a := fun v1761 v1793 k0_hw720 => k0_hw720

def k0_chk721 (v1794 : IVec S16 32) (v1796 : IVec S16 32) : Prop :=
  (∀ a x, ((![v1794, v1796] : Fin 2 → IVec S16 32) a x).toNat < S8x2048.size a)
theorem k0_idx721_inb : ∀ (v1794 : IVec S16 32) (v1796 : IVec S16 32) (k0_hw721 : k0_chk721 v1794 v1796), ∀ a x, ((![v1794, v1796] : Fin 2 → IVec S16 32) a x).toNat < S8x2048.size a := fun v1794 v1796 k0_hw721 => k0_hw721

def k0_chk722 (v1794 : IVec S16 32) (v1798 : IVec S16 32) : Prop :=
  (∀ a x, ((![v1794, v1798] : Fin 2 → IVec S16 32) a x).toNat < S8x2048.size a)
theorem k0_idx722_inb : ∀ (v1794 : IVec S16 32) (v1798 : IVec S16 32) (k0_hw722 : k0_chk722 v1794 v1798), ∀ a x, ((![v1794, v1798] : Fin 2 → IVec S16 32) a x).toNat < S8x2048.size a := fun v1794 v1798 k0_hw722 => k0_hw722

def k0_chk723 (v1794 : IVec S16 32) (v1800 : IVec S16 32) : Prop :=
  (∀ a x, ((![v1794, v1800] : Fin 2 → IVec S16 32) a x).toNat < S8x2048.size a)
theorem k0_idx723_inb : ∀ (v1794 : IVec S16 32) (v1800 : IVec S16 32) (k0_hw723 : k0_chk723 v1794 v1800), ∀ a x, ((![v1794, v1800] : Fin 2 → IVec S16 32) a x).toNat < S8x2048.size a := fun v1794 v1800 k0_hw723 => k0_hw723

def k0_chk724 (v1794 : IVec S16 32) (v1802 : IVec S16 32) : Prop :=
  (∀ a x, ((![v1794, v1802] : Fin 2 → IVec S16 32) a x).toNat < S8x2048.size a)
theorem k0_idx724_inb : ∀ (v1794 : IVec S16 32) (v1802 : IVec S16 32) (k0_hw724 : k0_chk724 v1794 v1802), ∀ a x, ((![v1794, v1802] : Fin 2 → IVec S16 32) a x).toNat < S8x2048.size a := fun v1794 v1802 k0_hw724 => k0_hw724

def k0_chk725 (v1794 : IVec S16 32) (v1804 : IVec S16 32) : Prop :=
  (∀ a x, ((![v1794, v1804] : Fin 2 → IVec S16 32) a x).toNat < S8x2048.size a)
theorem k0_idx725_inb : ∀ (v1794 : IVec S16 32) (v1804 : IVec S16 32) (k0_hw725 : k0_chk725 v1794 v1804), ∀ a x, ((![v1794, v1804] : Fin 2 → IVec S16 32) a x).toNat < S8x2048.size a := fun v1794 v1804 k0_hw725 => k0_hw725

def k0_chk726 (v1794 : IVec S16 32) (v1806 : IVec S16 32) : Prop :=
  (∀ a x, ((![v1794, v1806] : Fin 2 → IVec S16 32) a x).toNat < S8x2048.size a)
theorem k0_idx726_inb : ∀ (v1794 : IVec S16 32) (v1806 : IVec S16 32) (k0_hw726 : k0_chk726 v1794 v1806), ∀ a x, ((![v1794, v1806] : Fin 2 → IVec S16 32) a x).toNat < S8x2048.size a := fun v1794 v1806 k0_hw726 => k0_hw726

def k0_chk727 (v1794 : IVec S16 32) (v1808 : IVec S16 32) : Prop :=
  (∀ a x, ((![v1794, v1808] : Fin 2 → IVec S16 32) a x).toNat < S8x2048.size a)
theorem k0_idx727_inb : ∀ (v1794 : IVec S16 32) (v1808 : IVec S16 32) (k0_hw727 : k0_chk727 v1794 v1808), ∀ a x, ((![v1794, v1808] : Fin 2 → IVec S16 32) a x).toNat < S8x2048.size a := fun v1794 v1808 k0_hw727 => k0_hw727

def k0_chk728 (v1794 : IVec S16 32) (v1810 : IVec S16 32) : Prop :=
  (∀ a x, ((![v1794, v1810] : Fin 2 → IVec S16 32) a x).toNat < S8x2048.size a)
theorem k0_idx728_inb : ∀ (v1794 : IVec S16 32) (v1810 : IVec S16 32) (k0_hw728 : k0_chk728 v1794 v1810), ∀ a x, ((![v1794, v1810] : Fin 2 → IVec S16 32) a x).toNat < S8x2048.size a := fun v1794 v1810 k0_hw728 => k0_hw728

def k0_chk729 (v1794 : IVec S16 32) (v1812 : IVec S16 32) : Prop :=
  (∀ a x, ((![v1794, v1812] : Fin 2 → IVec S16 32) a x).toNat < S8x2048.size a)
theorem k0_idx729_inb : ∀ (v1794 : IVec S16 32) (v1812 : IVec S16 32) (k0_hw729 : k0_chk729 v1794 v1812), ∀ a x, ((![v1794, v1812] : Fin 2 → IVec S16 32) a x).toNat < S8x2048.size a := fun v1794 v1812 k0_hw729 => k0_hw729

def k0_chk730 (v1794 : IVec S16 32) (v1814 : IVec S16 32) : Prop :=
  (∀ a x, ((![v1794, v1814] : Fin 2 → IVec S16 32) a x).toNat < S8x2048.size a)
theorem k0_idx730_inb : ∀ (v1794 : IVec S16 32) (v1814 : IVec S16 32) (k0_hw730 : k0_chk730 v1794 v1814), ∀ a x, ((![v1794, v1814] : Fin 2 → IVec S16 32) a x).toNat < S8x2048.size a := fun v1794 v1814 k0_hw730 => k0_hw730

def k0_chk731 (v1794 : IVec S16 32) (v1816 : IVec S16 32) : Prop :=
  (∀ a x, ((![v1794, v1816] : Fin 2 → IVec S16 32) a x).toNat < S8x2048.size a)
theorem k0_idx731_inb : ∀ (v1794 : IVec S16 32) (v1816 : IVec S16 32) (k0_hw731 : k0_chk731 v1794 v1816), ∀ a x, ((![v1794, v1816] : Fin 2 → IVec S16 32) a x).toNat < S8x2048.size a := fun v1794 v1816 k0_hw731 => k0_hw731

def k0_chk732 (v1794 : IVec S16 32) (v1818 : IVec S16 32) : Prop :=
  (∀ a x, ((![v1794, v1818] : Fin 2 → IVec S16 32) a x).toNat < S8x2048.size a)
theorem k0_idx732_inb : ∀ (v1794 : IVec S16 32) (v1818 : IVec S16 32) (k0_hw732 : k0_chk732 v1794 v1818), ∀ a x, ((![v1794, v1818] : Fin 2 → IVec S16 32) a x).toNat < S8x2048.size a := fun v1794 v1818 k0_hw732 => k0_hw732

def k0_chk733 (v1794 : IVec S16 32) (v1820 : IVec S16 32) : Prop :=
  (∀ a x, ((![v1794, v1820] : Fin 2 → IVec S16 32) a x).toNat < S8x2048.size a)
theorem k0_idx733_inb : ∀ (v1794 : IVec S16 32) (v1820 : IVec S16 32) (k0_hw733 : k0_chk733 v1794 v1820), ∀ a x, ((![v1794, v1820] : Fin 2 → IVec S16 32) a x).toNat < S8x2048.size a := fun v1794 v1820 k0_hw733 => k0_hw733

def k0_chk734 (v1794 : IVec S16 32) (v1822 : IVec S16 32) : Prop :=
  (∀ a x, ((![v1794, v1822] : Fin 2 → IVec S16 32) a x).toNat < S8x2048.size a)
theorem k0_idx734_inb : ∀ (v1794 : IVec S16 32) (v1822 : IVec S16 32) (k0_hw734 : k0_chk734 v1794 v1822), ∀ a x, ((![v1794, v1822] : Fin 2 → IVec S16 32) a x).toNat < S8x2048.size a := fun v1794 v1822 k0_hw734 => k0_hw734

def k0_chk735 (v1794 : IVec S16 32) (v1824 : IVec S16 32) : Prop :=
  (∀ a x, ((![v1794, v1824] : Fin 2 → IVec S16 32) a x).toNat < S8x2048.size a)
theorem k0_idx735_inb : ∀ (v1794 : IVec S16 32) (v1824 : IVec S16 32) (k0_hw735 : k0_chk735 v1794 v1824), ∀ a x, ((![v1794, v1824] : Fin 2 → IVec S16 32) a x).toNat < S8x2048.size a := fun v1794 v1824 k0_hw735 => k0_hw735

def k0_chk736 (v1794 : IVec S16 32) (v1826 : IVec S16 32) : Prop :=
  (∀ a x, ((![v1794, v1826] : Fin 2 → IVec S16 32) a x).toNat < S8x2048.size a)
theorem k0_idx736_inb : ∀ (v1794 : IVec S16 32) (v1826 : IVec S16 32) (k0_hw736 : k0_chk736 v1794 v1826), ∀ a x, ((![v1794, v1826] : Fin 2 → IVec S16 32) a x).toNat < S8x2048.size a := fun v1794 v1826 k0_hw736 => k0_hw736

def k0_chk737 (v1827 : IVec S16 32) (v1829 : IVec S16 32) : Prop :=
  (∀ a x, ((![v1827, v1829] : Fin 2 → IVec S16 32) a x).toNat < S8x2048.size a)
theorem k0_idx737_inb : ∀ (v1827 : IVec S16 32) (v1829 : IVec S16 32) (k0_hw737 : k0_chk737 v1827 v1829), ∀ a x, ((![v1827, v1829] : Fin 2 → IVec S16 32) a x).toNat < S8x2048.size a := fun v1827 v1829 k0_hw737 => k0_hw737

def k0_chk738 (v1827 : IVec S16 32) (v1831 : IVec S16 32) : Prop :=
  (∀ a x, ((![v1827, v1831] : Fin 2 → IVec S16 32) a x).toNat < S8x2048.size a)
theorem k0_idx738_inb : ∀ (v1827 : IVec S16 32) (v1831 : IVec S16 32) (k0_hw738 : k0_chk738 v1827 v1831), ∀ a x, ((![v1827, v1831] : Fin 2 → IVec S16 32) a x).toNat < S8x2048.size a := fun v1827 v1831 k0_hw738 => k0_hw738

def k0_chk739 (v1827 : IVec S16 32) (v1833 : IVec S16 32) : Prop :=
  (∀ a x, ((![v1827, v1833] : Fin 2 → IVec S16 32) a x).toNat < S8x2048.size a)
theorem k0_idx739_inb : ∀ (v1827 : IVec S16 32) (v1833 : IVec S16 32) (k0_hw739 : k0_chk739 v1827 v1833), ∀ a x, ((![v1827, v1833] : Fin 2 → IVec S16 32) a x).toNat < S8x2048.size a := fun v1827 v1833 k0_hw739 => k0_hw739

def k0_chk740 (v1827 : IVec S16 32) (v1835 : IVec S16 32) : Prop :=
  (∀ a x, ((![v1827, v1835] : Fin 2 → IVec S16 32) a x).toNat < S8x2048.size a)
theorem k0_idx740_inb : ∀ (v1827 : IVec S16 32) (v1835 : IVec S16 32) (k0_hw740 : k0_chk740 v1827 v1835), ∀ a x, ((![v1827, v1835] : Fin 2 → IVec S16 32) a x).toNat < S8x2048.size a := fun v1827 v1835 k0_hw740 => k0_hw740

def k0_chk741 (v1827 : IVec S16 32) (v1837 : IVec S16 32) : Prop :=
  (∀ a x, ((![v1827, v1837] : Fin 2 → IVec S16 32) a x).toNat < S8x2048.size a)
theorem k0_idx741_inb : ∀ (v1827 : IVec S16 32) (v1837 : IVec S16 32) (k0_hw741 : k0_chk741 v1827 v1837), ∀ a x, ((![v1827, v1837] : Fin 2 → IVec S16 32) a x).toNat < S8x2048.size a := fun v1827 v1837 k0_hw741 => k0_hw741

def k0_chk742 (v1827 : IVec S16 32) (v1839 : IVec S16 32) : Prop :=
  (∀ a x, ((![v1827, v1839] : Fin 2 → IVec S16 32) a x).toNat < S8x2048.size a)
theorem k0_idx742_inb : ∀ (v1827 : IVec S16 32) (v1839 : IVec S16 32) (k0_hw742 : k0_chk742 v1827 v1839), ∀ a x, ((![v1827, v1839] : Fin 2 → IVec S16 32) a x).toNat < S8x2048.size a := fun v1827 v1839 k0_hw742 => k0_hw742

def k0_chk743 (v1827 : IVec S16 32) (v1841 : IVec S16 32) : Prop :=
  (∀ a x, ((![v1827, v1841] : Fin 2 → IVec S16 32) a x).toNat < S8x2048.size a)
theorem k0_idx743_inb : ∀ (v1827 : IVec S16 32) (v1841 : IVec S16 32) (k0_hw743 : k0_chk743 v1827 v1841), ∀ a x, ((![v1827, v1841] : Fin 2 → IVec S16 32) a x).toNat < S8x2048.size a := fun v1827 v1841 k0_hw743 => k0_hw743

def k0_chk744 (v1827 : IVec S16 32) (v1843 : IVec S16 32) : Prop :=
  (∀ a x, ((![v1827, v1843] : Fin 2 → IVec S16 32) a x).toNat < S8x2048.size a)
theorem k0_idx744_inb : ∀ (v1827 : IVec S16 32) (v1843 : IVec S16 32) (k0_hw744 : k0_chk744 v1827 v1843), ∀ a x, ((![v1827, v1843] : Fin 2 → IVec S16 32) a x).toNat < S8x2048.size a := fun v1827 v1843 k0_hw744 => k0_hw744

def k0_chk745 (v1827 : IVec S16 32) (v1845 : IVec S16 32) : Prop :=
  (∀ a x, ((![v1827, v1845] : Fin 2 → IVec S16 32) a x).toNat < S8x2048.size a)
theorem k0_idx745_inb : ∀ (v1827 : IVec S16 32) (v1845 : IVec S16 32) (k0_hw745 : k0_chk745 v1827 v1845), ∀ a x, ((![v1827, v1845] : Fin 2 → IVec S16 32) a x).toNat < S8x2048.size a := fun v1827 v1845 k0_hw745 => k0_hw745

def k0_chk746 (v1827 : IVec S16 32) (v1847 : IVec S16 32) : Prop :=
  (∀ a x, ((![v1827, v1847] : Fin 2 → IVec S16 32) a x).toNat < S8x2048.size a)
theorem k0_idx746_inb : ∀ (v1827 : IVec S16 32) (v1847 : IVec S16 32) (k0_hw746 : k0_chk746 v1827 v1847), ∀ a x, ((![v1827, v1847] : Fin 2 → IVec S16 32) a x).toNat < S8x2048.size a := fun v1827 v1847 k0_hw746 => k0_hw746

def k0_chk747 (v1827 : IVec S16 32) (v1849 : IVec S16 32) : Prop :=
  (∀ a x, ((![v1827, v1849] : Fin 2 → IVec S16 32) a x).toNat < S8x2048.size a)
theorem k0_idx747_inb : ∀ (v1827 : IVec S16 32) (v1849 : IVec S16 32) (k0_hw747 : k0_chk747 v1827 v1849), ∀ a x, ((![v1827, v1849] : Fin 2 → IVec S16 32) a x).toNat < S8x2048.size a := fun v1827 v1849 k0_hw747 => k0_hw747

def k0_chk748 (v1827 : IVec S16 32) (v1851 : IVec S16 32) : Prop :=
  (∀ a x, ((![v1827, v1851] : Fin 2 → IVec S16 32) a x).toNat < S8x2048.size a)
theorem k0_idx748_inb : ∀ (v1827 : IVec S16 32) (v1851 : IVec S16 32) (k0_hw748 : k0_chk748 v1827 v1851), ∀ a x, ((![v1827, v1851] : Fin 2 → IVec S16 32) a x).toNat < S8x2048.size a := fun v1827 v1851 k0_hw748 => k0_hw748

def k0_chk749 (v1827 : IVec S16 32) (v1853 : IVec S16 32) : Prop :=
  (∀ a x, ((![v1827, v1853] : Fin 2 → IVec S16 32) a x).toNat < S8x2048.size a)
theorem k0_idx749_inb : ∀ (v1827 : IVec S16 32) (v1853 : IVec S16 32) (k0_hw749 : k0_chk749 v1827 v1853), ∀ a x, ((![v1827, v1853] : Fin 2 → IVec S16 32) a x).toNat < S8x2048.size a := fun v1827 v1853 k0_hw749 => k0_hw749

def k0_chk750 (v1827 : IVec S16 32) (v1855 : IVec S16 32) : Prop :=
  (∀ a x, ((![v1827, v1855] : Fin 2 → IVec S16 32) a x).toNat < S8x2048.size a)
theorem k0_idx750_inb : ∀ (v1827 : IVec S16 32) (v1855 : IVec S16 32) (k0_hw750 : k0_chk750 v1827 v1855), ∀ a x, ((![v1827, v1855] : Fin 2 → IVec S16 32) a x).toNat < S8x2048.size a := fun v1827 v1855 k0_hw750 => k0_hw750

def k0_chk751 (v1827 : IVec S16 32) (v1857 : IVec S16 32) : Prop :=
  (∀ a x, ((![v1827, v1857] : Fin 2 → IVec S16 32) a x).toNat < S8x2048.size a)
theorem k0_idx751_inb : ∀ (v1827 : IVec S16 32) (v1857 : IVec S16 32) (k0_hw751 : k0_chk751 v1827 v1857), ∀ a x, ((![v1827, v1857] : Fin 2 → IVec S16 32) a x).toNat < S8x2048.size a := fun v1827 v1857 k0_hw751 => k0_hw751

def k0_chk752 (v1827 : IVec S16 32) (v1859 : IVec S16 32) : Prop :=
  (∀ a x, ((![v1827, v1859] : Fin 2 → IVec S16 32) a x).toNat < S8x2048.size a)
theorem k0_idx752_inb : ∀ (v1827 : IVec S16 32) (v1859 : IVec S16 32) (k0_hw752 : k0_chk752 v1827 v1859), ∀ a x, ((![v1827, v1859] : Fin 2 → IVec S16 32) a x).toNat < S8x2048.size a := fun v1827 v1859 k0_hw752 => k0_hw752

def k0_chk753 (v1860 : IVec S16 32) (v1862 : IVec S16 32) : Prop :=
  (∀ a x, ((![v1860, v1862] : Fin 2 → IVec S16 32) a x).toNat < S8x2048.size a)
theorem k0_idx753_inb : ∀ (v1860 : IVec S16 32) (v1862 : IVec S16 32) (k0_hw753 : k0_chk753 v1860 v1862), ∀ a x, ((![v1860, v1862] : Fin 2 → IVec S16 32) a x).toNat < S8x2048.size a := fun v1860 v1862 k0_hw753 => k0_hw753

def k0_chk754 (v1860 : IVec S16 32) (v1864 : IVec S16 32) : Prop :=
  (∀ a x, ((![v1860, v1864] : Fin 2 → IVec S16 32) a x).toNat < S8x2048.size a)
theorem k0_idx754_inb : ∀ (v1860 : IVec S16 32) (v1864 : IVec S16 32) (k0_hw754 : k0_chk754 v1860 v1864), ∀ a x, ((![v1860, v1864] : Fin 2 → IVec S16 32) a x).toNat < S8x2048.size a := fun v1860 v1864 k0_hw754 => k0_hw754

def k0_chk755 (v1860 : IVec S16 32) (v1866 : IVec S16 32) : Prop :=
  (∀ a x, ((![v1860, v1866] : Fin 2 → IVec S16 32) a x).toNat < S8x2048.size a)
theorem k0_idx755_inb : ∀ (v1860 : IVec S16 32) (v1866 : IVec S16 32) (k0_hw755 : k0_chk755 v1860 v1866), ∀ a x, ((![v1860, v1866] : Fin 2 → IVec S16 32) a x).toNat < S8x2048.size a := fun v1860 v1866 k0_hw755 => k0_hw755

def k0_chk756 (v1860 : IVec S16 32) (v1868 : IVec S16 32) : Prop :=
  (∀ a x, ((![v1860, v1868] : Fin 2 → IVec S16 32) a x).toNat < S8x2048.size a)
theorem k0_idx756_inb : ∀ (v1860 : IVec S16 32) (v1868 : IVec S16 32) (k0_hw756 : k0_chk756 v1860 v1868), ∀ a x, ((![v1860, v1868] : Fin 2 → IVec S16 32) a x).toNat < S8x2048.size a := fun v1860 v1868 k0_hw756 => k0_hw756

def k0_chk757 (v1860 : IVec S16 32) (v1870 : IVec S16 32) : Prop :=
  (∀ a x, ((![v1860, v1870] : Fin 2 → IVec S16 32) a x).toNat < S8x2048.size a)
theorem k0_idx757_inb : ∀ (v1860 : IVec S16 32) (v1870 : IVec S16 32) (k0_hw757 : k0_chk757 v1860 v1870), ∀ a x, ((![v1860, v1870] : Fin 2 → IVec S16 32) a x).toNat < S8x2048.size a := fun v1860 v1870 k0_hw757 => k0_hw757

def k0_chk758 (v1860 : IVec S16 32) (v1872 : IVec S16 32) : Prop :=
  (∀ a x, ((![v1860, v1872] : Fin 2 → IVec S16 32) a x).toNat < S8x2048.size a)
theorem k0_idx758_inb : ∀ (v1860 : IVec S16 32) (v1872 : IVec S16 32) (k0_hw758 : k0_chk758 v1860 v1872), ∀ a x, ((![v1860, v1872] : Fin 2 → IVec S16 32) a x).toNat < S8x2048.size a := fun v1860 v1872 k0_hw758 => k0_hw758

def k0_chk759 (v1860 : IVec S16 32) (v1874 : IVec S16 32) : Prop :=
  (∀ a x, ((![v1860, v1874] : Fin 2 → IVec S16 32) a x).toNat < S8x2048.size a)
theorem k0_idx759_inb : ∀ (v1860 : IVec S16 32) (v1874 : IVec S16 32) (k0_hw759 : k0_chk759 v1860 v1874), ∀ a x, ((![v1860, v1874] : Fin 2 → IVec S16 32) a x).toNat < S8x2048.size a := fun v1860 v1874 k0_hw759 => k0_hw759

def k0_chk760 (v1860 : IVec S16 32) (v1876 : IVec S16 32) : Prop :=
  (∀ a x, ((![v1860, v1876] : Fin 2 → IVec S16 32) a x).toNat < S8x2048.size a)
theorem k0_idx760_inb : ∀ (v1860 : IVec S16 32) (v1876 : IVec S16 32) (k0_hw760 : k0_chk760 v1860 v1876), ∀ a x, ((![v1860, v1876] : Fin 2 → IVec S16 32) a x).toNat < S8x2048.size a := fun v1860 v1876 k0_hw760 => k0_hw760

def k0_chk761 (v1860 : IVec S16 32) (v1878 : IVec S16 32) : Prop :=
  (∀ a x, ((![v1860, v1878] : Fin 2 → IVec S16 32) a x).toNat < S8x2048.size a)
theorem k0_idx761_inb : ∀ (v1860 : IVec S16 32) (v1878 : IVec S16 32) (k0_hw761 : k0_chk761 v1860 v1878), ∀ a x, ((![v1860, v1878] : Fin 2 → IVec S16 32) a x).toNat < S8x2048.size a := fun v1860 v1878 k0_hw761 => k0_hw761

def k0_chk762 (v1860 : IVec S16 32) (v1880 : IVec S16 32) : Prop :=
  (∀ a x, ((![v1860, v1880] : Fin 2 → IVec S16 32) a x).toNat < S8x2048.size a)
theorem k0_idx762_inb : ∀ (v1860 : IVec S16 32) (v1880 : IVec S16 32) (k0_hw762 : k0_chk762 v1860 v1880), ∀ a x, ((![v1860, v1880] : Fin 2 → IVec S16 32) a x).toNat < S8x2048.size a := fun v1860 v1880 k0_hw762 => k0_hw762

def k0_chk763 (v1860 : IVec S16 32) (v1882 : IVec S16 32) : Prop :=
  (∀ a x, ((![v1860, v1882] : Fin 2 → IVec S16 32) a x).toNat < S8x2048.size a)
theorem k0_idx763_inb : ∀ (v1860 : IVec S16 32) (v1882 : IVec S16 32) (k0_hw763 : k0_chk763 v1860 v1882), ∀ a x, ((![v1860, v1882] : Fin 2 → IVec S16 32) a x).toNat < S8x2048.size a := fun v1860 v1882 k0_hw763 => k0_hw763

def k0_chk764 (v1860 : IVec S16 32) (v1884 : IVec S16 32) : Prop :=
  (∀ a x, ((![v1860, v1884] : Fin 2 → IVec S16 32) a x).toNat < S8x2048.size a)
theorem k0_idx764_inb : ∀ (v1860 : IVec S16 32) (v1884 : IVec S16 32) (k0_hw764 : k0_chk764 v1860 v1884), ∀ a x, ((![v1860, v1884] : Fin 2 → IVec S16 32) a x).toNat < S8x2048.size a := fun v1860 v1884 k0_hw764 => k0_hw764

def k0_chk765 (v1860 : IVec S16 32) (v1886 : IVec S16 32) : Prop :=
  (∀ a x, ((![v1860, v1886] : Fin 2 → IVec S16 32) a x).toNat < S8x2048.size a)
theorem k0_idx765_inb : ∀ (v1860 : IVec S16 32) (v1886 : IVec S16 32) (k0_hw765 : k0_chk765 v1860 v1886), ∀ a x, ((![v1860, v1886] : Fin 2 → IVec S16 32) a x).toNat < S8x2048.size a := fun v1860 v1886 k0_hw765 => k0_hw765

def k0_chk766 (v1860 : IVec S16 32) (v1888 : IVec S16 32) : Prop :=
  (∀ a x, ((![v1860, v1888] : Fin 2 → IVec S16 32) a x).toNat < S8x2048.size a)
theorem k0_idx766_inb : ∀ (v1860 : IVec S16 32) (v1888 : IVec S16 32) (k0_hw766 : k0_chk766 v1860 v1888), ∀ a x, ((![v1860, v1888] : Fin 2 → IVec S16 32) a x).toNat < S8x2048.size a := fun v1860 v1888 k0_hw766 => k0_hw766

def k0_chk767 (v1860 : IVec S16 32) (v1890 : IVec S16 32) : Prop :=
  (∀ a x, ((![v1860, v1890] : Fin 2 → IVec S16 32) a x).toNat < S8x2048.size a)
theorem k0_idx767_inb : ∀ (v1860 : IVec S16 32) (v1890 : IVec S16 32) (k0_hw767 : k0_chk767 v1860 v1890), ∀ a x, ((![v1860, v1890] : Fin 2 → IVec S16 32) a x).toNat < S8x2048.size a := fun v1860 v1890 k0_hw767 => k0_hw767

def k0_chk768 (v1860 : IVec S16 32) (v1892 : IVec S16 32) : Prop :=
  (∀ a x, ((![v1860, v1892] : Fin 2 → IVec S16 32) a x).toNat < S8x2048.size a)
theorem k0_idx768_inb : ∀ (v1860 : IVec S16 32) (v1892 : IVec S16 32) (k0_hw768 : k0_chk768 v1860 v1892), ∀ a x, ((![v1860, v1892] : Fin 2 → IVec S16 32) a x).toNat < S8x2048.size a := fun v1860 v1892 k0_hw768 => k0_hw768
def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_1158 : BitVec 32 := 2#32
  let c0_i32_542 : BitVec 32 := 0#32
  let c1_i32_544 : BitVec 32 := 1#32
  let arg12 : BitVec 32 := Scf.iv c0_i32_542 c1_i32_544 k0_t1
  let c2_i32_1157 : BitVec 32 := 2#32
  let v1289 : BitVec 32 := Scalar.muli arg12 c2_i32_1157
  let v1290 : BitVec 32 := Scalar.addi c2_i32_1158 v1289
  let c1_i32_1159 : BitVec 32 := 1#32
  let v1291 : BitVec 32 := Scalar.addi v1290 c1_i32_1159
  let c8_i32_1427 : BitVec 32 := 8#32
  let v1560 : BitVec 32 := Scalar.muli v1291 c8_i32_1427
  let v1561 : BitVec 32 := Scalar.addi v2 v1560
  let c0_i32_1760 : BitVec 32 := 0#32
  ![v1561.toNat, 0]
abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x4x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x4x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S1x16x2048x128 : Shape := ⟨4, ![1, 16, 2048, 128]⟩
abbrev S1x4x2048x128 : Shape := ⟨4, ![1, 4, 2048, 128]⟩
abbrev S1x4x2048x64 : Shape := ⟨4, ![1, 4, 2048, 64]⟩
abbrev S1x4x2048x64x1 : Shape := ⟨5, ![1, 4, 2048, 64, 1]⟩
abbrev S1x4x1x2048x128 : Shape := ⟨5, ![1, 4, 1, 2048, 128]⟩
abbrev S_ : Shape := ⟨0, ![]⟩
abbrev S4x2048x64x1 : Shape := ⟨4, ![4, 2048, 64, 1]⟩
abbrev S1 : Shape := ⟨1, ![1]⟩
abbrev S1x1x1x1 : Shape := ⟨4, ![1, 1, 1, 1]⟩
abbrev S4x2048x64 : Shape := ⟨3, ![4, 2048, 64]⟩
abbrev S1x4x2048x64x128 : Shape := ⟨5, ![1, 4, 2048, 64, 128]⟩
abbrev S1x4x4x2048x128 : Shape := ⟨5, ![1, 4, 4, 2048, 128]⟩
abbrev S1x4x2048x64x4 : Shape := ⟨5, ![1, 4, 2048, 64, 4]⟩
abbrev S1x4x4x2048x64 : Shape := ⟨5, ![1, 4, 4, 2048, 64]⟩
abbrev S1x4x4x2048 : Shape := ⟨4, ![1, 4, 4, 2048]⟩
abbrev S1x4x4x2048x1 : Shape := ⟨5, ![1, 4, 4, 2048, 1]⟩
abbrev S1x4x2048x128x4 : Shape := ⟨5, ![1, 4, 2048, 128, 4]⟩

abbrev nBuf : Space → Nat
  | .hbm => 81
  | .vmem => 0
  | .smem => 0
  | _ => 0

abbrev bufTy : (tb : Table) → Fin (tcTables nBuf tb) → BufTy
  | .hbm, ⟨0, _⟩ => ⟨S1x16x2048x128, .f32⟩
  | .hbm, ⟨1, _⟩ => ⟨S1x4x2048x128, .f32⟩
  | .hbm, ⟨2, _⟩ => ⟨S1x4x2048x128, .f32⟩
  | .hbm, ⟨3, _⟩ => ⟨S1x4x2048x64, .i32⟩
  | .hbm, ⟨4, _⟩ => ⟨S1x4x2048x64x1, .i32⟩
  | .hbm, ⟨5, _⟩ => ⟨S1x4x1x2048x128, .f32⟩
  | .hbm, ⟨6, _⟩ => ⟨S_, .i32⟩
  | .hbm, ⟨7, _⟩ => ⟨S1x4x2048x64x1, .i32⟩
  | .hbm, ⟨8, _⟩ => ⟨S1x4x2048x64x1, .i1⟩
  | .hbm, ⟨9, _⟩ => ⟨S_, .i32⟩
  | .hbm, ⟨10, _⟩ => ⟨S1x4x2048x64x1, .i32⟩
  | .hbm, ⟨11, _⟩ => ⟨S1x4x2048x64x1, .i32⟩
  | .hbm, ⟨12, _⟩ => ⟨S1x4x2048x64x1, .i32⟩
  | .hbm, ⟨13, _⟩ => ⟨S4x2048x64x1, .i32⟩
  | .hbm, ⟨14, _⟩ => ⟨S1x4x2048x128, .f32⟩
  | .hbm, ⟨15, _⟩ => ⟨S1, .i32⟩
  | .hbm, ⟨16, _⟩ => ⟨S_, .i32⟩
  | .hbm, ⟨17, _⟩ => ⟨S4x2048x64x1, .i32⟩
  | .hbm, ⟨18, _⟩ => ⟨S4x2048x64x1, .i1⟩
  | .hbm, ⟨19, _⟩ => ⟨S1x1x1x1, .i32⟩
  | .hbm, ⟨20, _⟩ => ⟨S4x2048x64x1, .i32⟩
  | .hbm, ⟨21, _⟩ => ⟨S4x2048x64x1, .i1⟩
  | .hbm, ⟨22, _⟩ => ⟨S4x2048x64x1, .i1⟩
  | .hbm, ⟨23, _⟩ => ⟨S_, .i1⟩
  | .hbm, ⟨24, _⟩ => ⟨S4x2048x64, .i1⟩
  | .hbm, ⟨25, _⟩ => ⟨S1x4x2048x64x128, .f32⟩
  | .hbm, ⟨26, _⟩ => ⟨S1x4x2048x64x128, .i1⟩
  | .hbm, ⟨27, _⟩ => ⟨S_, .f32⟩
  | .hbm, ⟨28, _⟩ => ⟨S1x4x2048x64x128, .f32⟩
  | .hbm, ⟨29, _⟩ => ⟨S1x4x2048x64x128, .f32⟩
  | .hbm, ⟨30, _⟩ => ⟨S1x4x1x2048x128, .f32⟩
  | .hbm, ⟨31, _⟩ => ⟨S_, .i32⟩
  | .hbm, ⟨32, _⟩ => ⟨S1x4x2048x64x1, .i32⟩
  | .hbm, ⟨33, _⟩ => ⟨S1x4x2048x64x1, .i1⟩
  | .hbm, ⟨34, _⟩ => ⟨S_, .i32⟩
  | .hbm, ⟨35, _⟩ => ⟨S1x4x2048x64x1, .i32⟩
  | .hbm, ⟨36, _⟩ => ⟨S1x4x2048x64x1, .i32⟩
  | .hbm, ⟨37, _⟩ => ⟨S1x4x2048x64x1, .i32⟩
  | .hbm, ⟨38, _⟩ => ⟨S4x2048x64x1, .i32⟩
  | .hbm, ⟨39, _⟩ => ⟨S1x4x2048x128, .f32⟩
  | .hbm, ⟨40, _⟩ => ⟨S1, .i32⟩
  | .hbm, ⟨41, _⟩ => ⟨S_, .i32⟩
  | .hbm, ⟨42, _⟩ => ⟨S4x2048x64x1, .i32⟩
  | .hbm, ⟨43, _⟩ => ⟨S4x2048x64x1, .i1⟩
  | .hbm, ⟨44, _⟩ => ⟨S1x1x1x1, .i32⟩
  | .hbm, ⟨45, _⟩ => ⟨S4x2048x64x1, .i32⟩
  | .hbm, ⟨46, _⟩ => ⟨S4x2048x64x1, .i1⟩
  | .hbm, ⟨47, _⟩ => ⟨S4x2048x64x1, .i1⟩
  | .hbm, ⟨48, _⟩ => ⟨S_, .i1⟩
  | .hbm, ⟨49, _⟩ => ⟨S4x2048x64, .i1⟩
  | .hbm, ⟨50, _⟩ => ⟨S1x4x2048x64x128, .f32⟩
  | .hbm, ⟨51, _⟩ => ⟨S1x4x2048x64x128, .i1⟩
  | .hbm, ⟨52, _⟩ => ⟨S_, .f32⟩
  | .hbm, ⟨53, _⟩ => ⟨S1x4x2048x64x128, .f32⟩
  | .hbm, ⟨54, _⟩ => ⟨S1x4x2048x64x128, .f32⟩
  | .hbm, ⟨55, _⟩ => ⟨S1x4x4x2048x128, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x4x2048x64x4, .f32⟩
  | .hbm, ⟨61, _⟩ => ⟨S1x4x4x2048x64, .f32⟩
  | .hbm, ⟨62, _⟩ => ⟨S1x4x4x2048x64, .f32⟩
  | .hbm, ⟨63, _⟩ => ⟨S1x4x4x2048x64, .f32⟩
  | .hbm, ⟨64, _⟩ => ⟨S_, .f32⟩
  | .hbm, ⟨65, _⟩ => ⟨S1x4x4x2048, .f32⟩
  | .hbm, ⟨66, _⟩ => ⟨S_, .f32⟩
  | .hbm, ⟨67, _⟩ => ⟨S1x4x4x2048, .f32⟩
  | .hbm, ⟨68, _⟩ => ⟨S1x4x4x2048, .f32⟩
  | .hbm, ⟨69, _⟩ => ⟨S1x4x4x2048x1, .f32⟩
  | .hbm, ⟨70, _⟩ => ⟨S1x4x4x2048x64, .f32⟩
  | .hbm, ⟨71, _⟩ => ⟨S1x4x4x2048x64, .f32⟩
  | .hbm, ⟨72, _⟩ => ⟨S1x4x4x2048x64, .f32⟩
  | .hbm, ⟨73, _⟩ => ⟨S_, .f32⟩
  | .hbm, ⟨74, _⟩ => ⟨S1x4x4x2048, .f32⟩
  | .hbm, ⟨75, _⟩ => ⟨S1x4x4x2048x1, .f32⟩
  | .hbm, ⟨76, _⟩ => ⟨S1x4x4x2048x64, .f32⟩
  | .hbm, ⟨77, _⟩ => ⟨S1x4x4x2048x64, .f32⟩
  | .hbm, ⟨78, _⟩ => ⟨S1x4x2048x128x4, .f32⟩
  | .hbm, ⟨79, _⟩ => ⟨S1x4x4x2048x128, .f32⟩
  | .hbm, ⟨80, _⟩ => ⟨S1x16x2048x128, .f32⟩
  | _, _ => ⟨S1x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_c_1 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_c_3 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_cst : Ref sig .tc := ⟨.hbm, 27, rfl⟩
abbrev main_call0_v16 : Ref sig .tc := ⟨.hbm, 28, rfl⟩
abbrev main_v2 : Ref sig .tc := ⟨.hbm, 29, rfl⟩
abbrev main_v3 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_c_1 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_c_3 : Ref sig .tc := ⟨.hbm, 48, rfl⟩
abbrev main_call1_v13 : Ref sig .tc := ⟨.hbm, 49, rfl⟩
abbrev main_call1_v14 : Ref sig .tc := ⟨.hbm, 50, rfl⟩
abbrev main_call1_v15 : Ref sig .tc := ⟨.hbm, 51, rfl⟩
abbrev main_call1_cst : Ref sig .tc := ⟨.hbm, 52, rfl⟩
abbrev main_call1_v16 : Ref sig .tc := ⟨.hbm, 53, rfl⟩
abbrev main_v4 : Ref sig .tc := ⟨.hbm, 54, rfl⟩
abbrev main_v5 : Ref sig .tc := ⟨.hbm, 55, rfl⟩
abbrev main_cst : Ref sig .tc := ⟨.hbm, 56, rfl⟩
abbrev main_v6 : Ref sig .tc := ⟨.hbm, 57, rfl⟩
abbrev main_cst_0 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_cst_1 : Ref sig .tc := ⟨.hbm, 64, rfl⟩
abbrev main_v12 : Ref sig .tc := ⟨.hbm, 65, rfl⟩
abbrev main_cst_2 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_cst_3 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩

abbrev nD : Nat := 1
abbrev τ : Topo := Topo.v7x

variable {F : FTy → Type} [FloatOps F]
-- ==== Proof.Scat.lean ====
module

public import Idealize.ShloMosaic.Lib.SparseCore.Ops
public import Idealize.ShloMosaic.Lib.Writes
public import Idealize.ShloMosaic.Lib.Tactic

/-!
# The table that a chunk's scatters build

A chunk is eight rows of the packed table. Its 32 index rows are scattered one after another, eight rows times four
fields times four index rows each, every lane adding the word `2 ^ (8 k)` of its field `k`. Here are the table after the
first `n` scatters (`acc`), the table after `n` scatters of the clearing pass (`clr`), what both are at the end, and the
rules that step a program over one load, one bounds check and one scatter.
-/

@[expose] public section

namespace Cert.Scat

open Idealize.ShloMosaic
open Idealize.SL Idealize.SL.RA Idealize.SL.BI
open scoped Idealize.SL.BI
open Idealize.SL.BI.BIBase Idealize.SL.BI.Laws Idealize.SL.ProofMode Idealize.SL.Sem

/-! ## The store of a vector at indices, element by element -/

section Store

variable {F : FTy → Type} [FloatOps F] {s : Shape} {d : Fin 1 → Nat}

theorem foldl_add {ι : Type} (hit : ι → Prop) [DecidablePred hit] (w : BitVec 32) :
    ∀ (l : List ι) (x : BitVec 32),
      l.foldl (fun y k => if hit k then y + w else y) x = x + (l.map fun k => if hit k then w else 0#32).sum
  | [], x => by simp
  | k :: l, x => by
      rw [List.foldl_cons, foldl_add hit w l, List.map_cons, List.sum_cons]
      split <;> simp [BitVec.add_assoc]

theorem foldl_at {β : Type} {ι : Type} (step : (s.Idx → β) → ι → s.Idx → β) (j : s.Idx) (one : β → ι → β)
    (h : ∀ g k, step g k j = one (g j) k) : ∀ (l : List ι) (g : s.Idx → β), l.foldl step g j = l.foldl one (g j)
  | [], _ => rfl
  | k :: l, g => by rw [List.foldl_cons, List.foldl_cons, foldl_at step j one h l, h]

/-- An adding store of one word in every lane adds it once for every lane that names the element. -/
theorem storeIdx_add (f : IVec s 32) (idxs : Fin s.rank → IVec ⟨1, d⟩ 32) (w : BitVec 32)
    (h : ∀ a x, (idxs a x).toNat < s.size a) (j : s.Idx) :
    storeIdx (F := F) (e := .i32) f idxs (broadcast ⟨1, d⟩ w) (fun _ => 1#1) true h j
      = f j + ((List.finRange (d 0)).map fun k => if (∀ a, (j a).val = (idxs a (Shape.ofLane k)).toNat) then w else 0#32).sum := by
  unfold storeIdx
  rw [foldl_at _ j (fun y k => if (∀ a, (j a).val = (idxs a (Shape.ofLane k)).toNat) then y + w else y) _ (List.finRange (d 0)) f,
    foldl_add]
  intro g k
  have h1 : (1#1 : BitVec 1) = 1 := rfl
  simp only [if_pos h1, if_true, idxAt, Elt.idxAdd_i32]
  split
  · next hj =>
    have : j = fun a => ⟨(idxs a (Shape.ofLane k)).toNat, h a _⟩ := funext fun a => Fin.ext (hj a)
    have hi : idxAt idxs h (Shape.ofLane k) = j := this.symm
    rw [hi]; rfl
  · rfl

/-- A clearing store leaves zero at every element some lane names, and at every element that was zero. -/
theorem storeIdx_zero (f : IVec s 32) (idxs : Fin s.rank → IVec ⟨1, d⟩ 32)
    (h : ∀ a x, (idxs a x).toNat < s.size a) (j : s.Idx) :
    storeIdx (F := F) (e := .i32) f idxs (broadcast ⟨1, d⟩ 0#32) (fun _ => 1#1) false h j
      = if (∃ k : Fin (d 0), ∀ a, (j a).val = (idxs a (Shape.ofLane k)).toNat) then 0#32 else f j := by
  unfold storeIdx
  rw [foldl_at _ j (fun y k => if (∀ a, (j a).val = (idxs a (Shape.ofLane k)).toNat) then 0#32 else y) _ (List.finRange (d 0)) f]
  · have key : ∀ (l : List (Fin (d 0))) (y : BitVec 32),
        l.foldl (fun y k => if (∀ a, (j a).val = (idxs a (Shape.ofLane k)).toNat) then 0#32 else y) y
          = if (∃ k ∈ l, ∀ a, (j a).val = (idxs a (Shape.ofLane k)).toNat) then 0#32 else y := by
      intro l
      induction l with
      | nil => intro y; simp
      | cons k l ih =>
        intro y
        rw [List.foldl_cons, ih]
        by_cases h1 : ∃ k ∈ l, ∀ a, (j a).val = (idxs a (Shape.ofLane k)).toNat
        · rw [if_pos h1, if_pos (by obtain ⟨k', hk', hh⟩ := h1; exact ⟨k', List.mem_cons_of_mem _ hk', hh⟩)]
        · rw [if_neg h1]
          by_cases h2 : ∀ a, (j a).val = (idxs a (Shape.ofLane k)).toNat
          · rw [if_pos h2, if_pos ⟨k, List.mem_cons_self, h2⟩]
          · rw [if_neg h2, if_neg]
            rintro ⟨k', hk', hh⟩
            rcases List.mem_cons.mp hk' with rfl | hk'
            · exact h2 hh
            · exact h1 ⟨k', hk', hh⟩
    rw [key]
    simp
  · intro g k
    have h1 : (1#1 : BitVec 1) = 1 := rfl
    simp only [if_pos h1, idxAt, Bool.false_eq_true, if_false]
    rfl

end Store

/-! ## A chunk's scatters, in their order -/

abbrev L16 : Shape := ⟨1, ![16]⟩
abbrev R16 : Shape := ⟨2, ![1, 16]⟩
abbrev I128 : Shape := ⟨2, ![128, 16]⟩
abbrev M8 : Shape := ⟨2, ![8, 2048]⟩

/-- The table row, the field and the index row of scatter number `p`: rows outermost. -/
def pr (p : Nat) : Nat := p / 16
def pk (p : Nat) : Nat := p / 4 % 4
def po (p : Nat) : Nat := (p / 4 % 4 * 8 + p / 16) * 4 + p % 4
/-- The scatter that reads index row `o`. -/
def pp (o : Nat) : Nat := (o / 4 % 8) * 16 + (o / 32) * 4 + o % 4

theorem po_lt {p : Nat} (h : p < 128) : po p < 128 := by unfold po; omega
theorem pr_lt {p : Nat} (h : p < 128) : pr p < 8 := by unfold pr; omega

/-- Row `o` of the index buffer, as the program loads it. -/
def ldRow (I : IVec I128 32) (o : Nat) : IVec R16 32 :=
  fun x => I fun a => ⟨![o % 128, (x 1).val] a, by
    refine Fin.cases ?_ (fun i => ?_) a
    · exact Nat.mod_lt _ (by decide)
    · rw [Fin.eq_zero i]; exact (x 1).isLt⟩

theorem casts : R16.ShapeCasts L16 := by decide

/-- Row `o` of the index buffer as a vector of lanes. -/
def lanes (I : IVec I128 32) (o : Nat) : IVec L16 32 := shapeCast L16 (ldRow I o) casts

/-- Every index of the buffer names a column of the table. -/
def InR (I : IVec I128 32) : Prop := ∀ x, (I x).toNat < 2048

theorem lanes_lt {I : IVec I128 32} (hI : InR I) (o : Nat) (x : L16.Idx) : (lanes I o x).toNat < 2048 := hI _

/-- The two index vectors of scatter `p`: its table row in every lane, its index row. -/
def ixs (I : IVec I128 32) (p : Nat) : Fin 2 → IVec L16 32 :=
  ![broadcast L16 (BitVec.ofNat 32 (pr p)), lanes I (po p)]

theorem ixs_lt {I : IVec I128 32} (hI : InR I) (p : Nat) (hp : p < 128) : ∀ a x, (ixs I p a x).toNat < M8.size a := by
  intro a x
  refine Fin.cases ?_ (fun i => ?_) a
  · show (BitVec.ofNat 32 (pr p)).toNat < 8
    have := pr_lt hp
    rw [BitVec.toNat_ofNat, Nat.mod_eq_of_lt (by omega)]; exact this
  · rw [Fin.eq_zero i]; exact lanes_lt hI _ x

/-- The word field `k` of a table entry counts in. -/
def word (k : Nat) : BitVec 32 := BitVec.ofNat 32 (2 ^ (8 * k))

section Table

variable (F : FTy → Type) [FloatOps F]

/-- The table after the first `n` scatters of a chunk, from an all-zero table. -/
def acc (I : IVec I128 32) (hI : InR I) : Nat → IVec M8 32
  | 0 => fun _ => 0#32
  | n + 1 => if h : n < 128 then
      storeIdx (F := F) (e := .i32) (acc I hI n) (ixs I n) (broadcast L16 (word (pk n))) (fun _ => 1#1) true (ixs_lt hI n h)
    else acc I hI n

/-- The table after the first `n` scatters of the clearing pass over the chunk's own indices. -/
def clr (I : IVec I128 32) (hI : InR I) : Nat → IVec M8 32
  | 0 => acc F I hI 128
  | n + 1 => if h : n < 128 then
      storeIdx (F := F) (e := .i32) (clr I hI n) (ixs I n) (broadcast L16 0#32) (fun _ => 1#1) false (ixs_lt hI n h)
    else clr I hI n

variable {F}

/-- Lane `k` of scatter `p` names element `j`. -/
def Hit (I : IVec I128 32) (p : Nat) (k : Fin 16) (j : M8.Idx) : Prop :=
  (j 0).val = pr p ∧ (j 1).val = (lanes I (po p) (Shape.ofLane (d := ![16]) k)).toNat

instance (I : IVec I128 32) (p : Nat) (k : Fin 16) (j : M8.Idx) : Decidable (Hit I p k j) := by
  unfold Hit; infer_instance

theorem ixs_hit (I : IVec I128 32) (p : Nat) (hp : p < 128) (k : Fin 16) (j : M8.Idx) :
    (∀ a, (j a).val = (ixs I p a (Shape.ofLane (d := ![16]) k)).toNat) ↔ Hit I p k j := by
  have h0 : (BitVec.ofNat 32 (pr p)).toNat = pr p := by
    have := pr_lt hp
    rw [BitVec.toNat_ofNat, Nat.mod_eq_of_lt (by omega)]
  constructor
  · intro h
    exact ⟨(h 0).trans h0, h 1⟩
  · rintro ⟨h1, h2⟩ a
    refine Fin.cases ?_ (fun i => ?_) a
    · exact h1.trans h0.symm
    · rw [Fin.eq_zero i]; exact h2

/-- What scatter `p` adds at element `j`. -/
def adds (I : IVec I128 32) (p : Nat) (j : M8.Idx) : BitVec 32 :=
  ((List.finRange 16).map fun k => if Hit I p k j then word (pk p) else 0#32).sum

theorem acc_zero (I : IVec I128 32) (hI : InR I) : acc F I hI 0 = fun _ => 0#32 := by rw [acc]

theorem acc_succ (I : IVec I128 32) (hI : InR I) {n : Nat} (hn : n < 128) :
    acc F I hI (n + 1) = storeIdx (F := F) (e := .i32) (acc F I hI n) (ixs I n) (broadcast L16 (word (pk n))) (fun _ => 1#1) true (ixs_lt hI n hn) := by
  rw [acc, dif_pos hn]

theorem clr_zero (I : IVec I128 32) (hI : InR I) : clr F I hI 0 = acc F I hI 128 := by rw [clr]

theorem clr_succ (I : IVec I128 32) (hI : InR I) {n : Nat} (hn : n < 128) :
    clr F I hI (n + 1) = storeIdx (F := F) (e := .i32) (clr F I hI n) (ixs I n) (broadcast L16 0#32) (fun _ => 1#1) false (ixs_lt hI n hn) := by
  rw [clr, dif_pos hn]

attribute [irreducible] acc clr

theorem acc_eq (I : IVec I128 32) (hI : InR I) (j : M8.Idx) :
    ∀ n, n ≤ 128 → acc F I hI n j = ((List.range n).map fun p => adds I p j).sum
  | 0, _ => by rw [acc_zero]; rfl
  | n + 1, hn => by
      have hn' : n < 128 := hn
      have hs : ((List.finRange 16).map fun k => if (∀ a, (j a).val = (ixs I n a (Shape.ofLane (d := ![16]) k)).toNat) then word (pk n) else 0#32)
          = (List.finRange 16).map fun k : Fin 16 => if Hit I n k j then word (pk n) else 0#32 :=
        List.map_congr_left fun k _ => by
          have hk := ixs_hit I n hn' k j
          by_cases h : Hit I n k j
          · rw [if_pos h, if_pos (hk.mpr h)]
          · rw [if_neg h, if_neg fun h' => h (hk.mp h')]
      have ha : acc F I hI n j + adds I n j = ((List.range (n + 1)).map fun p => adds I p j).sum := by
        rw [acc_eq I hI j n hn'.le, List.range_succ, List.map_append, List.sum_append, List.map_cons, List.map_nil, List.sum_cons,
          List.sum_nil]
        exact congrArg _ (BitVec.add_zero _).symm
      rw [acc_succ I hI hn', storeIdx_add, ← ha]
      exact congrArg (fun l : List (BitVec 32) => acc F I hI n j + l.sum) hs

theorem clr_eq (I : IVec I128 32) (hI : InR I) (j : M8.Idx) :
    ∀ n, n ≤ 128 → (∃ p < n, ∃ k, Hit I p k j) ∧ clr F I hI n j = 0#32 ∨ (∀ p < n, ∀ k, ¬Hit I p k j) ∧ clr F I hI n j = acc F I hI 128 j
  | 0, _ => .inr ⟨fun p hp => absurd hp (Nat.not_lt_zero p), by rw [clr_zero]⟩
  | n + 1, hn => by
      have hn' : n < 128 := hn
      rw [clr_succ I hI hn', storeIdx_zero]
      by_cases h1 : ∃ k, Hit I n k j
      · rw [if_pos (by obtain ⟨k, hk⟩ := h1; exact ⟨k, (ixs_hit I n hn' k j).mpr hk⟩)]
        exact .inl ⟨⟨n, Nat.lt_succ_self n, h1⟩, rfl⟩
      · rw [if_neg (by rintro ⟨k, hk⟩; exact h1 ⟨k, (ixs_hit I n hn' k j).mp hk⟩)]
        rcases clr_eq I hI j n hn'.le with ⟨⟨p, hp, h⟩, e⟩ | ⟨h, e⟩
        · exact .inl ⟨⟨p, Nat.lt_succ_of_lt hp, h⟩, e⟩
        · refine .inr ⟨fun p hp k hk => ?_, e⟩
          rcases Nat.lt_succ_iff_lt_or_eq.mp hp with hp | rfl
          · exact h p hp k hk
          · exact h1 ⟨k, hk⟩

theorem sum_zero : ∀ l : List (BitVec 32), (∀ x ∈ l, x = 0#32) → l.sum = 0#32
  | [], _ => rfl
  | x :: l, h => by
      rw [List.sum_cons, h x List.mem_cons_self, sum_zero l fun y hy => h y (List.mem_cons_of_mem _ hy)]
      rfl

theorem acc_zero_of (I : IVec I128 32) (hI : InR I) (j : M8.Idx) (n : Nat) (hn : n ≤ 128) (h : ∀ p < n, ∀ k, ¬Hit I p k j) :
    acc F I hI n j = 0#32 := by
  rw [acc_eq I hI j n hn]
  refine sum_zero _ fun x hx => ?_
  obtain ⟨p, hp, rfl⟩ := List.mem_map.mp hx
  refine sum_zero _ fun x hx => ?_
  obtain ⟨k, _, rfl⟩ := List.mem_map.mp hx
  exact if_neg (h p (List.mem_range.mp hp) k)

/-- The clearing pass over a chunk's own indices leaves the all-zero table. -/
theorem clr_all (I : IVec I128 32) (hI : InR I) : clr F I hI 128 = fun _ => 0#32 := by
  funext j
  obtain ⟨_, e⟩ | ⟨h, e⟩ := clr_eq (F := F) I hI j 128 (Nat.le_refl 128)
  · exact e
  · have h0 := acc_zero_of (F := F) I hI j 128 (Nat.le_refl 128) h
    exact e.trans h0

end Table

/-! ## One step of a program -/

section Steps

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} {𝒱 : Variants} {c : Thread nD τ} {bd : Option 𝒱.V} {E : Set Name}
variable {α : Type} {Q : α → sProp (MT nD τ sig Ix (Elt F) Name U Lvl)}

theorem as_step {P : Prop} {dP : Decidable P} {k : PLift P → Prog (TpuEff nD τ sig (Elt F) Λ c.2) α}
    {A : sProp (MT nD τ sig Ix (Elt F) Name U Lvl)} (hP : P)
    (hk : A ⊢ wp frame (wpE defs 𝒱 c bd) E (k ⟨hP⟩) Q) :
    A ⊢ wp frame (wpE defs 𝒱 c bd) E (.op (.assume P dP) k) Q :=
  hk.trans (wp_assume 𝒱 c bd E hP)

theorem ld_step {cs : CoreSpace} {s : Shape} {e : EltTy} {m : Memref sig c.2.kind cs s e} {r : LoadRect s} {hl : m.view.LoadsAt r}
    {k : (r.shape.Idx → Elt F e) → Prog (TpuEff nD τ sig (Elt F) Λ c.2) α}
    {S : Finset (Idx (m.view.loc c))} {q : PosShare TreeShare} {f : Buf (Elt F) (m.view.loc c)}
    {R : sProp (MT nD τ sig Ix (Elt F) Name U Lvl)} {v : r.shape.Idx → Elt F e}
    (hS : m.view.setOn r.set ⊆ S) (hv : m.view.readAt (Elt F) r f = v)
    (hk : iprop((m.view.loc c ↦[S]{q} f) ∗ R) ⊢ wp frame (wpE defs 𝒱 c bd) E (k v) Q) :
    iprop((m.view.loc c ↦[S]{q} f) ∗ R) ⊢ wp frame (wpE defs 𝒱 c bd) E (.op (.load m r hl) k) Q := by
  subst hv
  iintro ⟨H, HR⟩
  iapply (wp_load (defs := defs) 𝒱 c bd E hS) $$ H
  iintro H
  iapply hk
  iframe

theorem st_step {s : Shape} {e : EltTy} {d : Fin 1 → Nat} {base : Memref sig c.2.kind .vmem s e} {idxs : Fin s.rank → IVec ⟨1, d⟩ 32}
    {v : Vec F ⟨1, d⟩ e} {mask : IVec ⟨1, d⟩ 1} {add : Bool} {h : ∀ a x, (idxs a x).toNat < s.size a}
    {hs : (base.access (.whole s)).Stores Finset.univ} {k : PUnit → Prog (TpuEff nD τ sig (Elt F) Λ c.2) α}
    {S : Finset (Idx (base.view.loc c))} {f g : Buf (Elt F) (base.view.loc c)} {A R : sProp (MT nD τ sig Ix (Elt F) Name U Lvl)}
    (hS : (base.access (.whole s)).set = S)
    (hg : (base.access (.whole s)).write (Elt F) f (storeIdx ((base.access (.whole s)).read (Elt F) f) idxs v mask add h) Finset.univ = g)
    (hk : iprop(A ∗ (base.view.loc c ↦[S]{fullShare} g) ∗ R) ⊢ wp frame (wpE defs 𝒱 c bd) E (k ⟨⟩) Q) :
    iprop(A ∗ (base.view.loc c ↦[S]{fullShare} f) ∗ R)
      ⊢ wp frame (wpE defs 𝒱 c bd) E (SparseCore.vectorStoreIdx base idxs v mask add h hs >>= k) Q := by
  subst hg; subst hS
  iintro ⟨HA, H, HR⟩
  iapply (SparseCore.wp_vectorStoreIdx (defs := defs) 𝒱 c bd E (base := base) (f := f)) $$ H
  iintro H
  iapply hk
  iframe

end Steps

end Cert.Scat
-- ==== Proof.SetKernelIdeal.lean ====
module

public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic
public import proofs.«01_k».proof.Proof.Scat
public import proofs.«01_k».proof.Proof.Gen.KernelIdeal
public import proofs.«01_k».proof.Proof.Gen.KernelIdeal.Skeleton

/-!
# The program as its launch reads it, and the steps of one tile

The launch configuration, the ghost state, the buffers of a tile of the SparseCore call, the table the call computes,
and the rules that step a tile's program over one load, one bounds check and one scatter on its buffers.
-/

@[expose] public section

noncomputable section

namespace Cert.Proof.KernelIdeal

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pallas_call's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

variable (m : (ℓ : Loc nD τ sig) → Buf (Elt F) ℓ)

/-! ## The buffers of the SparseCore call -/

abbrev fV : Memref sig .scVector .hbm S32768x16 .i32 := Memref.whole main_v0_scv
abbrev zV : Memref sig .scVector .hbm S8x2048 .i32 := Memref.whole main_v1_scv
abbrev tV : Memref sig .scVector .hbm S2048x2048 .i32 := Memref.whole main_v2_scv

/-- A tile's two index buffers, -/
abbrev ib : Bool → Memref sig .scVector .vmem S128x16 .i32
  | false => Memref.whole cc0_scratch0
  | true => Memref.whole cc0_scratch1

/-- its two count buffers -/
abbrev cb : Bool → Memref sig .scVector .vmem S8x2048 .i32
  | false => Memref.whole cc0_scratch2
  | true => Memref.whole cc0_scratch3

/-- and the semaphores of their write-outs. -/
abbrev ob : Bool → DmaSems sig S_
  | false => cc0_scratch4
  | true => cc0_scratch5

abbrev cV (L : grid0.Coords) : Fin τ.nSC := (L 0).castLE hcore0
abbrev jV (L : grid0.Coords) : Fin τ.nSub := (L 1).castLE hsub0

/-- The tile that runs at coordinates `L`. -/
abbrev thr (d : Dev nD) (L : grid0.Coords) : Thread nD τ := V d (cV L) (jV L)

/-! ## The table the call computes -/

/-- Every index names a column. -/
def InF (f : IVec S32768x16 32) : Prop := ∀ x, (f x).toNat < 2048

/-- The row of the index array that row `o` of chunk `q`'s index buffer holds. -/
def srcRow (q o : Nat) : Nat := (q / 64 * 2048 + o / 32 * 512 + q % 64 * 8) * 4 + o % 32

theorem srcRow_lt {q o : Nat} (hq : q < 256) (ho : o < 128) : srcRow q o < 32768 := by unfold srcRow; omega

/-- The index buffer of chunk `q`. -/
def chunk (f : IVec S32768x16 32) (q : Nat) : IVec I128 32 :=
  fun x => f fun a => ⟨![srcRow (q % 256) (x 0).val, (x 1).val] a, by
    refine Fin.cases ?_ (fun i => ?_) a
    · exact srcRow_lt (Nat.mod_lt _ (by decide)) (x 0).isLt
    · rw [Fin.eq_zero i]; exact (x 1).isLt⟩

theorem chunk_inR {f : IVec S32768x16 32} (hf : InF f) (q : Nat) : InR (chunk f q) := fun _ => hf _

/-- The packed table of counts: row `R` is row `R % 8` of chunk `R / 8`. -/
def tbl [FloatOps F] (f : IVec S32768x16 32) (hf : InF f) : IVec S2048x2048 32 :=
  fun x => acc F (chunk f ((x 0).val / 8)) (chunk_inR hf _) 128 fun a => ⟨![(x 0).val % 8, (x 1).val] a, by
    refine Fin.cases ?_ (fun i => ?_) a
    · exact Nat.mod_lt _ (by decide)
    · rw [Fin.eq_zero i]; exact (x 1).isLt⟩

/-! ## One step of a tile's program -/

section Steps

variable [FloatOps F] [Named F] {d : Dev nD} {L : grid0.Coords} {α : Type} {Q : α → sProp (MT nD τ sig (HIx 1) (Elt F) ℕ UU ℕ)}

local notation "WP[" d "," L "]" => wp frame (wpE (defs₀ (F := F)) 𝒱₀ (thr d L) none) Set.univ
local notation "PR[" L "]" => Prog (TpuEff nD τ sig (Elt F) Λ₀ (Proc.scVector (cV L) (jV L)))

/-- A program in two pieces: the first, then the second in what is claimed of its result. -/
theorem seq_step {β : Type} {A : sProp 𝕄} {p : Prog (TpuEff nD τ sig (Elt F) Λ₀ (Proc.scVector (cV L) (jV L))) β} {k : β → Prog (TpuEff nD τ sig (Elt F) Λ₀ (Proc.scVector (cV L) (jV L))) α} (h : A ⊢ wp frame (wpE (defs₀ (F := F)) 𝒱₀ (thr d L) none) Set.univ p fun x => wp frame (wpE (defs₀ (F := F)) 𝒱₀ (thr d L) none) Set.univ (k x) Q) : A ⊢ wp frame (wpE (defs₀ (F := F)) 𝒱₀ (thr d L) none) Set.univ (p >>= k) Q :=
  h.trans (Entails.of_eq (wp_bind _ _ _ _ _ _).symm)

theorem ret_step {A : sProp 𝕄} {x : α} (h : A ⊢ Q x) : A ⊢ wp frame (wpE (defs₀ (F := F)) 𝒱₀ (thr d L) none) Set.univ (pure x) Q :=
  h.trans (le_wp_ret _ _ _ x Q)

theorem chk_step {A : sProp 𝕄} {P : Prop} {dP : Decidable P} {k : PLift P → Prog (TpuEff nD τ sig (Elt F) Λ₀ (Proc.scVector (cV L) (jV L))) α} (hP : P) (hk : A ⊢ wp frame (wpE (defs₀ (F := F)) 𝒱₀ (thr d L) none) Set.univ (k ⟨hP⟩) Q) :
    A ⊢ wp frame (wpE (defs₀ (F := F)) 𝒱₀ (thr d L) none) Set.univ (Prog.lift (.assume P dP) >>= k) Q := as_step hP hk

theorem chk_ok {I : IVec I128 32} (hI : InR I) {o : Nat} {rv : IVec L16 32} {r : BitVec 32} (hr : rv = broadcast L16 r) (hlt : r.toNat < 8) :
    ∀ a x, ((![rv, shapeCast L16 (ldRow I o) casts] : Fin 2 → IVec L16 32) a x).toNat < M8.size a := by
  intro a x
  subst hr
  refine Fin.cases ?_ (fun i => ?_) a
  · exact hlt
  · rw [Fin.eq_zero i]; exact lanes_lt hI o x

/-- What one scatter of the counting pass makes of the count buffer, -/
theorem add_eq {I : IVec I128 32} (hI : InR I) {o q : Nat} {rv col : IVec L16 32} {wv : Vec F L16 .i32}
    {h : ∀ a x, ((![rv, col] : Fin 2 → IVec L16 32) a x).toNat < M8.size a} (hn : q = pp o ∧ po (pp o) = o ∧ pp o < 128)
    (hr : rv = broadcast L16 (BitVec.ofNat 32 (pr (pp o)))) (hc : col = shapeCast L16 (ldRow I o) casts) (hw : wv = broadcast L16 (word (pk (pp o)))) :
    storeIdx (F := F) (e := .i32) (acc F I hI q) ![rv, col] wv (fun _ => 1#1) true h = acc F I hI (pp o + 1) := by
  obtain ⟨rfl, h1, h2⟩ := hn
  subst hr hc hw
  have e : (![broadcast L16 (BitVec.ofNat 32 (pr (pp o))), shapeCast L16 (ldRow I o) casts] : Fin 2 → IVec L16 32) = ixs I (pp o) := by
    unfold ixs lanes; rw [h1]
  rw [acc_succ I hI h2]
  congr 1

/-- and one of the clearing pass. -/
theorem clr_eq' {I : IVec I128 32} (hI : InR I) {o q : Nat} {rv col : IVec L16 32} {wv : Vec F L16 .i32}
    {h : ∀ a x, ((![rv, col] : Fin 2 → IVec L16 32) a x).toNat < M8.size a} (hn : q = pp o ∧ po (pp o) = o ∧ pp o < 128)
    (hr : rv = broadcast L16 (BitVec.ofNat 32 (pr (pp o)))) (hc : col = shapeCast L16 (ldRow I o) casts) (hw : wv = broadcast L16 0#32) :
    storeIdx (F := F) (e := .i32) (clr F I hI q) ![rv, col] wv (fun _ => 1#1) false h = clr F I hI (pp o + 1) := by
  obtain ⟨rfl, h1, h2⟩ := hn
  subst hr hc hw
  have e : (![broadcast L16 (BitVec.ofNat 32 (pr (pp o))), shapeCast L16 (ldRow I o) casts] : Fin 2 → IVec L16 32) = ixs I (pp o) := by
    unfold ixs lanes; rw [h1]
  rw [clr_succ I hI h2]
  congr 1

/-! ### The steps on index buffer `b` and count buffer `b` -/

/-- Index buffer `b` held over the places `S`. -/
def IxR (d : Dev nD) (L : grid0.Coords) : Bool → Finset S128x16.Idx → IVec I128 32 → sProp 𝕄
  | false, S, I => (ib false).view.loc (thr d L) ↦[S]{fullShare} I
  | true, S, I => (ib true).view.loc (thr d L) ↦[S]{fullShare} I

/-- Index buffer `b`, held whole. -/
abbrev Ix (d : Dev nD) (L : grid0.Coords) (b : Bool) (I : IVec I128 32) : sProp 𝕄 := IxR (F := F) d L b Finset.univ I

/-- Count buffer `b`, held whole. -/
def Cx (d : Dev nD) (L : grid0.Coords) : Bool → IVec M8 32 → sProp 𝕄
  | false, f => (cb false).view.loc (thr d L) ↦{fullShare} f
  | true, f => (cb true).view.loc (thr d L) ↦{fullShare} f

theorem ld_row (I : IVec I128 32) (o : Nat) (h : ∀ a, (![o, 0] : Fin 2 → Nat) a + S1x16.size a ≤ S128x16.size a)
    (x : (Rect.unit (s := S128x16) ![o, 0] S1x16.size h).shape.Idx) : I ((Rect.unit (s := S128x16) ![o, 0] S1x16.size h).emb x) = ldRow I o x := by
  have ho : o + 1 ≤ 128 := h 0
  refine congrArg I (funext fun a => Fin.ext ?_)
  refine Fin.cases ?_ (fun i => ?_) a
  · have hx : (x 0).val = 0 := Nat.lt_one_iff.mp (x 0).isLt
    show o + 1 * (x 0).val = o % 128
    rw [hx, Nat.mod_eq_of_lt ho]; rfl
  · rw [Fin.eq_zero i]
    show 0 + 1 * (x 1).val = (x 1).val
    omega

theorem ld_at {b : Bool} {I : IVec I128 32} {o : Nat} {h : ∀ a, (![o, 0] : Fin 2 → Nat) a + S1x16.size a ≤ S128x16.size a}
    {hl : (ib b).view.LoadsAt (Rect.unit (s := S128x16) ![o, 0] S1x16.size h).toLoadRect} {k : Vec F S1x16 .i32 → Prog (TpuEff nD τ sig (Elt F) Λ₀ (Proc.scVector (cV L) (jV L))) α} {B : sProp 𝕄}
    (hk : iprop(Ix d L b I ∗ B) ⊢ wp frame (wpE (defs₀ (F := F)) 𝒱₀ (thr d L) none) Set.univ (k (ldRow I o)) Q) :
    iprop(Ix d L b I ∗ B) ⊢ wp frame (wpE (defs₀ (F := F)) 𝒱₀ (thr d L) none) Set.univ (Prog.lift (.load (ib b) (Rect.unit (s := S128x16) ![o, 0] S1x16.size h).toLoadRect hl) >>= k) Q := by
  cases b <;>
  · refine ld_step (Finset.subset_univ _) ?_ hk
    rw [View.readAt_rect]
    exact funext fun x => ld_row I o h x

theorem up_at {b : Bool} {f g : IVec M8 32} {ix : Fin 2 → IVec S16 32} {wv : Vec F S16 .i32} {mask : IVec S16 1} {add : Bool}
    {h : ∀ a x, (ix a x).toNat < S8x2048.size a} {hs : ((cb b).access (.whole S8x2048)).Stores Finset.univ}
    {k : PUnit → Prog (TpuEff nD τ sig (Elt F) Λ₀ (Proc.scVector (cV L) (jV L))) α} {A R : sProp 𝕄} (hg : storeIdx (F := F) (e := .i32) f ix wv mask add h = g)
    (hk : iprop(A ∗ Cx d L b g ∗ R) ⊢ wp frame (wpE (defs₀ (F := F)) 𝒱₀ (thr d L) none) Set.univ (k ⟨⟩) Q) :
    iprop(A ∗ Cx d L b f ∗ R) ⊢ wp frame (wpE (defs₀ (F := F)) 𝒱₀ (thr d L) none) Set.univ (SparseCore.vectorStoreIdx (cb b) ix wv mask add h hs >>= k) Q := by
  cases b
  · refine st_step (Memref.set_access_whole _) ?_ hk
    have e1 : View.read (Elt F) ((cb false).access (Rect.whole S8x2048)) f = f := Memref.read_access_whole (Elt F) cc0_scratch2 f
    have e2 : ∀ w : IVec M8 32, View.write (Elt F) ((cb false).access (Rect.whole S8x2048)) f w Finset.univ = w := fun w =>
      Memref.write_access_whole_univ (Elt F) cc0_scratch2 f w
    rw [e1]
    exact (e2 _).trans hg
  · refine st_step (Memref.set_access_whole _) ?_ hk
    have e1 : View.read (Elt F) ((cb true).access (Rect.whole S8x2048)) f = f := Memref.read_access_whole (Elt F) cc0_scratch3 f
    have e2 : ∀ w : IVec M8 32, View.write (Elt F) ((cb true).access (Rect.whole S8x2048)) f w Finset.univ = w := fun w =>
      Memref.write_access_whole_univ (Elt F) cc0_scratch3 f w
    rw [e1]
    exact (e2 _).trans hg

theorem add_at {b : Bool} {I : IVec I128 32} {hI : InR I} {o q : Nat} {rv col : IVec S16 32} {wv : Vec F S16 .i32}
    {h : ∀ a x, ((![rv, col] : Fin 2 → IVec S16 32) a x).toNat < S8x2048.size a} {hs : ((cb b).access (.whole S8x2048)).Stores Finset.univ}
    {k : PUnit → Prog (TpuEff nD τ sig (Elt F) Λ₀ (Proc.scVector (cV L) (jV L))) α} {A R : sProp 𝕄} (hc : col = shapeCast L16 (ldRow I o) casts) (hn : q = pp o ∧ po (pp o) = o ∧ pp o < 128)
    (hr : rv = broadcast L16 (BitVec.ofNat 32 (pr (pp o)))) (hw : wv = broadcast L16 (word (pk (pp o))))
    (hk : iprop(A ∗ Cx d L b (acc F I hI (pp o + 1)) ∗ R) ⊢ wp frame (wpE (defs₀ (F := F)) 𝒱₀ (thr d L) none) Set.univ (k ⟨⟩) Q) :
    iprop(A ∗ Cx d L b (acc F I hI q) ∗ R)
      ⊢ wp frame (wpE (defs₀ (F := F)) 𝒱₀ (thr d L) none) Set.univ (SparseCore.vectorStoreIdx (cb b) ![rv, col] wv (fun _ => 1#1) true h hs >>= k) Q :=
  up_at (add_eq hI hn hr hc hw) hk

theorem add_end {b : Bool} {I : IVec I128 32} {hI : InR I} {o q : Nat} {rv col : IVec S16 32} {wv : Vec F S16 .i32}
    {h : ∀ a x, ((![rv, col] : Fin 2 → IVec S16 32) a x).toNat < S8x2048.size a} {hs : ((cb b).access (.whole S8x2048)).Stores Finset.univ}
    {A R : sProp 𝕄} {Q : PUnit → sProp 𝕄} (hc : col = shapeCast L16 (ldRow I o) casts) (hn : q = pp o ∧ po (pp o) = o ∧ pp o < 128)
    (hr : rv = broadcast L16 (BitVec.ofNat 32 (pr (pp o)))) (hw : wv = broadcast L16 (word (pk (pp o))))
    (hk : iprop(A ∗ Cx d L b (acc F I hI (pp o + 1)) ∗ R) ⊢ Q ⟨⟩) :
    iprop(A ∗ Cx d L b (acc F I hI q) ∗ R)
      ⊢ wp frame (wpE (defs₀ (F := F)) 𝒱₀ (thr d L) none) Set.univ (SparseCore.vectorStoreIdx (cb b) ![rv, col] wv (fun _ => 1#1) true h hs) Q := by
  rw [← bind_pure (SparseCore.vectorStoreIdx _ _ _ _ _ _ _)]
  exact add_at hc hn hr hw (ret_step hk)

theorem clr_at {b : Bool} {I : IVec I128 32} {hI : InR I} {o q : Nat} {rv col : IVec S16 32} {wv : Vec F S16 .i32}
    {h : ∀ a x, ((![rv, col] : Fin 2 → IVec S16 32) a x).toNat < S8x2048.size a} {hs : ((cb b).access (.whole S8x2048)).Stores Finset.univ}
    {k : PUnit → Prog (TpuEff nD τ sig (Elt F) Λ₀ (Proc.scVector (cV L) (jV L))) α} {A R : sProp 𝕄} (hc : col = shapeCast L16 (ldRow I o) casts) (hn : q = pp o ∧ po (pp o) = o ∧ pp o < 128)
    (hr : rv = broadcast L16 (BitVec.ofNat 32 (pr (pp o)))) (hw : wv = broadcast L16 0#32)
    (hk : iprop(A ∗ Cx d L b (clr F I hI (pp o + 1)) ∗ R) ⊢ wp frame (wpE (defs₀ (F := F)) 𝒱₀ (thr d L) none) Set.univ (k ⟨⟩) Q) :
    iprop(A ∗ Cx d L b (clr F I hI q) ∗ R)
      ⊢ wp frame (wpE (defs₀ (F := F)) 𝒱₀ (thr d L) none) Set.univ (SparseCore.vectorStoreIdx (cb b) ![rv, col] wv (fun _ => 1#1) false h hs >>= k) Q :=
  up_at (clr_eq' hI hn hr hc hw) hk

theorem clr_end {b : Bool} {I : IVec I128 32} {hI : InR I} {o q : Nat} {rv col : IVec S16 32} {wv : Vec F S16 .i32}
    {h : ∀ a x, ((![rv, col] : Fin 2 → IVec S16 32) a x).toNat < S8x2048.size a} {hs : ((cb b).access (.whole S8x2048)).Stores Finset.univ}
    {A R : sProp 𝕄} {Q : PUnit → sProp 𝕄} (hc : col = shapeCast L16 (ldRow I o) casts) (hn : q = pp o ∧ po (pp o) = o ∧ pp o < 128)
    (hr : rv = broadcast L16 (BitVec.ofNat 32 (pr (pp o)))) (hw : wv = broadcast L16 0#32)
    (hk : iprop(A ∗ Cx d L b (clr F I hI (pp o + 1)) ∗ R) ⊢ Q ⟨⟩) :
    iprop(A ∗ Cx d L b (clr F I hI q) ∗ R)
      ⊢ wp frame (wpE (defs₀ (F := F)) 𝒱₀ (thr d L) none) Set.univ (SparseCore.vectorStoreIdx (cb b) ![rv, col] wv (fun _ => 1#1) false h hs) Q := by
  rw [← bind_pure (SparseCore.vectorStoreIdx _ _ _ _ _ _ _)]
  exact clr_at hc hn hr hw (ret_step hk)

end Steps

end Cert.Proof.KernelIdeal
-- ==== Proof.CopyKernelIdeal.lean ====
module

public import proofs.«01_k».proof.Proof.SetKernelIdeal

/-!
# A tile's copies

The four copies that fill an index buffer, on one semaphore, and their four waits; the write-out of a count buffer and
its wait; and what each leaves in the buffer it wrote, as a function of the index array alone.
-/

@[expose] public section

noncomputable section

namespace Cert.Proof.KernelIdeal

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Sets of rows -/

/-- Rows `32 k .. 32 k + 31` of an index buffer, -/
def rows (k : Nat) : Finset S128x16.Idx := Finset.univ.filter fun x => 32 * k ≤ (x 0).val ∧ (x 0).val < 32 * k + 32
/-- rows `r .. r + 31` of the index array, -/
def fs (r : Nat) : Finset S32768x16.Idx := Finset.univ.filter fun x => r ≤ (x 0).val ∧ (x 0).val < r + 32
/-- and the eight rows of the table that are chunk `q`. -/
def pc (q : Nat) : Finset S2048x2048.Idx := Finset.univ.filter fun x => 8 * q ≤ (x 0).val ∧ (x 0).val < 8 * q + 8

theorem mem_rows {k : Nat} {x : S128x16.Idx} : x ∈ rows k ↔ 32 * k ≤ (x 0).val ∧ (x 0).val < 32 * k + 32 := by simp [rows]
theorem mem_pc {q : Nat} {x : S2048x2048.Idx} : x ∈ pc q ↔ 8 * q ≤ (x 0).val ∧ (x 0).val < 8 * q + 8 := by simp [pc]

theorem set_rows {k : Nat} {h : ∀ a, (![32 * k, 0] : Fin 2 → Nat) a + S32x16.size a ≤ S128x16.size a} :
    (Rect.unit (s := S128x16) ![32 * k, 0] S32x16.size h).set = rows k := by
  ext x
  rw [Rect.mem_set_unit, mem_rows, Fin.forall_fin_two]
  exact ⟨fun hx => hx.1, fun hx => ⟨hx, Nat.zero_le _, (x 1).isLt⟩⟩

theorem set_fs {r : Nat} {h : ∀ a, (![r, 0] : Fin 2 → Nat) a + S32x16.size a ≤ S32768x16.size a} :
    (Rect.unit (s := S32768x16) ![r, 0] S32x16.size h).set = fs r := by
  ext x
  rw [Rect.mem_set_unit, Fin.forall_fin_two, fs, Finset.mem_filter]
  exact ⟨fun hx => ⟨Finset.mem_univ _, hx.1⟩, fun hx => ⟨hx.2, Nat.zero_le _, (x 1).isLt⟩⟩

theorem set_pc {q : Nat} {h : ∀ a, (![8 * q, 0] : Fin 2 → Nat) a + S8x2048.size a ≤ S2048x2048.size a} :
    (Rect.unit (s := S2048x2048) ![8 * q, 0] S8x2048.size h).set = pc q := by
  ext x
  rw [Rect.mem_set_unit, Fin.forall_fin_two, mem_pc]
  exact ⟨fun hx => hx.1, fun hx => ⟨hx, Nat.zero_le _, (x 1).isLt⟩⟩

theorem rows_disjoint : ∀ k ∈ (Finset.univ : Finset (Fin 4)), ∀ k' ∈ (Finset.univ : Finset (Fin 4)), k ≠ k' → Disjoint (rows k.val) (rows k'.val) := by
  intro k _ k' _ hk
  refine Finset.disjoint_left.mpr fun x hx hx' => hk (Fin.ext ?_)
  have h1 := mem_rows.mp hx; have h2 := mem_rows.mp hx'
  omega

theorem rows_cover : (Finset.univ : Finset (Fin 4)).biUnion (fun k => rows k.val) = Finset.univ := by
  ext x
  simp only [Finset.mem_biUnion, Finset.mem_univ, true_and, iff_true]
  have hx : (x 0).val < 128 := (x 0).isLt
  exact ⟨⟨(x 0).val / 32, by omega⟩, mem_rows.mpr (by constructor <;> simp only [] <;> omega)⟩

/-! ## What a copy leaves -/

/-- Rows `32 k ..` of an index buffer, written from the 32 rows of the index array that chunk `q` takes there. -/
theorem chunk_val (f : IVec S32768x16 32) {q k : Nat} (hq : q < 256) (hk : k < 4)
    {hi : ∀ a, (![srcRow q (32 * k), 0] : Fin 2 → Nat) a + S32x16.size a ≤ S32768x16.size a}
    {ho : ∀ a, (![32 * k, 0] : Fin 2 → Nat) a + S32x16.size a ≤ S128x16.size a} (y : S32x16.Idx) :
    chunk f q ((Rect.unit (s := S128x16) ![32 * k, 0] S32x16.size ho).emb y) = f ((Rect.unit (s := S32768x16) ![srcRow q (32 * k), 0] S32x16.size hi).emb y) := by
  refine congrArg f (funext fun a => Fin.ext ?_)
  have hy : (y 0).val < 32 := (y 0).isLt
  refine Fin.cases ?_ (fun i => ?_) a
  · show srcRow (q % 256) (32 * k + 1 * (y 0).val) = srcRow q (32 * k) + 1 * (y 0).val
    rw [Nat.mod_eq_of_lt hq]; unfold srcRow; omega
  · rw [Fin.eq_zero i]
    show 0 + 1 * (y 1).val = 0 + 1 * (y 1).val
    rfl

/-- The eight rows of chunk `q` in the table are its count buffer. -/
theorem tbl_val (f : IVec S32768x16 32) (hf : InF f) {q : Nat}
    {h : ∀ a, (![8 * q, 0] : Fin 2 → Nat) a + S8x2048.size a ≤ S2048x2048.size a} (y : S8x2048.Idx) :
    tbl (F := F) f hf ((Rect.unit (s := S2048x2048) ![8 * q, 0] S8x2048.size h).emb y) = acc F (chunk f q) (chunk_inR hf q) 128 y := by
  have hy : (y 0).val < 8 := (y 0).isLt
  have e : ((Rect.unit (s := S2048x2048) ![8 * q, 0] S8x2048.size h).emb y 0).val = 8 * q + (y 0).val := by
    show 8 * q + 1 * (y 0).val = _
    rw [Nat.one_mul]
  have e1 : ((Rect.unit (s := S2048x2048) ![8 * q, 0] S8x2048.size h).emb y 1).val = (y 1).val := by
    show 0 + 1 * (y 1).val = _
    omega
  have eq1 : ((Rect.unit (s := S2048x2048) ![8 * q, 0] S8x2048.size h).emb y 0).val / 8 = q := by rw [e]; omega
  unfold tbl
  have key : ∀ (q' : Nat) (z : M8.Idx), q' = q → z = y → acc F (chunk f q') (chunk_inR hf q') 128 z = acc F (chunk f q) (chunk_inR hf q) 128 y := by
    rintro _ _ rfl rfl; rfl
  refine key _ _ eq1 (funext fun a => Fin.ext ?_)
  refine Fin.cases ?_ (fun i => ?_) a
  · show ((Rect.unit (s := S2048x2048) ![8 * q, 0] S8x2048.size h).emb y 0).val % 8 = (y 0).val
    rw [e]; omega
  · rw [Fin.eq_zero i]; exact e1

/-- A buffer written over a rectangle reads the written values there. -/
theorem slice_write {κ : Kind} (b : Ref sig κ) (r : Rect b.ty.shape) (g : b.ty.Contents (Elt F)) (w : r.shape.Idx → Elt F b.ty.elt) (y : r.shape.Idx) :
    ((View.whole b).slice r).write (Elt F) g w Finset.univ (r.emb y) = w y :=
  View.write_emb_of_mem (v := (View.whole b).slice r) g w (Finset.mem_univ y)

/-! ## The states of a tile -/

/-- What the tile owes, its waits so far among `W` and its own. -/
def Ow (d : Dev nD) (L : grid0.Coords) (O : CellTallies nD τ sig (HIx 1)) (W : Waits sig (HIx 1)) : sProp 𝕄 :=
  iprop(Transfers.MayWaits (thr d L) (none : HIx 1) O ∗ ∃ W', ⌜∀ p ∈ W', p ∈ W ∨ p.2 = none⌝ ∗ owes (thr d L) O W')

/-- The amount of an index copy, -/
def nI : Nat := ((ib false).slice (Rect.unit (s := S128x16) ![0, 0] S32x16.size inb_S128x16_S32x16_0_0) (fun _ => rfl)).view.dmaCredit
/-- and of a copy of eight rows. -/
def nO : Nat := (cb false).view.dmaCredit

/-- The semaphores of the two copies of zeros. -/
abbrev zs : Bool → DmaSems sig S_
  | false => cc0_scoped0
  | true => cc0_scoped1

/-- What index copy `k` of chunk `q` delivers. -/
def Dl (d : Dev nD) (L : grid0.Coords) (b : Bool) (f : IVec S32768x16 32) (q : Nat) (qs : Nat → PosShare TreeShare) (k : Nat) : sProp 𝕄 :=
  iprop(IxR d L b (rows k) (chunk f q) ∗ ((fV).view.loc (thr d L) ↦[fs (srcRow q (32 * k))]{qs k} f))

/-- The index buffer `b` with `n` of the four copies of chunk `q` issued and `u` units of them waited for. -/
def Ld (d : Dev nD) (L : grid0.Coords) (b : Bool) (f : IVec S32768x16 32) (q : Nat) (qs : Nat → PosShare TreeShare) (n u : Nat) : sProp 𝕄 :=
  iprop(Transfers.Batched EC (thr d L) (.dma cc0_scratch6.sem) (none : HIx 1) nI 4 ((List.range n).map (Dl d L b f q qs)) u
    ∗ bigSep (Finset.univ.filter fun k : Fin 4 => n ≤ k.val) (fun k => iprop((∃ g, IxR d L b (rows k.val) g) ∗ ((fV).view.loc (thr d L) ↦{qs k.val} f)))
    ∗ bigSep (Finset.univ.filter fun k : Fin 4 => k.val < n) (fun k => (fV).view.loc (thr d L) ↦[Finset.univ \ fs (srcRow q (32 * k.val))]{qs k.val} f))

/-- The tile's shares of the index array. -/
def Fsh (d : Dev nD) (L : grid0.Coords) (f : IVec S32768x16 32) (qs : Nat → PosShare TreeShare) : sProp 𝕄 :=
  bigSep Finset.univ fun k : Fin 4 => (fV).view.loc (thr d L) ↦{qs k.val} f

/-- The write-out of chunk `q` from count buffer `b`, on its way: what it delivers is the chunk's rows of the table. -/
def Out (d : Dev nD) (L : grid0.Coords) (b : Bool) (f : IVec S32768x16 32) (hf : InF f) (q : Nat) : sProp 𝕄 :=
  Transfers.Flight EC (thr d L) (.dma (ob b).sem) (none : HIx 1) nO
    iprop(((tV).view.loc (thr d L) ↦[pc q]{fullShare} tbl (F := F) f hf) ∗ Cx d L b (acc F (chunk f q) (chunk_inR hf q) 128))

/-- The zeros on their way into count buffer `b`. -/
def Zer (d : Dev nD) (L : grid0.Coords) (b : Bool) (qz : PosShare TreeShare) : sProp 𝕄 :=
  Transfers.Flight EC (thr d L) (.dma (zs b).sem) (none : HIx 1) nO
    iprop(Cx d L b (fun _ => 0#32) ∗ ((zV).view.loc (thr d L) ↦{qz} (fun _ => 0#32 : IVec M8 32)))

section Steps

variable {d : Dev nD} {L : grid0.Coords}

theorem wand_step {A B C D' R : sProp 𝕄} (h : A ⊢ iprop((B -∗ C) -∗ D')) (hk : iprop(B ∗ R) ⊢ C) : iprop(A ∗ R) ⊢ D' := by
  iintro ⟨HA, HR⟩
  ihave H := h $$ HA
  iapply H
  iintro HB
  iapply hk
  isplitl [HB] <;> iassumption

theorem ix_split (b : Bool) (I : IVec I128 32) : (Ix d L b I : sProp 𝕄) = bigSep Finset.univ fun k : Fin 4 => IxR d L b (rows k.val) I := by
  cases b
  · have e : ((ib false).view.loc (thr d L) ↦[_]{fullShare} I : sProp 𝕄) = _ := pointsTo_biUnion Finset.univ (fun k : Fin 4 => rows k.val) rows_disjoint
    rw [rows_cover] at e
    exact e
  · have e : ((ib true).view.loc (thr d L) ↦[_]{fullShare} I : sProp 𝕄) = _ := pointsTo_biUnion Finset.univ (fun k : Fin 4 => rows k.val) rows_disjoint
    rw [rows_cover] at e
    exact e

theorem ld_start (b : Bool) (f : IVec S32768x16 32) (q : Nat) (qs : Nat → PosShare TreeShare) :
    iprop(semVal (thr d L, .dma cc0_scratch6.sem) 0 ∗ (∃ I, Ix d L b I) ∗ Fsh d L f qs) ⊢ (iprop(|={Set.univ}=> Ld d L b f q qs 0 0) : sProp 𝕄) := by
  iintro ⟨Hs, ⟨%I, HI⟩, HF⟩
  have hex : ∀ k : Fin 4, IxR d L b (rows k.val) I ⊢ (iprop(∃ g, IxR d L b (rows k.val) g) : sProp 𝕄) := fun k => by
    iintro H; iexists I; iexact H
  imod (Transfers.batched_alloc EC (thr d L) (none : HIx 1) nI 4) $$ Hs with HB
  imodintro
  unfold Ld
  isplitl [HB]; · iexact HB
  rw [show (Finset.univ.filter fun k : Fin 4 => 0 ≤ k.val) = Finset.univ from by decide, show (Finset.univ.filter fun k : Fin 4 => k.val < 0) = ∅ from by decide,
    bigSep_empty]
  isplitl [HI HF]
  · rw [bigSep_sep' Finset.univ (fun k : Fin 4 => iprop(∃ g, IxR d L b (rows k.val) g)) (fun k : Fin 4 => (fV).view.loc (thr d L) ↦{qs k.val} f)]
    isplitl [HI]
    · rw [ix_split]
      exact bigSep_mono fun k _ => hex k
    · unfold Fsh; iexact HF
  · iempintro

theorem dl_eq (b : Bool) (f : IVec S32768x16 32) {q k : Nat} (hq : q < 256) (hk : k < 4) (qs : Nat → PosShare TreeShare)
    (hi : ∀ a, (![srcRow q (32 * k), 0] : Fin 2 → Nat) a + S32x16.size a ≤ S32768x16.size a)
    (ho : ∀ a, (![32 * k, 0] : Fin 2 → Nat) a + S32x16.size a ≤ S128x16.size a) (g w : IVec I128 32)
    (hw : ∀ y, w ((Rect.unit (s := S128x16) ![32 * k, 0] S32x16.size ho).emb y) = f ((Rect.unit (s := S32768x16) ![srcRow q (32 * k), 0] S32x16.size hi).emb y)) :
    (IxR d L b (rows k) w : sProp 𝕄) = IxR d L b (rows k) (chunk f q) := by
  have key : ∀ x ∈ rows k, w x = chunk f q x := by
    intro x hx
    rw [← set_rows (h := ho), ← Rect.map_emb_univ] at hx
    obtain ⟨y, -, rfl⟩ := Finset.mem_map.mp hx
    exact (hw y).trans (chunk_val f hq hk y).symm
  cases b
  · exact pointsTo_congr key
  · exact pointsTo_congr key

theorem ld_copy {α : Type} {Q : α → sProp 𝕄} {b : Bool} {f : IVec S32768x16 32} {q n : Nat} {qs : Nat → PosShare TreeShare} (hq : q < 256) (hn : n < 4)
    {u : Nat} (hu : u ≤ n * nI) {offs offd : Fin 2 → Nat}
    {hi : ∀ a, offs a + S32x16.size a ≤ S32768x16.size a} {ho : ∀ a, offd a + S32x16.size a ≤ S128x16.size a}
    (hs : offs = ![srcRow q (32 * n), 0]) (hd : offd = ![32 * n, 0])
    {h1 : ((fV).slice (Rect.unit (s := S32768x16) offs S32x16.size hi) (fun _ => rfl)).view.WordExact}
    {h2 : ((ib b).slice (Rect.unit (s := S128x16) offd S32x16.size ho) (fun _ => rfl)).view.WordExact}
    {h3 : DmaTarget.Typed (nD := nD) .hbm (.dma cc0_scratch6.sem) (.here (p := Proc.scVector (cV L) (jV L)) ((ib b).slice (Rect.unit (s := S128x16) offd S32x16.size ho) (fun _ => rfl)))}
    {k : PUnit → Prog (TpuEff nD τ sig (Elt F) Λ₀ (Proc.scVector (cV L) (jV L))) α} {R : sProp 𝕄}
    (hk : iprop(Ld d L b f q qs (n + 1) u ∗ R) ⊢ wp frame (wpE (defs₀ (F := F)) 𝒱₀ (thr d L) none) Set.univ (k ⟨⟩) Q) :
    iprop(Ld d L b f q qs n u ∗ R) ⊢ wp frame (wpE (defs₀ (F := F)) 𝒱₀ (thr d L) none) Set.univ (Prog.lift (.enqueueDma ((fV).slice (Rect.unit (s := S32768x16) offs S32x16.size hi) (fun _ => rfl))
      (.here ((ib b).slice (Rect.unit (s := S128x16) offd S32x16.size ho) (fun _ => rfl))) (.dma cc0_scratch6.sem) h1 h2 h3) >>= k) Q := by
  subst hs hd
  have e1 : (Finset.univ.filter fun k : Fin 4 => n ≤ k.val) = insert ⟨n, hn⟩ (Finset.univ.filter fun k : Fin 4 => n + 1 ≤ k.val) := by
    ext k; simp only [Finset.mem_filter, Finset.mem_univ, _root_.true_and, Finset.mem_insert, Fin.ext_iff]; omega
  have e2 : (Finset.univ.filter fun k : Fin 4 => k.val < n + 1) = insert ⟨n, hn⟩ (Finset.univ.filter fun k : Fin 4 => k.val < n) := by
    ext k; simp only [Finset.mem_filter, Finset.mem_univ, _root_.true_and, Finset.mem_insert, Fin.ext_iff]; omega
  have m1 : (⟨n, hn⟩ : Fin 4) ∉ (Finset.univ.filter fun k : Fin 4 => n + 1 ≤ k.val) := by simp
  have m2 : (⟨n, hn⟩ : Fin 4) ∉ (Finset.univ.filter fun k : Fin 4 => k.val < n) := by simp
  have hset : ((fV).slice (Rect.unit (s := S32768x16) ![srcRow q (32 * n), 0] S32x16.size hi) (fun _ => rfl)).view.set = fs (srcRow q (32 * n)) :=
    (View.set_slice_whole _ _).trans set_fs
  have hlen : ((List.range n).map (Dl (F := F) d L b f q qs)).length = n := by simp
  have hpos : rows n ⊆ rows n := Finset.Subset.refl _
  have hN : ((ib b).slice (Rect.unit (s := S128x16) ![32 * n, 0] S32x16.size ho) (fun _ => rfl)).view.dmaCredit = nI := by cases b <;> rfl
  have hsplit : ((fV).view.loc (thr d L) ↦{qs n} f : sProp 𝕄)
      ⊢ iprop(((fV).view.loc (thr d L) ↦[fs (srcRow q (32 * n))]{qs n} f) ∗ ((fV).view.loc (thr d L) ↦[Finset.univ \ fs (srcRow q (32 * n))]{qs n} f)) :=
    (pointsTo_split_subset (Finset.subset_univ _)).1
  unfold Ld
  rw [e1, SparseCore.bigSep_insert' m1]
  have core : ∀ g : IVec I128 32, iprop((IxR d L b (rows n) g ∗ ((fV).view.loc (thr d L) ↦[fs (srcRow q (32 * n))]{qs n} f)
        ∗ Transfers.Batched EC (thr d L) (.dma cc0_scratch6.sem) (none : HIx 1) nI 4 ((List.range n).map (Dl d L b f q qs)) u))
      ⊢ iprop((Transfers.Batched EC (thr d L) (.dma cc0_scratch6.sem) (none : HIx 1) nI 4 ((List.range n).map (Dl d L b f q qs) ++ [Dl d L b f q qs n]) u
          -∗ wp frame (wpE (defs₀ (F := F)) 𝒱₀ (thr d L) none) Set.univ (k ⟨⟩) Q)
        -∗ wp frame (wpE (defs₀ (F := F)) 𝒱₀ (thr d L) none) Set.univ (Prog.lift (.enqueueDma ((fV).slice (Rect.unit (s := S32768x16) ![srcRow q (32 * n), 0] S32x16.size hi) (fun _ => rfl))
      (.here ((ib b).slice (Rect.unit (s := S128x16) ![32 * n, 0] S32x16.size ho) (fun _ => rfl))) (.dma cc0_scratch6.sem) h1 h2 h3) >>= k) Q) := by
    intro g
    cases b
    · have H := Transfers.wp_dmaBatched EC 𝒱₀ (thr d L) none (defs := defs₀ (F := F)) (src := (fV).slice (Rect.unit (s := S32768x16) ![srcRow q (32 * n), 0] S32x16.size hi) (fun _ => rfl))
        (via := .same) (dst := (ib false).slice (Rect.unit (s := S128x16) ![32 * n, 0] S32x16.size ho) (fun _ => rfl)) (sm := .dma cc0_scratch6.sem) (hsrc := h1) (hdst := h2) (hsem := h3)
        (k := k) (q := qs n) (fs := f) (fd := g) (Q := Q) (Sd := rows n) (Ds := (List.range n).map (Dl d L false f q qs)) (m := 4) (u := u) (none : HIx 1) nI hN
        (by rw [show ((ib false).slice (Rect.unit (s := S128x16) ![32 * n, 0] S32x16.size ho) (fun _ => rfl)).view.set = rows n from (View.set_slice_whole _ _).trans set_rows])
        (by rw [hlen]; exact hn) (by rw [hlen]; exact hu)
      have eD := dl_eq (F := F) (d := d) (L := L) false f hq hn qs hi ho g _ fun y => View.write_emb_of_mem
        (v := ((ib false).slice (Rect.unit (s := S128x16) ![32 * n, 0] S32x16.size ho) (fun _ => rfl)).view) g
        (View.read (Elt F) ((fV).slice (Rect.unit (s := S32768x16) ![srcRow q (32 * n), 0] S32x16.size hi) (fun _ => rfl)).view f) (Finset.mem_univ y)
      have hDl : Dl (F := F) d L false f q qs n = iprop((((ib false).slice (Rect.unit (s := S128x16) ![32 * n, 0] S32x16.size ho) (fun _ => rfl)).view.loc (thr d L) ↦[rows n]{fullShare}
            ((ib false).slice (Rect.unit (s := S128x16) ![32 * n, 0] S32x16.size ho) (fun _ => rfl)).view.write (Elt F) g (View.read (Elt F) ((fV).slice (Rect.unit (s := S32768x16) ![srcRow q (32 * n), 0] S32x16.size hi) (fun _ => rfl)).view f) Finset.univ)
          ∗ (((fV).slice (Rect.unit (s := S32768x16) ![srcRow q (32 * n), 0] S32x16.size hi) (fun _ => rfl)).view.loc (thr d L) ↦[((fV).slice (Rect.unit (s := S32768x16) ![srcRow q (32 * n), 0] S32x16.size hi) (fun _ => rfl)).view.set]{qs n} f)) := by
        unfold Dl; rw [← eD, hset]; rfl
      rw [hDl, ← hset]
      unfold IxR
      iintro ⟨H1, H2, H3⟩
      iapply H
      isplitl [H2]; · iexact H2
      isplitl [H1]; · iexact H1
      iexact H3
    · have H := Transfers.wp_dmaBatched EC 𝒱₀ (thr d L) none (defs := defs₀ (F := F)) (src := (fV).slice (Rect.unit (s := S32768x16) ![srcRow q (32 * n), 0] S32x16.size hi) (fun _ => rfl))
        (via := .same) (dst := (ib true).slice (Rect.unit (s := S128x16) ![32 * n, 0] S32x16.size ho) (fun _ => rfl)) (sm := .dma cc0_scratch6.sem) (hsrc := h1) (hdst := h2) (hsem := h3)
        (k := k) (q := qs n) (fs := f) (fd := g) (Q := Q) (Sd := rows n) (Ds := (List.range n).map (Dl d L true f q qs)) (m := 4) (u := u) (none : HIx 1) nI hN
        (by rw [show ((ib true).slice (Rect.unit (s := S128x16) ![32 * n, 0] S32x16.size ho) (fun _ => rfl)).view.set = rows n from (View.set_slice_whole _ _).trans set_rows])
        (by rw [hlen]; exact hn) (by rw [hlen]; exact hu)
      have eD := dl_eq (F := F) (d := d) (L := L) true f hq hn qs hi ho g _ fun y => View.write_emb_of_mem
        (v := ((ib true).slice (Rect.unit (s := S128x16) ![32 * n, 0] S32x16.size ho) (fun _ => rfl)).view) g
        (View.read (Elt F) ((fV).slice (Rect.unit (s := S32768x16) ![srcRow q (32 * n), 0] S32x16.size hi) (fun _ => rfl)).view f) (Finset.mem_univ y)
      have hDl : Dl (F := F) d L true f q qs n = iprop((((ib true).slice (Rect.unit (s := S128x16) ![32 * n, 0] S32x16.size ho) (fun _ => rfl)).view.loc (thr d L) ↦[rows n]{fullShare}
            ((ib true).slice (Rect.unit (s := S128x16) ![32 * n, 0] S32x16.size ho) (fun _ => rfl)).view.write (Elt F) g (View.read (Elt F) ((fV).slice (Rect.unit (s := S32768x16) ![srcRow q (32 * n), 0] S32x16.size hi) (fun _ => rfl)).view f) Finset.univ)
          ∗ (((fV).slice (Rect.unit (s := S32768x16) ![srcRow q (32 * n), 0] S32x16.size hi) (fun _ => rfl)).view.loc (thr d L) ↦[((fV).slice (Rect.unit (s := S32768x16) ![srcRow q (32 * n), 0] S32x16.size hi) (fun _ => rfl)).view.set]{qs n} f)) := by
        unfold Dl; rw [← eD, hset]; rfl
      rw [hDl, ← hset]
      unfold IxR
      iintro ⟨H1, H2, H3⟩
      iapply H
      isplitl [H2]; · iexact H2
      isplitl [H1]; · iexact H1
      iexact H3
  iintro ⟨⟨HB, ⟨⟨⟨%g, Hg⟩, Hf⟩, HP⟩, HR'⟩, HR⟩
  ihave Hf := hsplit $$ Hf
  icases Hf with ⟨Hf, Hr⟩
  iapply (core g) $$ [HB Hg Hf]
  · isplitl [Hg]; · iexact Hg
    isplitl [Hf] <;> iassumption
  iintro HB
  iapply hk
  isplitr [HR]
  · unfold Ld
    rw [e2, SparseCore.bigSep_insert' m2, List.range_succ, List.map_append]
    isplitl [HB]; · iexact HB
    isplitl [HP]; · iexact HP
    isplitl [Hr] <;> iassumption
  · iexact HR

theorem ld_begin {α : Type} {Q : α → sProp 𝕄} {b : Bool} {f : IVec S32768x16 32} (q : Nat) {qs : Nat → PosShare TreeShare} {p : Prog (TpuEff nD τ sig (Elt F) Λ₀ (Proc.scVector (cV L) (jV L))) α} {R : sProp 𝕄}
    (hk : iprop(Ld d L b f q qs 0 0 ∗ R) ⊢ wp frame (wpE (defs₀ (F := F)) 𝒱₀ (thr d L) none) Set.univ p Q) :
    iprop((semVal (thr d L, .dma cc0_scratch6.sem) 0 ∗ (∃ I, Ix d L b I) ∗ Fsh d L f qs) ∗ R) ⊢ wp frame (wpE (defs₀ (F := F)) 𝒱₀ (thr d L) none) Set.univ p Q := by
  iintro ⟨H, HR⟩
  imod (ld_start b f q qs) $$ H with HL
  iapply hk
  isplitl [HL] <;> iassumption

theorem ow_step {α : Type} {Q : α → sProp 𝕄} {O : CellTallies nD τ sig (HIx 1)} {W : Waits sig (HIx 1)} {sm : SemLoc sig} {A B R : sProp 𝕄} {p p' : Prog (TpuEff nD τ sig (Elt F) Λ₀ (Proc.scVector (cV L) (jV L))) α}
    (h : ∀ W', iprop(A ∗ owes (thr d L) O W' ∗ MayWait (thr d L) sm (none : HIx 1) O) ⊢ iprop((iprop(B ∗ owes (thr d L) O (insert (sm, none) W')) -∗ wp frame (wpE (defs₀ (F := F)) 𝒱₀ (thr d L) none) Set.univ p' Q) -∗ wp frame (wpE (defs₀ (F := F)) 𝒱₀ (thr d L) none) Set.univ p Q))
    (hk : iprop(B ∗ Ow d L O W ∗ R) ⊢ wp frame (wpE (defs₀ (F := F)) 𝒱₀ (thr d L) none) Set.univ p' Q) : iprop(A ∗ Ow d L O W ∗ R) ⊢ wp frame (wpE (defs₀ (F := F)) 𝒱₀ (thr d L) none) Set.univ p Q := by
  unfold Ow at hk ⊢
  iintro ⟨HA, ⟨#HM, %W', %hW, HO⟩, HR⟩
  ihave Hm := (Transfers.MayWaits.elim sm) $$ HM
  iapply (h W') $$ [HA HO Hm]
  · isplitl [HA]; · iexact HA
    isplitl [HO] <;> iassumption
  iintro ⟨HB, HO⟩
  iapply hk
  isplitl [HB]; · iexact HB
  isplitr [HR]
  · isplitr; · iexact HM
    iexists (insert (sm, none) W')
    isplitr
    · ipureintro
      intro p hp
      rcases Finset.mem_insert.mp hp with rfl | h
      · exact .inr rfl
      · exact hW p h
    · iexact HO
  · iexact HR

variable {sp sp' : Space} {s s' : Shape} {e e' : EltTy}

theorem ld_wait {α : Type} {Q : α → sProp 𝕄} {O : CellTallies nD τ sig (HIx 1)} {W : Waits sig (HIx 1)} {b : Bool} {f : IVec S32768x16 32} {q : Nat} {qs : Nat → PosShare TreeShare}
    {u : Nat} {srcw : Memref sig .scVector sp' s' e'} {dstw : Memref sig .scVector sp s e} {h1 : srcw.view.WordExact} {h2 : dstw.view.WordExact} {k : PUnit → Prog (TpuEff nD τ sig (Elt F) Λ₀ (Proc.scVector (cV L) (jV L))) α} {R : sProp 𝕄}
    (hN : dstw.view.dmaCredit = nI) (hu : u + nI < nI * 4)
    (hk : iprop(Ld d L b f q qs 4 (u + nI) ∗ Ow d L O W ∗ R) ⊢ wp frame (wpE (defs₀ (F := F)) 𝒱₀ (thr d L) none) Set.univ (k ⟨⟩) Q) :
    iprop(Ld d L b f q qs 4 u ∗ Ow d L O W ∗ R) ⊢ wp frame (wpE (defs₀ (F := F)) 𝒱₀ (thr d L) none) Set.univ (Prog.lift (.waitDma2 cc0_scratch6.sem srcw dstw h1 h2) >>= k) Q := by
  refine ow_step (sm := .dma cc0_scratch6.sem) (fun W' => ?_) hk
  unfold Ld
  iintro ⟨⟨HB, HP⟩, HO⟩
  iintro Hk
  iapply (Transfers.wp_waitBatchedO EC 𝒱₀ (thr d L) none (none : HIx 1) hN (Ds := (List.range 4).map (Dl d L b f q qs)) (by rw [List.length_map, List.length_range]) hu) $$ [HB HO]
  · isplitl [HB] <;> iassumption
  iintro ⟨HB, HO⟩
  iapply Hk
  isplitr [HO]
  · isplitl [HB] <;> iassumption
  · iexact HO

theorem ld_last {α : Type} {Q : α → sProp 𝕄} {O : CellTallies nD τ sig (HIx 1)} {W : Waits sig (HIx 1)} {b : Bool} {f : IVec S32768x16 32} {q : Nat} {qs : Nat → PosShare TreeShare}
    {u : Nat} {srcw : Memref sig .scVector sp' s' e'} {dstw : Memref sig .scVector sp s e} {h1 : srcw.view.WordExact} {h2 : dstw.view.WordExact} {k : PUnit → Prog (TpuEff nD τ sig (Elt F) Λ₀ (Proc.scVector (cV L) (jV L))) α} {R : sProp 𝕄}
    (hN : dstw.view.dmaCredit = nI) (hu : u + nI = nI * 4)
    (hk : iprop((semVal (thr d L, .dma cc0_scratch6.sem) 0 ∗ Ix d L b (chunk f q) ∗ Fsh d L f qs) ∗ Ow d L O W ∗ R) ⊢ wp frame (wpE (defs₀ (F := F)) 𝒱₀ (thr d L) none) Set.univ (k ⟨⟩) Q) :
    iprop(Ld d L b f q qs 4 u ∗ Ow d L O W ∗ R) ⊢ wp frame (wpE (defs₀ (F := F)) 𝒱₀ (thr d L) none) Set.univ (Prog.lift (.waitDma2 cc0_scratch6.sem srcw dstw h1 h2) >>= k) Q := by
  refine ow_step (sm := .dma cc0_scratch6.sem) (fun W' => ?_) hk
  have hD : (bigSep Finset.univ (Transfers.deliv (m := 4) ((List.range 4).map (Dl (F := F) d L b f q qs)))) = bigSep Finset.univ fun k : Fin 4 => Dl d L b f q qs k.val :=
    bigSep_congr fun i _ => by fin_cases i <;> rfl
  have hS : ∀ k : Fin 4, iprop(((fV).view.loc (thr d L) ↦[fs (srcRow q (32 * k.val))]{qs k.val} f) ∗ ((fV).view.loc (thr d L) ↦[Finset.univ \ fs (srcRow q (32 * k.val))]{qs k.val} f))
      ⊢ ((fV).view.loc (thr d L) ↦{qs k.val} f : sProp 𝕄) := fun k => (pointsTo_split_subset (Finset.subset_univ _)).2
  unfold Ld
  rw [show (Finset.univ.filter fun k : Fin 4 => k.val < 4) = Finset.univ from by decide, show (Finset.univ.filter fun k : Fin 4 => 4 ≤ k.val) = ∅ from by decide]
  iintro ⟨⟨HB, -, HP⟩, HO⟩
  iintro Hk
  iapply (Transfers.wp_waitBatchedAllO EC 𝒱₀ (thr d L) none (none : HIx 1) hN (by decide) (Ds := (List.range 4).map (Dl d L b f q qs)) (by rw [List.length_map, List.length_range]) hu) $$ [HB HO]
  · isplitl [HB] <;> iassumption
  rw [hD]
  unfold Dl
  rw [bigSep_sep']
  iintro ⟨⟨HI, HF⟩, HS, HO⟩
  iapply Hk
  isplitr [HO]
  · isplitl [HS]; · iexact HS
    isplitl [HI]
    · rw [ix_split]; iexact HI
    · unfold Fsh
      iapply (show iprop((bigSep Finset.univ fun k : Fin 4 => ((fV).view.loc (thr d L) ↦[fs (srcRow q (32 * k.val))]{qs k.val} f))
          ∗ (bigSep Finset.univ fun k : Fin 4 => ((fV).view.loc (thr d L) ↦[Finset.univ \ fs (srcRow q (32 * k.val))]{qs k.val} f))) ⊢ (bigSep Finset.univ fun k : Fin 4 => ((fV).view.loc (thr d L) ↦{qs k.val} f) : sProp 𝕄)
        from by rw [← bigSep_sep']; exact bigSep_mono fun k _ => hS k)
      isplitl [HF] <;> iassumption
  · iexact HO

theorem out_start {α : Type} {Q : α → sProp 𝕄} {b : Bool} {f : IVec S32768x16 32} {hf : InF f} {q : Nat} {g : IVec S2048x2048 32}
    {off : Fin 2 → Nat} {ho : ∀ a, off a + S8x2048.size a ≤ S2048x2048.size a} (hoff : off = ![8 * q, 0])
    {h1 : (cb b).view.WordExact} {h2 : ((tV).slice (Rect.unit (s := S2048x2048) off S8x2048.size ho) (fun _ => rfl)).view.WordExact}
    {h3 : DmaTarget.Typed (nD := nD) .vmem (.dma (ob b).sem) (.here (p := Proc.scVector (cV L) (jV L)) ((tV).slice (Rect.unit (s := S2048x2048) off S8x2048.size ho) (fun _ => rfl)))}
    {k : PUnit → Prog (TpuEff nD τ sig (Elt F) Λ₀ (Proc.scVector (cV L) (jV L))) α} {R : sProp 𝕄} (hk : iprop(Out d L b f hf q ∗ R) ⊢ wp frame (wpE (defs₀ (F := F)) 𝒱₀ (thr d L) none) Set.univ (k ⟨⟩) Q) :
    iprop((Cx d L b (acc F (chunk f q) (chunk_inR hf q) 128) ∗ ((tV).view.loc (thr d L) ↦[pc q]{fullShare} g) ∗ semVal (thr d L, .dma (ob b).sem) 0) ∗ R)
      ⊢ wp frame (wpE (defs₀ (F := F)) 𝒱₀ (thr d L) none) Set.univ (Prog.lift (.enqueueDma (cb b) (.here ((tV).slice (Rect.unit (s := S2048x2048) off S8x2048.size ho) (fun _ => rfl))) (.dma (ob b).sem) h1 h2 h3) >>= k) Q := by
  subst hoff
  refine wand_step ?_ hk
  have hA := fun y => tbl_val (F := F) f hf (h := ho) y
  unfold Out
  generalize acc F (chunk f q) (chunk_inR hf q) 128 = A at hA ⊢
  have key : ∀ w : IVec S2048x2048 32, (∀ y, w ((Rect.unit (s := S2048x2048) ![8 * q, 0] S8x2048.size ho).emb y) = A y) →
      ((tV).view.loc (thr d L) ↦[pc q]{fullShare} w : sProp 𝕄) = ((tV).view.loc (thr d L) ↦[pc q]{fullShare} tbl (F := F) f hf) := by
    intro w hw
    refine pointsTo_congr fun x hx => ?_
    rw [← set_pc (h := ho), ← Rect.map_emb_univ] at hx
    obtain ⟨y, -, rfl⟩ := Finset.mem_map.mp hx
    exact (hw y).trans (hA y).symm
  have hsub : ((tV).slice (Rect.unit (s := S2048x2048) ![8 * q, 0] S8x2048.size ho) (fun _ => rfl)).view.set = pc q := (View.set_slice_whole _ _).trans set_pc
  cases b
  · have H := Transfers.wp_dmaLocal EC 𝒱₀ (thr d L) none (defs := defs₀ (F := F)) (src := cb false) (via := .same)
      (dst := (tV).slice (Rect.unit (s := S2048x2048) ![8 * q, 0] S8x2048.size ho) (fun _ => rfl)) (sm := .dma (ob false).sem) (hsrc := h1) (hdst := h2) (hsem := h3) (k := k) (q := fullShare)
      (fs := A) (fd := g) (Q := Q) (Sd := pc q) (none : HIx 1) nO rfl (by decide) (by rw [hsub])
    have e1 : ReadAs.same.apply (View.read (Elt F) (cb false).view A) = A := rfl
    rw [e1, show (cb false).view.set = Finset.univ from View.set_whole _] at H
    have eD := key (((tV).slice (Rect.unit (s := S2048x2048) ![8 * q, 0] S8x2048.size ho) (fun _ => rfl)).view.write (Elt F) g A Finset.univ)
      (slice_write (main_v2_scv : Ref sig .scVector) (Rect.unit (s := S2048x2048) ![8 * q, 0] S8x2048.size ho) g A)
    unfold Cx
    rw [← eD]
    iintro ⟨H1, H2, H3⟩
    iapply H
    isplitl [H1]; · iexact H1
    isplitl [H2] <;> iassumption
  · have H := Transfers.wp_dmaLocal EC 𝒱₀ (thr d L) none (defs := defs₀ (F := F)) (src := cb true) (via := .same)
      (dst := (tV).slice (Rect.unit (s := S2048x2048) ![8 * q, 0] S8x2048.size ho) (fun _ => rfl)) (sm := .dma (ob true).sem) (hsrc := h1) (hdst := h2) (hsem := h3) (k := k) (q := fullShare)
      (fs := A) (fd := g) (Q := Q) (Sd := pc q) (none : HIx 1) nO rfl (by decide) (by rw [hsub])
    have e1 : ReadAs.same.apply (View.read (Elt F) (cb true).view A) = A := rfl
    rw [e1, show (cb true).view.set = Finset.univ from View.set_whole _] at H
    have eD := key (((tV).slice (Rect.unit (s := S2048x2048) ![8 * q, 0] S8x2048.size ho) (fun _ => rfl)).view.write (Elt F) g A Finset.univ)
      (slice_write (main_v2_scv : Ref sig .scVector) (Rect.unit (s := S2048x2048) ![8 * q, 0] S8x2048.size ho) g A)
    unfold Cx
    rw [← eD]
    iintro ⟨H1, H2, H3⟩
    iapply H
    isplitl [H1]; · iexact H1
    isplitl [H2] <;> iassumption

theorem out_wait {α : Type} {Q : α → sProp 𝕄} {O : CellTallies nD τ sig (HIx 1)} {W : Waits sig (HIx 1)} {b : Bool} {f : IVec S32768x16 32} {hf : InF f} {q : Nat}
    {srcw : Memref sig .scVector sp' s' e'} {dstw : Memref sig .scVector sp s e} {h1 : srcw.view.WordExact} {h2 : dstw.view.WordExact} {k : PUnit → Prog (TpuEff nD τ sig (Elt F) Λ₀ (Proc.scVector (cV L) (jV L))) α} {R : sProp 𝕄}
    (hN : dstw.view.dmaCredit = nO)
    (hk : iprop(((((tV).view.loc (thr d L) ↦[pc q]{fullShare} tbl (F := F) f hf) ∗ Cx d L b (acc F (chunk f q) (chunk_inR hf q) 128)) ∗ semVal (thr d L, .dma (ob b).sem) 0) ∗ Ow d L O W ∗ R) ⊢ wp frame (wpE (defs₀ (F := F)) 𝒱₀ (thr d L) none) Set.univ (k ⟨⟩) Q) :
    iprop(Out d L b f hf q ∗ Ow d L O W ∗ R) ⊢ wp frame (wpE (defs₀ (F := F)) 𝒱₀ (thr d L) none) Set.univ (Prog.lift (.waitDma2 (ob b).sem srcw dstw h1 h2) >>= k) Q := by
  refine ow_step (sm := .dma (ob b).sem) (fun W' => ?_) hk
  unfold Out
  iintro H
  iintro Hk
  iapply (Transfers.wp_waitLocalO EC 𝒱₀ (thr d L) none (none : HIx 1) hN) $$ [H]
  · iexact H
  iintro ⟨HD, HS, HO⟩
  iapply Hk
  isplitr [HO]
  · isplitl [HD] <;> iassumption
  · iexact HO

theorem zer_start {α : Type} {Q : α → sProp 𝕄} {b : Bool} {qz : PosShare TreeShare}
    {h1 : (zV).view.WordExact} {h2 : (cb b).view.WordExact} {h3 : DmaTarget.Typed (nD := nD) .hbm (.dma (zs b).sem) (.here (p := Proc.scVector (cV L) (jV L)) (cb b))}
    {k : PUnit → Prog (TpuEff nD τ sig (Elt F) Λ₀ (Proc.scVector (cV L) (jV L))) α} {R : sProp 𝕄} (hk : iprop(Zer d L b qz ∗ R) ⊢ wp frame (wpE (defs₀ (F := F)) 𝒱₀ (thr d L) none) Set.univ (k ⟨⟩) Q) :
    iprop((((zV).view.loc (thr d L) ↦{qz} (fun _ => 0#32 : IVec M8 32)) ∗ (∃ g, Cx d L b g) ∗ semVal (thr d L, .dma (zs b).sem) 0) ∗ R)
      ⊢ wp frame (wpE (defs₀ (F := F)) 𝒱₀ (thr d L) none) Set.univ (Prog.lift (.enqueueDma (zV) (.here (cb b)) (.dma (zs b).sem) h1 h2 h3) >>= k) Q := by
  refine wand_step ?_ hk
  unfold Zer
  generalize (fun _ => 0#32 : IVec M8 32) = Z
  cases b
  · iintro ⟨H1, ⟨%g, H2⟩, H3⟩
    have H := Transfers.wp_dmaLocal EC 𝒱₀ (thr d L) none (defs := defs₀ (F := F)) (src := zV) (via := .same)
      (dst := cb false) (sm := .dma (zs false).sem) (hsrc := h1) (hdst := h2) (hsem := h3) (k := k) (q := qz)
      (fs := Z) (fd := g) (Q := Q) (Sd := Finset.univ) (none : HIx 1) nO rfl (by decide) (Finset.subset_univ _)
    have eD : View.write (Elt F) (cb false).view g (ReadAs.same.apply (View.read (Elt F) (zV).view Z)) Finset.univ = Z := by
      have e1 : ReadAs.same.apply (View.read (Elt F) (zV).view Z) = Z := rfl
      rw [e1]
      exact View.write_whole_univ (Val := Elt F) cc0_scratch2 g Z
    rw [eD, show (zV).view.set = Finset.univ from View.set_whole _] at H
    unfold Cx
    iapply H
    isplitl [H1]; · iexact H1
    isplitl [H2] <;> iassumption
  · iintro ⟨H1, ⟨%g, H2⟩, H3⟩
    have H := Transfers.wp_dmaLocal EC 𝒱₀ (thr d L) none (defs := defs₀ (F := F)) (src := zV) (via := .same)
      (dst := cb true) (sm := .dma (zs true).sem) (hsrc := h1) (hdst := h2) (hsem := h3) (k := k) (q := qz)
      (fs := Z) (fd := g) (Q := Q) (Sd := Finset.univ) (none : HIx 1) nO rfl (by decide) (Finset.subset_univ _)
    have eD : View.write (Elt F) (cb true).view g (ReadAs.same.apply (View.read (Elt F) (zV).view Z)) Finset.univ = Z := by
      have e1 : ReadAs.same.apply (View.read (Elt F) (zV).view Z) = Z := rfl
      rw [e1]
      exact View.write_whole_univ (Val := Elt F) cc0_scratch3 g Z
    rw [eD, show (zV).view.set = Finset.univ from View.set_whole _] at H
    unfold Cx
    iapply H
    isplitl [H1]; · iexact H1
    isplitl [H2] <;> iassumption

theorem zer_wait {α : Type} {Q : α → sProp 𝕄} {O : CellTallies nD τ sig (HIx 1)} {W : Waits sig (HIx 1)} {b : Bool} {qz : PosShare TreeShare}
    {srcw : Memref sig .scVector sp' s' e'} {dstw : Memref sig .scVector sp s e} {h1 : srcw.view.WordExact} {h2 : dstw.view.WordExact} {k : PUnit → Prog (TpuEff nD τ sig (Elt F) Λ₀ (Proc.scVector (cV L) (jV L))) α} {R : sProp 𝕄}
    (hN : dstw.view.dmaCredit = nO)
    (hk : iprop(((Cx d L b (fun _ => 0#32) ∗ ((zV).view.loc (thr d L) ↦{qz} (fun _ => 0#32 : IVec M8 32))) ∗ semVal (thr d L, .dma (zs b).sem) 0) ∗ Ow d L O W ∗ R) ⊢ wp frame (wpE (defs₀ (F := F)) 𝒱₀ (thr d L) none) Set.univ (k ⟨⟩) Q) :
    iprop(Zer d L b qz ∗ Ow d L O W ∗ R) ⊢ wp frame (wpE (defs₀ (F := F)) 𝒱₀ (thr d L) none) Set.univ (Prog.lift (.waitDma2 (zs b).sem srcw dstw h1 h2) >>= k) Q := by
  refine ow_step (sm := .dma (zs b).sem) (fun W' => ?_) hk
  unfold Zer
  iintro H
  iintro Hk
  iapply (Transfers.wp_waitLocalO EC 𝒱₀ (thr d L) none (none : HIx 1) hN) $$ [H]
  · iexact H
  iintro ⟨HD, HS, HO⟩
  iapply Hk
  isplitr [HO]
  · isplitl [HD] <;> iassumption
  · iexact HO

end Steps

end Cert.Proof.KernelIdeal
-- ==== Proof.TileKernelIdeal.lean ====
module

public import proofs.«01_k».proof.Proof.CopyKernelIdeal

/-!
# One tile

A tile's program, run at a symbolic pair of core and subcore: it leaves its eight chunks of the table of counts.
-/

@[expose] public section

noncomputable section

namespace Cert.Proof.KernelIdeal

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Where a tile's copies start -/

/-- The tile's number. -/
def wid (L : grid0.Coords) : Nat := (L 1).val * 2 + (L 0).val

theorem wid_lt (L : grid0.Coords) : wid L < 32 := by
  have h0 : (L 0).val < 2 := (L 0).isLt
  have h1 : (L 1).val < 16 := (L 1).isLt
  unfold wid; omega

theorem off1_eq : ∀ (L : grid0.Coords) (k : Fin 4), ∀ a, k0_off1 L (BitVec.ofNat 32 (512 * k.val)) a = (![srcRow (8 * wid L + 0) (32 * k.val), 0] : Fin 2 → Nat) a := by decide +kernel
theorem off2_eq : ∀ (L : grid0.Coords), ∀ a, k0_off2 L a = (![8 * (8 * wid L + 0), 0] : Fin 2 → Nat) a := by decide +kernel
theorem off3_eq : ∀ (L : grid0.Coords) (k : Fin 4), ∀ a, k0_off3 L (BitVec.ofNat 32 (512 * k.val)) a = (![srcRow (8 * wid L + 1) (32 * k.val), 0] : Fin 2 → Nat) a := by decide +kernel
theorem off4_eq : ∀ (L : grid0.Coords), ∀ a, k0_off4 L 8#32 a = (![8 * (8 * wid L + 1), 0] : Fin 2 → Nat) a := by decide +kernel
theorem off6_eq : ∀ (L : grid0.Coords) (t : Fin k0_t1_loop.trips) (k : Fin 4), ∀ a, k0_off6 L t (BitVec.ofNat 32 (512 * k.val)) a = (![srcRow (8 * wid L + (2 * t.val + 2)) (32 * k.val), 0] : Fin 2 → Nat) a := by decide +kernel
theorem off7_eq : ∀ (L : grid0.Coords) (t : Fin k0_t1_loop.trips), ∀ a, k0_off7 L t 0#32 a = (![8 * (8 * wid L + (2 * t.val + 2)), 0] : Fin 2 → Nat) a := by decide +kernel
theorem off8_eq : ∀ (L : grid0.Coords) (t : Fin k0_t1_loop.trips) (k : Fin 4), ∀ a, k0_off8 L t (BitVec.ofNat 32 (512 * k.val)) a = (![srcRow (8 * wid L + (2 * t.val + 3)) (32 * k.val), 0] : Fin 2 → Nat) a := by decide +kernel
theorem off9_eq : ∀ (L : grid0.Coords) (t : Fin k0_t1_loop.trips), ∀ a, k0_off9 L t a = (![8 * (8 * wid L + (2 * t.val + 3)), 0] : Fin 2 → Nat) a := by decide +kernel

theorem prog_eq {d : Dev nD} {L : grid0.Coords} {α : Type} {Q : α → sProp 𝕄} {A : sProp 𝕄} {p p' : Prog (TpuEff nD τ sig (Elt F) Λ₀ (Proc.scVector (cV L) (jV L))) α} (h : p = p') (hk : A ⊢ wp frame (wpE (defs₀ (F := F)) 𝒱₀ (thr d L) none) Set.univ p' Q) : A ⊢ wp frame (wpE (defs₀ (F := F)) 𝒱₀ (thr d L) none) Set.univ p Q := h ▸ hk

/-- A program's last statement, as one followed by nothing. -/
theorem end_step {d : Dev nD} {L : grid0.Coords} {α : Type} {Q : α → sProp 𝕄} {A : sProp 𝕄} {p : Prog (TpuEff nD τ sig (Elt F) Λ₀ (Proc.scVector (cV L) (jV L))) α} (h : A ⊢ wp frame (wpE (defs₀ (F := F)) 𝒱₀ (thr d L) none) Set.univ (p >>= pure) Q) : A ⊢ wp frame (wpE (defs₀ (F := F)) 𝒱₀ (thr d L) none) Set.univ p Q := by
  rwa [bind_pure] at h

/-- A row loaded as a part's last statement. -/
theorem ld_end {d : Dev nD} {L : grid0.Coords} {Q : Vec F S1x16 .i32 → sProp 𝕄} {b : Bool} {I : IVec I128 32} {o : Nat} {h : ∀ a, (![o, 0] : Fin 2 → Nat) a + S1x16.size a ≤ S128x16.size a}
    {hl : (ib b).view.LoadsAt (Rect.unit (s := S128x16) ![o, 0] S1x16.size h).toLoadRect} {B : sProp 𝕄} (hk : iprop(Ix d L b I ∗ B) ⊢ Q (ldRow I o)) :
    iprop(Ix d L b I ∗ B) ⊢ wp frame (wpE (defs₀ (F := F)) 𝒱₀ (thr d L) none) Set.univ (Prog.lift (.load (ib b) (Rect.unit (s := S128x16) ![o, 0] S1x16.size h).toLoadRect hl)) Q :=
  end_step (ld_at (ret_step hk))

section Phases

variable {d : Dev nD} {L : grid0.Coords} {O : CellTallies nD τ sig (HIx 1)} {W : Waits sig (HIx 1)} {sp sp' : Space} {s s' : Shape} {e e' : EltTy}

/-- Count buffer `b`'s write-out waited for: the buffer is to be cleared. -/
theorem to_clear {α : Type} {Q : α → sProp 𝕄} {b : Bool} {f : IVec S32768x16 32} {hf : InF f} {q : Nat}
    {srcw : Memref sig .scVector sp' s' e'} {dstw : Memref sig .scVector sp s e} {h1 : srcw.view.WordExact} {h2 : dstw.view.WordExact} {k : PUnit → Prog (TpuEff nD τ sig (Elt F) Λ₀ (Proc.scVector (cV L) (jV L))) α} {R : sProp 𝕄}
    (hN : dstw.view.dmaCredit = nO)
    (hk : iprop(Ix d L b (chunk f q) ∗ Cx d L b (clr F (chunk f q) (chunk_inR hf q) 0) ∗ (((tV).view.loc (thr d L) ↦[pc q]{fullShare} tbl (F := F) f hf) ∗ semVal (thr d L, .dma (ob b).sem) 0 ∗ Ow d L O W ∗ R))
      ⊢ wp frame (wpE (defs₀ (F := F)) 𝒱₀ (thr d L) none) Set.univ (k ⟨⟩) Q) :
    iprop(Out d L b f hf q ∗ Ow d L O W ∗ Ix d L b (chunk f q) ∗ R) ⊢ wp frame (wpE (defs₀ (F := F)) 𝒱₀ (thr d L) none) Set.univ (Prog.lift (.waitDma2 (ob b).sem srcw dstw h1 h2) >>= k) Q := by
  refine out_wait hN (BIBase.Entails.trans ?_ hk)
  rw [clr_zero]
  iintro ⟨⟨⟨HT, HC⟩, HS⟩, HO, HI, HR⟩
  iframe HI HC HT HS HO HR

/-- A count buffer cleared holds zeros, and its index buffer is free. -/
theorem to_load {α : Type} {Q : α → sProp 𝕄} {b : Bool} {f : IVec S32768x16 32} (hf : InF f) {q : Nat} (q' : Nat) {n : Nat} (hn : n = 128) {qs : Nat → PosShare TreeShare} {p : Prog (TpuEff nD τ sig (Elt F) Λ₀ (Proc.scVector (cV L) (jV L))) α} {T S R : sProp 𝕄}
    (hk : iprop(Ld d L b f q' qs 0 0 ∗ Ow d L O W ∗ (Cx d L b (acc F (chunk f q') (chunk_inR hf q') 0) ∗ T ∗ S ∗ R)) ⊢ wp frame (wpE (defs₀ (F := F)) 𝒱₀ (thr d L) none) Set.univ p Q) :
    iprop(Ix d L b (chunk f q) ∗ Cx d L b (clr F (chunk f q) (chunk_inR hf q) n) ∗ (T ∗ S ∗ Ow d L O W ∗ semVal (thr d L, .dma cc0_scratch6.sem) 0 ∗ Fsh d L f qs ∗ R)) ⊢ wp frame (wpE (defs₀ (F := F)) 𝒱₀ (thr d L) none) Set.univ p Q := by
  subst hn
  refine BIBase.Entails.trans ?_ (ld_begin q' hk)
  rw [clr_all, acc_zero]
  iintro ⟨HI, HC, HT, HS, HO, Hi, HF, HR⟩
  isplitl [HI Hi HF]
  · isplitl [Hi]; · iexact Hi
    isplitl [HI]
    · iexists (chunk f q); iexact HI
    · iexact HF
  · iframe HO HC HT HS HR

/-- The index buffer filled: the counts are to be added. -/
theorem to_add {α : Type} {Q : α → sProp 𝕄} {b : Bool} {f : IVec S32768x16 32} {q : Nat} {qs : Nat → PosShare TreeShare} {g : IVec M8 32}
    {u : Nat} {srcw : Memref sig .scVector sp' s' e'} {dstw : Memref sig .scVector sp s e} {h1 : srcw.view.WordExact} {h2 : dstw.view.WordExact} {k : PUnit → Prog (TpuEff nD τ sig (Elt F) Λ₀ (Proc.scVector (cV L) (jV L))) α} {T S R : sProp 𝕄}
    (hN : dstw.view.dmaCredit = nI) (hu : u + nI = nI * 4)
    (hk : iprop(Ix d L b (chunk f q) ∗ Cx d L b g ∗ (semVal (thr d L, .dma cc0_scratch6.sem) 0 ∗ Fsh d L f qs ∗ Ow d L O W ∗ T ∗ S ∗ R)) ⊢ wp frame (wpE (defs₀ (F := F)) 𝒱₀ (thr d L) none) Set.univ (k ⟨⟩) Q) :
    iprop(Ld d L b f q qs 4 u ∗ Ow d L O W ∗ (Cx d L b g ∗ T ∗ S ∗ R)) ⊢ wp frame (wpE (defs₀ (F := F)) 𝒱₀ (thr d L) none) Set.univ (Prog.lift (.waitDma2 cc0_scratch6.sem srcw dstw h1 h2) >>= k) Q := by
  refine ld_last hN hu (BIBase.Entails.trans ?_ hk)
  iintro ⟨⟨HS, HI, HF⟩, HO, HC, HT, HX, HR⟩
  iframe HI HC HS HF HO HT HX HR

/-- The counts added: the buffer's write-out starts. -/
theorem to_out {α : Type} {Q : α → sProp 𝕄} {b : Bool} {f : IVec S32768x16 32} {hf : InF f} {q : Nat} {qs : Nat → PosShare TreeShare} {g : IVec S2048x2048 32}
    {off : Fin 2 → Nat} {ho : ∀ a, off a + S8x2048.size a ≤ S2048x2048.size a} (hoff : off = ![8 * q, 0]) {n : Nat} (hn : n = 128)
    {h1 : (cb b).view.WordExact} {h2 : ((tV).slice (Rect.unit (s := S2048x2048) off S8x2048.size ho) (fun _ => rfl)).view.WordExact}
    {h3 : DmaTarget.Typed (nD := nD) .vmem (.dma (ob b).sem) (.here (p := Proc.scVector (cV L) (jV L)) ((tV).slice (Rect.unit (s := S2048x2048) off S8x2048.size ho) (fun _ => rfl)))}
    {k : PUnit → Prog (TpuEff nD τ sig (Elt F) Λ₀ (Proc.scVector (cV L) (jV L))) α} {T R : sProp 𝕄}
    (hk : iprop((Out d L b f hf q ∗ Ix d L b (chunk f q)) ∗ (semVal (thr d L, .dma cc0_scratch6.sem) 0 ∗ Fsh d L f qs ∗ Ow d L O W ∗ T ∗ R)) ⊢ wp frame (wpE (defs₀ (F := F)) 𝒱₀ (thr d L) none) Set.univ (k ⟨⟩) Q) :
    iprop(Ix d L b (chunk f q) ∗ Cx d L b (acc F (chunk f q) (chunk_inR hf q) n)
        ∗ (semVal (thr d L, .dma cc0_scratch6.sem) 0 ∗ Fsh d L f qs ∗ Ow d L O W ∗ T ∗ semVal (thr d L, .dma (ob b).sem) 0 ∗ ((tV).view.loc (thr d L) ↦[pc q]{fullShare} g) ∗ R))
      ⊢ wp frame (wpE (defs₀ (F := F)) 𝒱₀ (thr d L) none) Set.univ (Prog.lift (.enqueueDma (cb b) (.here ((tV).slice (Rect.unit (s := S2048x2048) off S8x2048.size ho) (fun _ => rfl))) (.dma (ob b).sem) h1 h2 h3) >>= k) Q := by
  subst hn
  have H := out_start (d := d) (L := L) (Q := Q) (b := b) (f := f) (hf := hf) (q := q) (g := g) (ho := ho) hoff (h1 := h1) (h2 := h2) (h3 := h3) (k := k)
    (R := iprop(Ix d L b (chunk f q) ∗ (semVal (thr d L, .dma cc0_scratch6.sem) 0 ∗ Fsh d L f qs ∗ Ow d L O W ∗ T ∗ R))) (by
      refine BIBase.Entails.trans ?_ hk
      iintro ⟨H1, H2, H3⟩
      isplitl [H1 H2]
      · isplitl [H1] <;> iassumption
      · iexact H3)
  refine BIBase.Entails.trans ?_ H
  iintro ⟨HI, HC, HS, HF, HO, HT, HX, HP, HR⟩
  isplitl [HC HP HX]
  · isplitl [HC]; · iexact HC
    isplitl [HP] <;> iassumption
  · iframe HI HS HF HO HT HR

end Phases

end Cert.Proof.KernelIdeal
-- ==== Proof.TripKernelIdeal.lean ====
module

public import proofs.«01_k».proof.Proof.TileKernelIdeal

@[expose] public section
noncomputable section
namespace Cert.Proof.KernelIdeal
open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

set_option maxRecDepth 65536 in
set_option maxHeartbeats 0 in
/-- One trip of the tile's loop, for both buffers: chunks `2t`, `2t+1` written out, `2t+2`, `2t+3` counted and on their way. -/
theorem trip (d : Dev nD) (L : grid0.Coords) (f : IVec S32768x16 32) (hf : InF f) (qs : Nat → PosShare TreeShare) (g : IVec S2048x2048 32)
    (O : CellTallies nD τ sig (HIx 1)) (W : Waits sig (HIx 1)) (v2 : BitVec 32) (v641 : IVec S16 32) (t : Fin k0_t1_loop.trips) (R : sProp 𝕄) :
    iprop(Out d L false f hf (8 * wid L + 2 * t.val) ∗ Ow d L O W ∗ Ix d L false (chunk f (8 * wid L + 2 * t.val)) ∗ (semVal (thr d L, .dma cc0_scratch6.sem) 0 ∗ Fsh d L f qs
        ∗ ((tV).view.loc (thr d L) ↦[pc (8 * wid L + (2 * t.val + 2))]{fullShare} g) ∗ (Out d L true f hf (8 * wid L + (2 * t.val + 1)) ∗ Ix d L true (chunk f (8 * wid L + (2 * t.val + 1))) ∗ ((tV).view.loc (thr d L) ↦[pc (8 * wid L + (2 * t.val + 3))]{fullShare} g) ∗ R)))
      ⊢ wp frame (wpE (defs₀ (F := F)) 𝒱₀ (thr d L) none) Set.univ (k0_t1_body L fV (Memref.isWhole_whole _) zV (Memref.isWhole_whole _) tV (Memref.isWhole_whole _) (ib false) (Memref.isWhole_whole _) (ib true) (Memref.isWhole_whole _) (cb false) (Memref.isWhole_whole _) (cb true) (Memref.isWhole_whole _) cc0_scratch4 cc0_scratch5 cc0_scratch6 cc0_scoped0 cc0_scoped1 v2 k0_pay14 k0_pay15 k0_pay16 k0_pay17 k0_pay18 v641 t ⟨⟩)
        fun _ => iprop((Out d L true f hf (8 * wid L + (2 * t.val + 3)) ∗ Ix d L true (chunk f (8 * wid L + (2 * t.val + 3)))) ∗ (semVal (thr d L, .dma cc0_scratch6.sem) 0 ∗ Fsh d L f qs ∗ Ow d L O W
          ∗ ((tV).view.loc (thr d L) ↦[pc (8 * wid L + (2 * t.val + 1))]{fullShare} tbl (F := F) f hf) ∗ ((Out d L false f hf (8 * wid L + (2 * t.val + 2)) ∗ Ix d L false (chunk f (8 * wid L + (2 * t.val + 2)))) ∗ ((tV).view.loc (thr d L) ↦[pc (8 * wid L + 2 * t.val)]{fullShare} tbl (F := F) f hf) ∗ R))) := by
  unfold k0_t1_body
  with_reducible refine seq_step ?_
  rw [k0_part67_eq_skeleton]; unfold k0_part67_skel
  repeat first
    | with_reducible refine ret_step ?_
    | with_reducible refine seq_step (prog_eq (by simp only [k0_part1_eq_skeleton]; delta k0_part1_skel; exact rfl) ?_)
  with_reducible refine to_clear (b := false) (hN := ?_) ?_
  exact rfl
  repeat first
    | with_reducible refine ret_step ?_
    | with_reducible refine ld_at (b := false) ?_
    | with_reducible refine ld_end (b := false) ?_
    | (with_reducible refine chk_step ?_ ?_); (exact chk_ok (chunk_inR hf _) rfl (by decide))
    | (with_reducible apply clr_at (b := false)); exact rfl; decide; exact rfl; exact rfl
    | (with_reducible apply clr_end (b := false)); exact rfl; decide; exact rfl; exact rfl
    | with_reducible refine seq_step (prog_eq (by simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]; delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel; exact rfl) ?_)
  with_reducible refine to_load (F := F) (b := false) hf (8 * wid L + (2 * t.val + 2)) (hn := ?_) ?_
  decide
  repeat first
    | with_reducible refine ret_step ?_
    | with_reducible refine seq_step (prog_eq (by simp only [k0_part17_eq_skeleton, k0_part18_eq_skeleton, k0_part19_eq_skeleton]; delta k0_part17_skel k0_part18_skel k0_part19_skel; exact rfl) ?_)
  with_reducible refine ld_copy (b := false) (n := 0) (hq := ?_) (hn := ?_) (hu := ?_) (hs := ?_) (hd := ?_) ?_
  (have := wid_lt L; have := t.isLt; have : k0_t1_loop.trips = 3 := rfl; omega); decide; decide; exact funext (off6_eq L t (⟨0, by decide⟩ : Fin 4)); exact rfl
  repeat first
    | with_reducible refine ret_step ?_
    | with_reducible refine seq_step (prog_eq (by simp only [k0_part17_eq_skeleton, k0_part18_eq_skeleton, k0_part19_eq_skeleton]; delta k0_part17_skel k0_part18_skel k0_part19_skel; exact rfl) ?_)
  with_reducible refine ld_copy (b := false) (n := 1) (hq := ?_) (hn := ?_) (hu := ?_) (hs := ?_) (hd := ?_) ?_
  (have := wid_lt L; have := t.isLt; have : k0_t1_loop.trips = 3 := rfl; omega); decide; decide; exact funext (off6_eq L t (⟨1, by decide⟩ : Fin 4)); exact rfl
  repeat first
    | with_reducible refine ret_step ?_
    | with_reducible refine seq_step (prog_eq (by simp only [k0_part17_eq_skeleton, k0_part18_eq_skeleton, k0_part19_eq_skeleton]; delta k0_part17_skel k0_part18_skel k0_part19_skel; exact rfl) ?_)
  with_reducible refine ld_copy (b := false) (n := 2) (hq := ?_) (hn := ?_) (hu := ?_) (hs := ?_) (hd := ?_) ?_
  (have := wid_lt L; have := t.isLt; have : k0_t1_loop.trips = 3 := rfl; omega); decide; decide; exact funext (off6_eq L t (⟨2, by decide⟩ : Fin 4)); exact rfl
  repeat first
    | with_reducible refine ret_step ?_
    | with_reducible refine seq_step (prog_eq (by simp only [k0_part17_eq_skeleton, k0_part18_eq_skeleton, k0_part19_eq_skeleton]; delta k0_part17_skel k0_part18_skel k0_part19_skel; exact rfl) ?_)
  with_reducible refine ld_copy (b := false) (n := 3) (hq := ?_) (hn := ?_) (hu := ?_) (hs := ?_) (hd := ?_) ?_
  (have := wid_lt L; have := t.isLt; have : k0_t1_loop.trips = 3 := rfl; omega); decide; decide; exact funext (off6_eq L t (⟨3, by decide⟩ : Fin 4)); exact rfl
  repeat first
    | with_reducible refine ret_step ?_
    | with_reducible refine seq_step (prog_eq (by simp only [k0_part17_eq_skeleton, k0_part18_eq_skeleton, k0_part19_eq_skeleton]; delta k0_part17_skel k0_part18_skel k0_part19_skel; exact rfl) ?_)
  with_reducible refine ld_wait (b := false) (hN := ?_) (hu := ?_) ?_
  exact rfl; decide
  repeat first
    | with_reducible refine ret_step ?_
    | with_reducible refine seq_step (prog_eq (by simp only [k0_part17_eq_skeleton, k0_part18_eq_skeleton, k0_part19_eq_skeleton]; delta k0_part17_skel k0_part18_skel k0_part19_skel; exact rfl) ?_)
  with_reducible refine ld_wait (b := false) (hN := ?_) (hu := ?_) ?_
  exact rfl; decide
  repeat first
    | with_reducible refine ret_step ?_
    | with_reducible refine seq_step (prog_eq (by simp only [k0_part17_eq_skeleton, k0_part18_eq_skeleton, k0_part19_eq_skeleton]; delta k0_part17_skel k0_part18_skel k0_part19_skel; exact rfl) ?_)
  with_reducible refine ld_wait (b := false) (hN := ?_) (hu := ?_) ?_
  exact rfl; decide
  repeat first
    | with_reducible refine ret_step ?_
    | with_reducible refine seq_step (prog_eq (by simp only [k0_part17_eq_skeleton, k0_part18_eq_skeleton, k0_part19_eq_skeleton]; delta k0_part17_skel k0_part18_skel k0_part19_skel; exact rfl) ?_)
  with_reducible refine to_add (b := false) (hN := ?_) (hu := ?_) ?_
  exact rfl; decide
  repeat first
    | with_reducible refine ret_step ?_
    | with_reducible refine ld_at (b := false) ?_
    | with_reducible refine ld_end (b := false) ?_
    | (with_reducible refine chk_step ?_ ?_); (exact chk_ok (chunk_inR hf _) rfl (by decide))
    | (with_reducible apply add_at (b := false)); exact rfl; decide; exact rfl; exact rfl
    | (with_reducible apply add_end (b := false)); exact rfl; decide; exact rfl; exact rfl
    | with_reducible refine seq_step (prog_eq (by simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]; delta k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel; exact rfl) ?_)
  with_reducible refine to_out (b := false) (hf := hf) (hoff := ?_) (hn := ?_) ?_
  exact funext (off7_eq L t); decide
  refine BIBase.Entails.trans (Q := iprop(Out d L true f hf (8 * wid L + (2 * t.val + 1)) ∗ Ow d L O W ∗ Ix d L true (chunk f (8 * wid L + (2 * t.val + 1))) ∗ (semVal (thr d L, .dma cc0_scratch6.sem) 0 ∗ Fsh d L f qs
        ∗ ((tV).view.loc (thr d L) ↦[pc (8 * wid L + (2 * t.val + 3))]{fullShare} g) ∗ ((Out d L false f hf (8 * wid L + (2 * t.val + 2)) ∗ Ix d L false (chunk f (8 * wid L + (2 * t.val + 2)))) ∗ ((tV).view.loc (thr d L) ↦[pc (8 * wid L + 2 * t.val)]{fullShare} tbl (F := F) f hf) ∗ R)))) ?_ ?_
  · iintro ⟨⟨H1, H2⟩, H3, H4, H5, H6, H7, H8, H9, H10⟩
    iframe H7 H5 H8 H3 H4 H9 H6 H10
    isplitl [H1] <;> iassumption
  repeat first
    | with_reducible refine ret_step ?_
    | with_reducible refine seq_step (prog_eq (by simp only [k0_part34_eq_skeleton, k0_part35_eq_skeleton]; delta k0_part34_skel k0_part35_skel; exact rfl) ?_)
  with_reducible refine to_clear (b := true) (hN := ?_) ?_
  exact rfl
  repeat first
    | with_reducible refine ret_step ?_
    | with_reducible refine ld_at (b := true) ?_
    | with_reducible refine ld_end (b := true) ?_
    | (with_reducible refine chk_step ?_ ?_); (exact chk_ok (chunk_inR hf _) rfl (by decide))
    | (with_reducible apply clr_at (b := true)); exact rfl; decide; exact rfl; exact rfl
    | (with_reducible apply clr_end (b := true)); exact rfl; decide; exact rfl; exact rfl
    | with_reducible refine seq_step (prog_eq (by simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]; delta k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel; exact rfl) ?_)
  with_reducible refine to_load (F := F) (b := true) hf (8 * wid L + (2 * t.val + 3)) (hn := ?_) ?_
  decide
  repeat first
    | with_reducible refine ret_step ?_
    | with_reducible refine seq_step (prog_eq (by simp only [k0_part50_eq_skeleton, k0_part51_eq_skeleton, k0_part52_eq_skeleton, k0_part53_eq_skeleton]; delta k0_part50_skel k0_part51_skel k0_part52_skel k0_part53_skel; exact rfl) ?_)
  with_reducible refine ld_copy (b := true) (n := 0) (hq := ?_) (hn := ?_) (hu := ?_) (hs := ?_) (hd := ?_) ?_
  (have := wid_lt L; have := t.isLt; have : k0_t1_loop.trips = 3 := rfl; omega); decide; decide; exact funext (off8_eq L t (⟨0, by decide⟩ : Fin 4)); exact rfl
  repeat first
    | with_reducible refine ret_step ?_
    | with_reducible refine seq_step (prog_eq (by simp only [k0_part50_eq_skeleton, k0_part51_eq_skeleton, k0_part52_eq_skeleton, k0_part53_eq_skeleton]; delta k0_part50_skel k0_part51_skel k0_part52_skel k0_part53_skel; exact rfl) ?_)
  with_reducible refine ld_copy (b := true) (n := 1) (hq := ?_) (hn := ?_) (hu := ?_) (hs := ?_) (hd := ?_) ?_
  (have := wid_lt L; have := t.isLt; have : k0_t1_loop.trips = 3 := rfl; omega); decide; decide; exact funext (off8_eq L t (⟨1, by decide⟩ : Fin 4)); exact rfl
  repeat first
    | with_reducible refine ret_step ?_
    | with_reducible refine seq_step (prog_eq (by simp only [k0_part50_eq_skeleton, k0_part51_eq_skeleton, k0_part52_eq_skeleton, k0_part53_eq_skeleton]; delta k0_part50_skel k0_part51_skel k0_part52_skel k0_part53_skel; exact rfl) ?_)
  with_reducible refine ld_copy (b := true) (n := 2) (hq := ?_) (hn := ?_) (hu := ?_) (hs := ?_) (hd := ?_) ?_
  (have := wid_lt L; have := t.isLt; have : k0_t1_loop.trips = 3 := rfl; omega); decide; decide; exact funext (off8_eq L t (⟨2, by decide⟩ : Fin 4)); exact rfl
  repeat first
    | with_reducible refine ret_step ?_
    | with_reducible refine seq_step (prog_eq (by simp only [k0_part50_eq_skeleton, k0_part51_eq_skeleton, k0_part52_eq_skeleton, k0_part53_eq_skeleton]; delta k0_part50_skel k0_part51_skel k0_part52_skel k0_part53_skel; exact rfl) ?_)
  with_reducible refine ld_copy (b := true) (n := 3) (hq := ?_) (hn := ?_) (hu := ?_) (hs := ?_) (hd := ?_) ?_
  (have := wid_lt L; have := t.isLt; have : k0_t1_loop.trips = 3 := rfl; omega); decide; decide; exact funext (off8_eq L t (⟨3, by decide⟩ : Fin 4)); exact rfl
  repeat first
    | with_reducible refine ret_step ?_
    | with_reducible refine seq_step (prog_eq (by simp only [k0_part50_eq_skeleton, k0_part51_eq_skeleton, k0_part52_eq_skeleton, k0_part53_eq_skeleton]; delta k0_part50_skel k0_part51_skel k0_part52_skel k0_part53_skel; exact rfl) ?_)
  with_reducible refine ld_wait (b := true) (hN := ?_) (hu := ?_) ?_
  exact rfl; decide
  repeat first
    | with_reducible refine ret_step ?_
    | with_reducible refine seq_step (prog_eq (by simp only [k0_part50_eq_skeleton, k0_part51_eq_skeleton, k0_part52_eq_skeleton, k0_part53_eq_skeleton]; delta k0_part50_skel k0_part51_skel k0_part52_skel k0_part53_skel; exact rfl) ?_)
  with_reducible refine ld_wait (b := true) (hN := ?_) (hu := ?_) ?_
  exact rfl; decide
  repeat first
    | with_reducible refine ret_step ?_
    | with_reducible refine seq_step (prog_eq (by simp only [k0_part50_eq_skeleton, k0_part51_eq_skeleton, k0_part52_eq_skeleton, k0_part53_eq_skeleton]; delta k0_part50_skel k0_part51_skel k0_part52_skel k0_part53_skel; exact rfl) ?_)
  with_reducible refine ld_wait (b := true) (hN := ?_) (hu := ?_) ?_
  exact rfl; decide
  repeat first
    | with_reducible refine ret_step ?_
    | with_reducible refine seq_step (prog_eq (by simp only [k0_part50_eq_skeleton, k0_part51_eq_skeleton, k0_part52_eq_skeleton, k0_part53_eq_skeleton]; delta k0_part50_skel k0_part51_skel k0_part52_skel k0_part53_skel; exact rfl) ?_)
  with_reducible refine to_add (b := true) (hN := ?_) (hu := ?_) ?_
  exact rfl; decide
  repeat first
    | with_reducible refine ret_step ?_
    | with_reducible refine ld_at (b := true) ?_
    | with_reducible refine ld_end (b := true) ?_
    | (with_reducible refine chk_step ?_ ?_); (exact chk_ok (chunk_inR hf _) rfl (by decide))
    | (with_reducible apply add_at (b := true)); exact rfl; decide; exact rfl; exact rfl
    | (with_reducible apply add_end (b := true)); exact rfl; decide; exact rfl; exact rfl
    | with_reducible refine seq_step (prog_eq (by simp only [k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]; delta k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel; exact rfl) ?_)
  with_reducible refine to_out (b := true) (hf := hf) (hoff := ?_) (hn := ?_) ?_
  exact funext (off9_eq L t); decide
  with_reducible exact ret_step (BIBase.Entails.rfl)

end Cert.Proof.KernelIdeal
-- ==== Proof.LoopKernelIdeal.lean ====
module

public import proofs.«01_k».proof.Proof.TripKernelIdeal

@[expose] public section
noncomputable section
namespace Cert.Proof.KernelIdeal
open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The table's rows a trip writes, before and after: trip `j` lets chunks `2j`, `2j+1` land and starts `2j+2`, `2j+3`. -/
def todo (d : Dev nD) (L : grid0.Coords) (g : IVec S2048x2048 32) (j : Nat) : sProp 𝕄 :=
  iprop(((tV).view.loc (thr d L) ↦[pc (8 * wid L + (2 * j + 2))]{fullShare} g) ∗ ((tV).view.loc (thr d L) ↦[pc (8 * wid L + (2 * j + 3))]{fullShare} g))

def done (d : Dev nD) (L : grid0.Coords) (f : IVec S32768x16 32) (hf : InF f) (j : Nat) : sProp 𝕄 :=
  iprop(((tV).view.loc (thr d L) ↦[pc (8 * wid L + (2 * j + 1))]{fullShare} tbl (F := F) f hf) ∗ ((tV).view.loc (thr d L) ↦[pc (8 * wid L + (2 * j))]{fullShare} tbl (F := F) f hf))

def Sj (d : Dev nD) (L : grid0.Coords) (f : IVec S32768x16 32) (hf : InF f) (g : IVec S2048x2048 32) (n j : Nat) : sProp 𝕄 :=
  bif Nat.blt j n then done d L f hf j else todo d L g j

/-- The table's rows outside the two write-outs on their way, after `n` trips. -/
def Pcs (d : Dev nD) (L : grid0.Coords) (f : IVec S32768x16 32) (hf : InF f) (g : IVec S2048x2048 32) (n : Nat) : sProp 𝕄 :=
  iprop(Sj d L f hf g n 0 ∗ Sj d L f hf g n 1 ∗ Sj d L f hf g n 2)

theorem pcs_step (d : Dev nD) (L : grid0.Coords) (f : IVec S32768x16 32) (hf : InF f) (g : IVec S2048x2048 32) {k : Nat} (hk : k < 3) :
    ∃ X : sProp 𝕄, (Pcs d L f hf g k ⊢ iprop(todo d L g k ∗ X)) ∧ (iprop(done (F := F) d L f hf k ∗ X) ⊢ Pcs d L f hf g (k + 1)) := by
  match k, hk with
  | 0, _ =>
    refine ⟨iprop(todo d L g 1 ∗ todo d L g 2), ?_, ?_⟩
    · show iprop(todo (F := F) d L g 0 ∗ todo d L g 1 ∗ todo d L g 2) ⊢ _
      exact BIBase.Entails.rfl
    · show _ ⊢ iprop(done (F := F) d L f hf 0 ∗ todo d L g 1 ∗ todo d L g 2)
      exact BIBase.Entails.rfl
  | 1, _ =>
    refine ⟨iprop(done d L f hf 0 ∗ todo d L g 2), ?_, ?_⟩
    · show iprop(done (F := F) d L f hf 0 ∗ todo d L g 1 ∗ todo d L g 2) ⊢ _
      iintro ⟨H0, H1, H2⟩
      iframe H1 H0 H2
    · show _ ⊢ iprop(done (F := F) d L f hf 0 ∗ done d L f hf 1 ∗ todo d L g 2)
      iintro ⟨H0, H1, H2⟩
      iframe H1 H0 H2
  | 2, _ =>
    refine ⟨iprop(done d L f hf 0 ∗ done d L f hf 1), ?_, ?_⟩
    · show iprop(done (F := F) d L f hf 0 ∗ done d L f hf 1 ∗ todo d L g 2) ⊢ _
      iintro ⟨H0, H1, H2⟩
      iframe H2 H0 H1
    · show _ ⊢ iprop(done (F := F) d L f hf 0 ∗ done d L f hf 1 ∗ done d L f hf 2)
      iintro ⟨H0, H1, H2⟩
      iframe H1 H2 H0

/-- The tile after `n` trips of its loop. -/
def Inv (d : Dev nD) (L : grid0.Coords) (f : IVec S32768x16 32) (hf : InF f) (qs : Nat → PosShare TreeShare) (g : IVec S2048x2048 32) (O : CellTallies nD τ sig (HIx 1)) (W : Waits sig (HIx 1)) (R : sProp 𝕄) (n : Nat) : sProp 𝕄 :=
  iprop(Out d L false f hf (8 * wid L + (2 * n)) ∗ Ow d L O W ∗ Ix d L false (chunk f (8 * wid L + (2 * n))) ∗ (semVal (thr d L, .dma cc0_scratch6.sem) 0 ∗ Fsh d L f qs
    ∗ (Out d L true f hf (8 * wid L + (2 * n + 1)) ∗ Ix d L true (chunk f (8 * wid L + (2 * n + 1))) ∗ (Pcs d L f hf g n ∗ R))))

set_option maxRecDepth 65536 in
theorem loop_all (d : Dev nD) (L : grid0.Coords) (f : IVec S32768x16 32) (hf : InF f) (qs : Nat → PosShare TreeShare) (g : IVec S2048x2048 32) (O : CellTallies nD τ sig (HIx 1)) (W : Waits sig (HIx 1)) (R : sProp 𝕄) (v2 : BitVec 32) (v641 : IVec S16 32)
    {α : Type} {Q : α → sProp 𝕄} {k : Unit → Prog (TpuEff nD τ sig (Elt F) Λ₀ (Proc.scVector (cV L) (jV L))) α}
    (hk : Inv d L f hf qs g O W R 3 ⊢ wp frame (wpE (defs₀ (F := F)) 𝒱₀ (thr d L) none) Set.univ (k ⟨⟩) Q) :
    Inv d L f hf qs g O W R 0 ⊢ wp frame (wpE (defs₀ (F := F)) 𝒱₀ (thr d L) none) Set.univ (Scf.Loop.for k0_t1_loop k0_t1_ok ⟨⟩ (k0_t1_body L fV (Memref.isWhole_whole _) zV (Memref.isWhole_whole _) tV (Memref.isWhole_whole _) (ib false) (Memref.isWhole_whole _) (ib true) (Memref.isWhole_whole _) (cb false) (Memref.isWhole_whole _) (cb true) (Memref.isWhole_whole _) cc0_scratch4 cc0_scratch5 cc0_scratch6 cc0_scoped0 cc0_scoped1 v2 k0_pay14 k0_pay15 k0_pay16 k0_pay17 k0_pay18 v641) >>= k) Q := by
  have H := Scf.wp_for_bind frame (wpE (defs₀ (F := F)) 𝒱₀ (thr d L) none) Set.univ (Q := Q) (kk := k) _ _ _ k0_t1_ok ⟨⟩ (k0_t1_body L fV (Memref.isWhole_whole _) zV (Memref.isWhole_whole _) tV (Memref.isWhole_whole _) (ib false) (Memref.isWhole_whole _) (ib true) (Memref.isWhole_whole _) (cb false) (Memref.isWhole_whole _) (cb true) (Memref.isWhole_whole _) cc0_scratch4 cc0_scratch5 cc0_scratch6 cc0_scoped0 cc0_scoped1 v2 k0_pay14 k0_pay15 k0_pay16 k0_pay17 k0_pay18 v641)
    (fun n _ => Inv d L f hf qs g O W R n) (by
      intro t u
      have ht : t.val < 3 := t.isLt
      obtain ⟨X, hX, hY⟩ := pcs_step (F := F) d L f hf g ht
      have ht' := trip (F := F) d L f hf qs g O W v2 v641 t iprop(X ∗ R)
      refine BIBase.Entails.trans ?_ (BIBase.Entails.trans ht' (wp_mono frame _ _ fun _ => ?_))
      · unfold Inv
        refine BIBase.Entails.trans (Q := iprop(Out d L false f hf (8 * wid L + (2 * t.val)) ∗ Ow d L O W ∗ Ix d L false (chunk f (8 * wid L + (2 * t.val))) ∗ (semVal (thr d L, .dma cc0_scratch6.sem) 0 ∗ Fsh d L f qs
    ∗ (Out d L true f hf (8 * wid L + (2 * t.val + 1)) ∗ Ix d L true (chunk f (8 * wid L + (2 * t.val + 1))) ∗ ((todo d L g t.val ∗ X) ∗ R))))) ?_ ?_
        · iintro ⟨H1, H2, H3, H4, H5, H6, H7, H8, H9⟩
          ihave H8 := hX $$ H8
          iframe H1 H2 H3 H4 H5 H6 H7 H9
          iexact H8
        · unfold todo
          iintro ⟨H1, H2, H3, H4, H5, H6, H7, ⟨⟨H8, H9⟩, H10⟩, H11⟩
          iframe H1 H2 H3 H4 H5 H6 H7 H8 H9 H10 H11
      · unfold Inv
        refine BIBase.Entails.trans (Q := iprop(Out d L false f hf (8 * wid L + (2 * t.val + 2)) ∗ Ow d L O W ∗ Ix d L false (chunk f (8 * wid L + (2 * t.val + 2))) ∗ (semVal (thr d L, .dma cc0_scratch6.sem) 0 ∗ Fsh d L f qs
    ∗ (Out d L true f hf (8 * wid L + (2 * t.val + 3)) ∗ Ix d L true (chunk f (8 * wid L + (2 * t.val + 3))) ∗ ((done d L f hf t.val ∗ X) ∗ R))))) ?_ ?_
        · unfold done
          iintro ⟨⟨H1, H2⟩, H3, H4, H5, H6, ⟨H7, H8⟩, H9, H10, H11⟩
          iframe H7 H5 H8 H3 H4 H1 H2 H6 H9 H10 H11
        · show _ ⊢ iprop(Out d L false f hf (8 * wid L + (2 * t.val + 2)) ∗ Ow d L O W ∗ Ix d L false (chunk f (8 * wid L + (2 * t.val + 2))) ∗ (semVal (thr d L, .dma cc0_scratch6.sem) 0 ∗ Fsh d L f qs
    ∗ (Out d L true f hf (8 * wid L + (2 * t.val + 3)) ∗ Ix d L true (chunk f (8 * wid L + (2 * t.val + 3))) ∗ (Pcs d L f hf g (t.val + 1) ∗ R))))
          iintro ⟨H1, H2, H3, H4, H5, H6, H7, H8, H9⟩
          ihave H8 := hY $$ H8
          iframe H1 H2 H3 H4 H5 H6 H7 H9
          iexact H8)
  iintro HI
  ihave HK := H $$ HI
  iapply HK
  iintro %u HI
  iapply hk
  iexact HI

end Cert.Proof.KernelIdeal
-- ==== Proof.BodyKernelIdeal.lean ====
module

public import proofs.«01_k».proof.Proof.LoopKernelIdeal

@[expose] public section
noncomputable section
namespace Cert.Proof.KernelIdeal
open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

set_option maxRecDepth 65536 in
set_option maxHeartbeats 0 in
/-- A tile's whole run: its eight chunks of the table, counted and written. -/
theorem tile_run (d : Dev nD) (L : grid0.Coords) (f : IVec S32768x16 32) (hf : InF f) (qs : Nat → PosShare TreeShare) (qz : PosShare TreeShare) (g : IVec S2048x2048 32) (O : CellTallies nD τ sig (HIx 1)) (W : Waits sig (HIx 1)) :
    iprop(Ow d L O W ∗ ((zV).view.loc (thr d L) ↦{qz} (fun _ => 0#32 : IVec M8 32)) ∗ semVal (thr d L, .dma cc0_scratch6.sem) 0 ∗ Fsh d L f qs ∗ semVal (thr d L, .dma (ob false).sem) 0 ∗ semVal (thr d L, .dma (ob true).sem) 0 ∗ ((tV).view.loc (thr d L) ↦[pc (8 * wid L + (0))]{fullShare} g) ∗ ((tV).view.loc (thr d L) ↦[pc (8 * wid L + (1))]{fullShare} g) ∗ Pcs d L f hf g 0 ∗ (∃ g : IVec M8 32, Cx (F := F) d L false g) ∗ (∃ g : IVec M8 32, Cx (F := F) d L true g) ∗ (∃ I : IVec I128 32, Ix (F := F) d L false I) ∗ (∃ I : IVec I128 32, Ix (F := F) d L true I) ∗ semVal (thr d L, .dma (zs false).sem) 0 ∗ semVal (thr d L, .dma (zs true).sem) 0) ⊢ wp frame (wpE (defs₀ (F := F)) 𝒱₀ (thr d L) none) Set.univ (cc0_mbuild L fV (Memref.isWhole_whole _) zV (Memref.isWhole_whole _) tV (Memref.isWhole_whole _) (ib false) (Memref.isWhole_whole _) (ib true) (Memref.isWhole_whole _) (cb false) (Memref.isWhole_whole _) (cb true) (Memref.isWhole_whole _) cc0_scratch4 cc0_scratch5 cc0_scratch6 cc0_scoped0 cc0_scoped1) fun _ => iprop(Ow d L O W ∗ ((zV).view.loc (thr d L) ↦{qz} (fun _ => 0#32 : IVec M8 32)) ∗ semVal (thr d L, .dma cc0_scratch6.sem) 0 ∗ Fsh d L f qs ∗ semVal (thr d L, .dma (ob false).sem) 0 ∗ semVal (thr d L, .dma (ob true).sem) 0 ∗ ((tV).view.loc (thr d L) ↦[pc (8 * wid L + (6))]{fullShare} tbl (F := F) f hf) ∗ ((tV).view.loc (thr d L) ↦[pc (8 * wid L + (7))]{fullShare} tbl (F := F) f hf) ∗ Pcs d L f hf g 3 ∗ (∃ g : IVec M8 32, Cx (F := F) d L false g) ∗ (∃ g : IVec M8 32, Cx (F := F) d L true g) ∗ (∃ I : IVec I128 32, Ix (F := F) d L false I) ∗ (∃ I : IVec I128 32, Ix (F := F) d L true I) ∗ semVal (thr d L, .dma (zs false).sem) 0 ∗ semVal (thr d L, .dma (zs true).sem) 0) := by
  rw [cc0_mbuild_eq_skeleton]; unfold cc0_mbuild_skel
  refine BIBase.Entails.trans (Q := iprop((((zV).view.loc (thr d L) ↦{qz} (fun _ => 0#32 : IVec M8 32)) ∗ (∃ g : IVec M8 32, Cx (F := F) d L false g) ∗ semVal (thr d L, .dma (zs false).sem) 0) ∗ Ow d L O W ∗ (semVal (thr d L, .dma cc0_scratch6.sem) 0 ∗ Fsh d L f qs ∗ semVal (thr d L, .dma (ob false).sem) 0 ∗ semVal (thr d L, .dma (ob true).sem) 0 ∗ ((tV).view.loc (thr d L) ↦[pc (8 * wid L + (0))]{fullShare} g) ∗ ((tV).view.loc (thr d L) ↦[pc (8 * wid L + (1))]{fullShare} g) ∗ Pcs d L f hf g 0 ∗ (∃ g : IVec M8 32, Cx (F := F) d L true g) ∗ (∃ I : IVec I128 32, Ix (F := F) d L false I) ∗ (∃ I : IVec I128 32, Ix (F := F) d L true I) ∗ semVal (thr d L, .dma (zs true).sem) 0))) ?_ ?_
  · iintro ⟨H1, H2, H3, H4, H5, H6, H7, H8, H9, H10, H11, H12, H13, H14, H15⟩
    isplitl [H2 H10 H14]
    · isplitl [H2]; · iexact H2
      isplitl [H10] <;> iassumption
    · iframe H1 H3 H4 H5 H6 H7 H8 H9 H11 H12 H13 H15
  repeat first
    | with_reducible refine ret_step ?_
    | with_reducible refine seq_step (prog_eq (by simp only [k0_part68_eq_skeleton, k0_part69_eq_skeleton]; delta k0_part68_skel k0_part69_skel; exact rfl) ?_)
  with_reducible refine zer_start (b := false) ?_
  repeat first
    | with_reducible refine ret_step ?_
    | with_reducible refine seq_step (prog_eq (by simp only [k0_part68_eq_skeleton, k0_part69_eq_skeleton]; delta k0_part68_skel k0_part69_skel; exact rfl) ?_)
  with_reducible refine zer_wait (b := false) (hN := ?_) ?_
  exact rfl
  refine BIBase.Entails.trans (Q := iprop((((zV).view.loc (thr d L) ↦{qz} (fun _ => 0#32 : IVec M8 32)) ∗ (∃ g : IVec M8 32, Cx (F := F) d L true g) ∗ semVal (thr d L, .dma (zs true).sem) 0) ∗ Ow d L O W ∗ (semVal (thr d L, .dma cc0_scratch6.sem) 0 ∗ Fsh d L f qs ∗ semVal (thr d L, .dma (ob false).sem) 0 ∗ semVal (thr d L, .dma (ob true).sem) 0 ∗ ((tV).view.loc (thr d L) ↦[pc (8 * wid L + (0))]{fullShare} g) ∗ ((tV).view.loc (thr d L) ↦[pc (8 * wid L + (1))]{fullShare} g) ∗ Pcs d L f hf g 0 ∗ Cx d L false (fun _ => 0#32) ∗ (∃ I : IVec I128 32, Ix (F := F) d L false I) ∗ (∃ I : IVec I128 32, Ix (F := F) d L true I) ∗ semVal (thr d L, .dma (zs false).sem) 0))) ?_ ?_
  · iintro ⟨⟨⟨HC, HZ⟩, HS⟩, HO, H1, H2, H3, H4, H5, H6, H7, H8, H9, H10, H11⟩
    isplitl [HZ H8 H11]
    · isplitl [HZ]; · iexact HZ
      isplitl [H8] <;> iassumption
    · iframe HO H1 H2 H3 H4 H5 H6 H7 HC H9 H10 HS
  repeat first
    | with_reducible refine ret_step ?_
    | with_reducible refine seq_step (prog_eq (by simp only [k0_part68_eq_skeleton, k0_part69_eq_skeleton]; delta k0_part68_skel k0_part69_skel; exact rfl) ?_)
  with_reducible refine zer_start (b := true) ?_
  repeat first
    | with_reducible refine ret_step ?_
    | with_reducible refine seq_step (prog_eq (by simp only [k0_part68_eq_skeleton, k0_part69_eq_skeleton]; delta k0_part68_skel k0_part69_skel; exact rfl) ?_)
  with_reducible refine zer_wait (b := true) (hN := ?_) ?_
  exact rfl
  refine BIBase.Entails.trans (Q := iprop((semVal (thr d L, .dma cc0_scratch6.sem) 0 ∗ (∃ I, Ix d L false I) ∗ Fsh d L f qs) ∗ (Ow d L O W ∗ (Cx d L false (acc F (chunk f (8 * wid L + (0))) (chunk_inR hf (8 * wid L + (0))) 0) ∗ ((zV).view.loc (thr d L) ↦{qz} (fun _ => 0#32 : IVec M8 32)) ∗ semVal (thr d L, .dma (ob false).sem) 0 ∗ ((tV).view.loc (thr d L) ↦[pc (8 * wid L + (0))]{fullShare} g) ∗ (((tV).view.loc (thr d L) ↦[pc (8 * wid L + (1))]{fullShare} g) ∗ Pcs d L f hf g 0 ∗ Cx d L true (fun _ => 0#32) ∗ (∃ I : IVec I128 32, Ix (F := F) d L true I) ∗ semVal (thr d L, .dma (zs false).sem) 0 ∗ semVal (thr d L, .dma (zs true).sem) 0 ∗ semVal (thr d L, .dma (ob true).sem) 0))))) ?_ ?_
  · iintro ⟨⟨⟨HC, HZ⟩, HS⟩, HO, H1, H2, H3, H4, H5, H6, H7, H8, H9, H10, H11⟩
    rw [acc_zero]
    isplitl [H1 H2 H9]
    · isplitl [H1]; · iexact H1
      isplitl [H9]
      · iexact H9
      · iexact H2
    · iframe HO H8 HZ H3 H5 H6 H7 HC H10 H11 HS H4
  with_reducible refine ld_begin (b := false) (8 * wid L + (0)) ?_
  repeat first
    | with_reducible refine ret_step ?_
    | with_reducible refine seq_step (prog_eq (by simp only [k0_part68_eq_skeleton, k0_part69_eq_skeleton, k0_part70_eq_skeleton, k0_part71_eq_skeleton]; delta k0_part68_skel k0_part69_skel k0_part70_skel k0_part71_skel; exact rfl) ?_)
  with_reducible refine ld_copy (b := false) (n := 0) (hq := ?_) (hn := ?_) (hu := ?_) (hs := ?_) (hd := ?_) ?_
  (have := wid_lt L; omega); decide; decide; exact funext (off1_eq L (⟨0, by decide⟩ : Fin 4)); exact rfl
  repeat first
    | with_reducible refine ret_step ?_
    | with_reducible refine seq_step (prog_eq (by simp only [k0_part68_eq_skeleton, k0_part69_eq_skeleton, k0_part70_eq_skeleton, k0_part71_eq_skeleton]; delta k0_part68_skel k0_part69_skel k0_part70_skel k0_part71_skel; exact rfl) ?_)
  with_reducible refine ld_copy (b := false) (n := 1) (hq := ?_) (hn := ?_) (hu := ?_) (hs := ?_) (hd := ?_) ?_
  (have := wid_lt L; omega); decide; decide; exact funext (off1_eq L (⟨1, by decide⟩ : Fin 4)); exact rfl
  repeat first
    | with_reducible refine ret_step ?_
    | with_reducible refine seq_step (prog_eq (by simp only [k0_part68_eq_skeleton, k0_part69_eq_skeleton, k0_part70_eq_skeleton, k0_part71_eq_skeleton]; delta k0_part68_skel k0_part69_skel k0_part70_skel k0_part71_skel; exact rfl) ?_)
  with_reducible refine ld_copy (b := false) (n := 2) (hq := ?_) (hn := ?_) (hu := ?_) (hs := ?_) (hd := ?_) ?_
  (have := wid_lt L; omega); decide; decide; exact funext (off1_eq L (⟨2, by decide⟩ : Fin 4)); exact rfl
  repeat first
    | with_reducible refine ret_step ?_
    | with_reducible refine seq_step (prog_eq (by simp only [k0_part68_eq_skeleton, k0_part69_eq_skeleton, k0_part70_eq_skeleton, k0_part71_eq_skeleton]; delta k0_part68_skel k0_part69_skel k0_part70_skel k0_part71_skel; exact rfl) ?_)
  with_reducible refine ld_copy (b := false) (n := 3) (hq := ?_) (hn := ?_) (hu := ?_) (hs := ?_) (hd := ?_) ?_
  (have := wid_lt L; omega); decide; decide; exact funext (off1_eq L (⟨3, by decide⟩ : Fin 4)); exact rfl
  repeat first
    | with_reducible refine ret_step ?_
    | with_reducible refine seq_step (prog_eq (by simp only [k0_part68_eq_skeleton, k0_part69_eq_skeleton, k0_part70_eq_skeleton, k0_part71_eq_skeleton]; delta k0_part68_skel k0_part69_skel k0_part70_skel k0_part71_skel; exact rfl) ?_)
  with_reducible refine ld_wait (b := false) (hN := ?_) (hu := ?_) ?_
  exact rfl; decide
  repeat first
    | with_reducible refine ret_step ?_
    | with_reducible refine seq_step (prog_eq (by simp only [k0_part68_eq_skeleton, k0_part69_eq_skeleton, k0_part70_eq_skeleton, k0_part71_eq_skeleton]; delta k0_part68_skel k0_part69_skel k0_part70_skel k0_part71_skel; exact rfl) ?_)
  with_reducible refine ld_wait (b := false) (hN := ?_) (hu := ?_) ?_
  exact rfl; decide
  repeat first
    | with_reducible refine ret_step ?_
    | with_reducible refine seq_step (prog_eq (by simp only [k0_part68_eq_skeleton, k0_part69_eq_skeleton, k0_part70_eq_skeleton, k0_part71_eq_skeleton]; delta k0_part68_skel k0_part69_skel k0_part70_skel k0_part71_skel; exact rfl) ?_)
  with_reducible refine ld_wait (b := false) (hN := ?_) (hu := ?_) ?_
  exact rfl; decide
  repeat first
    | with_reducible refine ret_step ?_
    | with_reducible refine seq_step (prog_eq (by simp only [k0_part68_eq_skeleton, k0_part69_eq_skeleton, k0_part70_eq_skeleton, k0_part71_eq_skeleton]; delta k0_part68_skel k0_part69_skel k0_part70_skel k0_part71_skel; exact rfl) ?_)
  with_reducible refine to_add (b := false) (hN := ?_) (hu := ?_) ?_
  exact rfl; decide
  repeat first
    | with_reducible refine ret_step ?_
    | with_reducible refine ld_at (b := false) ?_
    | with_reducible refine ld_end (b := false) ?_
    | (with_reducible refine chk_step ?_ ?_); (exact chk_ok (chunk_inR hf _) rfl (by decide))
    | (with_reducible apply add_at (b := false)); exact rfl; decide; exact rfl; exact rfl
    | (with_reducible apply add_end (b := false)); exact rfl; decide; exact rfl; exact rfl
    | with_reducible refine seq_step (prog_eq (by simp only [k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton]; delta k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel; exact rfl) ?_)
  with_reducible refine to_out (b := false) (hf := hf) (hoff := ?_) (hn := ?_) ?_
  exact funext (off2_eq L); decide
  refine BIBase.Entails.trans (Q := iprop((semVal (thr d L, .dma cc0_scratch6.sem) 0 ∗ (∃ I, Ix d L true I) ∗ Fsh d L f qs) ∗ (Ow d L O W ∗ (Cx d L true (acc F (chunk f (8 * wid L + (1))) (chunk_inR hf (8 * wid L + (1))) 0) ∗ ((zV).view.loc (thr d L) ↦{qz} (fun _ => 0#32 : IVec M8 32)) ∗ semVal (thr d L, .dma (ob true).sem) 0 ∗ ((tV).view.loc (thr d L) ↦[pc (8 * wid L + (1))]{fullShare} g) ∗ (Out d L false f hf (8 * wid L + (0)) ∗ Ix d L false (chunk f (8 * wid L + (0))) ∗ Pcs d L f hf g 0 ∗ semVal (thr d L, .dma (zs false).sem) 0 ∗ semVal (thr d L, .dma (zs true).sem) 0))))) ?_ ?_
  · iintro ⟨⟨H1, H2⟩, H3, H4, HO, HZ, H5, H6, H7, H8, H9, H10, H11⟩
    rw [acc_zero]
    isplitl [H3 H4 H8]
    · isplitl [H3]; · iexact H3
      isplitl [H8]
      · iexact H8
      · iexact H4
    · iframe HO H7 HZ H11 H5 H1 H2 H6 H9 H10
  with_reducible refine ld_begin (b := true) (8 * wid L + (1)) ?_
  repeat first
    | with_reducible refine ret_step ?_
    | with_reducible refine seq_step (prog_eq (by simp only [k0_part86_eq_skeleton, k0_part87_eq_skeleton, k0_part88_eq_skeleton]; delta k0_part86_skel k0_part87_skel k0_part88_skel; exact rfl) ?_)
  with_reducible refine ld_copy (b := true) (n := 0) (hq := ?_) (hn := ?_) (hu := ?_) (hs := ?_) (hd := ?_) ?_
  (have := wid_lt L; omega); decide; decide; exact funext (off3_eq L (⟨0, by decide⟩ : Fin 4)); exact rfl
  repeat first
    | with_reducible refine ret_step ?_
    | with_reducible refine seq_step (prog_eq (by simp only [k0_part86_eq_skeleton, k0_part87_eq_skeleton, k0_part88_eq_skeleton]; delta k0_part86_skel k0_part87_skel k0_part88_skel; exact rfl) ?_)
  with_reducible refine ld_copy (b := true) (n := 1) (hq := ?_) (hn := ?_) (hu := ?_) (hs := ?_) (hd := ?_) ?_
  (have := wid_lt L; omega); decide; decide; exact funext (off3_eq L (⟨1, by decide⟩ : Fin 4)); exact rfl
  repeat first
    | with_reducible refine ret_step ?_
    | with_reducible refine seq_step (prog_eq (by simp only [k0_part86_eq_skeleton, k0_part87_eq_skeleton, k0_part88_eq_skeleton]; delta k0_part86_skel k0_part87_skel k0_part88_skel; exact rfl) ?_)
  with_reducible refine ld_copy (b := true) (n := 2) (hq := ?_) (hn := ?_) (hu := ?_) (hs := ?_) (hd := ?_) ?_
  (have := wid_lt L; omega); decide; decide; exact funext (off3_eq L (⟨2, by decide⟩ : Fin 4)); exact rfl
  repeat first
    | with_reducible refine ret_step ?_
    | with_reducible refine seq_step (prog_eq (by simp only [k0_part86_eq_skeleton, k0_part87_eq_skeleton, k0_part88_eq_skeleton]; delta k0_part86_skel k0_part87_skel k0_part88_skel; exact rfl) ?_)
  with_reducible refine ld_copy (b := true) (n := 3) (hq := ?_) (hn := ?_) (hu := ?_) (hs := ?_) (hd := ?_) ?_
  (have := wid_lt L; omega); decide; decide; exact funext (off3_eq L (⟨3, by decide⟩ : Fin 4)); exact rfl
  repeat first
    | with_reducible refine ret_step ?_
    | with_reducible refine seq_step (prog_eq (by simp only [k0_part86_eq_skeleton, k0_part87_eq_skeleton, k0_part88_eq_skeleton]; delta k0_part86_skel k0_part87_skel k0_part88_skel; exact rfl) ?_)
  with_reducible refine ld_wait (b := true) (hN := ?_) (hu := ?_) ?_
  exact rfl; decide
  repeat first
    | with_reducible refine ret_step ?_
    | with_reducible refine seq_step (prog_eq (by simp only [k0_part86_eq_skeleton, k0_part87_eq_skeleton, k0_part88_eq_skeleton]; delta k0_part86_skel k0_part87_skel k0_part88_skel; exact rfl) ?_)
  with_reducible refine ld_wait (b := true) (hN := ?_) (hu := ?_) ?_
  exact rfl; decide
  repeat first
    | with_reducible refine ret_step ?_
    | with_reducible refine seq_step (prog_eq (by simp only [k0_part86_eq_skeleton, k0_part87_eq_skeleton, k0_part88_eq_skeleton]; delta k0_part86_skel k0_part87_skel k0_part88_skel; exact rfl) ?_)
  with_reducible refine ld_wait (b := true) (hN := ?_) (hu := ?_) ?_
  exact rfl; decide
  repeat first
    | with_reducible refine ret_step ?_
    | with_reducible refine seq_step (prog_eq (by simp only [k0_part86_eq_skeleton, k0_part87_eq_skeleton, k0_part88_eq_skeleton]; delta k0_part86_skel k0_part87_skel k0_part88_skel; exact rfl) ?_)
  with_reducible refine to_add (b := true) (hN := ?_) (hu := ?_) ?_
  exact rfl; decide
  repeat first
    | with_reducible refine ret_step ?_
    | with_reducible refine ld_at (b := true) ?_
    | with_reducible refine ld_end (b := true) ?_
    | (with_reducible refine chk_step ?_ ?_); (exact chk_ok (chunk_inR hf _) rfl (by decide))
    | (with_reducible apply add_at (b := true)); exact rfl; decide; exact rfl; exact rfl
    | (with_reducible apply add_end (b := true)); exact rfl; decide; exact rfl; exact rfl
    | with_reducible refine seq_step (prog_eq (by simp only [k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton]; delta k0_part88_skel k0_part89_skel k0_part90_skel k0_part91_skel k0_part92_skel k0_part93_skel k0_part94_skel k0_part95_skel k0_part96_skel k0_part97_skel k0_part98_skel k0_part99_skel k0_part100_skel k0_part101_skel k0_part102_skel k0_part103_skel; exact rfl) ?_)
  have h4 : ∀ a, k0_off4 L 8#32 a + S8x2048.size a ≤ S2048x2048.size a := k0_off4_inb L 0
  with_reducible refine to_out (F := F) (off := k0_off4 L 8#32) (ho := h4) (b := true) (hf := hf) (hoff := ?_) (hn := ?_) ?_
  exact funext (off4_eq L); decide
  refine BIBase.Entails.trans (Q := iprop(Inv d L f hf qs g O W iprop(((zV).view.loc (thr d L) ↦{qz} (fun _ => 0#32 : IVec M8 32)) ∗ semVal (thr d L, .dma (zs false).sem) 0 ∗ semVal (thr d L, .dma (zs true).sem) 0) 0)) ?_ ?_
  · show _ ⊢ iprop(Out d L false f hf (8 * wid L + (0)) ∗ Ow d L O W ∗ Ix d L false (chunk f (8 * wid L + (0))) ∗ (semVal (thr d L, .dma cc0_scratch6.sem) 0 ∗ Fsh d L f qs
    ∗ (Out d L true f hf (8 * wid L + (1)) ∗ Ix d L true (chunk f (8 * wid L + (1))) ∗ (Pcs d L f hf g 0 ∗ (((zV).view.loc (thr d L) ↦{qz} (fun _ => 0#32 : IVec M8 32)) ∗ semVal (thr d L, .dma (zs false).sem) 0 ∗ semVal (thr d L, .dma (zs true).sem) 0)))))
    iintro ⟨⟨H1, H2⟩, H3, H4, HO, HZ, H5, H6, H7, H8, H9⟩
    iframe H5 HO H6 H3 H4 H1 H2 H7 HZ H8 H9
  with_reducible refine loop_all (F := F) d L f hf qs g O W _ _ _ ?_
  refine BIBase.Entails.trans (Q := iprop(Out d L false f hf (8 * wid L + (6)) ∗ Ow d L O W ∗ (Out d L true f hf (8 * wid L + (7)) ∗ Ix d L false (chunk f (8 * wid L + (6))) ∗ semVal (thr d L, .dma cc0_scratch6.sem) 0 ∗ Fsh d L f qs ∗ Ix d L true (chunk f (8 * wid L + (7))) ∗ Pcs d L f hf g 3 ∗ (((zV).view.loc (thr d L) ↦{qz} (fun _ => 0#32 : IVec M8 32)) ∗ semVal (thr d L, .dma (zs false).sem) 0 ∗ semVal (thr d L, .dma (zs true).sem) 0)))) ?_ ?_
  · show iprop(Out d L false f hf (8 * wid L + (6)) ∗ Ow d L O W ∗ Ix d L false (chunk f (8 * wid L + (6))) ∗ (semVal (thr d L, .dma cc0_scratch6.sem) 0 ∗ Fsh d L f qs
    ∗ (Out d L true f hf (8 * wid L + (7)) ∗ Ix d L true (chunk f (8 * wid L + (7))) ∗ (Pcs d L f hf g 3 ∗ (((zV).view.loc (thr d L) ↦{qz} (fun _ => 0#32 : IVec M8 32)) ∗ semVal (thr d L, .dma (zs false).sem) 0 ∗ semVal (thr d L, .dma (zs true).sem) 0))))) ⊢ _
    iintro ⟨H1, H2, H3, H4, H5, H6, H7, H8, H9⟩
    iframe H1 H2 H6 H3 H4 H5 H7 H8 H9
  repeat first
    | with_reducible refine ret_step ?_
    | with_reducible refine seq_step (prog_eq (by simp only [k0_part103_eq_skeleton]; delta k0_part103_skel; exact rfl) ?_)
  with_reducible refine out_wait (b := false) (hN := ?_) ?_
  exact rfl
  refine BIBase.Entails.trans (Q := iprop(Out d L true f hf (8 * wid L + (7)) ∗ Ow d L O W ∗ (((tV).view.loc (thr d L) ↦[pc (8 * wid L + (6))]{fullShare} tbl (F := F) f hf) ∗ (∃ g : IVec M8 32, Cx (F := F) d L false g) ∗ semVal (thr d L, .dma (ob false).sem) 0 ∗ Ix d L false (chunk f (8 * wid L + (6))) ∗ semVal (thr d L, .dma cc0_scratch6.sem) 0 ∗ Fsh d L f qs ∗ Ix d L true (chunk f (8 * wid L + (7))) ∗ Pcs d L f hf g 3 ∗ (((zV).view.loc (thr d L) ↦{qz} (fun _ => 0#32 : IVec M8 32)) ∗ semVal (thr d L, .dma (zs false).sem) 0 ∗ semVal (thr d L, .dma (zs true).sem) 0)))) ?_ ?_
  · iintro ⟨⟨⟨H1, H2⟩, H3⟩, HO, H4, H5, H6, H7, H8, H9, H10⟩
    iframe H4 HO H1 H3 H5 H6 H7 H8 H9 H10
    iexists _; iexact H2
  repeat first
    | with_reducible refine ret_step ?_
    | with_reducible refine seq_step (prog_eq (by simp only [k0_part103_eq_skeleton]; delta k0_part103_skel; exact rfl) ?_)
  with_reducible refine out_wait (b := true) (hN := ?_) ?_
  exact rfl
  with_reducible refine ret_step ?_
  iintro ⟨⟨⟨H1, H2⟩, H3⟩, HO, H4, H5, H6, H7, H8, H9, H10, H11, H12, H13, H14⟩
  iframe HO H12 H8 H9 H6 H3 H4 H1 H11 H5 H13 H14
  isplitl [H2]
  · iexists _; iexact H2
  isplitl [H7]
  · iexists _; iexact H7
  · iexists _; iexact H10

end Cert.Proof.KernelIdeal
-- ==== Proof.CallKernelIdeal.lean ====
module

public import proofs.«01_k».proof.Proof.BodyKernelIdeal
public import Idealize.ShloMosaic.Lib.ShareLeaves

/-!
# One tile's task, as the launch deals it, and the split of the call's operands among the tiles
-/

@[expose] public section

noncomputable section

namespace Cert.Proof.KernelIdeal

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What a tile is dealt -/

def coordsV (c : Fin (grid0.bound 0)) (s : Fin (grid0.bound 1)) : grid0.Coords :=
  fun | 0 => c | 1 => s | ⟨_ + 2, h⟩ => absurd h (Nat.not_lt.2 (Nat.le_add_left _ _))

/-- A tile's share of the zeros, -/
abbrev qz (L : grid0.Coords) : PosShare TreeShare := leaf 4 (leaf 1 fullShare (L 0)) (L 1)
/-- and its shares of the index array, one for each copy it has under way. -/
def qf (L : grid0.Coords) (k : Nat) : PosShare TreeShare := leaf 2 (qz L) ⟨k % 4, Nat.mod_lt _ (by decide)⟩

/-- A tile's rows of the table. -/
def Rows (d : Dev nD) (L : grid0.Coords) (g : IVec S2048x2048 32) : sProp 𝕄 :=
  bigSep Finset.univ fun j : Fin 8 => (tV).view.loc (thr d L) ↦[pc (8 * wid L + j.val)]{fullShare} g

def Deal (d : Dev nD) (L : grid0.Coords) (f : IVec S32768x16 32) (g : IVec S2048x2048 32) : sProp 𝕄 :=
  iprop(Fsh d L f (qf L) ∗ ((zV).view.loc (thr d L) ↦{qz L} (fun _ => 0#32 : IVec M8 32)) ∗ Rows d L g)

theorem fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem rows_in (d : Dev nD) (L : grid0.Coords) (f : IVec S32768x16 32) (hf : InF f) (g : IVec S2048x2048 32) :
    Rows (F := F) d L g ⊢ iprop(((tV).view.loc (thr d L) ↦[pc (8 * wid L + (0))]{fullShare} g) ∗ ((tV).view.loc (thr d L) ↦[pc (8 * wid L + (1))]{fullShare} g) ∗ Pcs d L f hf g 0) := by
  unfold Rows
  rw [fin8]
  show _ ⊢ iprop(_ ∗ _ ∗ todo d L g 0 ∗ todo d L g 1 ∗ todo d L g 2)
  unfold todo
  iintro ⟨H0, H1, H2, H3, H4, H5, H6, H7⟩
  isplitl [H0]; · iexact H0
  isplitl [H1]; · iexact H1
  isplitl [H2 H3]
  · isplitl [H2]; · iexact H2
    iexact H3
  isplitl [H4 H5]
  · isplitl [H4]; · iexact H4
    iexact H5
  isplitl [H6]; · iexact H6
  iexact H7

theorem rows_out (d : Dev nD) (L : grid0.Coords) (f : IVec S32768x16 32) (hf : InF f) (g : IVec S2048x2048 32) :
    iprop(((tV).view.loc (thr d L) ↦[pc (8 * wid L + (6))]{fullShare} tbl (F := F) f hf) ∗ ((tV).view.loc (thr d L) ↦[pc (8 * wid L + (7))]{fullShare} tbl (F := F) f hf) ∗ Pcs d L f hf g 3)
      ⊢ Rows (F := F) d L (tbl (F := F) f hf) := by
  unfold Rows
  rw [fin8]
  show iprop(_ ∗ _ ∗ done (F := F) d L f hf 0 ∗ done (F := F) d L f hf 1 ∗ done (F := F) d L f hf 2) ⊢ _
  unfold done
  iintro ⟨H6, H7, ⟨H1, H0⟩, ⟨H3, H2⟩, H5, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## A tile's own buffers and semaphores -/

theorem cell_ne {t : Thread nD τ} {a b : SemLoc sig} (h : a ≠ b) : ((t, a) : GSem nD τ sig) ≠ (t, b) := fun e => h (congrArg Prod.snd e)

theorem cell_mem (d : Dev nD) (L : grid0.Coords) (a : SemLoc sig) (h : a.isScoped .scVector = true) : ((thr d L, a) : GSem nD τ sig) ∈ ownCells (thr d L) :=
  (mem_ownCells (g := (thr d L, a))).mpr ⟨rfl, h⟩

theorem me {α : Type} [DecidableEq α] {a b : α} {s : Finset α} (h : a ≠ b) (hm : a ∈ s) : a ∈ s.erase b := Finset.mem_erase.mpr ⟨h, hm⟩

theorem sems_split (d : Dev nD) (L : grid0.Coords) : ∃ R : sProp 𝕄, (scopedSems0 (thr d L) : sProp 𝕄)
    = iprop(semVal (thr d L, .dma (ob false).sem) 0 ∗ semVal (thr d L, .dma (ob true).sem) 0 ∗ semVal (thr d L, .dma cc0_scratch6.sem) 0
        ∗ semVal (thr d L, .dma (zs false).sem) 0 ∗ semVal (thr d L, .dma (zs true).sem) 0 ∗ R) := by
  have n1 : ((thr d L, .dma (ob true).sem) : GSem nD τ sig) ≠ (thr d L, .dma (ob false).sem) := cell_ne (by decide)
  have n2 : ((thr d L, .dma cc0_scratch6.sem) : GSem nD τ sig) ≠ (thr d L, .dma (ob false).sem) := cell_ne (by decide)
  have n3 : ((thr d L, .dma cc0_scratch6.sem) : GSem nD τ sig) ≠ (thr d L, .dma (ob true).sem) := cell_ne (by decide)
  have n4 : ((thr d L, .dma (zs false).sem) : GSem nD τ sig) ≠ (thr d L, .dma (ob false).sem) := cell_ne (by decide)
  have n5 : ((thr d L, .dma (zs false).sem) : GSem nD τ sig) ≠ (thr d L, .dma (ob true).sem) := cell_ne (by decide)
  have n6 : ((thr d L, .dma (zs false).sem) : GSem nD τ sig) ≠ (thr d L, .dma cc0_scratch6.sem) := cell_ne (by decide)
  have n7 : ((thr d L, .dma (zs true).sem) : GSem nD τ sig) ≠ (thr d L, .dma (ob false).sem) := cell_ne (by decide)
  have n8 : ((thr d L, .dma (zs true).sem) : GSem nD τ sig) ≠ (thr d L, .dma (ob true).sem) := cell_ne (by decide)
  have n9 : ((thr d L, .dma (zs true).sem) : GSem nD τ sig) ≠ (thr d L, .dma cc0_scratch6.sem) := cell_ne (by decide)
  have n10 : ((thr d L, .dma (zs true).sem) : GSem nD τ sig) ≠ (thr d L, .dma (zs false).sem) := cell_ne (by decide)
  exact ⟨_, by
    rw [SparseCore.Cfg.scopedSems0_V (Val := Elt F) d (cV L) (jV L)]
    unfold SparseCore.Cfg.ownSems0
    rw [SparseCore.bigSep_erase' (cell_mem d L (.dma (ob false).sem) (by decide)),
      SparseCore.bigSep_erase' (me n1 (cell_mem d L (.dma (ob true).sem) (by decide))),
      SparseCore.bigSep_erase' (me n3 (me n2 (cell_mem d L (.dma cc0_scratch6.sem) (by decide)))),
      SparseCore.bigSep_erase' (me n6 (me n5 (me n4 (cell_mem d L (.dma (zs false).sem) (by decide))))),
      SparseCore.bigSep_erase' (me n10 (me n9 (me n8 (me n7 (cell_mem d L (.dma (zs true).sem) (by decide))))))]⟩

theorem ref_ne {p : Proc τ} {a b : Ref sig p.kind} (h : a ≠ b) : p.devRef a ≠ p.devRef b := fun e => h (Proc.devRef_injective _ e)

theorem bufs_split (d : Dev nD) (L : grid0.Coords) : ∃ R : sProp 𝕄, (scopedBufs (thr d L) : sProp 𝕄)
    = iprop((∃ f : IVec I128 32, Ix (F := F) d L false f) ∗ (∃ f : IVec I128 32, Ix (F := F) d L true f)
        ∗ (∃ f : IVec M8 32, Cx (F := F) d L false f) ∗ (∃ f : IVec M8 32, Cx (F := F) d L true f) ∗ R) := by
  have m0 : ∀ b : Ref sig .scVector, ((Proc.scVector (cV L) (jV L)).devRef b).owner = _ → (Proc.scVector (cV L) (jV L)).devRef b ∈ ownRefs (τ := τ) (.scVector (cV L) (jV L)) :=
    fun b h => SparseCore.Cfg.mem_ownRefs_of_owner (p := Proc.scVector (cV L) (jV L)) h
  have n (a b : Ref sig .scVector) (h : a ≠ b) : (Proc.scVector (cV L) (jV L)).devRef a ≠ (Proc.scVector (cV L) (jV L)).devRef b := ref_ne h
  exact ⟨_, by
    rw [(K (F := F)).scopedBufs_V facts d (cV L) (jV L)]
    unfold SparseCore.Cfg.ownBufs
    refine (SparseCore.bigSep_erase' (m0 cc0_scratch0 rfl)).trans ?_
    rw [SparseCore.bigSep_erase' (me (n cc0_scratch1 cc0_scratch0 (by decide)) (m0 cc0_scratch1 rfl)),
      SparseCore.bigSep_erase' (me (n cc0_scratch2 cc0_scratch1 (by decide)) (me (n cc0_scratch2 cc0_scratch0 (by decide)) (m0 cc0_scratch2 rfl))),
      SparseCore.bigSep_erase' (me (n cc0_scratch3 cc0_scratch2 (by decide)) (me (n cc0_scratch3 cc0_scratch1 (by decide)) (me (n cc0_scratch3 cc0_scratch0 (by decide)) (m0 cc0_scratch3 rfl))))]
    rfl⟩

/-! ## A tile's task -/

set_option maxRecDepth 16384 in
theorem tile_body (d : Dev nD) (L : grid0.Coords) (f : IVec S32768x16 32) (hf : InF f) (g : IVec S2048x2048 32)
    (O : CellTallies nD τ sig (HIx 1)) (W : Waits sig (HIx 1)) (hO : ∀ g, O g none = 0) :
    iprop(levAts (K (F := F)).L (K (F := F)).lev ∗ emp ∗ Deal d L f g
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_mbuild L fV (Memref.isWhole_whole _) zV (Memref.isWhole_whole _) tV (Memref.isWhole_whole _) (ib false) (Memref.isWhole_whole _) (ib true) (Memref.isWhole_whole _) (cb false) (Memref.isWhole_whole _) (cb true) (Memref.isWhole_whole _) cc0_scratch4 cc0_scratch5 cc0_scratch6 cc0_scoped0 cc0_scoped1)
          fun _ => iprop(Deal d L f (tbl (F := F) f hf)
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hS⟩ := sems_split (F := F) d L
  obtain ⟨RB, hB⟩ := bufs_split (F := F) d L
  rw [hS, hB]
  refine BIBase.Entails.trans (Q := iprop(_ ∗ RS ∗ RB)) ?_ (BIBase.Entails.trans (Q := iprop(wp frame (wpE (defs₀ (F := F)) 𝒱₀ (thr d L) none) Set.univ _ _ ∗ RS ∗ RB)) (sep_mono_left (tile_run (F := F) d L f hf (qf L) (qz L) g O W)) ?_)
  · unfold Deal
    iintro ⟨#Hlv, -, ⟨HF, HZ, HR⟩, ⟨HB1, HB2, HB3, HB4, HBR⟩, ⟨HS1, HS2, HS3, HS4, HS5, HSR⟩, HO⟩
    ihave Hmw := (show levAts (K (F := F)).L (K (F := F)).lev ⊢ Transfers.MayWaits (thr d L) (none : HIx 1) O from
      (K (F := F)).mayWaits_none (thr := thr d L) hO) $$ Hlv
    ihave HR := (rows_in (F := F) d L f hf g) $$ HR
    icases HR with ⟨HR0, HR1, HP⟩
    isplitr [HSR HBR]
    · isplitl [Hmw HO]
      · unfold Ow
        isplitl [Hmw]; · iexact Hmw
        iexists W; isplitr
        · ipureintro; exact fun p hp => Or.inl hp
        · iexact HO
      iframe HZ HS3 HF HS1 HS2 HR0 HR1 HP HB3 HB4 HB1 HB2 HS4
      iexact HS5
    · isplitl [HSR] <;> iassumption
  · iintro ⟨HW, HSR, HBR⟩
    iapply (wp_wand_r frame _ Set.univ)
    isplitl [HW]; · iexact HW
    iintro %_ ⟨HO, HZ, HS3, HF, HS1, HS2, HR6, HR7, HP, HB3, HB4, HB1, HB2, HS4, HS5⟩
    isplitl [HZ HF HR6 HR7 HP]
    · unfold Deal
      iframe HF HZ
      iapply (rows_out (F := F) d L f hf g)
      iframe HR6 HR7 HP
    iframe HB1 HB2 HB3 HB4 HBR HS1 HS2 HS3 HS4 HS5 HSR
    unfold Ow
    icases HO with ⟨-, HO⟩
    iexact HO

end Cert.Proof.KernelIdeal
-- ==== Proof.LaunchKernelIdeal.lean ====
module

public import proofs.«01_k».proof.Proof.CallKernelIdeal
public import proofs.«01_k».proof.Proof.Gen.KernelIdeal.Launch

/-!
# The launch of the SparseCore call: its operands dealt to the tiles, the tiles' obligation, the launch's ghost state
-/

@[expose] public section

noncomputable section

namespace Cert.Proof.KernelIdeal

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The whole arrays, dealt to the tiles -/

abbrev fL (d : Dev nD) : Loc nD τ sig := (SparseCore.T d).loc main_v0
abbrev zL (d : Dev nD) : Loc nD τ sig := (SparseCore.T d).loc main_v1
abbrev tL (d : Dev nD) : Loc nD τ sig := (SparseCore.T d).loc main_v2

/-- The coordinates of the tile of core `c` and subcore `s`. -/
def lc (c : Fin 2) (s : Fin 16) : grid0.Coords := coordsV c s

theorem deal2 {ℓ : Loc nD τ sig} (f : Buf (Elt F) ℓ) :
    (ℓ ↦{fullShare} f : sProp 𝕄) = bigSep Finset.univ fun c : Fin 2 => bigSep Finset.univ fun s : Fin 16 => ℓ ↦{leaf 4 (leaf 1 fullShare c) s} f := by
  rw [ShareLeaves.pointsTo_leaves Finset.univ f 1 fullShare]
  refine bigSep_congr fun c _ => ?_
  rw [ShareLeaves.pointsTo_leaves Finset.univ f 4]
  rfl

theorem deal4 {ℓ : Loc nD τ sig} (f : Buf (Elt F) ℓ) (q : PosShare TreeShare) :
    (ℓ ↦{q} f : sProp 𝕄) = bigSep Finset.univ fun k : Fin 4 => ℓ ↦{leaf 2 q ⟨k.val % 4, Nat.mod_lt _ (by decide)⟩} f := by
  rw [ShareLeaves.pointsTo_leaves Finset.univ f 2]
  refine bigSep_congr fun k _ => ?_
  rw [show (⟨k.val % 4, Nat.mod_lt _ (by decide)⟩ : Fin (2 ^ 2)) = k from Fin.ext (Nat.mod_eq_of_lt k.isLt)]

theorem fV_deal (d : Dev nD) (f : IVec S32768x16 32) :
    (fL d ↦{fullShare} f : sProp 𝕄) = bigSep Finset.univ fun c : Fin 2 => bigSep Finset.univ fun s : Fin 16 => Fsh (F := F) d (lc c s) f (qf (lc c s)) := by
  refine (deal2 (F := F) (ℓ := fL d) f).trans ?_
  refine bigSep_congr fun c _ => bigSep_congr fun s _ => ?_
  exact (deal4 (F := F) (ℓ := fL d) f _)

theorem zV_deal (d : Dev nD) (f : IVec M8 32) :
    (zL d ↦{fullShare} f : sProp 𝕄) = bigSep Finset.univ fun c : Fin 2 => bigSep Finset.univ fun s : Fin 16 => (zV).view.loc (thr d (lc c s)) ↦{qz (lc c s)} f :=
  deal2 (F := F) (ℓ := zL d) f

/-- The rows of piece `j` of the tile of core `c` and subcore `s`. -/
def pcs3 (x : Fin 2 × Fin 16 × Fin 8) : Finset S2048x2048.Idx := pc (8 * (x.2.1.val * 2 + x.1.val) + x.2.2.val)

theorem pcs3_disjoint : ∀ x ∈ (Finset.univ : Finset (Fin 2 × Fin 16 × Fin 8)), ∀ y ∈ (Finset.univ : Finset (Fin 2 × Fin 16 × Fin 8)), x ≠ y → Disjoint (pcs3 x) (pcs3 y) := by
  rintro ⟨c, s, j⟩ - ⟨c', s', j'⟩ - h
  refine Finset.disjoint_left.mpr fun x hx hx' => h ?_
  have h1 := mem_pc.mp hx; have h2 := mem_pc.mp hx'
  have := c.isLt; have := c'.isLt; have := j.isLt; have := j'.isLt
  dsimp only at h1 h2
  have e1 : c.val = c'.val := by omega
  have e2 : s.val = s'.val := by omega
  have e3 : j.val = j'.val := by omega
  rw [Fin.ext e1, Fin.ext e2, Fin.ext e3]

theorem pcs3_cover : (Finset.univ : Finset (Fin 2 × Fin 16 × Fin 8)).biUnion pcs3 = Finset.univ := by
  refine Finset.eq_univ_of_forall fun x => Finset.mem_biUnion.mpr ?_
  have hx : (x 0).val < 2048 := (x 0).isLt
  refine ⟨(⟨(x 0).val / 64 % 2, by omega⟩, ⟨(x 0).val / 128, by omega⟩, ⟨(x 0).val / 8 % 8, by omega⟩), Finset.mem_univ _, mem_pc.mpr ?_⟩
  dsimp only
  omega

theorem tV_deal (d : Dev nD) (g : IVec S2048x2048 32) :
    (tL d ↦{fullShare} g : sProp 𝕄) = bigSep Finset.univ fun c : Fin 2 => bigSep Finset.univ fun s : Fin 16 => Rows (F := F) d (lc c s) g := by
  have h := pointsTo_biUnion (Ix := HIx 1) (Name := ℕ) (U := UU) (Lvl := ℕ) (Val := Elt F) (ℓ := tL d) (q := fullShare) (f := g) Finset.univ pcs3 pcs3_disjoint
  rw [pcs3_cover] at h
  refine h.trans ?_
  rw [bigSep_univ_prod]
  refine bigSep_congr fun c _ => ?_
  rw [bigSep_univ_prod]
  rfl

/-- The deals of the tiles of core `c`. -/
def Deals (d : Dev nD) (c : Fin 2) (f : IVec S32768x16 32) (g : IVec S2048x2048 32) : sProp 𝕄 :=
  bigSep Finset.univ fun s : Fin 16 => Deal (F := F) d (lc c s) f g

/-- The three arrays whole are the tiles' deals. -/
theorem deals (d : Dev nD) (f : IVec S32768x16 32) (g : IVec S2048x2048 32) :
    (bigSep Finset.univ fun c : Fin 2 => Deals (F := F) d c f g)
      = iprop((fL d ↦{fullShare} f) ∗ (zL d ↦{fullShare} (fun _ => 0#32 : IVec M8 32)) ∗ (tL d ↦{fullShare} g)) := by
  rw [fV_deal d f, zV_deal d, tV_deal d g]
  unfold Deals Deal
  simp only [bigSep_sep']

/-! ## What the call's handshakes carry -/

theorem nCore_eq (q : Fin 1) : (K (F := F)).nCore q = 2 := by obtain rfl := Fin.eq_zero q; rfl
theorem nSub_eq (q : Fin 1) : (K (F := F)).nSub q = 16 := by obtain rfl := Fin.eq_zero q; rfl

instance deal_storable (d : Dev nD) (L : grid0.Coords) (f : IVec S32768x16 32) (g : IVec S2048x2048 32) : BI.Storable (upEmb : UEmb _ 𝕄) (Deal (F := F) d L f g) := by
  unfold Deal Fsh Rows; infer_instance

instance deals_storable (d : Dev nD) (c : Fin 2) (f : IVec S32768x16 32) (g : IVec S2048x2048 32) : BI.Storable (upEmb : UEmb _ 𝕄) (Deals (F := F) d c f g) := by
  unfold Deals; infer_instance

theorem bigSep_tasks (Φ : Fin 16 → sProp (MT nD τ sig (HIx 1) (Elt F) ℕ UU ℕ)) :
    (bigSep Finset.univ fun i : Fin ((K (F := F)).nSub 0) => Φ (Fin.cast (nSub_eq 0) i)) = bigSep Finset.univ Φ :=
  bigSep_congr fun _ _ => congrArg Φ (Fin.ext rfl)
theorem bigSep_cores (Φ : Fin 2 → sProp (MT nD τ sig (HIx 1) (Elt F) ℕ UU ℕ)) :
    (bigSep Finset.univ fun i : Fin ((K (F := F)).nCore 0) => Φ (Fin.cast (nCore_eq 0) i)) = bigSep Finset.univ Φ :=
  bigSep_congr fun _ _ => congrArg Φ (Fin.ext rfl)

section Pay

variable (f : Dev nD → IVec S32768x16 32) (g g' : Dev nD → IVec S2048x2048 32)

/-- The call takes the indices, the zeros and the table whole, each tile its deal of them, and brings them back with the table at the counts. -/
def P : (K (F := F)).Pay (nD := nD) (Val := Elt F) (Name := ℕ) (U := UU) where
  st := fun q d c => Deals (F := F) d (Fin.cast (nCore_eq q) c) (f d) (g d)
  dn := fun q d c => Deals (F := F) d (Fin.cast (nCore_eq q) c) (f d) (g' d)
  go := fun q d c i => Deal (F := F) d (lc (Fin.cast (nCore_eq q) c) (Fin.cast (nSub_eq q) i)) (f d) (g d)
  td := fun q d c i => Deal (F := F) d (lc (Fin.cast (nCore_eq q) c) (Fin.cast (nSub_eq q) i)) (f d) (g' d)
  x := fun _ _ => iprop(emp)

instance P_storable : (P (F := F) f g g').IsStorable where
  st q d c := deals_storable d (Fin.cast (nCore_eq q) c) (f d) (g d)
  dn q d c := deals_storable d (Fin.cast (nCore_eq q) c) (f d) (g' d)
  go q d c i := deal_storable d (lc (Fin.cast (nCore_eq q) c) (Fin.cast (nSub_eq q) i)) (f d) (g d)
  td q d c i := deal_storable d (lc (Fin.cast (nCore_eq q) c) (Fin.cast (nSub_eq q) i)) (f d) (g' d)

theorem st_eq (d : Dev nD) : (bigSep Finset.univ fun c : Fin ((K (F := F)).nCore 0) => (P (F := F) f g g').st 0 d c)
    = iprop((fL d ↦{fullShare} f d) ∗ (zL d ↦{fullShare} (fun _ => 0#32 : IVec M8 32)) ∗ (tL d ↦{fullShare} g d)) :=
  (bigSep_cores fun c => Deals (F := F) d c (f d) (g d)).trans (deals d (f d) (g d))
theorem dn_eq (d : Dev nD) : (bigSep Finset.univ fun c : Fin ((K (F := F)).nCore 0) => (P (F := F) f g g').dn 0 d c)
    = iprop((fL d ↦{fullShare} f d) ∗ (zL d ↦{fullShare} (fun _ => 0#32 : IVec M8 32)) ∗ (tL d ↦{fullShare} g' d)) :=
  (bigSep_cores fun c => Deals (F := F) d c (f d) (g' d)).trans (deals d (f d) (g' d))

theorem vecSplit : (K (F := F)).VecSplit' (P (F := F) f g g') 0 := by
  intro d c
  show Deals (F := F) d (Fin.cast (nCore_eq 0) c) (f d) (g d) ⊢ |={Set.univ}=> iprop(
    (bigSep Finset.univ fun i : Fin ((K (F := F)).nSub 0) => Deal (F := F) d (lc (Fin.cast (nCore_eq 0) c) (Fin.cast (nSub_eq 0) i)) (f d) (g d))
    ∗ ((bigSep Finset.univ fun i : Fin ((K (F := F)).nSub 0) => Deal (F := F) d (lc (Fin.cast (nCore_eq 0) c) (Fin.cast (nSub_eq 0) i)) (f d) (g' d)) -∗ Deals (F := F) d (Fin.cast (nCore_eq 0) c) (f d) (g' d)))
  rw [bigSep_tasks (F := F) (fun i => Deal (F := F) d (lc (Fin.cast (nCore_eq 0) c) i) (f d) (g d)),
    bigSep_tasks (F := F) (fun i => Deal (F := F) d (lc (Fin.cast (nCore_eq 0) c) i) (f d) (g' d))]
  unfold Deals
  iintro H; imodintro
  isplitl [H]; · iexact H
  iintro H; iexact H

/-! ## The tiles' obligation -/

theorem defs₀_vector (c : Fin τ.nSC) (s : Fin τ.nSub) :
    defs₀ (F := F) (.scVector c s) 0 ()
      = SparseCore.onTile hcore0 hsub0 (fun c s => cc0_mbuild (coordsV c s) fV (Memref.isWhole_whole _) zV (Memref.isWhole_whole _) tV (Memref.isWhole_whole _) (ib false) (Memref.isWhole_whole _) (ib true) (Memref.isWhole_whole _) (cb false) (Memref.isWhole_whole _) (cb true) (Memref.isWhole_whole _) cc0_scratch4 cc0_scratch5 cc0_scratch6 cc0_scoped0 cc0_scoped1) ⟨⟩ c s := rfl

theorem obl_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] cc0_mbuild Deal

set_option maxRecDepth 16384 in
theorem tileObl (hf : ∀ d, InF (f d)) (hg : ∀ d, g' d = tbl (F := F) (f d) (hf d)) : (K (F := F)).TileObl (D (F := F)) 𝒱 (P (F := F) f g g') v₀ 0 := by
  intro d c i O W hO _ _
  simp only [show (P (F := F) f g g').ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hT := (tile_body (F := F) d (coordsV ⟨_, hci.1⟩ ⟨_, hci.2⟩) (f d) (hf d) (g d) O W hO).trans (wp_mono frame _ _ fun _ => obl_post (q := 0))
  rw [← hg d] at hT
  rw [defs₀_vector]; simp only [SparseCore.onTile, hci, and_self, ↓reduceDIte]
  have e1 : (P (F := F) f g g').go 0 d c i = Deal (F := F) d (coordsV ⟨_, hci.1⟩ ⟨_, hci.2⟩) (f d) (g d) := rfl
  have e2 : (P (F := F) f g g').td 0 d c i = Deal (F := F) d (coordsV ⟨_, hci.1⟩ ⟨_, hci.2⟩) (f d) (g' d) := rfl
  have e3 : (P (F := F) f g g').x 0 (V d ((K (F := F)).core 0 c) ((K (F := F)).sub 0 i)) = iprop(emp) := rfl
  rw [e1, e2, e3]
  exact hT

end Pay

/-! ## The launch's ghost state -/

abbrev adm : (p : Fin 1) → (pcfgs (F := F) p).Adm := fun p => (cfgs p).toPCfg_adm
/-- The pallas_call's rounds inside the ghost state. -/
def EP : Emb UP (MT nD τ sig (HIx 1) (Elt F) ℕ UU ℕ) := (Emb.inl : Emb UP (UP × Counters)).trans embR
instance : (EP (F := F)).LandsIn (upEmb : UEmb _ (MT nD τ sig (HIx 1) (Elt F) ℕ UU ℕ)) := by unfold EP; infer_instance

theorem phinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What a TensorCore is dealt for its pallas_call. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ (f : Dev nD → IVec S32768x16 32) (g g' : Dev nD → IVec S2048x2048 32) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F) f g g').x q thr) := by
  unfold u₀
  iintro Hu
  ihave H := (ownU_pair (initOf (K (F := F)).hsCells (K (F := F)).hsToks) _) $$ Hu
  icases H with ⟨HH, HP⟩
  ihave HP := (show _ ⊢ iprop(BI.own (EP (F := F) (initOf (Pipeline.cells (Pipeline.pin (pcfgs (F := F)) adm) phinj) (Pipeline.launchToks (Pipeline.pin (pcfgs (F := F)) adm) phinj))) ∗ _) from
    own_pair_emb (embR : Emb (UP × Counters) 𝕄) _ (1 : Counters)) $$ HP
  icases HP with ⟨HP, -⟩
  imod (Pipeline.fund_ghost (Pipeline.pin (pcfgs (F := F)) adm) (EP (F := F)) phinj) $$ HP with ⟨Hg, Ht⟩
  imodintro
  isplitl [HH]; · iexact HH
  isplitl [Hg Ht]
  · unfold G
    rw [bigSep_sep']
    isplitl [Hg]
    · iapply (Entails.of_eq (bigSep_congr fun c _ => bigSep_univ_of_subsingleton (0 : Fin 1) (Φ := fun p : Fin 1 => Pipeline.cellsGhost (Pipeline.pin (pcfgs (F := F)) adm) (EP (F := F)) p c))); iexact Hg
    · iapply (Entails.of_eq (bigSep_congr fun c _ => bigSep_univ_of_subsingleton (0 : Fin 1) (Φ := fun p : Fin 1 => Pipeline.toksInit (Pipeline.pin (pcfgs (F := F)) adm) (EP (F := F)) p c))); iexact Ht
  rw [show (bigSep Finset.univ fun thr : Thread nD τ => bigSep Finset.univ fun q : Fin 1 => (P (F := F) f g g').x q thr) = bigSep Finset.univ fun _ => iprop(emp) from
    bigSep_congr fun _ _ => bigSep_univ_of_subsingleton (0 : Fin 1), bigSep_emp']
  iempintro

end Cert.Proof.KernelIdeal
-- ==== Proof.AttnKernelIdeal.lean ====
module

public import proofs.«01_k».proof.Proof.LaunchKernelIdeal
public import Idealize.ShloMosaic.Lib.Pipeline.Regions
public import Idealize.ShloMosaic.Lib.Pipeline.FrameBody
public import Idealize.ShloMosaic.Lib.Pipeline.Value
public import Idealize.ShloMosaic.Lib.Pipeline.ValueKit.Tiles

/-!
  The attention kernel's body at one grid point, run by the executor: at a head's first block it casts the head's
  keys and values into the scratch, at the others it finds them there.
-/

@[expose] public section

noncomputable section

namespace Cert.Proof.KernelIdeal

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F] [Named F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MT nD τ sig (HIx 1) (Elt F) ℕ UU ℕ) :=
  M.view.loc (c : Thread nD τ) ↦{fullShare} f

/-- The condition of the body's branch: the head's first block. -/
abbrev first (i : grid1.Coords) : Prop :=
  Scalar.cmpi .ne (Scalar.extui (Scalar.cmpi .eq (BitVec.ofNat 32 (i 1).val) (0#32)) : BitVec 32) (0#32) = 1#1

/-- The first block: the scratch is written and read. -/
noncomputable def runA (c : Dev nD) (i : grid1.Coords) (hi : first i)
    (a2 : Memref sig .tc .vmem S1x4x512x128 .f32) (h2 : a2.IsWhole) (a3 : Memref sig .tc .vmem S1x2048x128 .f32) (h3 : a3.IsWhole)
    (a4 : Memref sig .tc .vmem S1x2048x128 .f32) (h4 : a4.IsWhole) (a5 : Memref sig .tc .vmem S1x512x2048 .i32) (h5 : a5.IsWhole)
    (a6 : Memref sig .tc .vmem S1x4x512x128 .f32) (h6 : a6.IsWhole) (a7 : Memref sig .tc .vmem S2048x128 .bf16) (h7 : a7.IsWhole)
    (a8 : Memref sig .tc .vmem S2048x128 .bf16) (h8 : a8.IsWhole)
    (f2 : Bf (F := F) c a2) (f3 : Bf (F := F) c a3) (f4 : Bf (F := F) c a4) (f5 : Bf (F := F) c a5)
    (f6 : Bf (F := F) c a6) (f7 : Bf (F := F) c a7) (f8 : Bf (F := F) c a8) :
    { W : Bf (F := F) c a6 × Bf (F := F) c a7 × Bf (F := F) c a8 // ∀ (E : Set ℕ) (Q : PUnit → sProp (MT nD τ sig (HIx 1) (Elt F) ℕ UU ℕ)),
        iprop(pt c a2 f2 ∗ pt c a3 f3 ∗ pt c a4 f4 ∗ pt c a5 f5 ∗ pt c a6 f6 ∗ pt c a7 f7 ∗ pt c a8 f8
            ∗ (iprop(pt c a2 f2 ∗ pt c a3 f3 ∗ pt c a4 f4 ∗ pt c a5 f5 ∗ pt c a6 W.1 ∗ pt c a7 W.2.1 ∗ pt c a8 W.2.2) -∗ Q ⟨⟩))
          ⊢ wp frame (wpE (defs₀ (F := F)) Variants.none c none) E (cc1__attn_body i a2 h2 a3 h3 a4 h4 a5 h5 a6 h6 a7 h7 a8 h8) Q } := by
  refine ⟨(?_, ?_, ?_), fun E Q => ?run⟩
  case run =>
    iintro ⟨H2, H3, H4, H5, H6, H7, H8, Hk⟩
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    iexact H8

/-- A later block: the scratch is read as it stands. -/
noncomputable def runB (c : Dev nD) (i : grid1.Coords) (hi : ¬ first i)
    (a2 : Memref sig .tc .vmem S1x4x512x128 .f32) (h2 : a2.IsWhole) (a3 : Memref sig .tc .vmem S1x2048x128 .f32) (h3 : a3.IsWhole)
    (a4 : Memref sig .tc .vmem S1x2048x128 .f32) (h4 : a4.IsWhole) (a5 : Memref sig .tc .vmem S1x512x2048 .i32) (h5 : a5.IsWhole)
    (a6 : Memref sig .tc .vmem S1x4x512x128 .f32) (h6 : a6.IsWhole) (a7 : Memref sig .tc .vmem S2048x128 .bf16) (h7 : a7.IsWhole)
    (a8 : Memref sig .tc .vmem S2048x128 .bf16) (h8 : a8.IsWhole)
    (f2 : Bf (F := F) c a2) (f3 : Bf (F := F) c a3) (f4 : Bf (F := F) c a4) (f5 : Bf (F := F) c a5)
    (f6 : Bf (F := F) c a6) (f7 : Bf (F := F) c a7) (f8 : Bf (F := F) c a8) :
    { W : Bf (F := F) c a6 // ∀ (E : Set ℕ) (Q : PUnit → sProp (MT nD τ sig (HIx 1) (Elt F) ℕ UU ℕ)),
        iprop(pt c a2 f2 ∗ pt c a3 f3 ∗ pt c a4 f4 ∗ pt c a5 f5 ∗ pt c a6 f6 ∗ pt c a7 f7 ∗ pt c a8 f8
            ∗ (iprop(pt c a2 f2 ∗ pt c a3 f3 ∗ pt c a4 f4 ∗ pt c a5 f5 ∗ pt c a6 W ∗ pt c a7 f7 ∗ pt c a8 f8) -∗ Q ⟨⟩))
          ⊢ wp frame (wpE (defs₀ (F := F)) Variants.none c none) E (cc1__attn_body i a2 h2 a3 h3 a4 h4 a5 h5 a6 h6 a7 h7 a8 h8) Q } := by
  refine ⟨?_, fun E Q => ?run⟩
  case run =>
    iintro ⟨H2, H3, H4, H5, H6, H7, H8, Hk⟩
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    iexact H8

/-- The box of one query head of a block. -/
abbrev rectG (g : Fin 4) : Rect S1x4x512x128 :=
  Rect.unit (s := S1x4x512x128) ![0, g.val, 0, 0] S1x1x512x128.size (by
    intro a
    have := g.isLt
    fin_cases a
    · show 0 + 1 ≤ 1; omega
    · show g.val + 1 ≤ 4; omega
    · show 0 + 512 ≤ 512; omega
    · show 0 + 128 ≤ 128; omega)

/-- An index of a block, within its query head's box. -/
def jx (y : S1x4x512x128.Idx) : S1x1x512x128.Idx := fun a => match a with
  | ⟨0, _⟩ => ⟨0, Nat.one_pos⟩
  | ⟨1, _⟩ => ⟨0, Nat.one_pos⟩
  | ⟨2, _⟩ => y 2
  | ⟨3, _⟩ => y 3

theorem emb_jx (y : S1x4x512x128.Idx) : (rectG (y 1)).emb (jx y) = y := by
  funext a
  apply Fin.ext
  show ((rectG (y 1)).idx (jx y) a).val = _
  rw [Rect.idx_unit_val]
  have h0 : (y 0).val < 1 := (y 0).isLt
  fin_cases a
  · show 0 + 0 = (y 0).val; omega
  · show (y 1).val + 0 = (y 1).val; omega
  · show 0 + (y 2).val = (y 2).val; omega
  · show 0 + (y 3).val = (y 3).val; omega

theorem not_mem_rectG {g : Fin 4} {y : S1x4x512x128.Idx} (h : (y 1).val ≠ g.val) : y ∉ (rectG g).set := by
  intro hm
  have := (Rect.mem_set_unit.mp hm) 1
  have h1 : g.val ≤ (y 1).val ∧ (y 1).val < g.val + 1 := this
  omega

/-- Four stores, one per query head, leave each head its own. -/
theorem canon4 (P : Fin 4 → S1x1x512x128.Idx → F .f32) :
    View.canon (Val := Elt F) (e := .f32) [⟨rectG 3, P 3⟩, ⟨rectG 2, P 2⟩, ⟨rectG 1, P 1⟩, ⟨rectG 0, P 0⟩] = fun y => P (y 1) (jx y) := by
  have key : ∀ (y : S1x4x512x128.Idx) (g : Fin 4) (L : List (View.Piece (Elt F) S1x4x512x128 .f32)), y 1 = g →
      View.canon (⟨rectG g, P g⟩ :: L) y = P (y 1) (jx y) := by
    intro y g L h
    subst h
    conv_lhs => rw [← emb_jx y]
    exact View.canon_cons_emb _ _ _ _
  have skip : ∀ (y : S1x4x512x128.Idx) (g : Fin 4) (w : S1x1x512x128.Idx → F .f32) (L : List (View.Piece (Elt F) S1x4x512x128 .f32)), (y 1).val ≠ g.val →
      View.canon (⟨rectG g, w⟩ :: L) y = View.canon L y := by
    intro y g w L h
    exact View.canon_cons_of_not_mem (Val := Elt F) (e := .f32) ⟨rectG g, w⟩ L (not_mem_rectG h)
  funext y
  have h4 : (y 1).val < 4 := (y 1).isLt
  rcases (by omega : (y 1).val = 3 ∨ (y 1).val = 2 ∨ (y 1).val = 1 ∨ (y 1).val = 0) with h | h | h | h
  · exact key y 3 _ (Fin.ext h)
  · refine (skip y 3 _ _ (h ▸ by decide)).trans ?_
    exact key y 2 _ (Fin.ext h)
  · refine (skip y 3 _ _ (h ▸ by decide)).trans ((skip y 2 _ _ (h ▸ by decide)).trans ?_)
    exact key y 1 _ (Fin.ext h)
  · refine (skip y 3 _ _ (h ▸ by decide)).trans ((skip y 2 _ _ (h ▸ by decide)).trans ((skip y 1 _ _ (h ▸ by decide)).trans ?_))
    exact key y 0 _ (Fin.ext h)

/-- What the body leaves in the result's block: per query head, the attention of its rows. -/
def outV (i : grid1.Coords) (kb vb : Vec F S2048x128 .bf16) (mm : Vec F S1x512x2048 .i32) (q : Vec F S1x4x512x128 .f32) : Vec F S1x4x512x128 .f32 :=
  fun y => k1_pay8 kb vb (k1_pay5 i mm) (View.ld (Val := Elt F) (e' := .f32) q (rectG (y 1))) (jx y)

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid1.Coords)
    (a2 : Memref sig .tc .vmem S1x4x512x128 .f32) (h2 : a2.IsWhole) (a3 : Memref sig .tc .vmem S1x2048x128 .f32) (h3 : a3.IsWhole)
    (a4 : Memref sig .tc .vmem S1x2048x128 .f32) (h4 : a4.IsWhole) (a5 : Memref sig .tc .vmem S1x512x2048 .i32) (h5 : a5.IsWhole)
    (a6 : Memref sig .tc .vmem S1x4x512x128 .f32) (h6 : a6.IsWhole) (a7 : Memref sig .tc .vmem S2048x128 .bf16) (h7 : a7.IsWhole)
    (a8 : Memref sig .tc .vmem S2048x128 .bf16) (h8 : a8.IsWhole)
    (f2 : Bf (F := F) c a2) (f3 : Bf (F := F) c a3) (f4 : Bf (F := F) c a4) (f5 : Bf (F := F) c a5)
    (f6 : Bf (F := F) c a6) (f7 : Bf (F := F) c a7) (f8 : Bf (F := F) c a8)

theorem runA_7 (hi : first i) : a7.view.read (Elt F) (runA c i hi a2 h2 a3 h3 a4 h4 a5 h5 a6 h6 a7 h7 a8 h8 f2 f3 f4 f5 f6 f7 f8).1.2.1
    = k1_pay3 (a3.view.read (Elt F) f3) := by
  unfold runA
  dsimp only
  rw [View.read_writes_junk_eq_canon]
  sl_unfold_words
  rw [View.canon_unit_zero (S := S2048x128) hz2]
  simp only [View.readAt_eq_ld, View.ld_unit_zero (S := S1x2048x128) hz3]

theorem runA_8 (hi : first i) : a8.view.read (Elt F) (runA c i hi a2 h2 a3 h3 a4 h4 a5 h5 a6 h6 a7 h7 a8 h8 f2 f3 f4 f5 f6 f7 f8).1.2.2
    = k1_pay4 (a4.view.read (Elt F) f4) := by
  unfold runA
  dsimp only
  rw [View.read_writes_junk_eq_canon]
  sl_unfold_words
  rw [View.canon_unit_zero (S := S2048x128) hz2]
  simp only [View.readAt_eq_ld, View.ld_unit_zero (S := S1x2048x128) hz3]

theorem runA_6 (hi : first i) : a6.view.read (Elt F) (runA c i hi a2 h2 a3 h3 a4 h4 a5 h5 a6 h6 a7 h7 a8 h8 f2 f3 f4 f5 f6 f7 f8).1.1
    = outV i (k1_pay3 (a3.view.read (Elt F) f3)) (k1_pay4 (a4.view.read (Elt F) f4)) (a5.view.read (Elt F) f5) (a2.view.read (Elt F) f2) := by
  unfold runA
  dsimp only
  rw [View.read_writes_junk_eq_canon]
  sl_unfold_words
  simp only [View.readCov_unit_zero (S := S2048x128) _ hz2, View.readAt_eq_ld, View.ld_unit_zero (S := S1x2048x128) hz3, View.ld_unit_zero (S := S1x512x2048) hz3]
  exact canon4 fun g => k1_pay8 (k1_pay3 (a3.view.read (Elt F) f3)) (k1_pay4 (a4.view.read (Elt F) f4)) (k1_pay5 i (a5.view.read (Elt F) f5)) (View.ld (Val := Elt F) (e' := .f32) (a2.view.read (Elt F) f2) (rectG g))

theorem runB_6 (hi : ¬ first i) : a6.view.read (Elt F) (runB c i hi a2 h2 a3 h3 a4 h4 a5 h5 a6 h6 a7 h7 a8 h8 f2 f3 f4 f5 f6 f7 f8).1
    = outV i (a7.view.read (Elt F) f7) (a8.view.read (Elt F) f8) (a5.view.read (Elt F) f5) (a2.view.read (Elt F) f2) := by
  unfold runB
  dsimp only
  rw [View.read_writes_junk_eq_canon]
  sl_unfold_words
  simp only [View.readAt_eq_ld, View.ld_unit_zero (S := S2048x128) hz2, View.ld_unit_zero (S := S1x512x2048) hz3]
  exact canon4 fun g => k1_pay8 (a7.view.read (Elt F) f7) (a8.view.read (Elt F) f8) (k1_pay5 i (a5.view.read (Elt F) f5)) (View.ld (Val := Elt F) (e' := .f32) (a2.view.read (Elt F) f2) (rectG g))

end

end Cert.Proof.KernelIdeal

end
-- ==== Proof.RegionKernelIdeal.lean ====
module

public import proofs.«01_k».proof.Proof.AttnKernelIdeal
public import proofs.«01_k».proof.Proof.Gen.KernelIdeal.Points
public import Idealize.ShloMosaic.Lib.Pipeline.RegionArrays

/-!
  The attention call as a pipelined region of the host program: what each staging buffer and the scratch hold at
  each grid point, the body's obligation there, and the region around it.
-/

@[expose] public section

noncomputable section

namespace Cert.Proof.KernelIdeal

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- The blocks of the four operands at a grid point. -/
def qB (c : Dev nD) (t : Fin cfg1.N) : Vec F S1x4x512x128 .f32 := ((cfg1.win 0).blk t).view.read (Elt F) (V c main_v4)
def kB (c : Dev nD) (t : Fin cfg1.N) : Vec F S1x2048x128 .f32 := ((cfg1.win 1).blk t).view.read (Elt F) (V c main_v5)
def vB (c : Dev nD) (t : Fin cfg1.N) : Vec F S1x2048x128 .f32 := ((cfg1.win 2).blk t).view.read (Elt F) (V c main_v6)
def mB (c : Dev nD) (t : Fin cfg1.N) : Vec F S1x512x2048 .i32 := ((cfg1.win 3).blk t).view.read (Elt F) (V c main_v3)

/-- What the body leaves in the result's block at a grid point. -/
def oB (c : Dev nD) (t : Fin cfg1.N) : Vec F S1x4x512x128 .f32 :=
  outV (grid1.coords t) (k1_pay3 (kB V c t)) (k1_pay4 (vB V c t)) (mB V c t) (qB V c t)

/-- The scratch before point `n`: within a head it holds the head's keys and values. -/
def Scr (c : Dev nD) (n : ℕ) : sProp (MT nD τ sig (HIx 1) (Elt F) ℕ UU ℕ) :=
  iprop(∃ (f7 : Vec F S2048x128 .bf16) (f8 : Vec F S2048x128 .bf16),
    ⌜∀ u : Fin cfg1.N, u.val = n → u.val % 4 ≠ 0 → f7 = k1_pay3 (kB V c u) ∧ f8 = k1_pay4 (vB V c u)⌝
      ∗ (((c : Thread nD τ).loc cc1_scratch0) ↦{fullShare} (f7 : Buf (Elt F) ((c : Thread nD τ).loc cc1_scratch0)))
      ∗ (((c : Thread nD τ).loc cc1_scratch1) ↦{fullShare} (f8 : Buf (Elt F) ((c : Thread nD τ).loc cc1_scratch1))))

/-- The region's proof data, from the arrays at `V`. -/
def dat (c : Dev nD) : Dat τ (Elt F) (HIx 1) ℕ UU ℕ cfg1 c where
  A w := V c (Pipeline.arrRef spec1 w)
  after w t := match w with
    | ⟨0, _⟩ => qB V c t
    | ⟨1, _⟩ => kB V c t
    | ⟨2, _⟩ => vB V c t
    | ⟨3, _⟩ => mB V c t
    | ⟨4, _⟩ => oB V c t
  Φ t := Scr V c t.val
  q _ := fullShare
  owed _ := 0
  recorded _ := {p | (K (F := F)).lev (T c, p.1) p.2 ≤ 8}

def pdats : (p : Fin 1) → (c : Dev nD) → Dat τ (Elt F) (HIx 1) ℕ UU ℕ (Pipeline.pin (pcfgs (F := F)) adm p) c
  | ⟨0, _⟩ => fun c => dat V c

theorem before0 (c : Dev nD) (t : Fin cfg1.N) (d) : (dat V c).before 0 t d = qB V c t :=
  (dat V c).before_in_eq_fetched 0 rfl (fun _ => rfl) (fun _ _ _ => rfl) (fun _ => rfl) t d
theorem before1 (c : Dev nD) (t : Fin cfg1.N) (d) : (dat V c).before 1 t d = kB V c t :=
  (dat V c).before_in_eq_fetched 1 rfl (fun _ => rfl) (fun _ _ _ => rfl) (fun _ => rfl) t d
theorem before2 (c : Dev nD) (t : Fin cfg1.N) (d) : (dat V c).before 2 t d = vB V c t :=
  (dat V c).before_in_eq_fetched 2 rfl (fun _ => rfl) (fun _ _ _ => rfl) (fun _ => rfl) t d
theorem before3 (c : Dev nD) (t : Fin cfg1.N) (d) : (dat V c).before 3 t d = mB V c t :=
  (dat V c).before_in_eq_fetched 3 rfl (fun _ => rfl) (fun _ _ _ => rfl) (fun _ => rfl) t d

theorem first_iff : ∀ t : Fin cfg1.N, first (grid1.coords t) ↔ t.val % 4 = 0 := by decide

/-- Within a head the keys' block does not move, nor the values'. -/
theorem kv_step (c : Dev nD) (t u : Fin cfg1.N) (hu : u.val = t.val + 1) (h4 : u.val % 4 ≠ 0) : kB V c t = kB V c u ∧ vB V c t = vB V c u := by
  have e : ∀ t u : Fin cfg1.N, u.val = t.val + 1 → u.val % 4 ≠ 0 → ((cfg1.win 1).index t = (cfg1.win 1).index u ∧ (cfg1.win 2).index t = (cfg1.win 2).index u) := by decide
  obtain ⟨h1, h2⟩ := e t u hu h4
  exact ⟨(dat V c).fetched_congr 1 h1 rfl (fun _ => Classical.arbitrary _), (dat V c).fetched_congr 2 h2 rfl (fun _ => Classical.arbitrary _)⟩

/-- The two scratch operands as the body is handed them. -/
abbrev s7 : Memref sig .tc .vmem S2048x128 .bf16 := Memref.whole cc1_scratch0
abbrev s8 : Memref sig .tc .vmem S2048x128 .bf16 := Memref.whole cc1_scratch1

/-- Holding a whole buffer at contents that read `X`. -/
theorem owns_pt (c : Dev nD) {S : Shape} {e : EltTy} (M : Memref sig .tc .vmem S e) (h : M.IsWhole) (X : S.Idx → Elt F e) :
    (owns (c : Thread nD τ) M fullShare X : sProp (MT nD τ sig (HIx 1) (Elt F) ℕ UU ℕ)) = iprop(∃ f : Bf (F := F) c M, ⌜M.view.read (Elt F) f = X⌝ ∗ pt c M f) := by
  unfold owns
  rw [h.set_eq_univ]

set_option maxHeartbeats 2000000 in
theorem body_obligation (c : Dev nD) : BodyObligation (dat V c) (defs₀ (F := F)) Variants.none (none : HIx 1) Set.univ := fun t => by
  rw [bigSep_W1, bigSep_W1]
  show iprop(Scr V c t.val ∗ (dat V c).owesAt none t.castSucc ∗ (∃ d, owns (c : Thread nD τ) (st1_0 t) fullShare ((dat V c).before 0 t d))
      ∗ (∃ d, owns (c : Thread nD τ) (st1_1 t) fullShare ((dat V c).before 1 t d)) ∗ (∃ d, owns (c : Thread nD τ) (st1_2 t) fullShare ((dat V c).before 2 t d))
      ∗ (∃ d, owns (c : Thread nD τ) (st1_3 t) fullShare ((dat V c).before 3 t d)) ∗ (∃ d, owns (c : Thread nD τ) (st1_4 t) fullShare ((dat V c).before 4 t d)))
    ⊢ wp frame (wpE (defs₀ (F := F)) Variants.none (c : Thread nD τ) none) Set.univ (bodyAt1 (F := F) t) fun _ =>
      iprop(Scr V c (t.val + 1) ∗ (dat V c).owesAt none t.castSucc ∗ owns (c : Thread nD τ) (st1_0 t) fullShare (qB V c t)
      ∗ owns (c : Thread nD τ) (st1_1 t) fullShare (kB V c t) ∗ owns (c : Thread nD τ) (st1_2 t) fullShare (vB V c t)
      ∗ owns (c : Thread nD τ) (st1_3 t) fullShare (mB V c t) ∗ owns (c : Thread nD τ) (st1_4 t) fullShare (oB V c t))
  simp only [before0, before1, before2, before3]
  have w0 := hstage1_0 ((cfg1.slots t 0).cast nbuf1_0)
  have w1 := hstage1_1 ((cfg1.slots t 1).cast nbuf1_1)
  have w2 := hstage1_2 ((cfg1.slots t 2).cast nbuf1_2)
  have w3 := hstage1_3 ((cfg1.slots t 3).cast nbuf1_3)
  have w4 := hstage1_4 ((cfg1.slots t 4).cast nbuf1_4)
  rw [owns_pt c (st1_0 t) w0, owns_pt c (st1_1 t) w1, owns_pt c (st1_2 t) w2, owns_pt c (st1_3 t) w3, owns_pt c (st1_4 t) w4]
  simp only [owns_pt c (st1_4 t) w4]
  unfold Scr
  iintro ⟨⟨%f7, %f8, %hs, H7, H8⟩, Howes, ⟨%d0, %f2, %e2, H2⟩, ⟨%d1, %f3, %e3, H3⟩, ⟨%d2, %f4, %e4, H4⟩, ⟨%d3, %f5, %e5, H5⟩, ⟨%d4, %f6, -, H6⟩⟩
  by_cases hi : first (grid1.coords t)
  · have hA7 := runA_7 c (grid1.coords t) (st1_0 t) w0 (st1_1 t) w1 (st1_2 t) w2 (st1_3 t) w3 (st1_4 t) w4 s7 (Memref.isWhole_whole _) s8 (Memref.isWhole_whole _) f2 f3 f4 f5 f6 f7 f8 hi
    have hA8 := runA_8 c (grid1.coords t) (st1_0 t) w0 (st1_1 t) w1 (st1_2 t) w2 (st1_3 t) w3 (st1_4 t) w4 s7 (Memref.isWhole_whole _) s8 (Memref.isWhole_whole _) f2 f3 f4 f5 f6 f7 f8 hi
    have hA6 := runA_6 c (grid1.coords t) (st1_0 t) w0 (st1_1 t) w1 (st1_2 t) w2 (st1_3 t) w3 (st1_4 t) w4 s7 (Memref.isWhole_whole _) s8 (Memref.isWhole_whole _) f2 f3 f4 f5 f6 f7 f8 hi
    rw [e3] at hA7
    rw [e4] at hA8
    rw [e2, e3, e4, e5] at hA6
    iapply ((runA c (grid1.coords t) hi (st1_0 t) w0 (st1_1 t) w1 (st1_2 t) w2 (st1_3 t) w3 (st1_4 t) w4 s7 (Memref.isWhole_whole _) s8 (Memref.isWhole_whole _) f2 f3 f4 f5 f6 f7 f8).2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, H6, H7, H8⟩
    isplitl [H7 H8]
    · iexists _; iexists _
      isplitr; swap
      · isplitl [H7]; · iexact H7
        iexact H8
      ipureintro
      intro u hu h4
      obtain ⟨hk, hv⟩ := kv_step V c t u hu h4
      rw [← hk, ← hv]
      exact ⟨hA7, hA8⟩
    isplitl [Howes]; · iexact Howes
    isplitl [H2]; · iexists _; isplitr; swap; (· iexact H2); ipureintro; exact e2
    isplitl [H3]; · iexists _; isplitr; swap; (· iexact H3); ipureintro; exact e3
    isplitl [H4]; · iexists _; isplitr; swap; (· iexact H4); ipureintro; exact e4
    isplitl [H5]; · iexists _; isplitr; swap; (· iexact H5); ipureintro; exact e5
    iexists _; isplitr; swap; (· iexact H6); ipureintro; exact hA6
  · obtain ⟨hk7, hv8⟩ := hs t rfl fun h => hi ((first_iff t).mpr h)
    have hB6 := (runB_6 c (grid1.coords t) (st1_0 t) w0 (st1_1 t) w1 (st1_2 t) w2 (st1_3 t) w3 (st1_4 t) w4 s7 (Memref.isWhole_whole _) s8 (Memref.isWhole_whole _) f2 f3 f4 f5 f6 f7 f8 hi).trans (congrArg₂ (fun x y => outV (grid1.coords t) (s7.view.read (Elt F) f7) (s8.view.read (Elt F) f8) x y) e5 e2)
    iapply ((runB c (grid1.coords t) hi (st1_0 t) w0 (st1_1 t) w1 (st1_2 t) w2 (st1_3 t) w3 (st1_4 t) w4 s7 (Memref.isWhole_whole _) s8 (Memref.isWhole_whole _) f2 f3 f4 f5 f6 f7 f8).2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, H6, H7, H8⟩
    isplitl [H7 H8]
    · iexists f7; iexists f8
      isplitr; swap
      · isplitl [H7]; · iexact H7
        iexact H8
      ipureintro
      intro u hu h4
      obtain ⟨hk, hv⟩ := kv_step V c t u hu h4
      rw [← hk, ← hv]
      exact ⟨hk7, hv8⟩
    isplitl [Howes]; · iexact Howes
    isplitl [H2]; · iexists _; isplitr; swap; (· iexact H2); ipureintro; exact e2
    isplitl [H3]; · iexists _; isplitr; swap; (· iexact H3); ipureintro; exact e3
    isplitl [H4]; · iexists _; isplitr; swap; (· iexact H4); ipureintro; exact e4
    isplitl [H5]; · iexists _; isplitr; swap; (· iexact H5); ipureintro; exact e5
    iexists _; isplitr; swap; (· iexact H6); ipureintro
    refine hB6.trans ?_
    unfold oB
    rw [← hk7, ← hv8]
    rfl

end Cert.Proof.KernelIdeal

end
-- ==== Proof.RegKernelIdeal.lean ====
module

public import proofs.«01_k».proof.Proof.RegionKernelIdeal
public import Idealize.ShloMosaic.Lib.Pipeline.RegionsLoop

/-!
  The attention call's region over the thread state: entered with the TensorCore's buffers at one valuation, left
  with the result's array written.
-/

@[expose] public section

noncomputable section

namespace Cert.Proof.KernelIdeal

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.Pipeline (Dat Cfg Window BodyObligation cellOf)

variable {F : FTy → Type} [FloatOps F] [Named F]

local notation "𝕄" => MT nD τ sig (HIx 1) (Elt F) ℕ UU ℕ

variable (V Vp : (c : Dev nD) → (b : Ref sig .tc) → Buf (Elt F) ((c : Thread nD τ).loc b))

/-- The pairs a TensorCore may have recorded after the SparseCore call. -/
abbrev low (c : Dev nD) : sProp (MT nD τ sig (HIx 1) (Elt F) ℕ UU ℕ) :=
  iprop(∃ W, ⌜(K (F := F)).WBelow (T c) W 8⌝ ∗ owes (c : Thread nD τ) (0 : CellTallies nD τ sig (HIx 1)) W)

theorem scr_in (c : Dev nD) : (Pipeline.scopedRest spec1 c : sProp (MT nD τ sig (HIx 1) (Elt F) ℕ UU ℕ)) ⊢ Scr V c 0 := by
  rw [scopedRest1_eq]
  unfold Scr
  iintro ⟨⟨%f7, H7⟩, %f8, H8⟩
  iexists f7; iexists f8
  isplitr; swap
  · isplitl [H7]; · iexact H7
    iexact H8
  ipureintro
  intro u hu h4
  exact absurd (by rw [hu]) h4

theorem scr_out (c : Dev nD) (n : ℕ) : Scr V c n ⊢ (Pipeline.scopedRest spec1 c : sProp (MT nD τ sig (HIx 1) (Elt F) ℕ UU ℕ)) := by
  rw [scopedRest1_eq]
  unfold Scr
  iintro ⟨%f7, %f8, -, H7, H8⟩
  isplitl [H7]
  · iexists f7; iexact H7
  · iexists f8; iexact H8

set_option backward.isDefEq.respectTransparency.types false in
/-- The region: entered by splitting the windows' arrays out of the unscoped buffers, left by putting them back. -/
def reg (hVp_out : ∀ c, Vp c main_v7 = (dat V c).arrAt 4 cfg1.N) (hVp_ne : ∀ c (b : Ref sig .tc), b ≠ main_v7 → Vp c b = V c b) :
    Pipeline.RegionSeg (pcfgs (F := F)) adm (pdats V) (none : HIx 1) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ low c)
  post c := iprop(unscopedBufs c (Vp c) ∗ low c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Scr V c 0 from rfl]
    iintro ⟨-, -, Hr⟩
    iapply (scr_in V c); iexact Hr
  hout c := by
    rw [Pipeline.ownSems0_none, show (pdats V 0 c).Φ (Fin.last _) = Scr V c cfg1.N from rfl]
    iintro Hr
    isplitr; · iempintro
    isplitr; · iempintro
    iapply (scr_out V c cfg1.N); iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v4 (by decide)).symm
        · exact ((pdats V 0 c).arrAt_in 1 rfl _).trans (hVp_ne c main_v5 (by decide)).symm
        · exact ((pdats V 0 c).arrAt_in 2 rfl _).trans (hVp_ne c main_v6 (by decide)).symm
        · exact ((pdats V 0 c).arrAt_in 3 rfl _).trans (hVp_ne c main_v3 (by decide)).symm
        · exact (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

/-- The attention call run from the buffers at `V`, to the buffers at `Vp`. -/
theorem region_wp (hVp_out : ∀ c, Vp c main_v7 = (dat V c).arrAt 4 cfg1.N) (hVp_ne : ∀ c (b : Ref sig .tc), b ≠ main_v7 → Vp c b = V c b)
    (d : Dev nD) (Q : PUnit → sProp (MT nD τ sig (HIx 1) (Elt F) ℕ UU ℕ)) :
    iprop(boundary (T d) ∗ (unscopedBufs d (V d) ∗ low d) ∗ levAts (K (F := F)).L (K (F := F)).lev ∗ G (F := F) d
        ∗ ((boundary (T d) ∗ unscopedBufs d (Vp d) ∗ low d) -∗ Q ⟨⟩))
      ⊢ wp frame (wpE ((K (F := F)).defs (D (F := F))) 𝒱 (T d) none) Set.univ (Prog.lift (.customCall (SparseCore.inner (Pipeline.entry 0)) ())) Q := by
  have h1 := Pipeline.RegionSeg.wp (pcfgs (F := F)) adm (pdats V) (none : HIx 1) phinj EP (defs₀ (F := F)) 𝒱₀ (K (F := F)).L (K (F := F)).lev
    (reg V Vp hVp_out hVp_ne) d none (fun u hu => nomatch hu) (fun _ => .ret ⟨⟩) Q
  rw [show (reg V Vp hVp_out hVp_ne).pre d = iprop(unscopedBufs d (V d) ∗ low d) from rfl, show (reg V Vp hVp_out hVp_ne).post d = iprop(unscopedBufs d (Vp d) ∗ low d) from rfl] at h1
  have h2 := h1.trans ((K (F := F)).wp_liftProg (D (F := F)) 𝒱 (T d) Set.univ none _ Q)
  refine BIBase.Entails.trans ?_ h2
  iintro ⟨Hb, Hpre, Hl, ⟨Hg, Ht⟩, Hk⟩
  isplitl [Hk]
  · iintro H
    rw [wp_ret]; imodintro
    iapply Hk; iexact H
  isplitl [Hb]; · iexact Hb
  isplitl [Hpre]; · iexact Hpre
  isplitl [Hl]; · iexact Hl
  isplitl [Hg]; · iexact Hg
  iexact Ht

end Cert.Proof.KernelIdeal

end
-- ==== Proof.MainKernelIdeal.lean ====
module

public import proofs.«01_k».proof.Proof.RegKernelIdeal
public import Idealize.ShloMosaic.Lib.StableHlo.Run

/-!
  The host program: its operations over the TensorCore's buffers, the SparseCore call and the attention call between
  them, and the run of the whole program from any memory whose index array is in range.
-/

@[expose] public section

noncomputable section

namespace Cert.Proof.KernelIdeal

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.Pipeline (Dat Cfg Window BodyObligation cellOf)
open Idealize.ShloMosaic.StableHlo (held held_split wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

abbrev v0' : DevRef τ sig := Proc.devRef .tc main_v0
abbrev v1' : DevRef τ sig := Proc.devRef .tc main_v1
abbrev v2' : DevRef τ sig := Proc.devRef .tc main_v2
abbrev c' : DevRef τ sig := Proc.devRef .tc main_c
abbrev arg0' : DevRef τ sig := Proc.devRef .tc main_arg0
abbrev arg1' : DevRef τ sig := Proc.devRef .tc main_arg1
abbrev arg2' : DevRef τ sig := Proc.devRef .tc main_arg2
abbrev arg3' : DevRef τ sig := Proc.devRef .tc main_arg3
abbrev v3' : DevRef τ sig := Proc.devRef .tc main_v3
abbrev v4' : DevRef τ sig := Proc.devRef .tc main_v4
abbrev v5' : DevRef τ sig := Proc.devRef .tc main_v5
abbrev v6' : DevRef τ sig := Proc.devRef .tc main_v6
abbrev v7' : DevRef τ sig := Proc.devRef .tc main_v7
abbrev v8' : DevRef τ sig := Proc.devRef .tc main_v8

abbrev R11 : Finset (DevRef τ sig) := {c', arg0', arg1', arg2', arg3', v3', v4', v5', v6', v7', v8'}
/-- The TensorCore's arrays, all unscoped. -/
abbrev S14 : Finset (DevRef τ sig) := insert v0' (insert v1' (insert v2' R11))

theorem uc_eq : Pipeline.ucRefs τ sig = S14 := by decide

theorem unscoped_held (d : Dev nD) (W : Valuation τ sig (Elt F)) :
    (unscopedBufs d (fun b => W b) : sProp (MT nD τ sig (HIx 1) (Elt F) ℕ UU ℕ)) = held (T d) S14 W := by
  rw [← uc_eq]; exact Pipeline.unscopedBufs_held d W

theorem held_three (d : Dev nD) (W : Valuation τ sig (Elt F)) :
    (held (T d) S14 W : sProp (MT nD τ sig (HIx 1) (Elt F) ℕ UU ℕ))
      = iprop((fL d ↦{fullShare} W v0') ∗ (zL d ↦{fullShare} W v1') ∗ (tL d ↦{fullShare} W v2') ∗ held (T d) R11 W) := by
  unfold held S14
  rw [SparseCore.bigSep_insert' (by decide), SparseCore.bigSep_insert' (by decide), SparseCore.bigSep_insert' (by decide)]

abbrev op0 : HloOp τ sig (Elt F) := StableHlo.reshape main_arg3 main_v0 (rfl : (.i32 : EltTy) = .i32) shapeCasts_S1x4x2048x64_S32768x16
abbrev opc : HloOp τ sig (Elt F) := StableHlo.nullary main_c (constantI S_ 32 0#32)
abbrev op1 : HloOp τ sig (Elt F) := StableHlo.unary main_c main_v1 (broadcastInDim S8x2048 ![] bcast_S_S8x2048 : (⟨S_, .i32⟩ : BufTy).Contents (Elt F) → (⟨S8x2048, .i32⟩ : BufTy).Contents (Elt F))
abbrev op3 : HloOp τ sig (Elt F) := StableHlo.reshape main_v2 main_v3 (rfl : (.i32 : EltTy) = .i32) shapeCasts_S2048x2048_S4x512x2048
abbrev op4 : HloOp τ sig (Elt F) := StableHlo.reshape main_arg0 main_v4 (rfl : (.f32 : EltTy) = .f32) shapeCasts_S1x16x2048x128_S4x4x2048x128
abbrev op5 : HloOp τ sig (Elt F) := StableHlo.reshape main_arg1 main_v5 (rfl : (.f32 : EltTy) = .f32) shapeCasts_S1x4x2048x128_S4x2048x128
abbrev op6 : HloOp τ sig (Elt F) := StableHlo.reshape main_arg2 main_v6 (rfl : (.f32 : EltTy) = .f32) shapeCasts_S1x4x2048x128_S4x2048x128
abbrev op8 : HloOp τ sig (Elt F) := StableHlo.reshape main_v7 main_v8 (rfl : (.f32 : EltTy) = .f32) shapeCasts_S4x4x2048x128_S1x16x2048x128

theorem sub0 : (op0 (F := F)).bufs ⊆ S14 := show ({arg3', v0'} : Finset (DevRef τ sig)) ⊆ S14 by decide
theorem subc : (opc (F := F)).bufs ⊆ S14 := show ({c'} : Finset (DevRef τ sig)) ⊆ S14 by decide
theorem sub1 : (op1 (F := F)).bufs ⊆ S14 := show ({c', v1'} : Finset (DevRef τ sig)) ⊆ S14 by decide
theorem sub3 : (op3 (F := F)).bufs ⊆ S14 := show ({v2', v3'} : Finset (DevRef τ sig)) ⊆ S14 by decide
theorem sub4 : (op4 (F := F)).bufs ⊆ S14 := show ({arg0', v4'} : Finset (DevRef τ sig)) ⊆ S14 by decide
theorem sub5 : (op5 (F := F)).bufs ⊆ S14 := show ({arg1', v5'} : Finset (DevRef τ sig)) ⊆ S14 by decide
theorem sub6 : (op6 (F := F)).bufs ⊆ S14 := show ({arg2', v6'} : Finset (DevRef τ sig)) ⊆ S14 by decide
theorem sub8 : (op8 (F := F)).bufs ⊆ S14 := show ({v7', v8'} : Finset (DevRef τ sig)) ⊆ S14 by decide

/-- The valuations: at the launch, before the SparseCore call, after it, before the attention call, after it, at the end. -/
def W0 (d : Dev nD) : Valuation τ sig (Elt F) := fun b => m (d, b)
def W3 (d : Dev nD) : Valuation τ sig (Elt F) := (op1 (F := F)).result ((opc (F := F)).result ((op0 (F := F)).result (W0 m d)))
/-- The indices in the rows the tiles copy. -/
def fv (d : Dev nD) : IVec S32768x16 32 := W3 m d v0'
def gv (d : Dev nD) : IVec S2048x2048 32 := W3 m d v2'

variable (hf : ∀ d, InF (fv m d))

def g'v (d : Dev nD) : IVec S2048x2048 32 := tbl (F := F) (fv m d) (hf d)
def W4 (d : Dev nD) : Valuation τ sig (Elt F) := Function.update (W3 m d) v2' (g'v m hf d)
def W8 (d : Dev nD) : Valuation τ sig (Elt F) :=
  (op6 (F := F)).result ((op5 (F := F)).result ((op4 (F := F)).result ((op3 (F := F)).result (W4 m hf d))))
/-- The buffers as the attention call finds them. -/
def VV (c : Dev nD) (b : Ref sig .tc) : Buf (Elt F) ((c : Thread nD τ).loc b) := W8 m hf c (Proc.devRef .tc b)
/-- The attention call's result. -/
def out7 (d : Dev nD) : Vec F S4x4x2048x128 .f32 := (dat (VV m hf) d).arrAt 4 cfg1.N
def W9 (d : Dev nD) : Valuation τ sig (Elt F) := Function.update (W8 m hf d) v7' (out7 m hf d)
def VW (c : Dev nD) (b : Ref sig .tc) : Buf (Elt F) ((c : Thread nD τ).loc b) := W9 m hf c (Proc.devRef .tc b)
def WF (d : Dev nD) : Valuation τ sig (Elt F) := (op8 (F := F)).result (W9 m hf d)

theorem zero_eq (d : Dev nD) : W3 m d v1' = (fun _ => 0#32 : IVec M8 32) := by
  unfold W3
  refine (StableHlo.unary_result' _ _ _ _).trans ?_
  rw [show (opc (F := F)).result ((op0 (F := F)).result (W0 m d)) c' = constantI S_ 32 0#32 from StableHlo.nullary_result' _ _ _]
  rfl

theorem VW_out (c : Dev nD) : VW m hf c main_v7 = (dat (VV m hf) c).arrAt 4 cfg1.N := by
  unfold VW W9
  exact Function.update_self _ _ _
theorem VW_ne (c : Dev nD) (b : Ref sig .tc) (hb : b ≠ main_v7) : VW m hf c b = VV m hf c b :=
  Function.update_of_ne (fun h => hb (Proc.devRef_injective _ h)) _ _

theorem held_R11_W4 (d : Dev nD) :
    (held (T d) R11 (W4 m hf d) : sProp (MT nD τ sig (HIx 1) (Elt F) ℕ UU ℕ)) = held (T d) R11 (W3 m d) := by
  unfold held
  refine bigSep_congr fun b hb => ?_
  rw [show W4 m hf d b = W3 m d b from Function.update_of_ne (fun h => absurd (h ▸ hb) (by decide)) _ _]

theorem before_call (d : Dev nD) : (held (T d) S14 (W3 m d) : sProp (MT nD τ sig (HIx 1) (Elt F) ℕ UU ℕ))
    = iprop((fL d ↦{fullShare} fv m d) ∗ (zL d ↦{fullShare} (fun _ => 0#32 : IVec M8 32)) ∗ (tL d ↦{fullShare} gv m d) ∗ held (T d) R11 (W3 m d)) := by
  rw [held_three, zero_eq]; rfl

theorem after_call (d : Dev nD) : (held (T d) S14 (W4 m hf d) : sProp (MT nD τ sig (HIx 1) (Elt F) ℕ UU ℕ))
    = iprop((fL d ↦{fullShare} fv m d) ∗ (zL d ↦{fullShare} (fun _ => 0#32 : IVec M8 32)) ∗ (tL d ↦{fullShare} g'v m hf d) ∗ held (T d) R11 (W3 m d)) := by
  rw [held_three, held_R11_W4,
    show W4 m hf d v0' = fv m d from Function.update_of_ne (show v0' ≠ v2' by decide) _ _,
    show W4 m hf d v1' = (fun _ => 0#32 : IVec M8 32) from (Function.update_of_ne (show v1' ≠ v2' by decide) _ _).trans (zero_eq m d),
    show W4 m hf d v2' = g'v m hf d from Function.update_self _ _ _]

abbrev FIN (d : Dev nD) : sProp (MT nD τ sig (HIx 1) (Elt F) ℕ UU ℕ) := held (T d) S14 (WF m hf d)

abbrev PP := P (F := F) (fv m) (gv m) (g'v m hf)

theorem tc_open (d : Dev nD) : (K (F := F)).tcSt EH d ((0 : Fin 1).val + 1)
    ⊢ (iprop(low d ∗ (low d -∗ (K (F := F)).tcSt EH d 1)) : sProp (MT nD τ sig (HIx 1) (Elt F) ℕ UU ℕ)) := by
  show (K (F := F)).tcSt EH d 1 ⊢ _
  unfold SparseCore.Cfg.tcSt
  rw [(K (F := F)).Otc_end d (le_refl 1)]
  iintro ⟨HO, Hr⟩
  isplitl [HO]; · iexact HO
  iintro HO
  isplitl [HO]; · iexact HO
  iexact Hr

theorem hmain (κ : GSem nD τ sig → ℕ) (d : Dev nD) :
    iprop((K (F := F)).ctx EH (PP m hf) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m hf d ∗ (K (F := F)).tcEnd d) := by
  unfold SparseCore.Cfg.tcRes SparseCore.Cfg.tcEnd
  rw [show (unscopedBufs d (fun b => m ((SparseCore.T d).loc b)) : sProp (MT nD τ sig (HIx 1) (Elt F) ℕ UU ℕ)) = held (T d) S14 (W0 m d) from unscoped_held d (W0 m d)]
  simp only [main, wp_bind, wp_pure]
  iintro ⟨#Hctx, Hst, ⟨Hb, Hheld, Hts, -⟩, HG⟩
  iapply (wp_hlo_within 𝒱 (SparseCore.T d) none Set.univ (op := op0) (S := S14) sub0 (V := W0 m d)) $$ [Hb Hheld]
  · isplitl [Hb] <;> iassumption
  iintro ⟨Hb, Hheld⟩
  rw [wp_ret]; imodintro
  iapply (wp_hlo_within 𝒱 (SparseCore.T d) none Set.univ (op := opc) (S := S14) subc (V := (op0 (F := F)).result (W0 m d))) $$ [Hb Hheld]
  · isplitl [Hb] <;> iassumption
  iintro ⟨Hb, Hheld⟩
  rw [wp_ret]; imodintro
  iapply (wp_hlo_within 𝒱 (SparseCore.T d) none Set.univ (op := op1) (S := S14) sub1 (V := (opc (F := F)).result ((op0 (F := F)).result (W0 m d)))) $$ [Hb Hheld]
  · isplitl [Hb] <;> iassumption
  iintro ⟨Hb, Hheld⟩
  rw [wp_ret]; imodintro
  ihave Hh := (show (held (T d) S14 ((op1 (F := F)).result ((opc (F := F)).result ((op0 (F := F)).result (W0 m d)))) : sProp (MT nD τ sig (HIx 1) (Elt F) ℕ UU ℕ)) ⊢ _ from Entails.of_eq (before_call m d)) $$ Hheld
  icases Hh with ⟨Hf, Hz, Ht, Hr⟩
  iapply ((K (F := F)).wp_run (D (F := F)) 𝒱 (EH := EH) (P := PP m hf) κ d 0) $$ [Hst Hf Hz Ht Hr Hb Hts HG]
  isplitr; · iexact Hctx
  isplitl [Hst]; · iexact Hst
  isplitl [Hf Hz Ht]
  · rw [st_eq]
    isplitl [Hf]; · iexact Hf
    isplitl [Hz]; · iexact Hz
    iexact Ht
  iintro ⟨Hst, Hdn⟩
  ihave Hdn' := (Entails.of_eq (dn_eq (fv m) (gv m) (g'v m hf) d)) $$ Hdn
  icases Hdn' with ⟨Hf, Hz, Ht⟩
  ihave Hheld := (Entails.of_eq (after_call m hf d).symm) $$ [Hf Hz Ht Hr]
  · isplitl [Hf]; · iexact Hf
    isplitl [Hz]; · iexact Hz
    isplitl [Ht]; · iexact Ht
    iexact Hr
  iapply (wp_hlo_within 𝒱 (SparseCore.T d) none Set.univ (op := op3) (S := S14) sub3 (V := W4 m hf d)) $$ [Hb Hheld]
  · isplitl [Hb] <;> iassumption
  iintro ⟨Hb, Hheld⟩
  rw [wp_ret]; imodintro
  iapply (wp_hlo_within 𝒱 (SparseCore.T d) none Set.univ (op := op4) (S := S14) sub4 (V := (op3 (F := F)).result (W4 m hf d))) $$ [Hb Hheld]
  · isplitl [Hb] <;> iassumption
  iintro ⟨Hb, Hheld⟩
  rw [wp_ret]; imodintro
  iapply (wp_hlo_within 𝒱 (SparseCore.T d) none Set.univ (op := op5) (S := S14) sub5 (V := (op4 (F := F)).result ((op3 (F := F)).result (W4 m hf d)))) $$ [Hb Hheld]
  · isplitl [Hb] <;> iassumption
  iintro ⟨Hb, Hheld⟩
  rw [wp_ret]; imodintro
  iapply (wp_hlo_within 𝒱 (SparseCore.T d) none Set.univ (op := op6) (S := S14) sub6 (V := (op5 (F := F)).result ((op4 (F := F)).result ((op3 (F := F)).result (W4 m hf d))))) $$ [Hb Hheld]
  · isplitl [Hb] <;> iassumption
  iintro ⟨Hb, Hheld⟩
  rw [wp_ret]; imodintro
  ihave Hub := (show (held (T d) S14 ((op6 (F := F)).result ((op5 (F := F)).result ((op4 (F := F)).result ((op3 (F := F)).result (W4 m hf d))))) : sProp (MT nD τ sig (HIx 1) (Elt F) ℕ UU ℕ)) ⊢ unscopedBufs d (VV m hf d) from Entails.of_eq (unscoped_held d (W8 m hf d)).symm) $$ Hheld
  ihave Hst' := (tc_open (F := F) d) $$ Hst
  icases Hst' with ⟨Hlow, Hst⟩
  ihave Hl := (SparseCore.Cfg.ctx_levAts (K := K (F := F)) (EH := EH) (P := PP m hf) κ) $$ Hctx
  iapply (region_wp (VV m hf) (VW m hf) (VW_out m hf) (VW_ne m hf) d _) $$ [Hb Hub Hlow Hl HG Hst Hts]
  isplitl [Hb]; · iexact Hb
  isplitl [Hub Hlow]
  · isplitl [Hub]; · iexact Hub
    iexact Hlow
  isplitl [Hl]; · iexact Hl
  isplitl [HG]; · iexact HG
  iintro ⟨Hb, Hub, Hlow⟩
  ihave Hst := Hst $$ Hlow
  ihave Hheld := (show (unscopedBufs d (VW m hf d) : sProp (MT nD τ sig (HIx 1) (Elt F) ℕ UU ℕ)) ⊢ held (T d) S14 (W9 m hf d) from Entails.of_eq (unscoped_held d (W9 m hf d))) $$ Hub
  iapply (wp_hlo_within 𝒱 (SparseCore.T d) none Set.univ (op := op8) (S := S14) sub8 (V := W9 m hf d)) $$ [Hb Hheld]
  · isplitl [Hb] <;> iassumption
  iintro ⟨Hb, Hheld⟩
  rw [wp_ret]; imodintro; imodintro
  isplitl [Hst]; · iexact Hst
  isplitl [Hheld]; · iexact Hheld
  isplitl [Hb] <;> iassumption

def fq (d : Dev nD) (s' : Phys nD τ sig (Elt F)) : Prop := ∀ b ∈ S14, s'.mem.mem (d, b) = WF m hf d b

theorem hfin (d : Dev nD) (s' : Phys nD τ sig (Elt F)) :
    iprop(FIN m hf d ∗ SI s') ⊢ (⌜fq m hf d s'⌝ : sProp (MT nD τ sig (HIx 1) (Elt F) ℕ UU ℕ)) := by
  unfold FIN held
  iintro ⟨Hh, HSI⟩
  ihave Hr := (pointsTo_read_all S14 (fun b => ((T d : Thread nD τ).1, b)) (WF m hf d) s') $$ [Hh HSI]
  · isplitl [Hh] <;> iassumption
  icases Hr with ⟨%h, -⟩
  ipureintro; exact h

/-- What every run leaves: each array of the TensorCore at the last valuation, every counter at zero. -/
def QC : PUnit × MemSt nD τ sig (Elt F) → Prop := fun r => (∀ d : Dev nD, ∀ b ∈ S14, r.2.mem (d, b) = WF m hf d b) ∧ r.2.sem = fun _ => 0

theorem run_main [∀ e, Nonempty (Elt F e)] : θ_run (defs (F := F)) (threads (F := F)) ⟨m, fun _ => 0, ρ⟩ (QC m hf) :=
  SparseCore.Cfg.θ_run_sc_quiescent (K := K (F := F)) (D := D (F := F)) (𝒱 := 𝒱) (EH := EH) (P := PP m hf) (A := ∅) facts v₀
    (fun q hq => match q with | 0 => nomatch hq)
    (fun q _ => match q with | 0 => tileObl (fv m) (gv m) (g'v m hf) hf fun _ => rfl)
    (fun q _ => match q with | 0 => SparseCore.Cfg.VecSplit.of_plain (vecSplit (fv m) (gv m) (g'v m hf)))
    m ρ main (fun d => G (F := F) d) (FIN m hf) (u₀ (F := F)) (sep_elim_left.trans (hu₀ (fv m) (gv m) (g'v m hf))) (hmain m ρ hf) (fq m hf) (hfin m hf) (QC m hf) (fun _ h hz => ⟨h, hz⟩)

end Cert.Proof.KernelIdeal

end
-- ==== Proof.FrameKernelIdeal.lean ====
module

public import proofs.«01_k».proof.Proof.MainKernelIdeal

/-!
  What the run says of the program's arguments and of its result.
-/

@[expose] public section

noncomputable section

namespace Cert.Proof.KernelIdeal

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The indices as the tiles read them: the index array, its elements in order. -/
theorem fv_eq (d : Dev nD) : fv m d = shapeCast S32768x16 (m (d, arg3') : IVec S1x4x2048x64 32) shapeCasts_S1x4x2048x64_S32768x16 := by
  unfold fv W3
  rw [(op1 (F := F)).result_of_not_mem _ (show v0' ∉ ({v1'} : Finset (DevRef τ sig)) by decide),
    (opc (F := F)).result_of_not_mem _ (show v0' ∉ ({c'} : Finset (DevRef τ sig)) by decide)]
  exact StableHlo.reshape_result' _ _ _ _ _

theorem inF_of (d : Dev nD) (h : ∀ j, ((m (d, arg3') : IVec S1x4x2048x64 32) j).toNat < 2048) : InF (fv m d) := by
  rw [fv_eq]; exact fun x => h _

variable (hf : ∀ d, InF (fv m d))

/-- The buffers the program writes. -/
abbrev written : Finset (DevRef τ sig) := {v0', c', v1', v2', v3', v4', v5', v6', v7', v8'}

theorem W3_kept (d : Dev nD) (b : DevRef τ sig) (hb : b ∉ written) : W3 m d b = m (d, b) := by
  have h : ∀ y ∈ written, b ∉ ({y} : Finset (DevRef τ sig)) := fun y hy e => hb (Finset.mem_singleton.mp e ▸ hy)
  unfold W3
  rw [(op1 (F := F)).result_of_not_mem _ (h v1' (by decide)), (opc (F := F)).result_of_not_mem _ (h c' (by decide)),
    (op0 (F := F)).result_of_not_mem _ (h v0' (by decide))]
  rfl

theorem kept (d : Dev nD) (b : DevRef τ sig) (hb : b ∉ written) : WF m hf d b = m (d, b) := by
  have h : ∀ y ∈ written, b ∉ ({y} : Finset (DevRef τ sig)) := fun y hy e => hb (Finset.mem_singleton.mp e ▸ hy)
  have hn : ∀ y ∈ written, b ≠ y := fun y hy e => hb (e ▸ hy)
  unfold WF W9
  rw [(op8 (F := F)).result_of_not_mem _ (h v8' (by decide)), Function.update_of_ne (hn v7' (by decide))]
  unfold W8
  rw [(op6 (F := F)).result_of_not_mem _ (h v6' (by decide)), (op5 (F := F)).result_of_not_mem _ (h v5' (by decide)),
    (op4 (F := F)).result_of_not_mem _ (h v4' (by decide)), (op3 (F := F)).result_of_not_mem _ (h v3' (by decide))]
  unfold W4
  rw [Function.update_of_ne (hn v2' (by decide)), W3_kept m d b hb]

/-- The result: the attention call's array, its elements in order. -/
theorem result_eq (d : Dev nD) : WF m hf d v8' = shapeCast S1x16x2048x128 (out7 m hf d) shapeCasts_S4x4x2048x128_S1x16x2048x128 := by
  unfold WF
  refine (StableHlo.reshape_result' _ _ _ _ _).trans ?_
  unfold W9
  rw [Function.update_self]
  rfl

/-- The run in the claims' words: the result named, the arguments as they were, every counter at zero. -/
theorem run_named [∀ e, Nonempty (Elt F e)] : θ_run (defs (F := F)) (threads (F := F)) ⟨m, fun _ => 0, ρ⟩ (fun r =>
    (∀ d : Dev nD, r.2.mem (d, v8') = shapeCast S1x16x2048x128 (out7 m hf d) shapeCasts_S4x4x2048x128_S1x16x2048x128
      ∧ r.2.mem (d, arg0') = m (d, arg0') ∧ r.2.mem (d, arg1') = m (d, arg1') ∧ r.2.mem (d, arg2') = m (d, arg2') ∧ r.2.mem (d, arg3') = m (d, arg3'))
    ∧ r.2.sem = fun _ => 0) :=
  (θ_run defs _ _).mono (fun r h => ⟨fun d =>
    ⟨(h.1 d v8' (by decide)).trans (result_eq m hf d), (h.1 d arg0' (by decide)).trans (kept m hf d _ (by decide)),
      (h.1 d arg1' (by decide)).trans (kept m hf d _ (by decide)), (h.1 d arg2' (by decide)).trans (kept m hf d _ (by decide)),
      (h.1 d arg3' (by decide)).trans (kept m hf d _ (by decide))⟩, h.2⟩) (run_main m ρ hf)

end Cert.Proof.KernelIdeal

end
-- ==== Proof.Range.lean ====
module

public import proofs.«01_k».proof.Pre_in_range
public import Idealize.ShloMosaic.Lib.ReduceAll

/-!
  What the precondition says of the index array: every index, read as a natural number, is below 2048.
-/

@[expose] public section

noncomputable section

namespace Cert.Range

open Idealize.ShloMosaic

theorem andi_ofBool (a b : Bool) : IntOp.andi (BitVec.ofBool a) (BitVec.ofBool b) = BitVec.ofBool (a && b) := by
  cases a <;> cases b <;> rfl
theorem ofBool_eq_one (a : Bool) : BitVec.ofBool a = 1#1 ↔ a = true := by cases a <;> decide

theorem word_lt (v : BitVec 32) (e : IntOp.andi (IntOp.cmpi .sge v 0#32) (IntOp.cmpi .slt v 2048#32) = 1#1) : v.toNat < 2048 := by
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

theorem lt_of_fn {F : FTy → Type} [FloatOps F] [Pre_in_range.Facts] (q : FVec F Pre_in_range.S1x16x2048x128 .f32)
    (k v : FVec F Pre_in_range.S1x4x2048x128 .f32) (i : IVec Pre_in_range.S1x4x2048x64 32)
    (h : Pre_in_range.fn q k v i = fun _ => 1#1) (j : Pre_in_range.S1x4x2048x64.Idx) : (i j).toNat < 2048 := by
  dsimp only [Pre_in_range.fn] at h
  exact word_lt _ (Host.reduce_andi_all _ _ _ _ _ (congrFun h fun a => a.elim0) j)

end Cert.Range

end
-- ==== Proof.Frames.lean ====
module

public import proofs.«01_k».proof.Defs
public import proofs.«01_k».proof.Proof.FrameKernel
public import proofs.«01_k».proof.Proof.FrameKernelIdeal
public import proofs.«01_k».proof.Proof.Range
public import proofs.«01_k».proof.Proof.Gen.ReferenceIdeal
public import proofs.«01_k».proof.Proof.Gen.ReferenceIdeal.Run
public import proofs.«01_k».proof.Proof.Gen.Pre_in_range
public import Idealize.ShloMosaic.Lib.Quiescent

/-!
  The frames of the three programs, and the named constant.
-/

@[expose] public section

noncomputable section

namespace Cert.Proof

open Idealize.ShloMosaic Idealize.ShloMosaic.TcCoe Idealize.SL.Sem

theorem frame_p : Cert.quiescent_Kernel := fun m ρ h =>
  have : ∀ e, Nonempty (Elt Bits e) := fun _ => inferInstance
  (θ_run _ _ _).mono (fun _ hr => ⟨fun c => (hr.1 c).2, hr.2⟩)
    (Cert.Proof.Kernel.run_named m ρ fun d => Cert.Proof.Kernel.inF_of m d (Cert.Range.lt_of_fn _ _ _ _ (h d)))

theorem frame_pi : Cert.quiescent_KernelIdeal := fun m ρ h =>
  have : ∀ e, Nonempty (Elt Ideal e) := fun _ => inferInstance
  (θ_run _ _ _).mono (fun _ hr => ⟨fun c => (hr.1 c).2, hr.2⟩)
    (Cert.Proof.KernelIdeal.run_named m ρ fun d => Cert.Proof.KernelIdeal.inF_of m d (Cert.Range.lt_of_fn _ _ _ _ (h d)))

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "s" .f32 0x3DB504F3#32 (((Real.sqrt 128)⁻¹ : ℝ) : EReal) rfl

end Cert.Proof

end
-- ==== Proof.Consts.lean ====
module

public import Idealize.ShloMosaic.PureOps.Ideal

/-!
# The constants as extended reals
-/

@[expose] public section

noncomputable section

namespace Cert.Consts

open Idealize.ShloMosaic

theorem ofBits_ninf : Ideal.ofBits .f32 0xFF800000#32 = ⊥ := by simp [Ideal.ofBits, Ideal.ieee]

theorem ofBits_inf : Ideal.ofBits .f32 0x7F800000#32 = ⊤ := by simp [Ideal.ofBits, Ideal.ieee]

theorem ofBits_headSize : Ideal.ofBits .f32 0x43000000#32 = ((128 : ℝ) : EReal) := by
  simp [Ideal.ofBits, Ideal.ieee, -EReal.coe_mul]; norm_num

/-- The reference's scale is the kernel's named constant. -/
theorem scale_eq : Ideal.div 1 (Ideal.sqrt (Ideal.ofBits .f32 0x43000000#32)) = (((Real.sqrt 128)⁻¹ : ℝ) : EReal) := by
  have h : Real.sqrt 128 ≠ 0 := by positivity
  rw [ofBits_headSize, Ideal.sqrt_coe, if_neg (by norm_num), Ideal.div_coe h, one_mul, one_div]

end Cert.Consts

end
-- ==== Proof.FinRange.lean ====
module

public import proofs.«01_k».proof.Pre_in_range_and_finite
public import proofs.«01_k».proof.Proof.Range
public import proofs.«01_k».proof.Proof.Consts

/-!
  What the precondition with finiteness says: every index is below 2048, and every query and key element is a real number.
-/

@[expose] public section

noncomputable section

namespace Cert.FinRange

open Idealize.ShloMosaic Cert.Pre_in_range_and_finite

/-- An element whose magnitude is below infinity is a real number. -/
theorem real_of_lt (x : Ideal .f32) (h : Ideal.cmp .olt (max x (-x)) (Ideal.ofBits .f32 0x7F800000#32) = 1#1) :
    x = (EReal.toReal x : EReal) := by
  rw [Cert.Consts.ofBits_inf] at h
  have hlt : max (x : EReal) (-x) < ⊤ := by
    by_contra hn
    have : Ideal.cmp .olt (max x (-x)) (⊤ : EReal) = 0#1 := by
      show Ideal.cmp .olt _ _ = _
      simp [Ideal.cmp, hn]
    rw [this] at h
    exact absurd h (by decide)
  refine (EReal.coe_toReal ?_ ?_).symm
  · rintro rfl; simp at hlt
  · rintro rfl; simp at hlt

variable [Facts] (q : FVec Ideal S1x16x2048x128 .f32) (k v : FVec Ideal S1x4x2048x128 .f32) (i : IVec S1x4x2048x64 32)
  (h : fn q k v i = fun _ => 1#1)

include h

theorem index_lt (j : S1x4x2048x64.Idx) : (i j).toNat < 2048 := by
  dsimp only [fn] at h
  have h0 := congrFun h fun a => a.elim0
  have h1 := (IntOp.andi_eq_one.mp (IntOp.andi_eq_one.mp h0).1).1
  exact Cert.Range.word_lt _ (Host.reduce_andi_all _ _ _ _ _ h1 j)

theorem q_real (j : S1x16x2048x128.Idx) : q j = (EReal.toReal (q j) : EReal) := by
  dsimp only [fn] at h
  have h0 := congrFun h fun a => a.elim0
  have h1 := (IntOp.andi_eq_one.mp (IntOp.andi_eq_one.mp h0).1).2
  exact real_of_lt _ (Host.reduce_andi_all _ _ _ _ _ h1 j)

theorem k_real (j : S1x4x2048x128.Idx) : k j = (EReal.toReal (k j) : EReal) := by
  dsimp only [fn] at h
  have h0 := congrFun h fun a => a.elim0
  have h1 := (IntOp.andi_eq_one.mp h0).2
  exact real_of_lt _ (Host.reduce_andi_all _ _ _ _ _ h1 j)

end Cert.FinRange

end
-- ==== Proof.Soft.lean ====
module

public import Idealize.ShloMosaic.PureOps.Ideal
public import Idealize.ShloMosaic.PureOps.Ideal.Laws

/-!
  Softmax over a selection of keys, two ways: once per selected place, and once per key with the number of places that
  select it, the number's logarithm added to the key's score.
-/

@[expose] public section

noncomputable section

namespace Cert.Soft

open Idealize.ShloMosaic

/-! ## Sums of extended reals -/

theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem sum_mul {ι : Type} (s : Finset ι) (f : ι → EReal) {r : ℝ} (hr : 0 ≤ r) : (∑ i ∈ s, f i) * (r : EReal) = ∑ i ∈ s, f i * (r : EReal) := by
  classical
  refine Finset.induction_on s (by simp) fun a s ha ih => ?_
  rw [Finset.sum_insert ha, Finset.sum_insert ha,
    EReal.right_distrib_of_nonneg_of_ne_top (by exact_mod_cast hr) (EReal.coe_ne_top r), ih]

theorem natCast_mul (n : ℕ) (x : EReal) : ((n : ℝ) : EReal) * x = n • x := by
  induction n with
  | zero => simp
  | succ n ih =>
    rw [succ_nsmul, ← ih, Nat.cast_succ, EReal.coe_add, EReal.right_distrib_of_nonneg (by positivity) (by norm_num)]
    simp

variable {K T : ℕ}

/-- How many places select key `j`. -/
def cnt (ix : Fin T → Fin K) (j : Fin K) : ℕ := (Finset.univ.filter fun t => ix t = j).card

/-- A sum over the places is a sum over the keys, each as often as it is selected. -/
theorem sum_places (ix : Fin T → Fin K) (f : Fin K → EReal) : ∑ t, f (ix t) = ∑ j, ((cnt ix j : ℝ) : EReal) * f j := by
  rw [← Finset.sum_fiberwise (s := Finset.univ) (g := ix)]
  refine Finset.sum_congr rfl fun j _ => ?_
  rw [natCast_mul, cnt, ← Finset.sum_const]
  exact Finset.sum_congr rfl fun t ht => by rw [(Finset.mem_filter.mp ht).2]

theorem sum_places_real (ix : Fin T → Fin K) (f : Fin K → ℝ) : ∑ t, f (ix t) = ∑ j, (cnt ix j : ℝ) * f j := by
  rw [← Finset.sum_fiberwise (s := Finset.univ) (g := ix)]
  refine Finset.sum_congr rfl fun j _ => ?_
  rw [cnt, ← nsmul_eq_mul, ← Finset.sum_const]
  exact Finset.sum_congr rfl fun t ht => by rw [(Finset.mem_filter.mp ht).2]

/-! ## The maximum is a real number -/

/-- The largest of a family of extended reals, `⊥` when there is none. -/
def top {n : ℕ} (f : Fin n → EReal) : EReal := (Finset.univ : Finset (Fin n)).fold max ⊥ f

theorem top_real {n : ℕ} (f : Fin n → EReal) (h1 : ∀ i, f i ≠ ⊤) (h2 : ∃ i, f i ≠ ⊥) : ∃ r : ℝ, top f = (r : EReal) := by
  have ht : top f ≠ ⊤ := by
    have : top f < ⊤ := (Finset.fold_max_lt (c := (⊤ : EReal))).mpr ⟨bot_lt_top, fun i _ => lt_top_iff_ne_top.mpr (h1 i)⟩
    exact this.ne
  have hb : top f ≠ ⊥ := by
    obtain ⟨i, hi⟩ := h2
    have : f i ≤ top f := (Finset.le_fold_max (f i)).mpr (.inr ⟨i, Finset.mem_univ i, le_refl _⟩)
    exact fun e => hi (le_bot_iff.mp (e ▸ this))
  exact ⟨(top f).toReal, (EReal.coe_toReal ht hb).symm⟩

/-! ## The two sides -/

variable (ix : Fin T → Fin K) (s : Fin K → ℝ) (v : Fin K → EReal)

/-- The normalising sum. -/
def Z : ℝ := ∑ t, Real.exp (s (ix t))

theorem Z_pos (hT : 0 < T) : 0 < Z ix s :=
  Finset.sum_pos (fun _ _ => Real.exp_pos _) ⟨⟨0, hT⟩, Finset.mem_univ _⟩

/-- The weighted sum that both programs compute. -/
def soft : EReal := ∑ t, ((Real.exp (s (ix t)) / Z ix s : ℝ) : EReal) * v (ix t)

/-- A key's score with the logarithm of its count added. -/
def sc (j : Fin K) : EReal := (s j : EReal) + Ideal.log ((cnt ix j : ℝ) : EReal)

theorem sc_zero {j : Fin K} (h : cnt ix j = 0) : sc ix s j = ⊥ := by
  have : Ideal.log (((0 : ℕ) : ℝ) : EReal) = ⊥ := by rw [Ideal.log_coe, if_pos (by simp)]
  unfold sc; rw [h, this]; exact EReal.add_bot _

theorem sc_pos {j : Fin K} (h : cnt ix j ≠ 0) : sc ix s j = ((s j + Real.log (cnt ix j) : ℝ) : EReal) := by
  have : ¬ ((cnt ix j : ℝ) ≤ 0) := not_le.mpr (Nat.cast_pos.mpr (Nat.pos_of_ne_zero h))
  unfold sc; rw [Ideal.log_coe, if_neg this, EReal.coe_add]

theorem exp_sc (j : Fin K) (r : ℝ) : Ideal.exp (sc ix s j - (r : EReal)) = (((cnt ix j : ℝ) * Real.exp (s j - r) : ℝ) : EReal) := by
  by_cases h : cnt ix j = 0
  · rw [sc_zero ix s h, h]; simp
  · have hp : 0 < (cnt ix j : ℝ) := Nat.cast_pos.mpr (Nat.pos_of_ne_zero h)
    rw [sc_pos ix s h, ← EReal.coe_sub, Ideal.exp_coe, show s j + Real.log (cnt ix j) - r = Real.log (cnt ix j) + (s j - r) by ring,
      Real.exp_add, Real.exp_log hp]

theorem top_sc (hT : 0 < T) : ∃ r : ℝ, top (sc ix s) = (r : EReal) := by
  refine top_real _ (fun j => ?_) ⟨ix ⟨0, hT⟩, ?_⟩
  · by_cases h : cnt ix j = 0
    · rw [sc_zero ix s h]; exact bot_ne_top
    · rw [sc_pos ix s h]; exact EReal.coe_ne_top _
  · have : cnt ix (ix ⟨0, hT⟩) ≠ 0 := Finset.card_ne_zero.mpr ⟨⟨0, hT⟩, Finset.mem_filter.mpr ⟨Finset.mem_univ _, rfl⟩⟩
    rw [sc_pos ix s this]; exact EReal.coe_ne_bot _

theorem Z_shift (r : ℝ) : ∑ t, Real.exp (s (ix t) - r) = Z ix s * Real.exp (-r) := by
  unfold Z; rw [Finset.sum_mul]
  exact Finset.sum_congr rfl fun t _ => by rw [sub_eq_add_neg, Real.exp_add]

/-- Once per key. -/
theorem by_key (hT : 0 < T) :
    Ideal.div (∑ j, Ideal.exp (sc ix s j - top (sc ix s)) * v j) (∑ j, Ideal.exp (sc ix s j - top (sc ix s))) = soft ix s v := by
  obtain ⟨r, hr⟩ := top_sc ix s hT
  have hZ := Z_pos ix s hT
  have hD : (∑ j, (cnt ix j : ℝ) * Real.exp (s j - r)) = Z ix s * Real.exp (-r) := by
    rw [← sum_places_real ix fun j => Real.exp (s j - r)]; exact Z_shift ix s r
  have hDp : 0 < Z ix s * Real.exp (-r) := mul_pos hZ (Real.exp_pos _)
  simp only [hr, exp_sc]
  rw [← coe_sum, hD, Ideal.div_coe hDp.ne', sum_mul _ _ (by positivity)]
  unfold soft
  rw [sum_places ix fun j => ((Real.exp (s j) / Z ix s : ℝ) : EReal) * v j]
  refine Finset.sum_congr rfl fun j _ => ?_
  rw [mul_right_comm, ← mul_assoc, ← EReal.coe_mul, ← EReal.coe_mul]
  congr 2
  rw [sub_eq_add_neg, Real.exp_add]
  field_simp

/-- Once per place. -/
theorem by_place (hT : 0 < T) (M : EReal) (hM : M = top fun t => (s (ix t) : EReal)) (D : EReal)
    (hD : D = ∑ t, Ideal.exp ((s (ix t) : EReal) - M)) :
    ∑ t, v (ix t) * Ideal.div (Ideal.exp ((s (ix t) : EReal) - M)) D = soft ix s v := by
  obtain ⟨r, hr⟩ := top_real (fun t => (s (ix t) : EReal)) (fun t => EReal.coe_ne_top _) ⟨⟨0, hT⟩, EReal.coe_ne_bot _⟩
  have hZ := Z_pos ix s hT
  have hDp : 0 < Z ix s * Real.exp (-r) := mul_pos hZ (Real.exp_pos _)
  have e : ∀ t, Ideal.exp ((s (ix t) : EReal) - (r : EReal)) = ((Real.exp (s (ix t) - r) : ℝ) : EReal) := fun t => by
    rw [← EReal.coe_sub, Ideal.exp_coe]
  rw [hD, hM, hr]
  simp only [e]
  rw [← coe_sum, Z_shift]
  unfold soft
  refine Finset.sum_congr rfl fun t _ => ?_
  rw [Ideal.div_coe hDp.ne', mul_comm, ← EReal.coe_mul]
  congr 2
  rw [sub_eq_add_neg, Real.exp_add]
  field_simp

end Cert.Soft

end
-- ==== Proof.KPay.lean ====
module

public import proofs.«01_k».proof.Proof.AttnKernelIdeal
public import proofs.«01_k».proof.Proof.Consts
public import proofs.«01_k».proof.Proof.Soft
public import Idealize.ShloMosaic.Lib.Pointwise

/-!
# The attention body's block, element by element
-/

@[expose] public section

noncomputable section

namespace Cert.Proof.KernelIdeal

open Cert.KernelIdeal Cert.KernelIdeal.Gen Idealize.ShloMosaic

theorem pay3_apply (x : Vec Ideal S1x2048x128 .f32) (j : Fin 2048) (d : Fin 128) : k1_pay3 x (ix2 j d) = x (ix3 0 j d) := by
  pointwise [k1_pay3]

theorem pay4_apply (x : Vec Ideal S1x2048x128 .f32) (j : Fin 2048) (d : Fin 128) : k1_pay4 x (ix2 j d) = x (ix3 0 j d) := by
  pointwise [k1_pay4]

theorem pay5_apply (i : grid1.Coords) (x : Vec Ideal S1x512x2048 .i32) (r : Fin 512) (j : Fin 2048) :
    k1_pay5 i x (ix2 r j)
      = Ideal.log ((((IntOp.shrui ArithUnit.vector (x (ix3 0 r j)) (Scalar.muli (BitVec.ofNat 32 (i 1).val) 8#32) &&& 255#32).toInt : ℝ) : EReal)) := by
  pointwise [k1_pay5]
  rfl

/-- The score of key `j` for row `r` of a block. -/
def scoreOf (kb : Vec Ideal S2048x128 .bf16) (b : FVec Ideal S512x2048 .f32) (q : Vec Ideal S1x1x512x128 .f32) (r : Fin 512) (j : Fin 2048) : EReal :=
  ∑ x : Fin 128, q (ix4 0 0 r x) * (((Real.sqrt 128)⁻¹ : ℝ) : EReal) * kb (ix2 j x) + b (ix2 r j)

theorem pay8_apply (kb vb : Vec Ideal S2048x128 .bf16) (b : FVec Ideal S512x2048 .f32) (q : Vec Ideal S1x1x512x128 .f32) (r : Fin 512) (d : Fin 128) :
    k1_pay8 kb vb b q (ix4 0 0 r d)
      = Ideal.div (∑ j, Ideal.exp (scoreOf kb b q r j - Cert.Soft.top (scoreOf kb b q r)) * vb (ix2 j d))
          (∑ j, Ideal.exp (scoreOf kb b q r j - Cert.Soft.top (scoreOf kb b q r))) := by
  have e : (Named.named κ "s" 0x3DB504F3#32 : Ideal .f32) = (((Real.sqrt 128)⁻¹ : ℝ) : EReal) :=
    IdealRules.named_const.ideal_named_scalar _ _ _ _ rfl
  pointwise [k1_pay8]
  rw [e, Cert.Consts.ofBits_ninf]
  rfl

end Cert.Proof.KernelIdeal

end
-- ==== Proof.KBlocks.lean ====
module

public import proofs.«01_k».proof.Proof.MainKernelIdeal
public import Idealize.ShloMosaic.Lib.Pointwise
public import Idealize.ShloMosaic.Lib.Pipeline.ValueKit.Geometry

/-!
# The attention call's blocks, element by element

Point `t` of the attention call's grid is block `t % 4` of the query rows of key head `t / 4`.
-/

@[expose] public section

noncomputable section

namespace Cert.Proof.KernelIdeal

open Cert.KernelIdeal Cert.KernelIdeal.Gen Cert.Scat

open Idealize.ShloMosaic
open Idealize.ShloMosaic.Tactic Idealize.ShloMosaic.TcCoe
open Idealize.ShloMosaic.Pipeline (Dat Cfg Window)

variable {F : FTy → Type} [FloatOps F] [Named F]

/-- A point's key head. -/
def hd (t : Fin cfg1.N) : Fin 4 := ⟨t.val / 4, by have h : t.val < 16 := t.isLt; omega⟩
/-- A row of a point's block among the query rows. -/
def rw_ (t : Fin cfg1.N) (r : Fin 512) : Fin 2048 := ⟨t.val % 4 * 512 + r.val, by omega⟩

theorem coords_1 : ∀ t : Fin cfg1.N, (grid1.coords t 1).val = t.val % 4 := by decide

variable (V : (c : Dev nD) → (b : Ref sig .tc) → Buf (Elt F) ((c : Thread nD τ).loc b)) (c : Dev nD) (t : Fin cfg1.N)

theorem idx0 : ∀ t : Fin cfg1.N, (cfg1.win 0).index t 0 = t.val / 4 ∧ (cfg1.win 0).index t 1 = 0 ∧ (cfg1.win 0).index t 2 = t.val % 4 ∧ (cfg1.win 0).index t 3 = 0 := by decide
theorem idx1 : ∀ t : Fin cfg1.N, (cfg1.win 1).index t 0 = t.val / 4 ∧ (cfg1.win 1).index t 1 = 0 ∧ (cfg1.win 1).index t 2 = 0 := by decide
theorem idx2 : ∀ t : Fin cfg1.N, (cfg1.win 2).index t 0 = t.val / 4 ∧ (cfg1.win 2).index t 1 = 0 ∧ (cfg1.win 2).index t 2 = 0 := by decide
theorem idx3 : ∀ t : Fin cfg1.N, (cfg1.win 3).index t 0 = t.val / 4 ∧ (cfg1.win 3).index t 1 = 0 ∧ (cfg1.win 3).index t 2 = 0 := by decide
theorem idx4 : ∀ t : Fin cfg1.N, (cfg1.win 4).index t 0 = t.val / 4 ∧ (cfg1.win 4).index t 1 = 0 ∧ (cfg1.win 4).index t 2 = t.val % 4 ∧ (cfg1.win 4).index t 3 = 0 := by decide

theorem qB_apply (g : Fin 4) (r : Fin 512) (x : Fin 128) :
    qB V c t (ix4 0 g r x) = (V c main_v4 : Vec F S4x4x2048x128 .f32) (ix4 (hd t) g (rw_ t r) x) := by
  obtain ⟨h0, h1, h2, h3⟩ := idx0 t
  unfold qB
  rw [View.read_apply]
  show V c main_v4 _ = V c main_v4 _
  congr 1
  funext a
  apply Fin.ext
  match a with
  | ⟨0, _⟩ => show (cfg1.win 0).index t 0 * 1 + 1 * 0 = t.val / 4; omega
  | ⟨1, _⟩ => show (cfg1.win 0).index t 1 * 4 + 1 * g.val = g.val; omega
  | ⟨2, _⟩ => show (cfg1.win 0).index t 2 * 512 + 1 * r.val = t.val % 4 * 512 + r.val; omega
  | ⟨3, _⟩ => show (cfg1.win 0).index t 3 * 128 + 1 * x.val = x.val; omega

theorem kB_apply (j : Fin 2048) (x : Fin 128) :
    kB V c t (ix3 0 j x) = (V c main_v5 : Vec F S4x2048x128 .f32) (ix3 (hd t) j x) := by
  obtain ⟨h0, h1, h2⟩ := idx1 t
  unfold kB
  rw [View.read_apply]
  show V c main_v5 _ = V c main_v5 _
  congr 1
  funext a
  apply Fin.ext
  match a with
  | ⟨0, _⟩ => show (cfg1.win 1).index t 0 * 1 + 1 * 0 = t.val / 4; omega
  | ⟨1, _⟩ => show (cfg1.win 1).index t 1 * 2048 + 1 * j.val = j.val; omega
  | ⟨2, _⟩ => show (cfg1.win 1).index t 2 * 128 + 1 * x.val = x.val; omega

theorem vB_apply (j : Fin 2048) (x : Fin 128) :
    vB V c t (ix3 0 j x) = (V c main_v6 : Vec F S4x2048x128 .f32) (ix3 (hd t) j x) := by
  obtain ⟨h0, h1, h2⟩ := idx2 t
  unfold vB
  rw [View.read_apply]
  show V c main_v6 _ = V c main_v6 _
  congr 1
  funext a
  apply Fin.ext
  match a with
  | ⟨0, _⟩ => show (cfg1.win 2).index t 0 * 1 + 1 * 0 = t.val / 4; omega
  | ⟨1, _⟩ => show (cfg1.win 2).index t 1 * 2048 + 1 * j.val = j.val; omega
  | ⟨2, _⟩ => show (cfg1.win 2).index t 2 * 128 + 1 * x.val = x.val; omega

theorem mB_apply (r : Fin 512) (j : Fin 2048) :
    mB V c t (ix3 0 r j) = (V c main_v3 : Vec F S4x512x2048 .i32) (ix3 (hd t) r j) := by
  obtain ⟨h0, h1, h2⟩ := idx3 t
  unfold mB
  rw [View.read_apply]
  show V c main_v3 _ = V c main_v3 _
  congr 1
  funext a
  apply Fin.ext
  match a with
  | ⟨0, _⟩ => show (cfg1.win 3).index t 0 * 1 + 1 * 0 = t.val / 4; omega
  | ⟨1, _⟩ => show (cfg1.win 3).index t 1 * 512 + 1 * r.val = r.val; omega
  | ⟨2, _⟩ => show (cfg1.win 3).index t 2 * 2048 + 1 * j.val = j.val; omega

theorem jx_ix (g : Fin 4) (r : Fin 512) (d : Fin 128) : jx (ix4 0 g r d) = ix4 0 0 r d := by
  funext a
  match a with
  | ⟨0, _⟩ => rfl
  | ⟨1, _⟩ => rfl
  | ⟨2, _⟩ => rfl
  | ⟨3, _⟩ => rfl

theorem ld_head (q : Vec F S1x4x512x128 .f32) (g : Fin 4) (r : Fin 512) (x : Fin 128) :
    View.ld (Val := Elt F) (e' := .f32) q (rectG g) (ix4 0 0 r x) = q (ix4 0 g r x) := by
  have e := emb_jx (ix4 0 g r x)
  rw [jx_ix] at e
  exact congrArg q e

/-- The result array, from what the body leaves at each point. -/
theorem arrAt_eq (G : Vec F S4x4x2048x128 .f32)
    (h : ∀ (t : Fin cfg1.N) (g : Fin 4) (r : Fin 512) (d : Fin 128), oB V c t (ix4 0 g r d) = G (ix4 (hd t) g (rw_ t r) d)) :
    (dat V c).arrAt 4 cfg1.N = G := by
  refine (dat V c).arrAt_eq_of_covers 4 G (by decide +kernel) fun t hf y => ?_
  obtain ⟨h0, h1, h2, h3⟩ := idx4 t
  have e : y = ix4 0 (y 1) (y 2) (y 3) := by
    funext a
    match a with
    | ⟨0, _⟩ => exact Subsingleton.elim (α := Fin 1) _ _
    | ⟨1, _⟩ => rfl
    | ⟨2, _⟩ => rfl
    | ⟨3, _⟩ => rfl
  show oB V c t y = _
  refine (congrArg (oB V c t) e).trans ((h t (y 1) (y 2) (y 3)).trans ?_)
  congr 1
  funext a
  apply Fin.ext
  have y0 : (y 0).val < 1 := (y 0).isLt
  match a with
  | ⟨0, _⟩ => show t.val / 4 = (cfg1.win 4).index t 0 * 1 + 1 * (y 0).val; omega
  | ⟨1, _⟩ => show (y 1).val = (cfg1.win 4).index t 1 * 4 + 1 * (y 1).val; omega
  | ⟨2, _⟩ => show t.val % 4 * 512 + (y 2).val = (cfg1.win 4).index t 2 * 512 + 1 * (y 2).val; omega
  | ⟨3, _⟩ => show (y 3).val = (cfg1.win 4).index t 3 * 128 + 1 * (y 3).val; omega

end Cert.Proof.KernelIdeal

end
-- ==== Proof.Count.lean ====
module

public import proofs.«01_k».proof.Proof.Scat
public import proofs.«01_k».proof.Proof.Soft
public import Idealize.ShloMosaic.Lib.Pipeline.Value

/-!
# The fields of a word of the table are counts

A word of a chunk's table is a sum of powers of 256, one for every lane that hit it. Sorted by field this is the sum of
four counts times the powers of 256. A count is at most 64, so no field carries into the next, and shifting and masking
a word gives the count of the field.
-/

@[expose] public section

namespace Cert.Count

open Idealize.ShloMosaic Cert.Scat

/-! ## Sums of words as words of sums -/

theorem sum_ofNat {ι : Type} (f : ι → ℕ) :
    ∀ l : List ι, (l.map fun i => BitVec.ofNat 32 (f i)).sum = BitVec.ofNat 32 (l.map f).sum
  | [] => rfl
  | i :: l => by rw [List.map_cons, List.sum_cons, sum_ofNat f l, List.map_cons, List.sum_cons, BitVec.ofNat_add]

theorem sum_range_mul (b : ℕ) (g : ℕ → ℕ) : ∀ a : ℕ,
    ∑ p ∈ Finset.range (a * b), g p = ∑ i ∈ Finset.range a, ∑ j ∈ Finset.range b, g (i * b + j)
  | 0 => by simp
  | a + 1 => by rw [Nat.succ_mul, Finset.sum_range_add, sum_range_mul b g a, Finset.sum_range_succ]

theorem list_range_sum (g : ℕ → ℕ) (n : ℕ) : ((List.range n).map g).sum = ∑ p ∈ Finset.range n, g p := by
  induction n with
  | zero => rfl
  | succ n ih => rw [List.range_succ, List.map_append, List.sum_append, ih, Finset.sum_range_succ]; simp

/-! ## A word sorted by field -/

/-- The lane `l` of row `o` of an index buffer. -/
def at_ (I : IVec I128 32) (o : ℕ) (l : Fin 16) : ℕ := (lanes I o (Shape.ofLane (d := ![16]) l)).toNat

/-- How often field `k` of row `r` names column `j`. -/
def fld (I : IVec I128 32) (r k j : ℕ) : ℕ :=
  ∑ t ∈ Finset.range 4, ∑ l : Fin 16, if j = at_ I ((k * 8 + r) * 4 + t) l then 1 else 0

theorem fld_le (I : IVec I128 32) (r k j : ℕ) : fld I r k j ≤ 64 := by
  have h : ∀ t ∈ Finset.range 4, (∑ l : Fin 16, if j = at_ I ((k * 8 + r) * 4 + t) l then 1 else 0) ≤ 16 := fun t _ =>
    (Finset.sum_le_card_nsmul _ _ 1 fun l _ => by split <;> omega).trans (by simp)
  exact (Finset.sum_le_card_nsmul _ _ 16 h).trans (by simp)

/-- What row `p` adds to the word at `j`, as a number. -/
def num (I : IVec I128 32) (p : ℕ) (j : M8.Idx) : ℕ :=
  ∑ l : Fin 16, if (j 0).val = pr p ∧ (j 1).val = at_ I (po p) l then 2 ^ (8 * pk p) else 0

theorem adds_num (I : IVec I128 32) (p : ℕ) (j : M8.Idx) : adds I p j = BitVec.ofNat 32 (num I p j) := by
  unfold adds num
  rw [← List.sum_ofFn (n := 16), List.ofFn_eq_map, ← sum_ofNat]
  congr 1
  refine List.map_congr_left fun l _ => ?_
  by_cases h : Hit I p l j
  · have h' : (j 0).val = pr p ∧ (j 1).val = at_ I (po p) l := h
    rw [if_pos h, if_pos h']; rfl
  · have h' : ¬((j 0).val = pr p ∧ (j 1).val = at_ I (po p) l) := h
    rw [if_neg h, if_neg h']

variable {F : FTy → Type} [FloatOps F]

theorem acc_num (I : IVec I128 32) (hI : InR I) (j : M8.Idx) :
    acc F I hI 128 j = BitVec.ofNat 32 (∑ p ∈ Finset.range 128, num I p j) := by
  have e : (fun p => adds I p j) = fun p => BitVec.ofNat 32 (num I p j) := funext fun p => adds_num I p j
  refine (acc_eq I hI j 128 le_rfl).trans ?_
  rw [e, sum_ofNat, list_range_sum]

theorem num_at (I : IVec I128 32) (j : M8.Idx) (r k t : ℕ) (hk : k < 4) (ht : t < 4) :
    num I (r * 16 + (k * 4 + t)) j
      = if (j 0).val = r then 2 ^ (8 * k) * ∑ l : Fin 16, (if (j 1).val = at_ I ((k * 8 + r) * 4 + t) l then 1 else 0) else 0 := by
  have h1 : pr (r * 16 + (k * 4 + t)) = r := by unfold pr; omega
  have h2 : pk (r * 16 + (k * 4 + t)) = k := by unfold pk; omega
  have h3 : po (r * 16 + (k * 4 + t)) = (k * 8 + r) * 4 + t := by unfold po; omega
  unfold num
  rw [h1, h2, h3]
  by_cases h : (j 0).val = r
  · rw [if_pos h, Finset.mul_sum]
    refine Finset.sum_congr rfl fun l _ => ?_
    simp [h]
  · simp [h]

theorem num_sum (I : IVec I128 32) (j : M8.Idx) :
    ∑ p ∈ Finset.range 128, num I p j = ∑ k ∈ Finset.range 4, 2 ^ (8 * k) * fld I (j 0).val k (j 1).val := by
  have hj : (j 0).val < 8 := (j 0).isLt
  have e := sum_range_mul 16 (fun p => num I p j) 8
  have e' : ∀ r, ∑ p ∈ Finset.range 16, num I (r * 16 + p) j
      = ∑ k ∈ Finset.range 4, ∑ t ∈ Finset.range 4, num I (r * 16 + (k * 4 + t)) j := fun r =>
    sum_range_mul 4 (fun p => num I (r * 16 + p) j) 4
  simp only [Nat.reduceMul] at e
  rw [e, Finset.sum_eq_single (j 0).val]
  · rw [e']
    refine Finset.sum_congr rfl fun k hk => ?_
    unfold fld
    rw [Finset.mul_sum]
    refine Finset.sum_congr rfl fun t ht => ?_
    rw [num_at I j _ k t (Finset.mem_range.1 hk) (Finset.mem_range.1 ht), if_pos rfl]
  · intro r _ hr
    rw [e']
    refine Finset.sum_eq_zero fun k hk => Finset.sum_eq_zero fun t ht => ?_
    rw [num_at I j _ k t (Finset.mem_range.1 hk) (Finset.mem_range.1 ht), if_neg fun h => hr h.symm]
  · intro h; exact absurd (Finset.mem_range.2 hj) h

/-- The word, sorted by field. -/
theorem acc_fields (I : IVec I128 32) (hI : InR I) (j : M8.Idx) :
    acc F I hI 128 j = BitVec.ofNat 32 (∑ k ∈ Finset.range 4, 2 ^ (8 * k) * fld I (j 0).val k (j 1).val) :=
  (acc_num I hI j).trans (congrArg _ (num_sum I j))

/-- Shifting and masking a word gives the field. -/
theorem field_of (N : ℕ → ℕ) (h : ∀ k, N k ≤ 64) (k : ℕ) (hk : k < 4) (i : BitVec 32) (hi : i.toNat = 8 * k) :
    (IntOp.shrui .vector (BitVec.ofNat 32 (∑ k ∈ Finset.range 4, 2 ^ (8 * k) * N k)) i &&& 255#32).toInt = (N k : ℤ) := by
  have h0 := h 0
  have h1 := h 1
  have h2 := h 2
  have h3 := h 3
  have hl : i.toNat < 32 := by omega
  have e : (IntOp.shrui .vector (BitVec.ofNat 32 (∑ k ∈ Finset.range 4, 2 ^ (8 * k) * N k)) i &&& 255#32).toNat = N k := by
    unfold IntOp.shrui
    rw [if_pos hl, BitVec.ushiftRight_eq', BitVec.toNat_and, BitVec.toNat_ushiftRight, BitVec.toNat_ofNat, hi,
      show (255#32 : BitVec 32).toNat = 2 ^ 8 - 1 from rfl, Nat.and_two_pow_sub_one_eq_mod, Nat.shiftRight_eq_div_pow]
    simp only [Finset.sum_range_succ, Finset.sum_range_zero]
    obtain rfl | rfl | rfl | rfl : k = 0 ∨ k = 1 ∨ k = 2 ∨ k = 3 := by omega
    all_goals norm_num
    all_goals omega
  have hb := h k
  rw [BitVec.toInt_eq_toNat_of_lt (by rw [e]; omega), e]

/-! ## A field as a count over the places -/

/-- Place `t` of a row's 64 indices lies in lane `t % 16` of the row's `t / 16`-th index row. -/
theorem fld_cnt (I : IVec I128 32) (r k : ℕ) (ix : Fin 64 → Fin 2048) (j : Fin 2048)
    (h : ∀ (t : Fin 64) (l : Fin 16) (s : ℕ), s < 4 → t.val = s * 16 + l.val → at_ I ((k * 8 + r) * 4 + s) l = (ix t).val) :
    fld I r k j.val = Cert.Soft.cnt ix j := by
  have e : Cert.Soft.cnt ix j = ∑ t : Fin 64, if ix t = j then 1 else 0 := by
    unfold Cert.Soft.cnt; rw [Finset.card_filter]
  rw [e]
  unfold fld
  rw [← Fin.sum_univ_eq_sum_range (fun t => ∑ l : Fin 16, if j.val = at_ I ((k * 8 + r) * 4 + t) l then 1 else 0) 4,
    ← Finset.sum_product', ← (finProdFinEquiv (m := 4) (n := 16)).sum_comp]
  refine Finset.sum_congr rfl fun x _ => ?_
  rw [h (finProdFinEquiv x) x.2 x.1.val x.1.isLt (by simp [finProdFinEquiv]; omega)]
  simp only [Fin.ext_iff, eq_comm]

end Cert.Count
-- ==== Proof.KTable.lean ====
module

public import proofs.«01_k».proof.Proof.SetKernelIdeal
public import proofs.«01_k».proof.Proof.Count
public import Idealize.ShloMosaic.Lib.Pointwise

/-!
# The fields of the table count the selected keys

Row `512 h + r` of the packed table holds, in field `b` of column `j`, how many of the 64 indices of query row
`512 b + r` of key head `h` are `j`.
-/

@[expose] public section

noncomputable section

namespace Cert.Proof.KernelIdeal

open Cert.KernelIdeal Cert.KernelIdeal.Gen Cert.Scat Cert.Count

open Idealize.ShloMosaic

theorem lanes_at (I : IVec I128 32) (o : ℕ) (ho : o < 128) (l : Fin 16) :
    at_ I o l = (I (ix2 ⟨o, ho⟩ l)).toNat := by
  unfold at_ lanes
  rw [Idealize.ShloMosaic.shapeCast_apply (ldRow I o) casts (Shape.ofLane (d := ![16]) l) (ix2 0 l)
    ((rowMajor_val2 (ix2 (0 : Fin 1) l) 16 rfl).trans ((rowMajor_val1 (Shape.ofLane (d := ![16]) l)).symm ▸ (by show 0 * 16 + l.val = l.val; omega)))]
  unfold ldRow
  congr 2
  funext a
  apply Fin.ext
  match a with
  | ⟨0, _⟩ => show o % 128 = o; omega
  | ⟨1, _⟩ => rfl

variable {F : FTy → Type} [FloatOps F]

theorem tbl_field (A : IVec S1x4x2048x64 32) (hc : S1x4x2048x64.ShapeCasts S32768x16) (hf : InF (shapeCast S32768x16 A hc))
    (sel : Fin 64 → Fin 2048) (h b : Fin 4) (r : Fin 512) (s : Fin 2048) (hs : s.val = b.val * 512 + r.val)
    (hsel : ∀ t, (A (ix4 0 h s t)).toNat = (sel t).val) (R : Fin 2048) (hR : R.val = h.val * 512 + r.val) (j : Fin 2048)
    (i : BitVec 32) (hi : i.toNat = 8 * b.val) :
    (IntOp.shrui .vector (tbl (F := F) (shapeCast S32768x16 A hc) hf (ix2 R j)) i &&& 255#32).toInt = (Cert.Soft.cnt sel j : ℤ) := by
  have e : Cert.Count.fld (chunk (shapeCast S32768x16 A hc) (R.val / 8)) (R.val % 8) b.val j.val = Cert.Soft.cnt sel j := by
    refine fld_cnt _ _ _ sel j fun t l u hu ht => ?_
    have hb := b.isLt
    have hh := h.isLt
    have hr := r.isLt
    rw [lanes_at _ _ (by omega), ← hsel t]
    unfold chunk
    refine congrArg BitVec.toNat (Idealize.ShloMosaic.shapeCast_apply A hc _ (ix4 0 h s t) ?_)
    refine (rowMajor_val4 (ix4 (0 : Fin 1) h s t) _ _ _ rfl rfl rfl).trans (Eq.trans ?_ (rowMajor_val2 (d := ![32768, 16]) _ 16 rfl).symm)
    show 0 * _ + h.val * (2048 * 64) + s.val * 64 + t.val = srcRow (R.val / 8 % 256) ((b.val * 8 + R.val % 8) * 4 + u) * 16 + l.val
    unfold srcRow
    have := l.isLt
    omega
  unfold tbl
  rw [acc_fields, field_of _ (fun k => fld_le _ _ k _) b.val b.isLt i hi]
  exact congrArg _ e

end Cert.Proof.KernelIdeal

end
-- ==== Proof.KCast.lean ====
module

public import proofs.«01_k».proof.Proof.Gen.KernelIdeal
public import Idealize.ShloMosaic.Lib.Pointwise

/-!
# The host program's reshapes, element by element
-/

@[expose] public section

namespace Cert.Proof.KernelIdeal

open Cert.KernelIdeal Cert.KernelIdeal.Gen Idealize.ShloMosaic

variable {α : Type}

theorem cast_q (X : S1x16x2048x128.Idx → α) (hc : S1x16x2048x128.ShapeCasts S4x4x2048x128) (h g : Fin 4) (s : Fin 2048) (x : Fin 128) :
    shapeCast S4x4x2048x128 X hc (ix4 h g s x) = X (ix4 0 ⟨h.val * 4 + g.val, by omega⟩ s x) := by
  pointwise

theorem cast_k (X : S1x4x2048x128.Idx → α) (hc : S1x4x2048x128.ShapeCasts S4x2048x128) (h : Fin 4) (j : Fin 2048) (x : Fin 128) :
    shapeCast S4x2048x128 X hc (ix3 h j x) = X (ix4 0 h j x) := by
  pointwise

theorem cast_m (X : S2048x2048.Idx → α) (hc : S2048x2048.ShapeCasts S4x512x2048) (h : Fin 4) (r : Fin 512) (j : Fin 2048) :
    shapeCast S4x512x2048 X hc (ix3 h r j) = X (ix2 ⟨h.val * 512 + r.val, by omega⟩ j) := by
  pointwise

theorem cast_o (X : S4x4x2048x128.Idx → α) (hc : S4x4x2048x128.ShapeCasts S1x16x2048x128) (H : Fin 16) (s : Fin 2048) (d : Fin 128) :
    shapeCast S1x16x2048x128 X hc (ix4 0 H s d) = X (ix4 ⟨H.val / 4, by omega⟩ ⟨H.val % 4, by omega⟩ s d) := by
  pointwise

end Cert.Proof.KernelIdeal
-- ==== Proof.Score.lean ====
module

public import proofs.«01_k».proof.Proof.Soft

/-!
# The score of a key, and one entry of the result

Over real queries and keys a score is a real number, and the constant may be taken in or out of the sum over the head's
coordinates. One entry of the result is the softmax of the scores over the selected places, applied to one coordinate
of the values.
-/

@[expose] public section

noncomputable section

namespace Cert.Score

open Idealize.ShloMosaic Cert.Soft

/-- The scale, `1 / √128`. -/
def κs : ℝ := (Real.sqrt 128)⁻¹

/-- The score of key `j`. -/
def score (q : Fin 128 → ℝ) (k : Fin 2048 → Fin 128 → ℝ) (j : Fin 2048) : ℝ := ∑ x, q x * κs * k j x

/-- One entry of the result. -/
def entry (q : Fin 128 → ℝ) (k : Fin 2048 → Fin 128 → ℝ) (v : Fin 2048 → EReal) (ix : Fin 64 → Fin 2048) : EReal :=
  soft ix (score q k) v

theorem score_in (q : Fin 128 → ℝ) (k : Fin 2048 → Fin 128 → ℝ) (j : Fin 2048) :
    ∑ x, (q x : EReal) * (κs : EReal) * (k j x : EReal) = (score q k j : EReal) := by
  unfold score
  rw [coe_sum]
  exact Finset.sum_congr rfl fun x _ => by rw [EReal.coe_mul, EReal.coe_mul]

theorem score_out (q : Fin 128 → ℝ) (k : Fin 2048 → Fin 128 → ℝ) (j : Fin 2048) :
    (∑ x, (k j x : EReal) * (q x : EReal)) * (κs : EReal) = (score q k j : EReal) := by
  have e : score q k j = (∑ x, k j x * q x) * κs := by
    unfold score; rw [Finset.sum_mul]
    exact Finset.sum_congr rfl fun x _ => by ring
  rw [e, EReal.coe_mul, coe_sum]
  simp only [EReal.coe_mul]

end Cert.Score

end
-- ==== Proof.KValue.lean ====
module

public import proofs.«01_k».proof.Proof.KPay
public import proofs.«01_k».proof.Proof.KBlocks
public import proofs.«01_k».proof.Proof.KTable
public import proofs.«01_k».proof.Proof.KCast
public import proofs.«01_k».proof.Proof.FrameKernelIdeal
public import proofs.«01_k».proof.Proof.Score

/-!
# One entry of the kernel's result
-/

@[expose] public section

noncomputable section

namespace Cert.Proof.KernelIdeal

open Cert.KernelIdeal Cert.KernelIdeal.Gen Cert.Scat Cert.Score

open Idealize.ShloMosaic Idealize.ShloMosaic.TcCoe Idealize.SL.Sem

/-! ## What the attention call finds in its operands -/

section Operands

variable {F : FTy → Type} [FloatOps F] [Named F]
variable (m : (ℓ : Loc nD τ sig) → Buf (Elt F) ℓ) (hf : ∀ d, InF (fv m d)) (c : Dev nD)

theorem W4_kept (b : DevRef τ sig) (hb : b ∉ written) : W4 m hf c b = m (c, b) := by
  unfold W4
  rw [Function.update_of_ne (show b ≠ v2' from fun e => hb (by rw [e]; decide)), W3_kept m c b hb]

theorem VV_v3 : (VV m hf c main_v3 : Vec F S4x512x2048 .i32) = shapeCast S4x512x2048 (g'v m hf c) shapeCasts_S2048x2048_S4x512x2048 := by
  show W8 m hf c v3' = _
  unfold W8
  rw [(op6 (F := F)).result_of_not_mem _ (show v3' ∉ ({v6'} : Finset (DevRef τ sig)) by decide),
    (op5 (F := F)).result_of_not_mem _ (show v3' ∉ ({v5'} : Finset (DevRef τ sig)) by decide),
    (op4 (F := F)).result_of_not_mem _ (show v3' ∉ ({v4'} : Finset (DevRef τ sig)) by decide)]
  refine (StableHlo.reshape_result' _ _ _ _ _).trans ?_
  unfold W4
  rw [Function.update_self]
  rfl

theorem VV_v4 : (VV m hf c main_v4 : Vec F S4x4x2048x128 .f32)
    = shapeCast S4x4x2048x128 (m (c, arg0') : Vec F S1x16x2048x128 .f32) shapeCasts_S1x16x2048x128_S4x4x2048x128 := by
  show W8 m hf c v4' = _
  unfold W8
  rw [(op6 (F := F)).result_of_not_mem _ (show v4' ∉ ({v6'} : Finset (DevRef τ sig)) by decide),
    (op5 (F := F)).result_of_not_mem _ (show v4' ∉ ({v5'} : Finset (DevRef τ sig)) by decide)]
  refine (StableHlo.reshape_result' _ _ _ _ _).trans ?_
  rw [(op3 (F := F)).result_of_not_mem _ (show arg0' ∉ ({v3'} : Finset (DevRef τ sig)) by decide), W4_kept m hf c arg0' (by decide)]
  rfl

theorem VV_v5 : (VV m hf c main_v5 : Vec F S4x2048x128 .f32)
    = shapeCast S4x2048x128 (m (c, arg1') : Vec F S1x4x2048x128 .f32) shapeCasts_S1x4x2048x128_S4x2048x128 := by
  show W8 m hf c v5' = _
  unfold W8
  rw [(op6 (F := F)).result_of_not_mem _ (show v5' ∉ ({v6'} : Finset (DevRef τ sig)) by decide)]
  refine (StableHlo.reshape_result' _ _ _ _ _).trans ?_
  rw [(op4 (F := F)).result_of_not_mem _ (show arg1' ∉ ({v4'} : Finset (DevRef τ sig)) by decide),
    (op3 (F := F)).result_of_not_mem _ (show arg1' ∉ ({v3'} : Finset (DevRef τ sig)) by decide), W4_kept m hf c arg1' (by decide)]
  rfl

theorem VV_v6 : (VV m hf c main_v6 : Vec F S4x2048x128 .f32)
    = shapeCast S4x2048x128 (m (c, arg2') : Vec F S1x4x2048x128 .f32) shapeCasts_S1x4x2048x128_S4x2048x128 := by
  show W8 m hf c v6' = _
  unfold W8
  refine (StableHlo.reshape_result' _ _ _ _ _).trans ?_
  rw [(op5 (F := F)).result_of_not_mem _ (show arg2' ∉ ({v5'} : Finset (DevRef τ sig)) by decide),
    (op4 (F := F)).result_of_not_mem _ (show arg2' ∉ ({v4'} : Finset (DevRef τ sig)) by decide),
    (op3 (F := F)).result_of_not_mem _ (show arg2' ∉ ({v3'} : Finset (DevRef τ sig)) by decide), W4_kept m hf c arg2' (by decide)]
  rfl

end Operands

/-! ## One entry -/

variable (m : (ℓ : Loc nD τ sig) → Buf (Elt Ideal) ℓ) (hf : ∀ d, InF (fv m d)) (c : Dev nD)

abbrev argQ : FVec Ideal S1x16x2048x128 .f32 := m (c, arg0')
abbrev argK : FVec Ideal S1x4x2048x128 .f32 := m (c, arg1')
abbrev argV : FVec Ideal S1x4x2048x128 .f32 := m (c, arg2')
abbrev argI : IVec S1x4x2048x64 32 := m (c, arg3')

/-- The amount a block's rows are shifted by. -/
theorem shift_eq (t : Fin cfg1.N) : (Scalar.muli (BitVec.ofNat 32 (grid1.coords t 1).val) 8#32).toNat = 8 * (t.val % 4) := by
  rw [coords_1]
  have h : ∀ n < 4, (Scalar.muli (BitVec.ofNat 32 n) 8#32).toNat = 8 * n := by decide
  exact h _ (Nat.mod_lt _ (by decide))

/-- The table as the attention call finds it. -/
theorem table_count (sel : Fin 64 → Fin 2048) (t : Fin cfg1.N) (r : Fin 512) (j : Fin 2048)
    (hsel : ∀ u, (argI m c (ix4 0 (hd t) (rw_ t r) u)).toNat = (sel u).val) :
    (IntOp.shrui .vector (mB (VV m hf) c t (ix3 0 r j)) (Scalar.muli (BitVec.ofNat 32 (grid1.coords t 1).val) 8#32) &&& 255#32).toInt
      = (Cert.Soft.cnt sel j : ℤ) := by
  have hfe : ∀ (f : IVec S32768x16 32) (e : fv m c = f) (h : InF f), g'v m hf c = tbl (F := Ideal) f h := by
    intro f e h; subst e; rfl
  rw [mB_apply, VV_v3, cast_m, hfe _ (fv_eq m c) (fv_eq m c ▸ hf c)]
  exact tbl_field (argI m c) shapeCasts_S1x4x2048x64_S32768x16 _ sel (hd t) ⟨t.val % 4, Nat.mod_lt _ (by decide)⟩ r (rw_ t r) rfl hsel _ rfl j _ (shift_eq t)

theorem oB_entry (q : S1x16x2048x128.Idx → ℝ) (k : S1x4x2048x128.Idx → ℝ)
    (hQ : ∀ i, argQ m c i = (q i : EReal)) (hK : ∀ i, argK m c i = (k i : EReal))
    (sel : Fin 64 → Fin 2048) (t : Fin cfg1.N) (g : Fin 4) (r : Fin 512) (d : Fin 128) (H : Fin 16) (hH : H.val = (hd t).val * 4 + g.val)
    (hsel : ∀ u, (argI m c (ix4 0 (hd t) (rw_ t r) u)).toNat = (sel u).val) :
    oB (VV m hf) c t (ix4 0 g r d)
      = entry (fun x => q (ix4 0 H (rw_ t r) x)) (fun j x => k (ix4 0 (hd t) j x)) (fun j => argV m c (ix4 0 (hd t) j d)) sel := by
  have eH : (⟨(hd t).val * 4 + g.val, by omega⟩ : Fin 16) = H := Fin.ext hH.symm
  have hs : scoreOf (k1_pay3 (kB (VV m hf) c t)) (k1_pay5 (grid1.coords t) (mB (VV m hf) c t)) (View.ld (Val := Elt Ideal) (e' := .f32) (qB (VV m hf) c t) (rectG g)) r
      = Cert.Soft.sc sel (score (fun x => q (ix4 0 H (rw_ t r) x)) (fun j x => k (ix4 0 (hd t) j x))) := by
    funext j
    have e : ∀ x : Fin 128, View.ld (Val := Elt Ideal) (e' := .f32) (qB (VV m hf) c t) (rectG g) (ix4 0 0 r x) * (((Real.sqrt 128)⁻¹ : ℝ) : EReal) * k1_pay3 (kB (VV m hf) c t) (ix2 j x)
        = (q (ix4 0 H (rw_ t r) x) : EReal) * (κs : EReal) * (k (ix4 0 (hd t) j x) : EReal) := fun x => by
      rw [ld_head, qB_apply, pay3_apply, kB_apply, VV_v4, VV_v5, cast_q, cast_k, eH, ← hQ, ← hK]
      rfl
    unfold scoreOf Cert.Soft.sc
    rw [pay5_apply, table_count m hf c sel t r j hsel, Finset.sum_congr rfl fun x _ => e x, Int.cast_natCast]
    exact congrArg (· + _) (score_in (fun x => q (ix4 0 H (rw_ t r) x)) (fun j x => k (ix4 0 (hd t) j x)) j)
  have hv : ∀ j : Fin 2048, k1_pay4 (vB (VV m hf) c t) (ix2 j d) = argV m c (ix4 0 (hd t) j d) := fun j => by
    rw [pay4_apply, vB_apply, VV_v6, cast_k]
  unfold oB outV
  show k1_pay8 (F := Ideal) _ _ _ (View.ld (Val := Elt Ideal) (e' := .f32) (qB (VV m hf) c t) (rectG g)) (jx (ix4 0 g r d)) = _
  rw [jx_ix, pay8_apply, hs]
  simp only [hv]
  exact Cert.Soft.by_key sel _ (fun j => argV m c (ix4 0 (hd t) j d)) (by decide)

/-- The keys that query row `s` of key head `h` selects. -/
def sel (hI : ∀ i, (argI m c i).toNat < 2048) (h : Fin 4) (s : Fin 2048) (t : Fin 64) : Fin 2048 := ⟨(argI m c (ix4 0 h s t)).toNat, hI _⟩

/-- The result, element by element. -/
theorem out_entry (q : S1x16x2048x128.Idx → ℝ) (k : S1x4x2048x128.Idx → ℝ)
    (hQ : ∀ i, argQ m c i = (q i : EReal)) (hK : ∀ i, argK m c i = (k i : EReal)) (hI : ∀ i, (argI m c i).toNat < 2048)
    (h g : Fin 4) (H : Fin 16) (hH : H.val = h.val * 4 + g.val) (s : Fin 2048) (d : Fin 128) :
    shapeCast S1x16x2048x128 (out7 m hf c) shapeCasts_S4x4x2048x128_S1x16x2048x128 (ix4 0 H s d)
      = entry (fun x => q (ix4 0 H s x)) (fun j x => k (ix4 0 h j x)) (fun j => argV m c (ix4 0 h j d)) (sel m c hI h s) := by
  have e := arrAt_eq (VV m hf) c (fun z => entry (fun x => q (ix4 0 ⟨(z 0).val * 4 + (z 1).val, by
      have h0 : (z 0).val < 4 := (z 0).isLt
      have h1 : (z 1).val < 4 := (z 1).isLt
      omega⟩ (z 2) x)) (fun j x => k (ix4 0 (z 0) j x)) (fun j => argV m c (ix4 0 (z 0) j (z 3))) (sel m c hI (z 0) (z 2)))
    fun t g r d => oB_entry m hf c q k hQ hK _ t g r d _ rfl fun u => rfl
  have e1 : (⟨H.val / 4, by omega⟩ : Fin 4) = h := Fin.ext (by show H.val / 4 = h.val; omega)
  have e2 : (⟨H.val % 4, by omega⟩ : Fin 4) = g := Fin.ext (by show H.val % 4 = g.val; omega)
  have e3 : (⟨h.val * 4 + g.val, by omega⟩ : Fin 16) = H := Fin.ext hH.symm
  unfold out7
  rw [cast_o, e, e1, e2]
  show entry (fun x => q (ix4 0 ⟨h.val * 4 + g.val, _⟩ s x)) _ _ _ = _
  rw [e3]
  rfl

end Cert.Proof.KernelIdeal

end
-- ==== Proof.RefDef.lean ====
module

public import proofs.«01_k».proof.Proof.Gen.ReferenceIdeal.Run
public import proofs.«01_k».proof.Proof.Soft
public import Idealize.ShloMosaic.Lib.Pointwise
public import Idealize.ShloMosaic.Lib.ReduceAll
public import Idealize.ShloMosaic.Lib.StableHlo.Predicate

/-!
# The reference's result in pieces

The reference's composed term is named in pieces: the start indices, the rows taken at them, the scores, their
exponentials.
-/

@[expose] public section

noncomputable section

namespace Cert.RefVal

open Cert.ReferenceIdeal Cert.ReferenceIdeal.Gen Idealize.ShloMosaic Idealize.ShloMosaic.TcCoe Idealize.SL.Sem Idealize.ShloMosaic.StableHlo

/-! ## The pieces -/

/-- The start indices. -/
def nrm (A : IVec S1x4x2048x64 32) : IVec S4x2048x64x1 32 :=
  shapeCast _ (select (cmpi .slt (broadcastInDim S1x4x2048x64x1 ![0, 1, 2, 3] bcast_S1x4x2048x64_S1x4x2048x64x1_0_1_2_3 A) (broadcastInDim S1x4x2048x64x1 ![] bcast_S_S1x4x2048x64x1 (constantI S_ 32 0#32))) (addi (broadcastInDim S1x4x2048x64x1 ![0, 1, 2, 3] bcast_S1x4x2048x64_S1x4x2048x64x1_0_1_2_3 A) (broadcastInDim S1x4x2048x64x1 ![] bcast_S_S1x4x2048x64x1 (constantI S_ 32 2048#32))) (broadcastInDim S1x4x2048x64x1 ![0, 1, 2, 3] bcast_S1x4x2048x64_S1x4x2048x64x1_0_1_2_3 A)) shapeCasts_S1x4x2048x64x1_S4x2048x64x1

/-- Which start indices are in range. -/
def rng (A : IVec S1x4x2048x64 32) : IVec S4x2048x64x1 1 :=
  andi (cmpi .sge (nrm A) (broadcastInDim S4x2048x64x1 ![] bcast_S_S4x2048x64x1 (constantI S_ 32 0#32))) (cmpi .sle (nrm A) (broadcastInDim S4x2048x64x1 ![0, 1, 2, 3] bcast_S1x1x1x1_S4x2048x64x1_0_1_2_3 (broadcastInDim S1x1x1x1 ![3] bcast_S1_S1x1x1x1_3 (constantI S1 32 2047#32))))

/-- The rows taken. -/
def taken (X : FVec Ideal S1x4x2048x128 .f32) (A : IVec S1x4x2048x64 32) : FVec Ideal S1x4x2048x64x128 .f32 :=
  select (broadcastInDim S1x4x2048x64x128 ![1, 2, 3] bcast_S4x2048x64_S1x4x2048x64x128_1_2_3 (Host.reduce IntOp.andi (rng A) (constantI S_ 1 1#1) reducesTo_S4x2048x64x1_S4x2048x64_d3 h_S_)) (Host.gather gather_S1x4x2048x128_S4x2048x64x1_S1x4x2048x64x128_04_2_1_0_2_3_111128 (shapeCast _ (broadcastInDim S1x4x1x2048x128 ![0, 1, 3, 4] bcast_S1x4x2048x128_S1x4x1x2048x128_0_1_3_4 X) shapeCasts_S1x4x1x2048x128_S1x4x2048x128) (nrm A)) (broadcastInDim S1x4x2048x64x128 ![] bcast_S_S1x4x2048x64x128 (constant S_ .f32 0x7FC00000#32))

/-- The scores, from the rows taken. -/
def scores (Q : FVec Ideal S1x16x2048x128 .f32) (K : FVec Ideal S1x4x2048x64x128 .f32) : FVec Ideal S1x4x4x2048x64 .f32 :=
  mulf (transpose S1x4x4x2048x64 [0, 1, 4, 2, 3] (Host.dotGeneral dot_S1x4x2048x64x128_S1x4x4x2048x128_S1x4x2048x64x4_4_4_3_2_012_013 none K (shapeCast _ Q shapeCasts_S1x16x2048x128_S1x4x4x2048x128)) transposes_S1x4x2048x64x4_S1x4x4x2048x64_0_1_4_2_3) (broadcastInDim S1x4x4x2048x64 ![] bcast_S_S1x4x4x2048x64 (Host.divf (constant S_ .f32 0x3F800000#32) (Host.sqrt (constant S_ .f32 0x43000000#32))))

/-- The exponentials of the scores less their maximum. -/
def exps (s : FVec Ideal S1x4x4x2048x64 .f32) : FVec Ideal S1x4x4x2048x64 .f32 :=
  Host.exp (subf s (broadcastInDim S1x4x4x2048x64 ![0, 1, 2, 3, 4] bcast_S1x4x4x2048x1_S1x4x4x2048x64_0_1_2_3_4 (broadcastInDim S1x4x4x2048x1 ![0, 1, 2, 3] bcast_S1x4x4x2048_S1x4x4x2048x1_0_1_2_3 (maximumf (broadcastInDim S1x4x4x2048 ![] bcast_S_S1x4x4x2048 (constant S_ .f32 0xFF800000#32)) (Host.reduce FloatOps.maximumf s (constant S_ .f32 0xFF800000#32) reducesTo_S1x4x4x2048x64_S1x4x4x2048_d4 h_S_)))))

/-- The result, from the exponentials and the values taken. -/
def out (e : FVec Ideal S1x4x4x2048x64 .f32) (W : FVec Ideal S1x4x2048x64x128 .f32) : FVec Ideal S1x16x2048x128 .f32 :=
  shapeCast _ (transpose S1x4x4x2048x128 [0, 1, 4, 2, 3] (Host.dotGeneral dot_S1x4x2048x64x128_S1x4x4x2048x64_S1x4x2048x128x4_3_4_4_2_012_013 none W (Host.divf e (broadcastInDim S1x4x4x2048x64 ![0, 1, 2, 3, 4] bcast_S1x4x4x2048x1_S1x4x4x2048x64_0_1_2_3_4 (broadcastInDim S1x4x4x2048x1 ![0, 1, 2, 3] bcast_S1x4x4x2048_S1x4x4x2048x1_0_1_2_3 (Host.reduceAdd e (constant S_ .f32 0x00000000#32) reducesTo_S1x4x4x2048x64_S1x4x4x2048_d4 h_S_))))) transposes_S1x4x2048x128x4_S1x4x4x2048x128_0_1_4_2_3) shapeCasts_S1x4x4x2048x128_S1x16x2048x128

theorem res_eq (m : (ℓ : Loc nD τ sig) → Buf (Elt Ideal) ℓ) (c : Dev nD) :
    Cert.ReferenceIdeal.Value.res_out0 m c
      = out (exps (scores (m ((c.tc : Thread nD τ).loc main_arg0)) (taken (m ((c.tc : Thread nD τ).loc main_arg1)) (m ((c.tc : Thread nD τ).loc main_arg3)))))
          (taken (m ((c.tc : Thread nD τ).loc main_arg2)) (m ((c.tc : Thread nD τ).loc main_arg3))) := by
  unfold Cert.ReferenceIdeal.Value.res_out0 Cert.ReferenceIdeal.Value.res_main_v25 out exps scores taken rng nrm
  rfl

end Cert.RefVal

end
-- ==== Proof.RefApply.lean ====
module

public import proofs.«01_k».proof.Proof.RefDef
public import proofs.«01_k».proof.Proof.Soft
public import Idealize.ShloMosaic.Lib.Pointwise
public import Idealize.ShloMosaic.Lib.ReduceAll
public import Idealize.ShloMosaic.Lib.StableHlo.Predicate

/-!
# The pieces of the reference's result, element by element

The rows taken are those that the indices name, and the result at an index is the softmax of the scores over the 64
selected places, applied to the selected values.
-/

@[expose] public section

noncomputable section

namespace Cert.RefVal

open Cert.ReferenceIdeal Cert.ReferenceIdeal.Gen Idealize.ShloMosaic Idealize.ShloMosaic.TcCoe Idealize.SL.Sem Idealize.ShloMosaic.StableHlo

/-! ## The pieces at an index -/

theorem nrm_apply (A : IVec S1x4x2048x64 32) (h : Fin 4) (s : Fin 2048) (t : Fin 64) :
    nrm A (ix4 h s t 0)
      = Scalar.select (IntOp.cmpi CmpIPredicate.slt (A (ix4 0 h s t)) 0#32) (IntOp.addi (A (ix4 0 h s t)) 2048#32) (A (ix4 0 h s t)) := by
  pointwise [nrm]

theorem scores_apply (Q : FVec Ideal S1x16x2048x128 .f32) (K : FVec Ideal S1x4x2048x64x128 .f32) (h g : Fin 4) (s : Fin 2048) (t : Fin 64) :
    scores Q K (ix5 0 h g s t)
      = (∑ x : Fin 128, K (ix5 0 h s t x) * Q (ix4 0 ⟨h.val * 4 + g.val, by omega⟩ s x)) *
        Ideal.div 1 (Ideal.sqrt (Ideal.ofBits .f32 0x43000000#32)) := by
  pointwise [scores]

theorem exps_apply (S : FVec Ideal S1x4x4x2048x64 .f32) (h g : Fin 4) (s : Fin 2048) (t : Fin 64) :
    exps S (ix5 0 h g s t)
      = Ideal.exp (S (ix5 0 h g s t) - max (Ideal.ofBits .f32 0xFF800000#32)
          (Finset.fold max (Ideal.ofBits .f32 0xFF800000#32) (fun x => S (ix5 0 h g s x)) Finset.univ)) := by
  pointwise [exps]

theorem out_apply (e : FVec Ideal S1x4x4x2048x64 .f32) (W : FVec Ideal S1x4x2048x64x128 .f32) (H : Fin 16) (s : Fin 2048) (d : Fin 128) :
    out e W (ix4 0 H s d)
      = ∑ x : Fin 64, W (ix5 0 ⟨H.val / 4, by omega⟩ s x d) *
          Ideal.div (e (ix5 0 ⟨H.val / 4, by omega⟩ ⟨H.val % 4, by omega⟩ s x))
            (∑ y : Fin 64, e (ix5 0 ⟨H.val / 4, by omega⟩ ⟨H.val % 4, by omega⟩ s y)) := by
  pointwise [out]

theorem select_mask (x : IVec S4x2048x64 1) (G : FVec Ideal S1x4x2048x64x128 .f32) (h : Fin 4) (s : Fin 2048) (t : Fin 64) (d : Fin 128) :
    select (broadcastInDim S1x4x2048x64x128 ![1, 2, 3] bcast_S4x2048x64_S1x4x2048x64x128_1_2_3 x) G (broadcastInDim S1x4x2048x64x128 ![] bcast_S_S1x4x2048x64x128 (constant S_ .f32 0x7FC00000#32)) (ix5 0 h s t d)
      = Scalar.select (x (ix3 h s t)) (G (ix5 0 h s t d)) (Ideal.ofBits .f32 0x7FC00000#32) := by
  pointwise

theorem copy_apply (X : FVec Ideal S1x4x2048x128 .f32) (h : Fin 4) (s : Fin 2048) (d : Fin 128) :
    shapeCast S1x4x2048x128 (broadcastInDim S1x4x1x2048x128 ![0, 1, 3, 4] bcast_S1x4x2048x128_S1x4x1x2048x128_0_1_3_4 X) shapeCasts_S1x4x1x2048x128_S1x4x2048x128 (ix4 0 h s d)
      = X (ix4 0 h s d) := by
  pointwise

theorem rng_apply (A : IVec S1x4x2048x64 32) (i : S4x2048x64x1.Idx) :
    rng A i = IntOp.andi (IntOp.cmpi .sge (nrm A i) 0#32) (IntOp.cmpi .sle (nrm A i) 2047#32) := by
  unfold rng
  generalize nrm A = I
  pointwise

end Cert.RefVal

end
-- ==== Proof.RefGather.lean ====
module

public import proofs.«01_k».proof.Proof.Gen.ReferenceIdeal
public import Idealize.ShloMosaic.Lib.Pointwise
public import Idealize.ShloMosaic.Lib.ReduceAll
public import Idealize.ShloMosaic.Lib.StableHlo.Predicate

/-!
# The reference's gather, element by element
-/

@[expose] public section

noncomputable section

namespace Cert.RefVal

open Cert.ReferenceIdeal Cert.ReferenceIdeal.Gen Idealize.ShloMosaic Idealize.ShloMosaic.TcCoe Idealize.SL.Sem Idealize.ShloMosaic.StableHlo

/-- The gather's dimension numbers. -/
abbrev gat : GatherDims S1x4x2048x128 S4x2048x64x1 S1x4x2048x64x128 := gather_S1x4x2048x128_S4x2048x64x1_S1x4x2048x64x128_04_2_1_0_2_3_111128

theorem coords (j : S1x4x2048x64x128.Idx) (I : IVec S4x2048x64x1 32) (a : Fin S1x4x2048x128.rank) (x y z : ℕ)
    (hx : GatherDims.start gat j I a = x) (hy : GatherDims.batchCoord gat j a = y) (hz : GatherDims.offCoord gat j a = z) :
    (GatherDims.operandIdx gat j I a).val = x + y + z := by
  subst hx hy hz; rfl

/-- The gather takes row `I (h, s, t, 0)` of head `h`, clamped into the array. -/
theorem gather_apply {α : Type} (X : S1x4x2048x128.Idx → α) (I : IVec S4x2048x64x1 32) (h : Fin 4) (s : Fin 2048) (t : Fin 64) (d : Fin 128) :
    Host.gather gat X I (ix5 0 h s t d) = X (ix4 0 h ⟨min (I (ix4 h s t 0)).toInt.toNat 2047, by omega⟩ d) := by
  unfold Host.gather
  congr 1
  funext a
  refine Fin.ext ?_
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · exact (coords _ I 0 0 0 0 rfl rfl rfl)
  · exact (coords _ I 1 0 h.val 0 rfl rfl rfl).trans (Nat.zero_add _)
  · refine (coords _ I 2 (min (I (ix4 h s t 0)).toInt.toNat 2047) 0 0 ?_ rfl rfl)
    unfold GatherDims.start
    rw [dif_pos (show (2 : Fin 4) ∈ GatherDims.startIndexMap gat from List.mem_singleton.mpr rfl)]
    have hsi : GatherDims.siIdx gat (ix5 0 h s t d) ⟨List.idxOf (2 : Fin 4) (GatherDims.startIndexMap gat),
        List.idxOf_lt_length_iff.2 (List.mem_singleton.mpr rfl)⟩ = ix4 h s t 0 := by
      funext b; refine Fin.ext ?_
      match b with
      | ⟨0, _⟩ => rfl
      | ⟨1, _⟩ => rfl
      | ⟨2, _⟩ => rfl
      | ⟨3, _⟩ => rfl
    rw [hsi]
    rfl
  · exact (coords _ I 3 0 0 d.val rfl rfl rfl).trans (Nat.zero_add _)

end Cert.RefVal

end
-- ==== Proof.RefValue.lean ====
module

public import proofs.«01_k».proof.Proof.RefApply
public import proofs.«01_k».proof.Proof.RefGather
public import proofs.«01_k».proof.Proof.Score
public import proofs.«01_k».proof.Proof.Consts

/-!
# One entry of the reference's result
-/

@[expose] public section

noncomputable section

namespace Cert.RefVal

open Cert.ReferenceIdeal Cert.ReferenceIdeal.Gen Idealize.ShloMosaic Cert.Score

variable (A : IVec S1x4x2048x64 32) (hA : ∀ i, (A i).toNat < 2048)

/-- The keys that query row `s` of key head `h` selects. -/
def sel (h : Fin 4) (s : Fin 2048) (t : Fin 64) : Fin 2048 := ⟨(A (ix4 0 h s t)).toNat, hA _⟩

theorem word_facts (v : BitVec 32) (hv : v.toNat < 2048) :
    IntOp.cmpi .slt v 0#32 = 0#1 ∧ IntOp.cmpi .sge v 0#32 = 1#1 ∧ IntOp.cmpi .sle v 2047#32 = 1#1 ∧ v.toInt.toNat = v.toNat := by
  have e : v.toInt = v.toNat := BitVec.toInt_eq_toNat_of_lt (by omega)
  refine ⟨?_, ?_, ?_, ?_⟩
  · simp only [IntOp.cmpi, BitVec.slt_eq_decide, e]
    rw [decide_eq_false (by simp)]; rfl
  · simp only [IntOp.cmpi, BitVec.sle_eq_decide, e]
    rw [decide_eq_true (by simp)]; rfl
  · simp only [IntOp.cmpi, BitVec.sle_eq_decide, e]
    rw [decide_eq_true (by rw [show (2047#32 : BitVec 32).toInt = 2047 from rfl]; omega)]; rfl
  · rw [e]; rfl

include hA in
theorem nrm_eq (h : Fin 4) (s : Fin 2048) (t : Fin 64) : nrm A (ix4 h s t 0) = A (ix4 0 h s t) := by
  rw [nrm_apply, (word_facts _ (hA _)).1]
  exact if_neg (by decide)

include hA in
theorem rng_eq (i : S4x2048x64x1.Idx) : rng A i = 1#1 := by
  have hi : i = ix4 (i 0) (i 1) (i 2) 0 := (eq_ix4 i).trans (congrArg (ix4 (i 0) (i 1) (i 2)) (Subsingleton.elim _ _))
  have key : ∀ (h : Fin 4) (s : Fin 2048) (t : Fin 64), rng A (ix4 h s t 0) = 1#1 := fun h s t => by
    rw [rng_apply, nrm_eq A hA, (word_facts _ (hA _)).2.1, (word_facts _ (hA _)).2.2.1]
    rfl
  exact (congrArg (rng A) hi).trans (key (i 0) (i 1) (i 2))

/-- The rows taken are the selected ones. -/
theorem taken_eq (X : FVec Ideal S1x4x2048x128 .f32) (h : Fin 4) (s : Fin 2048) (t : Fin 64) (d : Fin 128) :
    taken X A (ix5 0 h s t d) = X (ix4 0 h (sel A hA h s t) d) := by
  unfold taken
  rw [select_mask, Host.reduce_andi_one _ _ _ _ _ rfl (rng_eq A hA)]
  refine (if_pos rfl).trans ?_
  refine (gather_apply _ _ h s t d).trans ?_
  rw [copy_apply]
  refine congrArg (fun j => X (ix4 0 h j d)) (Fin.ext ?_)
  show min (nrm A (ix4 h s t 0)).toInt.toNat 2047 = (A (ix4 0 h s t)).toNat
  rw [nrm_eq A hA, (word_facts _ (hA _)).2.2.2]
  have := hA (ix4 0 h s t)
  omega

theorem ref_entry (Q : FVec Ideal S1x16x2048x128 .f32) (K V : FVec Ideal S1x4x2048x128 .f32)
    (q : S1x16x2048x128.Idx → ℝ) (k : S1x4x2048x128.Idx → ℝ) (hQ : ∀ i, Q i = (q i : EReal)) (hK : ∀ i, K i = (k i : EReal))
    (h g : Fin 4) (H : Fin 16) (hH : H.val = h.val * 4 + g.val) (s : Fin 2048) (d : Fin 128) :
    out (exps (scores Q (taken K A))) (taken V A) (ix4 0 H s d)
      = entry (fun x => q (ix4 0 H s x)) (fun j x => k (ix4 0 h j x)) (fun j => V (ix4 0 h j d)) (sel A hA h s) := by
  have hs : ∀ t, scores Q (taken K A) (ix5 0 h g s t)
      = ((score (fun x => q (ix4 0 H s x)) (fun j x => k (ix4 0 h j x)) (sel A hA h s t) : ℝ) : EReal) := fun t => by
    have e : (⟨h.val * 4 + g.val, by omega⟩ : Fin 16) = H := Fin.ext hH.symm
    have e' : ∑ x, taken K A (ix5 0 h s t x) * Q (ix4 0 H s x)
        = ∑ x, (k (ix4 0 h (sel A hA h s t) x) : EReal) * (q (ix4 0 H s x) : EReal) :=
      Finset.sum_congr rfl fun x _ => by rw [taken_eq A hA, hK, hQ]
    rw [scores_apply, Cert.Consts.scale_eq, e, e']
    exact score_out (fun x => q (ix4 0 H s x)) (fun j x => k (ix4 0 h j x)) (sel A hA h s t)
  have e1 : (⟨H.val / 4, by omega⟩ : Fin 4) = h := Fin.ext (by show H.val / 4 = h.val; omega)
  have e2 : (⟨H.val % 4, by omega⟩ : Fin 4) = g := Fin.ext (by show H.val % 4 = g.val; omega)
  rw [out_apply, e1, e2]
  simp only [exps_apply, taken_eq A hA, Cert.Consts.ofBits_ninf, hs]
  exact Cert.Soft.by_place (sel A hA h s) _ (fun j => V (ix4 0 h j d)) (by decide) _ (max_eq_right bot_le) _ rfl

end Cert.RefVal

end
-- ==== Proof.Algebraic.lean ====
module

public import proofs.«01_k».proof.Proof.Frames
public import proofs.«01_k».proof.Proof.FinRange
public import proofs.«01_k».proof.Proof.KValue
public import proofs.«01_k».proof.Proof.RefValue
public import proofs.«01_k».proof.Proof.Gen.Pre_in_range_and_finite

/-!
  The kernel computes the reference's result, wherever the indices are in range and the queries and keys are finite.
-/

@[expose] public section

noncomputable section

namespace Cert.Proof

open Idealize.ShloMosaic Idealize.ShloMosaic.TcCoe Idealize.SL.Sem

theorem inF_fin (m : (ℓ : Loc Cert.KernelIdeal.nD Cert.KernelIdeal.τ Cert.KernelIdeal.sig) → Buf (Elt Ideal) ℓ)
    (h : Cert.Pre_KernelIdeal_in_range_and_finite m) (d : Dev Cert.KernelIdeal.nD) : Cert.Proof.KernelIdeal.InF (Cert.Proof.KernelIdeal.fv m d) :=
  Cert.Proof.KernelIdeal.inF_of m d (Cert.FinRange.index_lt _ _ _ _ (h d))

theorem frame_pi_fin : Cert.quiescent_KernelIdeal_pre_in_range_and_finite := fun m ρ h =>
  have : ∀ e, Nonempty (Elt Ideal e) := fun _ => inferInstance
  (θ_run _ _ _).mono (fun _ hr => ⟨fun c => (hr.1 c).2, hr.2⟩) (Cert.Proof.KernelIdeal.run_named m ρ (inF_fin m h))

theorem frame_ri_fin : Cert.quiescent_ReferenceIdeal_pre_in_range_and_finite := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's result is the reference's mathematics of the kernel's arguments. -/
theorem value_eq (m : (ℓ : Loc Cert.KernelIdeal.nD Cert.KernelIdeal.τ Cert.KernelIdeal.sig) → Buf (Elt Ideal) ℓ)
    (h : Cert.Pre_KernelIdeal_in_range_and_finite m) (c : Dev Cert.KernelIdeal.nD) :
    shapeCast Cert.KernelIdeal.S1x16x2048x128 (Cert.Proof.KernelIdeal.out7 m (inF_fin m h) c) Cert.KernelIdeal.Gen.shapeCasts_S4x4x2048x128_S1x16x2048x128
      = Cert.RefVal.out (Cert.RefVal.exps (Cert.RefVal.scores (Cert.Proof.KernelIdeal.argQ m c)
          (Cert.RefVal.taken (Cert.Proof.KernelIdeal.argK m c) (Cert.Proof.KernelIdeal.argI m c))))
          (Cert.RefVal.taken (Cert.Proof.KernelIdeal.argV m c) (Cert.Proof.KernelIdeal.argI m c)) := by
  have hI : ∀ i, (Cert.Proof.KernelIdeal.argI m c i).toNat < 2048 := Cert.FinRange.index_lt _ _ _ _ (h c)
  have hQ := Cert.FinRange.q_real _ _ _ _ (h c)
  have hK := Cert.FinRange.k_real _ _ _ _ (h c)
  have key : ∀ (H : Fin 16) (s : Fin 2048) (d : Fin 128), shapeCast Cert.KernelIdeal.S1x16x2048x128 (Cert.Proof.KernelIdeal.out7 m (inF_fin m h) c) Cert.KernelIdeal.Gen.shapeCasts_S4x4x2048x128_S1x16x2048x128 (ix4 0 H s d)
      = Cert.RefVal.out (Cert.RefVal.exps (Cert.RefVal.scores (Cert.Proof.KernelIdeal.argQ m c)
          (Cert.RefVal.taken (Cert.Proof.KernelIdeal.argK m c) (Cert.Proof.KernelIdeal.argI m c))))
          (Cert.RefVal.taken (Cert.Proof.KernelIdeal.argV m c) (Cert.Proof.KernelIdeal.argI m c)) (ix4 0 H s d) := fun H s d => by
    have eH : H.val = (⟨H.val / 4, by omega⟩ : Fin 4).val * 4 + (⟨H.val % 4, by omega⟩ : Fin 4).val := by
      show H.val = H.val / 4 * 4 + H.val % 4; omega
    exact (Cert.Proof.KernelIdeal.out_entry m (inF_fin m h) c _ _ hQ hK hI _ _ H eH s d).trans
      (Cert.RefVal.ref_entry (Cert.Proof.KernelIdeal.argI m c) hI _ _ (Cert.Proof.KernelIdeal.argV m c) _ _ hQ hK _ _ H eH s d).symm
  funext i
  have hi : i = ix4 0 (i 1) (i 2) (i 3) := (eq_ix4 i).trans (congrArg (fun a => ix4 a (i 1) (i 2) (i 3)) (Subsingleton.elim (α := Fin 1) _ _))
  rw [hi]
  exact key (i 1) (i 2) (i 3)

theorem algebraic : Cert.algebraic_KernelIdeal_ReferenceIdeal_pre_in_range_and_finite := fun m g m' g' h hm => by
  have hne : ∀ e, Nonempty (Elt Ideal e) := fun _ => inferInstance
  refine ⟨fun c => shapeCast Cert.KernelIdeal.S1x16x2048x128 (Cert.Proof.KernelIdeal.out7 m (inF_fin m h) c) Cert.KernelIdeal.Gen.shapeCasts_S4x4x2048x128_S1x16x2048x128,
    (θ_run _ _ _).mono (fun _ hr c => hr.1 c) (Cert.Proof.KernelIdeal.run_named m g (inF_fin m h)),
    (θ_run Cert.ReferenceIdeal.defs _ _).mono (fun r hr c => ⟨(hr c).1.trans ?_, (hr c).2⟩) (Cert.ReferenceIdeal.Value.run (F := Ideal) m' g')⟩
  obtain ⟨h0, h1, h2, h3⟩ := hm c
  refine (Cert.RefVal.res_eq m' c).trans ?_
  rw [h0, h1, h2, h3]
  exact (value_eq m h c).symm

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_and_finite
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_range.Gen.facts,
  Cert.Pre_in_range_and_finite.Gen.facts,
  frame_p, frame_pi, frame_pi_fin, frame_ri, frame_ri_fin, preserves, algebraic⟩

end Cert.Proof

end
